-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v44_0)) (v1 : (c : Dev Cert.Kernel5Ideal.nD) → Buf (Elt Ideal) ((c.tc : Thread Cert.Kernel5Ideal.nD Cert.Kernel5Ideal.τ).loc Cert.Kernel5Ideal.main_v44_1)) (v2 : (c : Dev Cert.Kernel5Ideal.nD) → Buf (Elt Ideal) ((c.tc : Thread Cert.Kernel5Ideal.nD Cert.Kernel5Ideal.τ).loc Cert.Kernel5Ideal.main_v44_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44_0) = v0 c
          ∧ r.2.mem ((c.tc : Thread Cert.Kernel5Ideal.nD Cert.Kernel5Ideal.τ).loc Cert.Kernel5Ideal.main_v44_1) = v1 c
          ∧ r.2.mem ((c.tc : Thread Cert.Kernel5Ideal.nD Cert.Kernel5Ideal.τ).loc Cert.Kernel5Ideal.main_v44_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_v83) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_qk.lean ====
abbrev S4x4096x8x192 : Shape := ⟨4, ![4, 4096, 8, 192]⟩
abbrev S4x4096x8x128 : Shape := ⟨4, ![4, 4096, 8, 128]⟩
abbrev S_ : Shape := ⟨0, ![]⟩

class Facts : Prop where
  bcast_S_S4x4096x8x192 : S_.BroadcastsInDim S4x4096x8x192 (![] : Fin 0 → Fin S4x4096x8x192.rank)

variable [Facts]

def fn {F : FTy → Type} [FloatOps F] (main_arg0 : FVec F S4x4096x8x192 .f32) (main_arg1 : FVec F S4x4096x8x192 .f32) (main_arg2 : FVec F S4x4096x8x128 .f32) : IVec S4x4096x8x192 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_v3 : FVec F S4x4096x8x192 .f32 := Host.absf main_arg1
  let main_cst_0 : FVec F S_ .f32 := constant S_ .f32 0x7F800000#32
  let main_v4 : FVec F S4x4096x8x192 .f32 := broadcastInDim S4x4096x8x192 ![] bcast_S_S4x4096x8x192 main_cst_0
  let main_v5 : IVec S4x4096x8x192 1 := cmpf .olt main_v3 main_v4
  let main_v6 : IVec S4x4096x8x192 1 := andi main_v2 main_v5
  main_v6
-- ==== Kernel.lean ====
abbrev S4x4096x8x192 : Shape := ⟨4, ![4, 4096, 8, 192]⟩
abbrev S4x4096x8x128 : Shape := ⟨4, ![4, 4096, 8, 128]⟩
abbrev S_ : Shape := ⟨0, ![]⟩
abbrev S4x8x4096x192 : Shape := ⟨4, ![4, 8, 4096, 192]⟩
abbrev S4x8x4096x128 : Shape := ⟨4, ![4, 8, 4096, 128]⟩
abbrev S4x4096x1024 : Shape := ⟨3, ![4, 4096, 1024]⟩
abbrev S1x1x2048x192 : Shape := ⟨4, ![1, 1, 2048, 192]⟩
abbrev S1x1x4096x192 : Shape := ⟨4, ![1, 1, 4096, 192]⟩
abbrev S1x1x4096x128 : Shape := ⟨4, ![1, 1, 4096, 128]⟩
abbrev S1x2048x128 : Shape := ⟨3, ![1, 2048, 128]⟩
abbrev S1x1x256x192 : Shape := ⟨4, ![1, 1, 256, 192]⟩
abbrev S256x192 : Shape := ⟨2, ![256, 192]⟩
abbrev S1x1x512x192 : Shape := ⟨4, ![1, 1, 512, 192]⟩
abbrev S512x192 : Shape := ⟨2, ![512, 192]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x1x512x128 : Shape := ⟨4, ![1, 1, 512, 128]⟩
abbrev S512x128 : Shape := ⟨2, ![512, 128]⟩
abbrev S1x256x128 : Shape := ⟨3, ![1, 256, 128]⟩

abbrev nBuf : Space → Nat
  | .hbm => 17
  | .vmem => 8
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S_, .f32⟩
  | .hbm, ⟨4, _⟩ => ⟨S4x4096x8x192, .f32⟩
  | .hbm, ⟨5, _⟩ => ⟨S4x4096x8x192, .f32⟩
  | .hbm, ⟨6, _⟩ => ⟨S_, .f32⟩
  | .hbm, ⟨7, _⟩ => ⟨S_, .f32⟩
  | .hbm, ⟨8, _⟩ => ⟨S4x4096x8x192, .f32⟩
  | .hbm, ⟨9, _⟩ => ⟨S4x4096x8x192, .f32⟩
  | .hbm, ⟨10, _⟩ => ⟨S4x4096x8x192, .bf16⟩
  | .hbm, ⟨11, _⟩ => ⟨S4x8x4096x192, .bf16⟩
  | .hbm, ⟨12, _⟩ => ⟨S4x4096x8x192, .bf16⟩
  | .hbm, ⟨13, _⟩ => ⟨S4x8x4096x192, .bf16⟩
  | .hbm, ⟨14, _⟩ => ⟨S4x4096x8x128, .bf16⟩
  | .hbm, ⟨15, _⟩ => ⟨S4x8x4096x128, .bf16⟩
  | .hbm, ⟨16, _⟩ => ⟨S4x4096x1024, .bf16⟩
  | .local _ .vmem, ⟨0, _⟩ => ⟨S1x1x2048x192, .bf16⟩
  | .local _ .vmem, ⟨1, _⟩ => ⟨S1x1x2048x192, .bf16⟩
  | .local _ .vmem, ⟨2, _⟩ => ⟨S1x1x4096x192, .bf16⟩
  | .local _ .vmem, ⟨3, _⟩ => ⟨S1x1x4096x192, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x2048x128, .bf16⟩
  | .local _ .vmem, ⟨7, _⟩ => ⟨S1x2048x128, .bf16⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x192 : Shape := ⟨4, ![4, 4096, 8, 192]⟩
abbrev S4x4096x8x128 : Shape := ⟨4, ![4, 4096, 8, 128]⟩
abbrev S_ : Shape := ⟨0, ![]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x1024 : Shape := ⟨3, ![4, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S_, .f32⟩
  | .hbm, ⟨4, _⟩ => ⟨S4x4096x8x192, .f32⟩
  | .hbm, ⟨5, _⟩ => ⟨S4x4096x8x192, .f32⟩
  | .hbm, ⟨6, _⟩ => ⟨S4x8x4096x4096, .f32⟩
  | .hbm, ⟨7, _⟩ => ⟨S_, .f32⟩
  | .hbm, ⟨8, _⟩ => ⟨S4x8x4096, .f32⟩
  | .hbm, ⟨9, _⟩ => ⟨S_, .f32⟩
  | .hbm, ⟨10, _⟩ => ⟨S4x8x4096, .f32⟩
  | .hbm, ⟨11, _⟩ => ⟨S4x8x4096, .f32⟩
  | .hbm, ⟨12, _⟩ => ⟨S4x8x4096x1, .f32⟩
  | .hbm, ⟨13, _⟩ => ⟨S4x8x4096x4096, .f32⟩
  | .hbm, ⟨14, _⟩ => ⟨S4x8x4096x4096, .f32⟩
  | .hbm, ⟨15, _⟩ => ⟨S4x8x4096x4096, .f32⟩
  | .hbm, ⟨16, _⟩ => ⟨S_, .f32⟩
  | .hbm, ⟨17, _⟩ => ⟨S4x8x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x128x4096, .f32⟩
  | .hbm, ⟨22, _⟩ => ⟨S4x4096x8x128, .f32⟩
  | .hbm, ⟨23, _⟩ => ⟨S4x4096x1024, .f32⟩
  | .hbm, ⟨24, _⟩ => ⟨S4x4096x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S4x16x512x1024 : Shape := ⟨4, ![4, 16, 512, 1024]⟩
abbrev S4x16x512 : Shape := ⟨3, ![4, 16, 512]⟩
abbrev S16x1024x1024 : Shape := ⟨3, ![16, 1024, 1024]⟩
abbrev S4x16x512x1 : Shape := ⟨4, ![4, 16, 512, 1]⟩
abbrev S4x16x512x128 : Shape := ⟨4, ![4, 16, 512, 128]⟩
abbrev S1x1x512x1024 : Shape := ⟨4, ![1, 1, 512, 1024]⟩
abbrev S1x1x512x128 : Shape := ⟨4, ![1, 1, 512, 128]⟩
abbrev S1x1024x1024 : Shape := ⟨3, ![1, 1024, 1024]⟩
abbrev S512x1024 : Shape := ⟨2, ![512, 1024]⟩
abbrev S1024x1024 : Shape := ⟨2, ![1024, 1024]⟩
abbrev S512x128 : Shape := ⟨2, ![512, 128]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x16x512x1024, .f32⟩
  | .hbm, ⟨1, _⟩ => ⟨S4x16x512, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S4x16x512x1, .f32⟩
  | .hbm, ⟨6, _⟩ => ⟨S4x16x512x128, .f32⟩
  | .hbm, ⟨7, _⟩ => ⟨S4x16x512x1024, .bf16⟩
  | .hbm, ⟨8, _⟩ => ⟨S4x16x512x1024, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x512x128, .f32⟩
  | .local _ .vmem, ⟨3, _⟩ => ⟨S1x1x512x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x512x1024, .bf16⟩
  | .local _ .vmem, ⟨11, _⟩ => ⟨S1x1x512x1024, .bf16⟩
  | _, _ => ⟨S4x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x16x512x1024 : Shape := ⟨4, ![4, 16, 512, 1024]⟩
abbrev S4x16x512 : Shape := ⟨3, ![4, 16, 512]⟩
abbrev S16x1024x1024 : Shape := ⟨3, ![16, 1024, 1024]⟩
abbrev S16x1024x4x512 : Shape := ⟨4, ![16, 1024, 4, 512]⟩
abbrev S_ : Shape := ⟨0, ![]⟩
abbrev S4x16x512x1 : Shape := ⟨4, ![4, 16, 512, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x512x1024, .f32⟩
  | .hbm, ⟨1, _⟩ => ⟨S4x16x512, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x4x512, .f32⟩
  | .hbm, ⟨6, _⟩ => ⟨S4x16x512x1024, .f32⟩
  | .hbm, ⟨7, _⟩ => ⟨S4x16x512x1024, .f32⟩
  | .hbm, ⟨8, _⟩ => ⟨S4x16x512x1024, .f32⟩
  | .hbm, ⟨9, _⟩ => ⟨S_, .f32⟩
  | .hbm, ⟨10, _⟩ => ⟨S4x16x512x1024, .f32⟩
  | .hbm, ⟨11, _⟩ => ⟨S4x16x512x1024, .f32⟩
  | .hbm, ⟨12, _⟩ => ⟨S_, .f32⟩
  | .hbm, ⟨13, _⟩ => ⟨S4x16x512x1024, .f32⟩
  | .hbm, ⟨14, _⟩ => ⟨S4x16x512x1024, .f32⟩
  | .hbm, ⟨15, _⟩ => ⟨S4x16x512x1024, .f32⟩
  | .hbm, ⟨16, _⟩ => ⟨S16x1024x4x512, .f32⟩
  | .hbm, ⟨17, _⟩ => ⟨S4x16x512x1024, .f32⟩
  | .hbm, ⟨18, _⟩ => ⟨S4x16x512x1024, .f32⟩
  | .hbm, ⟨19, _⟩ => ⟨S16x1024x4x512, .f32⟩
  | .hbm, ⟨20, _⟩ => ⟨S4x16x512x1024, .f32⟩
  | .hbm, ⟨21, _⟩ => ⟨S4x16x512x1, .f32⟩
  | .hbm, ⟨22, _⟩ => ⟨S4x16x512x1024, .f32⟩
  | .hbm, ⟨23, _⟩ => ⟨S4x16x512x1024, .f32⟩
  | .hbm, ⟨24, _⟩ => ⟨S4x16x512x1024, .bf16⟩
  | _, _ => ⟨S4x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x7168 : Shape := ⟨3, ![4, 4096, 7168]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S1x1024 : Shape := ⟨2, ![1, 1024]⟩
abbrev S4x16x4096 : Shape := ⟨3, ![4, 16, 4096]⟩
abbrev S1x1024x1024 : Shape := ⟨3, ![1, 1024, 1024]⟩
abbrev S1x6x1024 : Shape := ⟨3, ![1, 6, 1024]⟩
abbrev S1x16x1024 : Shape := ⟨3, ![1, 16, 1024]⟩
abbrev S1x1x1024 : Shape := ⟨3, ![1, 1, 1024]⟩
abbrev S1024x1 : Shape := ⟨2, ![1024, 1]⟩

abbrev nBuf : Space → Nat
  | .hbm => 22
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x7168, .f32⟩
  | .hbm, ⟨3, _⟩ => ⟨S4x4096x1024, .f32⟩
  | .hbm, ⟨4, _⟩ => ⟨S4x6x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x16, .f32⟩
  | .hbm, ⟨10, _⟩ => ⟨S4x4096x1024, .bf16⟩
  | .hbm, ⟨11, _⟩ => ⟨S4x4096x1024, .bf16⟩
  | .hbm, ⟨12, _⟩ => ⟨S4x4096x7168, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S16x1024, .f32⟩
  | .hbm, ⟨17, _⟩ => ⟨S16x1024, .bf16⟩
  | .hbm, ⟨18, _⟩ => ⟨S1x1024, .f32⟩
  | .hbm, ⟨19, _⟩ => ⟨S4x4096x1024, .f32⟩
  | .hbm, ⟨20, _⟩ => ⟨S4x4096x1024, .bf16⟩
  | .hbm, ⟨21, _⟩ => ⟨S4x16x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S16x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .bf16⟩
  | .local _ .vmem, ⟨20, _⟩ => ⟨S1x1024x1024, .bf16⟩
  | .local _ .vmem, ⟨21, _⟩ => ⟨S1x16x1024, .f32⟩
  | .local _ .vmem, ⟨22, _⟩ => ⟨S1x16x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S4x4096x1024 : Shape := ⟨3, ![4, 4096, 1024]⟩
abbrev S4x4096x7168 : Shape := ⟨3, ![4, 4096, 7168]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S4x1x1024 : Shape := ⟨3, ![4, 1, 1024]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x16 : Shape := ⟨3, ![4, 4096, 16]⟩
abbrev S4x16x4096 : Shape := ⟨3, ![4, 16, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x7168, .f32⟩
  | .hbm, ⟨3, _⟩ => ⟨S4x4096x1024, .f32⟩
  | .hbm, ⟨4, _⟩ => ⟨S4x6x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x16, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x1x1024, .f32⟩
  | .hbm, ⟨51, _⟩ => ⟨S4x1x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x16, .f32⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S4x4096, .f32⟩
  | .hbm, ⟨61, _⟩ => ⟨S4x4096, .f32⟩
  | .hbm, ⟨62, _⟩ => ⟨S4x4096x1, .f32⟩
  | .hbm, ⟨63, _⟩ => ⟨S4x4096x16, .f32⟩
  | .hbm, ⟨64, _⟩ => ⟨S4x4096x16, .f32⟩
  | .hbm, ⟨65, _⟩ => ⟨S4x4096x16, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x16, .f32⟩
  | .hbm, ⟨70, _⟩ => ⟨S4x4096x16, .f32⟩
  | .hbm, ⟨71, _⟩ => ⟨S4x4096x1024, .bf16⟩
  | .hbm, ⟨72, _⟩ => ⟨S4x16x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x6x1024 : Shape := ⟨3, ![4, 6, 1024]⟩
abbrev S1024 : Shape := ⟨1, ![1024]⟩
abbrev S1024x7008 : Shape := ⟨2, ![1024, 7008]⟩
abbrev S1024x64 : Shape := ⟨2, ![1024, 64]⟩
abbrev S1024x32 : Shape := ⟨2, ![1024, 32]⟩
abbrev S_ : Shape := ⟨0, ![]⟩
abbrev S1024x96 : Shape := ⟨2, ![1024, 96]⟩
abbrev S1024x4096 : Shape := ⟨2, ![1024, 4096]⟩
abbrev S1024x512 : Shape := ⟨2, ![1024, 512]⟩
abbrev S1024x256 : Shape := ⟨2, ![1024, 256]⟩
abbrev S1024x16 : Shape := ⟨2, ![1024, 16]⟩
abbrev S1024x2048 : Shape := ⟨2, ![1024, 2048]⟩
abbrev S1024x7168 : Shape := ⟨2, ![1024, 7168]⟩
abbrev S1x1024 : Shape := ⟨2, ![1, 1024]⟩
abbrev S4x4096x7168 : Shape := ⟨3, ![4, 4096, 7168]⟩
abbrev S4x4096x128 : Shape := ⟨3, ![4, 4096, 128]⟩
abbrev S1x1024x1024 : Shape := ⟨3, ![1, 1024, 1024]⟩
abbrev S1x6x1024 : Shape := ⟨3, ![1, 6, 1024]⟩
abbrev S1024x1792 : Shape := ⟨2, ![1024, 1792]⟩
abbrev S1x1024x1792 : Shape := ⟨3, ![1, 1024, 1792]⟩
abbrev S1x1024x128 : Shape := ⟨3, ![1, 1024, 128]⟩
abbrev S1024x1024 : Shape := ⟨2, ![1024, 1024]⟩
abbrev S1024x1 : Shape := ⟨2, ![1024, 1]⟩
abbrev S1x1x1024 : Shape := ⟨3, ![1, 1, 1024]⟩
abbrev S1024x128 : Shape := ⟨2, ![1024, 128]⟩

abbrev nBuf : Space → Nat
  | .hbm => 21
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1024, .f32⟩
  | .hbm, ⟨3, _⟩ => ⟨S1024x7008, .f32⟩
  | .hbm, ⟨4, _⟩ => ⟨S1024x64, .f32⟩
  | .hbm, ⟨5, _⟩ => ⟨S1024x32, .f32⟩
  | .hbm, ⟨6, _⟩ => ⟨S1024x32, .f32⟩
  | .hbm, ⟨7, _⟩ => ⟨S1024x64, .f32⟩
  | .hbm, ⟨8, _⟩ => ⟨S_, .f32⟩
  | .hbm, ⟨9, _⟩ => ⟨S1024x96, .f32⟩
  | .hbm, ⟨10, _⟩ => ⟨S1024x4096, .f32⟩
  | .hbm, ⟨11, _⟩ => ⟨S1024x512, .f32⟩
  | .hbm, ⟨12, _⟩ => ⟨S1024x256, .f32⟩
  | .hbm, ⟨13, _⟩ => ⟨S1024x16, .f32⟩
  | .hbm, ⟨14, _⟩ => ⟨S1024x16, .f32⟩
  | .hbm, ⟨15, _⟩ => ⟨S1024x2048, .f32⟩
  | .hbm, ⟨16, _⟩ => ⟨S1024x7168, .f32⟩
  | .hbm, ⟨17, _⟩ => ⟨S1024x7168, .bf16⟩
  | .hbm, ⟨18, _⟩ => ⟨S1x1024, .f32⟩
  | .hbm, ⟨19, _⟩ => ⟨S4x4096x7168, .bf16⟩
  | .hbm, ⟨20, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1792, .bf16⟩
  | .local _ .vmem, ⟨6, _⟩ => ⟨S1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1024x128, .f32⟩
  | .local _ .vmem, ⟨10, _⟩ => ⟨S1x1024x128, .f32⟩
  | .local _ .vmem, ⟨11, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S4x4096x1024 : Shape := ⟨3, ![4, 4096, 1024]⟩
abbrev S4x6x1024 : Shape := ⟨3, ![4, 6, 1024]⟩
abbrev S1024 : Shape := ⟨1, ![1024]⟩
abbrev S1024x7008 : Shape := ⟨2, ![1024, 7008]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7008 : Shape := ⟨3, ![4, 4096, 7008]⟩
abbrev S4x4096x4096 : Shape := ⟨3, ![4, 4096, 4096]⟩
abbrev S4x4096x32 : Shape := ⟨3, ![4, 4096, 32]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x2048 : Shape := ⟨3, ![4, 4096, 2048]⟩
abbrev S4x4096x96 : Shape := ⟨3, ![4, 4096, 96]⟩
abbrev S4x4096x128 : Shape := ⟨3, ![4, 4096, 128]⟩
abbrev S4x4096x7168 : Shape := ⟨3, ![4, 4096, 7168]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1024, .f32⟩
  | .hbm, ⟨3, _⟩ => ⟨S1024x7008, .f32⟩
  | .hbm, ⟨4, _⟩ => ⟨S4x1x1024, .f32⟩
  | .hbm, ⟨5, _⟩ => ⟨S4x1x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x7008, .f32⟩
  | .hbm, ⟨30, _⟩ => ⟨S4x4096x4096, .f32⟩
  | .hbm, ⟨31, _⟩ => ⟨S4x4096x32, .f32⟩
  | .hbm, ⟨32, _⟩ => ⟨S4x4096x512, .f32⟩
  | .hbm, ⟨33, _⟩ => ⟨S4x4096x256, .f32⟩
  | .hbm, ⟨34, _⟩ => ⟨S4x4096x64, .f32⟩
  | .hbm, ⟨35, _⟩ => ⟨S4x4096x2048, .f32⟩
  | .hbm, ⟨36, _⟩ => ⟨S4x4096x32, .f32⟩
  | .hbm, ⟨37, _⟩ => ⟨S4x4096x32, .f32⟩
  | .hbm, ⟨38, _⟩ => ⟨S_, .f32⟩
  | .hbm, ⟨39, _⟩ => ⟨S4x4096x96, .f32⟩
  | .hbm, ⟨40, _⟩ => ⟨S4x4096x128, .f32⟩
  | .hbm, ⟨41, _⟩ => ⟨S4x4096x7168, .f32⟩
  | .hbm, ⟨42, _⟩ => ⟨S4x4096x7168, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel5.lean ====
abbrev S4x4096x512 : Shape := ⟨3, ![4, 4096, 512]⟩
abbrev S4x4096x256 : Shape := ⟨3, ![4, 4096, 256]⟩
abbrev S4x4096x64 : Shape := ⟨3, ![4, 4096, 64]⟩
abbrev S4x4096 : Shape := ⟨2, ![4, 4096]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S64 : Shape := ⟨1, ![64]⟩
abbrev S32 : Shape := ⟨1, ![32]⟩
abbrev S_ : Shape := ⟨0, ![]⟩
abbrev S1x64 : Shape := ⟨2, ![1, 64]⟩
abbrev S4x4096x1 : Shape := ⟨3, ![4, 4096, 1]⟩
abbrev S4x4096x4096 : Shape := ⟨3, ![4, 4096, 4096]⟩
abbrev S4x4096x32 : Shape := ⟨3, ![4, 4096, 32]⟩
abbrev S4x4096x2176 : Shape := ⟨3, ![4, 4096, 2176]⟩
abbrev S4x4096x7168 : Shape := ⟨3, ![4, 4096, 7168]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S64x1 : Shape := ⟨2, ![64, 1]⟩
abbrev S256x8x256 : Shape := ⟨3, ![256, 8, 256]⟩
abbrev S256x8x128 : Shape := ⟨3, ![256, 8, 128]⟩
abbrev S256x1024 : Shape := ⟨2, ![256, 1024]⟩
abbrev S1x512 : Shape := ⟨2, ![1, 512]⟩
abbrev S1x256 : Shape := ⟨2, ![1, 256]⟩
abbrev S4x8x4096x192 : Shape := ⟨4, ![4, 8, 4096, 192]⟩
abbrev S4x8x4096x128 : Shape := ⟨4, ![4, 8, 4096, 128]⟩
abbrev S1x512x512 : Shape := ⟨3, ![1, 512, 512]⟩
abbrev S1x512x256 : Shape := ⟨3, ![1, 512, 256]⟩
abbrev S1x512x128 : Shape := ⟨3, ![1, 512, 128]⟩
abbrev S1x512x1 : Shape := ⟨3, ![1, 512, 1]⟩
abbrev S1x8x512x192 : Shape := ⟨4, ![1, 8, 512, 192]⟩
abbrev S1x8x512x128 : Shape := ⟨4, ![1, 8, 512, 128]⟩
abbrev S512x1 : Shape := ⟨2, ![512, 1]⟩
abbrev S512x64 : Shape := ⟨2, ![512, 64]⟩
abbrev S512x256 : Shape := ⟨2, ![512, 256]⟩
abbrev S512x128 : Shape := ⟨2, ![512, 128]⟩
abbrev S1x1x512x128 : Shape := ⟨4, ![1, 1, 512, 128]⟩
abbrev S1x1x512x64 : Shape := ⟨4, ![1, 1, 512, 64]⟩

abbrev nBuf : Space → Nat
  | .hbm => 64
  | .vmem => 23
  | .smem => 0
  | _ => 0

abbrev bufTy : (tb : Table) → Fin (tcTables nBuf tb) → BufTy
  | .hbm, ⟨0, _⟩ => ⟨S4x4096x512, .f32⟩
  | .hbm, ⟨1, _⟩ => ⟨S4x4096x256, .f32⟩
  | .hbm, ⟨2, _⟩ => ⟨S4x4096x64, .f32⟩
  | .hbm, ⟨3, _⟩ => ⟨S4x4096, .i32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S64, .i32⟩
  | .hbm, ⟨9, _⟩ => ⟨S64, .i1⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S64, .f32⟩
  | .hbm, ⟨26, _⟩ => ⟨S1x64, .f32⟩
  | .hbm, ⟨27, _⟩ => ⟨S4x4096x1, .i32⟩
  | .hbm, ⟨28, _⟩ => ⟨S_, .f32⟩
  | .hbm, ⟨29, _⟩ => ⟨S4x4096x4096, .f32⟩
  | .hbm, ⟨30, _⟩ => ⟨S4x4096x32, .f32⟩
  | .hbm, ⟨31, _⟩ => ⟨S4x4096x32, .f32⟩
  | .hbm, ⟨32, _⟩ => ⟨S_, .f32⟩
  | .hbm, ⟨33, _⟩ => ⟨S4x4096x2176, .f32⟩
  | .hbm, ⟨34, _⟩ => ⟨S4x4096x7168, .f32⟩
  | .hbm, ⟨35, _⟩ => ⟨S4x4096x7168, .bf16⟩
  | .hbm, ⟨36, _⟩ => ⟨S512x8x192, .f32⟩
  | .hbm, ⟨37, _⟩ => ⟨S512x8x128, .f32⟩
  | .hbm, ⟨38, _⟩ => ⟨S512x1024, .f32⟩
  | .hbm, ⟨39, _⟩ => ⟨S512x1024, .bf16⟩
  | .hbm, ⟨40, _⟩ => ⟨S512x8x64, .f32⟩
  | .hbm, ⟨41, _⟩ => ⟨S512x512, .f32⟩
  | .hbm, ⟨42, _⟩ => ⟨S512x512, .bf16⟩
  | .hbm, ⟨43, _⟩ => ⟨S512x8x64, .f32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S512x8x64, .f32⟩
  | .hbm, ⟨50, _⟩ => ⟨S512x512, .f32⟩
  | .hbm, ⟨51, _⟩ => ⟨S512x512, .bf16⟩
  | .hbm, ⟨52, _⟩ => ⟨S256x8x256, .f32⟩
  | .hbm, ⟨53, _⟩ => ⟨S256x8x128, .f32⟩
  | .hbm, ⟨54, _⟩ => ⟨S256x1024, .f32⟩
  | .hbm, ⟨55, _⟩ => ⟨S256x1024, .bf16⟩
  | .hbm, ⟨56, _⟩ => ⟨S256x8x128, .f32⟩
  | .hbm, ⟨57, _⟩ => ⟨S256x1024, .f32⟩
  | .hbm, ⟨58, _⟩ => ⟨S256x1024, .bf16⟩
  | .hbm, ⟨59, _⟩ => ⟨S1x512, .f32⟩
  | .hbm, ⟨60, _⟩ => ⟨S1x256, .f32⟩
  | .hbm, ⟨61, _⟩ => ⟨S4x8x4096x192, .bf16⟩
  | .hbm, ⟨62, _⟩ => ⟨S4x8x4096x192, .bf16⟩
  | .hbm, ⟨63, _⟩ => ⟨S4x8x4096x128, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x1, .i32⟩
  | .local _ .vmem, ⟨7, _⟩ => ⟨S1x512x1, .i32⟩
  | .local _ .vmem, ⟨8, _⟩ => ⟨S1x64, .f32⟩
  | .local _ .vmem, ⟨9, _⟩ => ⟨S1x64, .f32⟩
  | .local _ .vmem, ⟨10, _⟩ => ⟨S1x512, .f32⟩
  | .local _ .vmem, ⟨11, _⟩ => ⟨S1x256, .f32⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | .local _ .vmem, ⟨15, _⟩ => ⟨S256x1024, .bf16⟩
  | .local _ .vmem, ⟨16, _⟩ => ⟨S256x1024, .bf16⟩
  | .local _ .vmem, ⟨17, _⟩ => ⟨S1x8x512x192, .bf16⟩
  | .local _ .vmem, ⟨18, _⟩ => ⟨S1x8x512x192, .bf16⟩
  | .local _ .vmem, ⟨19, _⟩ => ⟨S1x8x512x192, .bf16⟩
  | .local _ .vmem, ⟨20, _⟩ => ⟨S1x8x512x192, .bf16⟩
  | .local _ .vmem, ⟨21, _⟩ => ⟨S1x8x512x128, .bf16⟩
  | .local _ .vmem, ⟨22, _⟩ => ⟨S1x8x512x128, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_v44_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_2 (i : grid0.Coords) : Fin 3 → Nat :=
  let arg0 : BitVec 32 := BitVec.ofNat 32 (i 0).val
  let arg1 : BitVec 32 := BitVec.ofNat 32 (i 1).val
  let c38_i32 : BitVec 32 := 38#32
  let c0_i32 : BitVec 32 := 0#32
  ![arg0.toNat, arg1.toNat, c38_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x512x192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference5Ideal.lean ====
abbrev S4x4096x512 : Shape := ⟨3, ![4, 4096, 512]⟩
abbrev S4x4096x256 : Shape := ⟨3, ![4, 4096, 256]⟩
abbrev S4x4096x64 : Shape := ⟨3, ![4, 4096, 64]⟩
abbrev S4x4096 : Shape := ⟨2, ![4, 4096]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S1x1x512 : Shape := ⟨3, ![1, 1, 512]⟩
abbrev S4x4096x1536 : Shape := ⟨3, ![4, 4096, 1536]⟩
abbrev S4x4096x8x192 : Shape := ⟨4, ![4, 4096, 8, 192]⟩
abbrev S4x4096x8x128 : Shape := ⟨4, ![4, 4096, 8, 128]⟩
abbrev S4x4096x8x64 : Shape := ⟨4, ![4, 4096, 8, 64]⟩
abbrev S4x4096x1x32 : Shape := ⟨4, ![4, 4096, 1, 32]⟩
abbrev S4x4096x8x32 : Shape := ⟨4, ![4, 4096, 8, 32]⟩
abbrev S1x1x256 : Shape := ⟨3, ![1, 1, 256]⟩
abbrev S4x4096x2048 : Shape := ⟨3, ![4, 4096, 2048]⟩
abbrev S4x4096x8x256 : Shape := ⟨4, ![4, 4096, 8, 256]⟩
abbrev S4x4096x1x64 : Shape := ⟨4, ![4, 4096, 1, 64]⟩
abbrev S4x8x4096x192 : Shape := ⟨4, ![4, 8, 4096, 192]⟩
abbrev S4x8x4096x128 : Shape := ⟨4, ![4, 8, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x256, .f32⟩
  | .hbm, ⟨2, _⟩ => ⟨S4x4096x64, .f32⟩
  | .hbm, ⟨3, _⟩ => ⟨S4x4096, .i32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4x4096, .f32⟩
  | .hbm, ⟨17, _⟩ => ⟨S4x4096x1, .f32⟩
  | .hbm, ⟨18, _⟩ => ⟨S1x1x32, .f32⟩
  | .hbm, ⟨19, _⟩ => ⟨S4x4096x32, .f32⟩
  | .hbm, ⟨20, _⟩ => ⟨S4x4096x32, .f32⟩
  | .hbm, ⟨21, _⟩ => ⟨S4x4096x32, .f32⟩
  | .hbm, ⟨22, _⟩ => ⟨S4x4096x32, .f32⟩
  | .hbm, ⟨23, _⟩ => ⟨S4x4096x32, .f32⟩
  | .hbm, ⟨24, _⟩ => ⟨S4x4096x512, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x512, .f32⟩
  | .hbm, ⟨36, _⟩ => ⟨S4x4096x512, .f32⟩
  | .hbm, ⟨37, _⟩ => ⟨S1x1x512, .f32⟩
  | .hbm, ⟨38, _⟩ => ⟨S4x4096x512, .f32⟩
  | .hbm, ⟨39, _⟩ => ⟨S4x4096x512, .f32⟩
  | .hbm, ⟨40, _⟩ => ⟨S4x4096x1536, .f32⟩
  | .hbm, ⟨41, _⟩ => ⟨S4x4096x8x192, .f32⟩
  | .hbm, ⟨42, _⟩ => ⟨S4x4096x8x128, .f32⟩
  | .hbm, ⟨43, _⟩ => ⟨S4x4096x8x64, .f32⟩
  | .hbm, ⟨44, _⟩ => ⟨S4x4096x1x32, .f32⟩
  | .hbm, ⟨45, _⟩ => ⟨S4x4096x1x32, .f32⟩
  | .hbm, ⟨46, _⟩ => ⟨S4x4096x8x32, .f32⟩
  | .hbm, ⟨47, _⟩ => ⟨S4x4096x8x32, .f32⟩
  | .hbm, ⟨48, _⟩ => ⟨S4x4096x8x32, .f32⟩
  | .hbm, ⟨49, _⟩ => ⟨S4x4096x8x32, .f32⟩
  | .hbm, ⟨50, _⟩ => ⟨S4x4096x8x32, .f32⟩
  | .hbm, ⟨51, _⟩ => ⟨S4x4096x8x32, .f32⟩
  | .hbm, ⟨52, _⟩ => ⟨S4x4096x8x32, .f32⟩
  | .hbm, ⟨53, _⟩ => ⟨S4x4096x8x32, .f32⟩
  | .hbm, ⟨54, _⟩ => ⟨S4x4096x8x32, .f32⟩
  | .hbm, ⟨55, _⟩ => ⟨S4x4096x8x32, .f32⟩
  | .hbm, ⟨56, _⟩ => ⟨S4x4096x8x32, .f32⟩
  | .hbm, ⟨57, _⟩ => ⟨S4x4096x8x32, .f32⟩
  | .hbm, ⟨58, _⟩ => ⟨S4x4096x8x64, .f32⟩
  | .hbm, ⟨59, _⟩ => ⟨S4x4096x8x192, .f32⟩
  | .hbm, ⟨60, _⟩ => ⟨S4x4096x256, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x256, .f32⟩
  | .hbm, ⟨72, _⟩ => ⟨S4x4096x256, .f32⟩
  | .hbm, ⟨73, _⟩ => ⟨S1x1x256, .f32⟩
  | .hbm, ⟨74, _⟩ => ⟨S4x4096x256, .f32⟩
  | .hbm, ⟨75, _⟩ => ⟨S4x4096x256, .f32⟩
  | .hbm, ⟨76, _⟩ => ⟨S4x4096x2048, .f32⟩
  | .hbm, ⟨77, _⟩ => ⟨S4x4096x8x256, .f32⟩
  | .hbm, ⟨78, _⟩ => ⟨S4x4096x8x128, .f32⟩
  | .hbm, ⟨79, _⟩ => ⟨S4x4096x8x128, .f32⟩
  | .hbm, ⟨80, _⟩ => ⟨S4x4096x32, .f32⟩
  | .hbm, ⟨81, _⟩ => ⟨S4x4096x32, .f32⟩
  | .hbm, ⟨82, _⟩ => ⟨S4x4096x32, .f32⟩
  | .hbm, ⟨83, _⟩ => ⟨S4x4096x32, .f32⟩
  | .hbm, ⟨84, _⟩ => ⟨S4x4096x32, .f32⟩
  | .hbm, ⟨85, _⟩ => ⟨S4x4096x32, .f32⟩
  | .hbm, ⟨86, _⟩ => ⟨S4x4096x32, .f32⟩
  | .hbm, ⟨87, _⟩ => ⟨S4x4096x32, .f32⟩
  | .hbm, ⟨88, _⟩ => ⟨S4x4096x64, .f32⟩
  | .hbm, ⟨89, _⟩ => ⟨S4x4096x1x64, .f32⟩
  | .hbm, ⟨90, _⟩ => ⟨S4x4096x8x64, .f32⟩
  | .hbm, ⟨91, _⟩ => ⟨S4x4096x8x192, .f32⟩
  | .hbm, ⟨92, _⟩ => ⟨S_, .f32⟩
  | .hbm, ⟨93, _⟩ => ⟨S4x4096x8x192, .f32⟩
  | .hbm, ⟨94, _⟩ => ⟨S4x4096x8x192, .f32⟩
  | .hbm, ⟨95, _⟩ => ⟨S4x8x4096x192, .f32⟩
  | .hbm, ⟨96, _⟩ => ⟨S4x8x4096x192, .bf16⟩
  | .hbm, ⟨97, _⟩ => ⟨S4x8x4096x192, .f32⟩
  | .hbm, ⟨98, _⟩ => ⟨S4x8x4096x192, .bf16⟩
  | .hbm, ⟨99, _⟩ => ⟨S4x8x4096x128, .f32⟩
  | .hbm, ⟨100, _⟩ => ⟨S4x8x4096x128, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== Kernel6.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S4x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x6144, .f32⟩
  | .hbm, ⟨16, _⟩ => ⟨S1x6144, .f32⟩
  | .hbm, ⟨17, _⟩ => ⟨S8x6144, .f32⟩
  | .hbm, ⟨18, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel7.lean ====
abbrev S4x16x4096 : Shape := ⟨3, ![4, 16, 4096]⟩
abbrev S4x16x512x1024 : Shape := ⟨4, ![4, 16, 512, 1024]⟩
abbrev S4x4096x1024 : Shape := ⟨3, ![4, 4096, 1024]⟩
abbrev S4x6x1024 : Shape := ⟨3, ![4, 6, 1024]⟩
abbrev S1024 : Shape := ⟨1, ![1024]⟩
abbrev S4x2x8x4096 : Shape := ⟨4, ![4, 2, 8, 4096]⟩
abbrev S4x2x4096x8 : Shape := ⟨4, ![4, 2, 4096, 8]⟩
abbrev S1x1024 : Shape := ⟨2, ![1, 1024]⟩
abbrev S1x1x512x8 : Shape := ⟨4, ![1, 1, 512, 8]⟩
abbrev S1x8x512x1024 : Shape := ⟨4, ![1, 8, 512, 1024]⟩
abbrev S1x512x1024 : Shape := ⟨3, ![1, 512, 1024]⟩
abbrev S1x6x1024 : Shape := ⟨3, ![1, 6, 1024]⟩
abbrev S512x1024 : Shape := ⟨2, ![512, 1024]⟩
abbrev S1x512 : Shape := ⟨2, ![1, 512]⟩
abbrev S512x8 : Shape := ⟨2, ![512, 8]⟩
abbrev S512x1 : Shape := ⟨2, ![512, 1]⟩
abbrev S512x512 : Shape := ⟨2, ![512, 512]⟩
abbrev S512x4096 : Shape := ⟨2, ![512, 4096]⟩
abbrev S8x512x1024 : Shape := ⟨3, ![8, 512, 1024]⟩
abbrev S4096x1024 : Shape := ⟨2, ![4096, 1024]⟩
abbrev S1x1x1024 : Shape := ⟨3, ![1, 1, 1024]⟩
abbrev S512 : Shape := ⟨1, ![512]⟩

abbrev nBuf : Space → Nat
  | .hbm => 10
  | .vmem => 12
  | .smem => 0
  | _ => 0

abbrev bufTy : (tb : Table) → Fin (tcTables nBuf tb) → BufTy
  | .hbm, ⟨0, _⟩ => ⟨S4x16x4096, .i32⟩
  | .hbm, ⟨1, _⟩ => ⟨S4x16x512x1024, .f32⟩
  | .hbm, ⟨2, _⟩ => ⟨S4x4096x1024, .f32⟩
  | .hbm, ⟨3, _⟩ => ⟨S4x6x1024, .f32⟩
  | .hbm, ⟨4, _⟩ => ⟨S1024, .f32⟩
  | .hbm, ⟨5, _⟩ => ⟨S4x2x8x4096, .i32⟩
  | .hbm, ⟨6, _⟩ => ⟨S4x2x4096x8, .i32⟩
  | .hbm, ⟨7, _⟩ => ⟨S4x16x512x1024, .bf16⟩
  | .hbm, ⟨8, _⟩ => ⟨S1x1024, .f32⟩
  | .hbm, ⟨9, _⟩ => ⟨S4x4096x1024, .f32⟩
  | .local _ .vmem, ⟨0, _⟩ => ⟨S1x1x512x8, .i32⟩
  | .local _ .vmem, ⟨1, _⟩ => ⟨S1x1x512x8, .i32⟩
  | .local _ .vmem, ⟨2, _⟩ => ⟨S1x8x512x1024, .bf16⟩
  | .local _ .vmem, ⟨3, _⟩ => ⟨S1x8x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S512x1024, .f32⟩
  | _, _ => ⟨S4x16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v80 : BitVec 1 := Scalar.cmpi .eq arg2 c1_i32
  let v81 : BitVec 32 := Scalar.extui v80
  let c0_i32_28 : BitVec 32 := 0#32
  let v82 : BitVec 1 := Scalar.cmpi .ne v81 c0_i32_28
  v82

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x512x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4x16x4096 : Shape := ⟨3, ![4, 16, 4096]⟩
abbrev S4x16x512x1024 : Shape := ⟨4, ![4, 16, 512, 1024]⟩
abbrev S4x4096x1024 : Shape := ⟨3, ![4, 4096, 1024]⟩
abbrev S4x6x1024 : Shape := ⟨3, ![4, 6, 1024]⟩
abbrev S1024 : Shape := ⟨1, ![1024]⟩
abbrev S4x16x4096x1 : Shape := ⟨4, ![4, 16, 4096, 1]⟩
abbrev S512 : Shape := ⟨1, ![512]⟩
abbrev S1x1x1x512 : Shape := ⟨4, ![1, 1, 1, 512]⟩
abbrev S4x16x4096x512 : Shape := ⟨4, ![4, 16, 4096, 512]⟩
abbrev S4x16x4096x1024 : Shape := ⟨4, ![4, 16, 4096, 1024]⟩
abbrev S_ : Shape := ⟨0, ![]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x16x4096, .i32⟩
  | .hbm, ⟨1, _⟩ => ⟨S4x16x512x1024, .f32⟩
  | .hbm, ⟨2, _⟩ => ⟨S4x4096x1024, .f32⟩
  | .hbm, ⟨3, _⟩ => ⟨S4x6x1024, .f32⟩
  | .hbm, ⟨4, _⟩ => ⟨S1024, .f32⟩
  | .hbm, ⟨5, _⟩ => ⟨S4x16x4096x1, .i32⟩
  | .hbm, ⟨6, _⟩ => ⟨S512, .i32⟩
  | .hbm, ⟨7, _⟩ => ⟨S1x1x1x512, .i32⟩
  | .hbm, ⟨8, _⟩ => ⟨S4x16x4096x512, .i32⟩
  | .hbm, ⟨9, _⟩ => ⟨S4x16x4096x512, .i32⟩
  | .hbm, ⟨10, _⟩ => ⟨S4x16x4096x512, .i1⟩
  | .hbm, ⟨11, _⟩ => ⟨S4x16x4096x512, .f32⟩
  | .hbm, ⟨12, _⟩ => ⟨S4x16x4096x1024, .f32⟩
  | .hbm, ⟨13, _⟩ => ⟨S_, .f32⟩
  | .hbm, ⟨14, _⟩ => ⟨S4x4096x1024, .f32⟩
  | .hbm, ⟨15, _⟩ => ⟨S4x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | _, _ => ⟨S4x16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel8.lean ====
abbrev S4x16x4096 : Shape := ⟨3, ![4, 16, 4096]⟩
abbrev S4x4096x1024 : Shape := ⟨3, ![4, 4096, 1024]⟩
abbrev S4x16x1x4096 : Shape := ⟨4, ![4, 16, 1, 4096]⟩
abbrev S4x16x512x1024 : Shape := ⟨4, ![4, 16, 512, 1024]⟩
abbrev S4x16x512x128 : Shape := ⟨4, ![4, 16, 512, 128]⟩
abbrev S1x1x1x4096 : Shape := ⟨4, ![1, 1, 1, 4096]⟩
abbrev S1x4096x1024 : Shape := ⟨3, ![1, 4096, 1024]⟩
abbrev S1x1x512x1024 : Shape := ⟨4, ![1, 1, 512, 1024]⟩
abbrev S1x1x512x128 : Shape := ⟨4, ![1, 1, 512, 128]⟩
abbrev S512x1 : Shape := ⟨2, ![512, 1]⟩
abbrev S512x128 : Shape := ⟨2, ![512, 128]⟩
abbrev S1x1x1x512 : Shape := ⟨4, ![1, 1, 1, 512]⟩
abbrev S1x512 : Shape := ⟨2, ![1, 512]⟩
abbrev S512x512 : Shape := ⟨2, ![512, 512]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S4x16x4096, .i32⟩
  | .hbm, ⟨1, _⟩ => ⟨S4x16x4096, .f32⟩
  | .hbm, ⟨2, _⟩ => ⟨S4x4096x1024, .f32⟩
  | .hbm, ⟨3, _⟩ => ⟨S4x16x1x4096, .i32⟩
  | .hbm, ⟨4, _⟩ => ⟨S4x16x1x4096, .f32⟩
  | .hbm, ⟨5, _⟩ => ⟨S4x4096x1024, .bf16⟩
  | .hbm, ⟨6, _⟩ => ⟨S4x16x512x1024, .bf16⟩
  | .hbm, ⟨7, _⟩ => ⟨S4x16x512x128, .f32⟩
  | .local _ .vmem, ⟨0, _⟩ => ⟨S1x1x1x4096, .i32⟩
  | .local _ .vmem, ⟨1, _⟩ => ⟨S1x1x1x4096, .i32⟩
  | .local _ .vmem, ⟨2, _⟩ => ⟨S1x1x1x4096, .f32⟩
  | .local _ .vmem, ⟨3, _⟩ => ⟨S1x1x1x4096, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x512x128, .f32⟩
  | .local _ .vmem, ⟨9, _⟩ => ⟨S1x1x512x128, .f32⟩
  | _, _ => ⟨S4x16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x16x4096 : Shape := ⟨3, ![4, 16, 4096]⟩
abbrev S4x4096x1024 : Shape := ⟨3, ![4, 4096, 1024]⟩
abbrev S4x16x1x4096 : Shape := ⟨4, ![4, 16, 1, 4096]⟩
abbrev S512 : Shape := ⟨1, ![512]⟩
abbrev S512x1 : Shape := ⟨2, ![512, 1]⟩
abbrev S1x1x512x1 : Shape := ⟨4, ![1, 1, 512, 1]⟩
abbrev S4x16x512x4096 : Shape := ⟨4, ![4, 16, 512, 4096]⟩
abbrev S4x16x512x1024 : Shape := ⟨4, ![4, 16, 512, 1024]⟩
abbrev S_ : Shape := ⟨0, ![]⟩
abbrev S4x16x512 : Shape := ⟨3, ![4, 16, 512]⟩
abbrev S4x16x512x1 : Shape := ⟨4, ![4, 16, 512, 1]⟩
abbrev S4x16x512x128 : Shape := ⟨4, ![4, 16, 512, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x16x4096, .i32⟩
  | .hbm, ⟨1, _⟩ => ⟨S4x16x4096, .f32⟩
  | .hbm, ⟨2, _⟩ => ⟨S4x4096x1024, .f32⟩
  | .hbm, ⟨3, _⟩ => ⟨S4x16x1x4096, .i32⟩
  | .hbm, ⟨4, _⟩ => ⟨S512, .i32⟩
  | .hbm, ⟨5, _⟩ => ⟨S512x1, .i32⟩
  | .hbm, ⟨6, _⟩ => ⟨S1x1x512x1, .i32⟩
  | .hbm, ⟨7, _⟩ => ⟨S4x16x512x4096, .i32⟩
  | .hbm, ⟨8, _⟩ => ⟨S4x16x512x4096, .i32⟩
  | .hbm, ⟨9, _⟩ => ⟨S4x16x512x4096, .i1⟩
  | .hbm, ⟨10, _⟩ => ⟨S4x16x512x4096, .f32⟩
  | .hbm, ⟨11, _⟩ => ⟨S4x16x512x1024, .f32⟩
  | .hbm, ⟨12, _⟩ => ⟨S4x16x1x4096, .f32⟩
  | .hbm, ⟨13, _⟩ => ⟨S_, .f32⟩
  | .hbm, ⟨14, _⟩ => ⟨S_, .f32⟩
  | .hbm, ⟨15, _⟩ => ⟨S4x16x512x4096, .f32⟩
  | .hbm, ⟨16, _⟩ => ⟨S4x16x512x4096, .f32⟩
  | .hbm, ⟨17, _⟩ => ⟨S4x16x512x4096, .f32⟩
  | .hbm, ⟨18, _⟩ => ⟨S_, .f32⟩
  | .hbm, ⟨19, _⟩ => ⟨S4x16x512, .f32⟩
  | .hbm, ⟨20, _⟩ => ⟨S4x16x512x1, .f32⟩
  | .hbm, ⟨21, _⟩ => ⟨S4x16x512x1024, .bf16⟩
  | .hbm, ⟨22, _⟩ => ⟨S4x16x512x128, .f32⟩
  | _, _ => ⟨S4x16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.AttnBlock.lean ====
/- What one grid point of the attention call writes: the eight stored pieces of 256 rows are one function of
   their query rows, `blk`, over the same eight chunks of keys and of values. -/
module

public import proofs.«01_k».proof.Proof.Gen.KernelIdeal.Frame

@[expose] public section

noncomputable section

namespace Cert.KernelIdeal.Attn

open Cert.KernelIdeal Cert.KernelIdeal.Gen Idealize.ShloMosaic

variable {F : FTy → Type} [FloatOps F]

/-- The scores of 256 query rows against one chunk of 512 keys. -/
def score (q : Vec F S1x1x256x192 .bf16) (k : Vec F S1x1x512x192 .bf16) : FVec F S256x512 .f32 :=
  matmul dot_S256x192_S512x192_S256x512_1_1_0_0_n_n none (shapeCast S256x192 q shapeCasts_S1x1x256x192_S256x192)
    (shapeCast S512x192 k shapeCasts_S1x1x512x192_S512x192) (constant S256x512 .f32 0x00000000#32)

/-- The largest score of each row, over the eight chunks. -/
def rowMax (s : Fin 8 → FVec F S256x512 .f32) : FVec F S256x1 .f32 :=
  shapeCast S256x1 (multiReduction .maximumf [1] S256
    (maximumf (maximumf (maximumf (maximumf (maximumf (maximumf (maximumf (s 0) (s 1)) (s 2)) (s 3)) (s 4)) (s 5)) (s 6)) (s 7))
    0xFF800000#32 reduces_S256x512_S256 (.inl rfl) rfl) shapeCasts_S256_S256x1

/-- Two to the scores less their row's maximum. -/
def prob (s : FVec F S256x512 .f32) (mx : FVec F S256x1 .f32) : FVec F S256x512 .f32 :=
  exp2 (subf s (broadcastTo S256x512 mx broadcasts_S256x1_S256x512))

/-- The four groups of 128 lanes of one chunk, added to a running vector. -/
def lanes (l : FVec F S256x128 .f32) (p : FVec F S256x512 .f32) : FVec F S256x128 .f32 :=
  addf (addf (addf (addf l (extractStridedSlice S256x128 ![0, 0] p slices_S256x512_o0_0_S256x128))
    (extractStridedSlice S256x128 ![0, 128] p slices_S256x512_o0_128_S256x128))
    (extractStridedSlice S256x128 ![0, 256] p slices_S256x512_o0_256_S256x128))
    (extractStridedSlice S256x128 ![0, 384] p slices_S256x512_o0_384_S256x128)

/-- One chunk's weighted values, added to a running block. -/
def weigh (a : FVec F S256x128 .f32) (p : FVec F S256x512 .f32) (v : Vec F S1x1x512x128 .bf16) : FVec F S256x128 .f32 :=
  addf a (matmul dot_S256x512_S512x128_S256x128_1_0_0_1_n_n none (truncf .bf16 p bitsLt_bf16_f32)
    (shapeCast S512x128 v shapeCasts_S1x1x512x128_S512x128) (constant S256x128 .f32 0x00000000#32))

/-- The zero block from which both running sums start. -/
def zero : FVec F S256x128 .f32 := broadcast S256x128 (Scalar.ofBits .f32 0x00000000#32)

/-- The lane sums of the eight chunks. -/
def denom (p : Fin 8 → FVec F S256x512 .f32) : FVec F S256x128 .f32 :=
  lanes (lanes (lanes (lanes (lanes (lanes (lanes (lanes zero (p 0)) (p 1)) (p 2)) (p 3)) (p 4)) (p 5)) (p 6)) (p 7)

/-- The weighted values of the eight chunks. -/
def numer (p : Fin 8 → FVec F S256x512 .f32) (v : Fin 8 → Vec F S1x1x512x128 .bf16) : FVec F S256x128 .f32 :=
  weigh (weigh (weigh (weigh (weigh (weigh (weigh (weigh zero (p 0) (v 0)) (p 1) (v 1)) (p 2) (v 2)) (p 3) (v 3)) (p 4) (v 4))
    (p 5) (v 5)) (p 6) (v 6)) (p 7) (v 7)

/-- The quotient of the weighted values by the sum of the weights, laid out as the stored piece. -/
def quot (n l : FVec F S256x128 .f32) : FVec F S1x256x128 .bf16 :=
  shapeCast S1x256x128 (truncf .bf16 (divf n (broadcastTo S256x128 (shapeCast S256x1
    (multiReduction .add [1] S256 l 0x00000000#32 reduces_S256x128_S256 (.inl rfl) rfl) shapeCasts_S256_S256x1)
    broadcasts_S256x1_S256x128)) bitsLt_bf16_f32) shapeCasts_S256x128_S1x256x128

/-- The weights of one piece, chunk by chunk. -/
def probs (q : Vec F S1x1x256x192 .bf16) (k : Fin 8 → Vec F S1x1x512x192 .bf16) (c : Fin 8) : FVec F S256x512 .f32 :=
  prob (score q (k c)) (rowMax fun c => score q (k c))

/-- What one piece of 256 rows holds. -/
def blk (q : Vec F S1x1x256x192 .bf16) (k : Fin 8 → Vec F S1x1x512x192 .bf16) (v : Fin 8 → Vec F S1x1x512x128 .bf16) :
    FVec F S1x256x128 .bf16 :=
  quot (numer (probs q k) v) (denom (probs q k))

/-- The eight chunks of keys. -/
def keys (x1 : Vec F S1x1x4096x192 .bf16) : Fin 8 → Vec F S1x1x512x192 .bf16 :=
  ![View.ld x1 r0_1, View.ld x1 r0_2, View.ld x1 r0_3, View.ld x1 r0_4, View.ld x1 r0_5, View.ld x1 r0_6, View.ld x1 r0_7,
    View.ld x1 r0_8]

/-- The eight chunks of values. -/
def vals (x2 : Vec F S1x1x4096x128 .bf16) : Fin 8 → Vec F S1x1x512x128 .bf16 :=
  ![View.ld x2 r0_9, View.ld x2 r0_11, View.ld x2 r0_12, View.ld x2 r0_13, View.ld x2 r0_14, View.ld x2 r0_15, View.ld x2 r0_16,
    View.ld x2 r0_17]

/-- The eight pieces of a grid point, each the same function of its own query rows. -/
theorem out_eq (x0 : Vec F S1x1x2048x192 .bf16) (x1 : Vec F S1x1x4096x192 .bf16) (x2 : Vec F S1x1x4096x128 .bf16) :
    out0_3 x0 x1 x2 = View.canon [⟨r0_31, blk (View.ld x0 r0_29) (keys x1) (vals x2)⟩,
      ⟨r0_30, blk (View.ld x0 r0_27) (keys x1) (vals x2)⟩, ⟨r0_28, blk (View.ld x0 r0_25) (keys x1) (vals x2)⟩,
      ⟨r0_26, blk (View.ld x0 r0_23) (keys x1) (vals x2)⟩, ⟨r0_24, blk (View.ld x0 r0_21) (keys x1) (vals x2)⟩,
      ⟨r0_22, blk (View.ld x0 r0_19) (keys x1) (vals x2)⟩, ⟨r0_20, blk (View.ld x0 r0_10) (keys x1) (vals x2)⟩,
      ⟨r0_18, blk (View.ld x0 r0_0) (keys x1) (vals x2)⟩] := rfl

end Cert.KernelIdeal.Attn

end
-- ==== Proof.AttnRead.lean ====
/- One grid point of the attention call over the extended reals: row `r` and column `d` of what it writes is
   the softmax-weighted value, the weights being powers of two. -/
module

public import proofs.«01_k».proof.Proof.AttnBlock
public import Idealize.ShloMosaic.Lib.Pipeline.Value
public import Idealize.ShloMosaic.Lib.Pipeline.ValueKit.Tiles
public import Idealize.ShloMosaic.Lib.MatmulPlain
public import Idealize.ShloMosaic.Lib.ValueIdx
public import Idealize.ShloMosaic.Lib.ValueLayout

@[expose] public section

noncomputable section

namespace Cert.KernelIdeal.Attn

open Cert.KernelIdeal Cert.KernelIdeal.Gen Idealize.ShloMosaic Idealize.ShloMosaic.ValueIdx
open scoped BigOperators

/-- The weight of key `k`: two to its score less the largest score. -/
def wt {n : Nat} (S : Fin n → EReal) (k : Fin n) : EReal := Ideal.exp2 (S k - ⨆ j, S j)

/-- The weighted values over the sum of the weights. -/
def att {n : Nat} (S V : Fin n → EReal) : EReal := Ideal.div (∑ k, wt S k * V k) (∑ k, wt S k)

/-- Key `j` of chunk `c`, among all keys. -/
def key (c : Fin 8) (j : Fin 512) : Fin 4096 := ⟨512 * c.val + j.val, by omega⟩

/-- A key is its chunk and its place there. -/
def keyEquiv : Fin 8 × Fin 512 ≃ Fin 4096 where
  toFun p := key p.1 p.2
  invFun k := (⟨k.val / 512, by omega⟩, ⟨k.val % 512, by omega⟩)
  left_inv p := by rcases p with ⟨c, j⟩; ext <;> simp only [key] <;> omega
  right_inv k := by ext; simp only [key]; omega

/-- A sum over all keys, chunk by chunk. -/
theorem sum_key (f : Fin 4096 → EReal) : ∑ k, f k = ∑ c, ∑ j, f (key c j) := by
  rw [← keyEquiv.sum_comp f, Fintype.sum_prod_type]; rfl

/-- The largest over all keys, chunk by chunk. -/
theorem iSup_key (f : Fin 4096 → EReal) : ⨆ k, f k = ⨆ c, ⨆ j, f (key c j) := by
  rw [← keyEquiv.iSup_comp (g := f), iSup_prod]; rfl

/-- A sum over 512 lanes, in four groups of 128. -/
theorem sum_lanes (f : Fin 512 → EReal) :
    ∑ j, f j = ∑ l : Fin 128, (f ⟨l.val, by omega⟩ + f ⟨128 + l.val, by omega⟩ + f ⟨256 + l.val, by omega⟩ + f ⟨384 + l.val, by omega⟩) := by
  rw [← (finProdFinEquiv (m := 4) (n := 128)).sum_comp f, Fintype.sum_prod_type, Fin.sum_univ_four,
    ← Finset.sum_add_distrib, ← Finset.sum_add_distrib, ← Finset.sum_add_distrib]
  refine Finset.sum_congr rfl fun l _ => ?_
  refine congrArg₂ (· + ·) (congrArg₂ (· + ·) (congrArg₂ (· + ·) ?_ ?_) ?_) ?_ <;>
  · refine congrArg f (Fin.ext ?_)
    simp [finProdFinEquiv] <;> omega

/-- The largest of eight is their chain of maxima. -/
theorem iSup_eight (f : Fin 8 → EReal) :
    max (max (max (max (max (max (max (f 0) (f 1)) (f 2)) (f 3)) (f 4)) (f 5)) (f 6)) (f 7) = ⨆ c, f c := by
  apply le_antisymm
  · simp only [max_le_iff]
    exact ⟨⟨⟨⟨⟨⟨⟨le_iSup f 0, le_iSup f 1⟩, le_iSup f 2⟩, le_iSup f 3⟩, le_iSup f 4⟩, le_iSup f 5⟩, le_iSup f 6⟩, le_iSup f 7⟩
  · refine iSup_le fun c => ?_
    fin_cases c <;> simp

theorem dotNt_eq : dot_S256x192_S512x192_S256x512_1_1_0_0_n_n = DotDims.transposedRhs 256 192 512 := rfl
theorem dot_eq : dot_S256x512_S512x128_S256x128_1_0_0_1_n_n = DotDims.plain 256 512 128 := rfl

theorem ofBits_neg_inf : Ideal.ofBits .f32 0xFF800000#32 = ⊥ := by simp [Ideal.ofBits, Ideal.ieee]

/-- A score is the inner product of its query and key. -/
theorem score_apply (q : Vec Ideal S1x1x256x192 .bf16) (k : Vec Ideal S1x1x512x192 .bf16) (r : Fin 256) (j : Fin 512) :
    score q k (ix2 r j) = ∑ e : Fin 192, q (ix4 (0 : Fin 1) (0 : Fin 1) r e) * k (ix4 (0 : Fin 1) (0 : Fin 1) j e) := by
  unfold score
  rw [dotNt_eq]
  refine (Ideal.matmul_transposedRhs_apply none _ _ _ r j).trans ?_
  rw [constant_apply, Ideal.ofBits_zero_f32, zero_add]
  refine Finset.sum_congr rfl fun e _ => congrArg₂ (· * ·) ?_ ?_
  · exact congrArg q (reshapeEquiv_ix2_11ab _ r e)
  · exact congrArg k (reshapeEquiv_ix2_11ab _ j e)

/-- The row maximum is the largest score over chunks and places. -/
theorem rowMax_apply (s : Fin 8 → FVec Ideal S256x512 .f32) (r : Fin 256) :
    rowMax s (ix2 r (0 : Fin 1)) = ⨆ c, ⨆ j : Fin 512, s c (ix2 r j) := by
  unfold rowMax
  rw [shapeCast_apply _ _ (ix2 r (0 : Fin 1)) (ix1 r) (by
    rw [Shape.rowMajor_val_one, Shape.rowMajor_val_two]; simp [ix1, ix2])]
  refine (Ideal.multiReduction_maximumf_single _ _ _ _ _ _).trans ?_
  have hb : FloatOps.ofBits (F := Ideal) .f32 0xFF800000#32 = (⊥ : EReal) := ofBits_neg_inf
  rw [hb]
  refine Eq.trans (b := ⨆ j : Fin 512, ⨆ c, s c (ix2 r j)) ?_ iSup_comm
  rw [← Finset.sup_univ_eq_iSup]
  refine congrArg (Finset.sup Finset.univ) (funext fun j => ?_)
  rw [← iSup_eight]
  have hl : Shape.Reduces.lift reduces_S256x512_S256 (ix1 r) j = ix2 r j := by
    funext a; apply Fin.ext
    match a with
    | ⟨0, _⟩ => rfl
    | ⟨1, _⟩ => rfl
  rw [Function.comp_apply, hl]
  rfl

/-- A weight of one piece at row `r`. -/
theorem prob_apply (s : FVec Ideal S256x512 .f32) (mx : FVec Ideal S256x1 .f32) (r : Fin 256) (j : Fin 512) :
    prob s mx (ix2 r j) = Ideal.exp2 (s (ix2 r j) - mx (ix2 r (0 : Fin 1))) := by
  unfold prob
  show Ideal.exp2 (s (ix2 r j) - broadcastTo S256x512 mx broadcasts_S256x1_S256x512 (ix2 r j)) = _
  rw [broadcastTo_apply mx broadcasts_S256x1_S256x512 (ix2 r j) (ix2 r (0 : Fin 1)) (fun a => match a with
    | ⟨0, _⟩ => rfl
    | ⟨1, _⟩ => rfl)]

/-- A running lane vector after one more chunk. -/
theorem lanes_apply (l : FVec Ideal S256x128 .f32) (p : FVec Ideal S256x512 .f32) (r : Fin 256) (d : Fin 128) :
    lanes l p (ix2 r d) = l (ix2 r d) + (p (ix2 r ⟨d.val, by omega⟩) + p (ix2 r ⟨128 + d.val, by omega⟩)
      + p (ix2 r ⟨256 + d.val, by omega⟩) + p (ix2 r ⟨384 + d.val, by omega⟩)) := by
  unfold lanes
  simp only [addf_apply]
  rw [extractStridedSlice_apply ![0, 0] p _ (ix2 r d) (ix2 r ⟨d.val, by omega⟩) (fun a => match a with
      | ⟨0, _⟩ => (Nat.zero_add _).symm | ⟨1, _⟩ => (Nat.zero_add _).symm),
    extractStridedSlice_apply ![0, 128] p _ (ix2 r d) (ix2 r ⟨128 + d.val, by omega⟩) (fun a => match a with
      | ⟨0, _⟩ => (Nat.zero_add _).symm | ⟨1, _⟩ => rfl),
    extractStridedSlice_apply ![0, 256] p _ (ix2 r d) (ix2 r ⟨256 + d.val, by omega⟩) (fun a => match a with
      | ⟨0, _⟩ => (Nat.zero_add _).symm | ⟨1, _⟩ => rfl),
    extractStridedSlice_apply ![0, 384] p _ (ix2 r d) (ix2 r ⟨384 + d.val, by omega⟩) (fun a => match a with
      | ⟨0, _⟩ => (Nat.zero_add _).symm | ⟨1, _⟩ => rfl)]
  simp only [add_assoc]

/-- A running block of weighted values after one more chunk. -/
theorem weigh_apply (a : FVec Ideal S256x128 .f32) (p : FVec Ideal S256x512 .f32) (v : Vec Ideal S1x1x512x128 .bf16)
    (r : Fin 256) (d : Fin 128) :
    weigh a p v (ix2 r d) = a (ix2 r d) + ∑ j : Fin 512, p (ix2 r j) * v (ix4 (0 : Fin 1) (0 : Fin 1) j d) := by
  unfold weigh
  rw [addf_apply, dot_eq]
  refine congrArg (a (ix2 r d) + ·) ((Ideal.matmul_plain_apply none _ _ _ r d).trans ?_)
  rw [constant_apply, Ideal.ofBits_zero_f32, zero_add]
  exact Finset.sum_congr rfl fun j _ => congrArg (p (ix2 r j) * ·) (congrArg v (reshapeEquiv_ix2_11ab _ j d))

theorem zero_apply (i : S256x128.Idx) : (zero (F := Ideal)) i = 0 := Ideal.ofBits_zero_f32

/-- The weighted values of all chunks. -/
theorem numer_apply (p : Fin 8 → FVec Ideal S256x512 .f32) (v : Fin 8 → Vec Ideal S1x1x512x128 .bf16) (r : Fin 256) (d : Fin 128) :
    numer p v (ix2 r d) = ∑ c, ∑ j : Fin 512, p c (ix2 r j) * v c (ix4 (0 : Fin 1) (0 : Fin 1) j d) := by
  unfold numer
  simp only [weigh_apply, zero_apply, zero_add]
  rw [Fin.sum_univ_eight]

/-- The weights of all chunks, summed. -/
theorem denom_apply (p : Fin 8 → FVec Ideal S256x512 .f32) (r : Fin 256) :
    ∑ d : Fin 128, denom p (ix2 r d) = ∑ c, ∑ j : Fin 512, p c (ix2 r j) := by
  unfold denom
  simp only [lanes_apply, zero_apply, zero_add, Finset.sum_add_distrib]
  rw [Fin.sum_univ_eight]
  simp only [sum_lanes, Finset.sum_add_distrib]

/-- A quotient at row `r` and column `d`. -/
theorem quot_apply (n l : FVec Ideal S256x128 .f32) (r : Fin 256) (d : Fin 128) :
    quot n l (ix3 (0 : Fin 1) r d) = Ideal.div (n (ix2 r d)) (∑ e : Fin 128, l (ix2 r e)) := by
  unfold quot
  rw [shapeCast_apply _ _ (ix3 (0 : Fin 1) r d) (ix2 r d) (by
    rw [Shape.rowMajor_val_three, Shape.rowMajor_val_two]; simp [ix2, ix3])]
  rw [truncf_apply, divf_apply]
  refine congrArg (Ideal.div (n (ix2 r d))) ?_
  rw [broadcastTo_apply _ broadcasts_S256x1_S256x128 (ix2 r d) (ix2 r (0 : Fin 1)) (fun a => match a with
    | ⟨0, _⟩ => rfl
    | ⟨1, _⟩ => rfl)]
  rw [shapeCast_apply _ _ (ix2 r (0 : Fin 1)) (ix1 r) (by
    rw [Shape.rowMajor_val_one, Shape.rowMajor_val_two]; simp [ix1, ix2])]
  refine (Ideal.multiReduction_add_single _ _ _ _ _ _).trans (Finset.sum_congr rfl fun e _ => congrArg l ?_)
  funext a; apply Fin.ext
  match a with
  | ⟨0, _⟩ => rfl
  | ⟨1, _⟩ => rfl

/-- One piece at row `r` and column `d`, from its scores and its values over all keys. -/
theorem blk_apply (q : Vec Ideal S1x1x256x192 .bf16) (k : Fin 8 → Vec Ideal S1x1x512x192 .bf16)
    (v : Fin 8 → Vec Ideal S1x1x512x128 .bf16) (r : Fin 256) (d : Fin 128) (S V : Fin 4096 → EReal)
    (hS : ∀ c j, S (key c j) = ∑ e : Fin 192, q (ix4 (0 : Fin 1) (0 : Fin 1) r e) * k c (ix4 (0 : Fin 1) (0 : Fin 1) j e))
    (hV : ∀ c j, V (key c j) = v c (ix4 (0 : Fin 1) (0 : Fin 1) j d)) :
    blk q k v (ix3 (0 : Fin 1) r d) = att S V := by
  have hp : ∀ c j, probs q k c (ix2 r j) = wt S (key c j) := fun c j => by
    unfold probs wt
    rw [prob_apply, rowMax_apply, score_apply, hS, iSup_key]
    simp only [score_apply, hS]
  unfold blk att
  rw [quot_apply, numer_apply, denom_apply, sum_key, sum_key]
  simp only [hp, hV]

end Cert.KernelIdeal.Attn

end
-- ==== Proof.AttnArray.lean ====
/- The attention call over the extended reals: its result array, index by index, from the three arrays its
   windows read. -/
module

public import proofs.«01_k».proof.Proof.AttnRead
public import proofs.«01_k».proof.Proof.Gen.KernelIdeal.Value
public import Idealize.ShloMosaic.Lib.Pipeline.ValueKit.Geometry

@[expose] public section

noncomputable section

namespace Cert.KernelIdeal.Attn

open Cert.KernelIdeal Cert.KernelIdeal.Gen Idealize.ShloMosaic Idealize.ShloMosaic.ValueIdx
open Idealize.ShloMosaic.Pipeline Idealize.ShloMosaic.TcCoe
open scoped BigOperators

/-- A chunk of 512 keys read at a place is the block read at that key. -/
theorem ld_key (x1 : Vec Ideal S1x1x4096x192 .bf16) (c : Fin 8)
    (h : ∀ a, ![0, 0, 512 * c.val, 0] a + S1x1x512x192.size a ≤ S1x1x4096x192.size a) (j : Fin 512) (e : Fin 192) :
    View.ld x1 (Rect.unit (s := S1x1x4096x192) ![0, 0, 512 * c.val, 0] S1x1x512x192.size h) (ix4 (0 : Fin 1) (0 : Fin 1) j e)
      = x1 (ix4 (0 : Fin 1) (0 : Fin 1) (key c j) e) :=
  View.ld_unit_apply_of _ _ _ _ _ _ fun a => match a with
    | ⟨0, _⟩ => rfl
    | ⟨1, _⟩ => rfl
    | ⟨2, _⟩ => rfl
    | ⟨3, _⟩ => (Nat.zero_add _).symm

/-- The same for a chunk of values. -/
theorem ld_val (x2 : Vec Ideal S1x1x4096x128 .bf16) (c : Fin 8)
    (h : ∀ a, ![0, 0, 512 * c.val, 0] a + S1x1x512x128.size a ≤ S1x1x4096x128.size a) (j : Fin 512) (d : Fin 128) :
    View.ld x2 (Rect.unit (s := S1x1x4096x128) ![0, 0, 512 * c.val, 0] S1x1x512x128.size h) (ix4 (0 : Fin 1) (0 : Fin 1) j d)
      = x2 (ix4 (0 : Fin 1) (0 : Fin 1) (key c j) d) :=
  View.ld_unit_apply_of _ _ _ _ _ _ fun a => match a with
    | ⟨0, _⟩ => rfl
    | ⟨1, _⟩ => rfl
    | ⟨2, _⟩ => rfl
    | ⟨3, _⟩ => (Nat.zero_add _).symm

theorem keys_apply (x1 : Vec Ideal S1x1x4096x192 .bf16) (c : Fin 8) (j : Fin 512) (e : Fin 192) :
    keys x1 c (ix4 (0 : Fin 1) (0 : Fin 1) j e) = x1 (ix4 (0 : Fin 1) (0 : Fin 1) (key c j) e) :=
  match c with
  | 0 => ld_key x1 0 _ j e
  | 1 => ld_key x1 1 _ j e
  | 2 => ld_key x1 2 _ j e
  | 3 => ld_key x1 3 _ j e
  | 4 => ld_key x1 4 _ j e
  | 5 => ld_key x1 5 _ j e
  | 6 => ld_key x1 6 _ j e
  | 7 => ld_key x1 7 _ j e

theorem vals_apply (x2 : Vec Ideal S1x1x4096x128 .bf16) (c : Fin 8) (j : Fin 512) (d : Fin 128) :
    vals x2 c (ix4 (0 : Fin 1) (0 : Fin 1) j d) = x2 (ix4 (0 : Fin 1) (0 : Fin 1) (key c j) d) :=
  match c with
  | 0 => ld_val x2 0 _ j d
  | 1 => ld_val x2 1 _ j d
  | 2 => ld_val x2 2 _ j d
  | 3 => ld_val x2 3 _ j d
  | 4 => ld_val x2 4 _ j d
  | 5 => ld_val x2 5 _ j d
  | 6 => ld_val x2 6 _ j d
  | 7 => ld_val x2 7 _ j d

/-- What a grid point writes at an index of its block. -/
def outAt (x0 : Vec Ideal S1x1x2048x192 .bf16) (x1 : Vec Ideal S1x1x4096x192 .bf16) (x2 : Vec Ideal S1x1x4096x128 .bf16)
    (y : S1x2048x128.Idx) : EReal :=
  att (fun k => ∑ e : Fin 192, x0 (ix4 (0 : Fin 1) (0 : Fin 1) (y 1) e) * x1 (ix4 (0 : Fin 1) (0 : Fin 1) k e))
    (fun k => x2 (ix4 (0 : Fin 1) (0 : Fin 1) k (y 2)))

/-- The piece whose rows start at `off` is that function there. -/
theorem blk_ld (x0 : Vec Ideal S1x1x2048x192 .bf16) (x1 : Vec Ideal S1x1x4096x192 .bf16) (x2 : Vec Ideal S1x1x4096x128 .bf16)
    (off : Nat) (hq : ∀ a, ![0, 0, off, 0] a + S1x1x256x192.size a ≤ S1x1x2048x192.size a)
    (ho : ∀ a, ![0, off, 0] a + S1x256x128.size a ≤ S1x2048x128.size a) (x : S1x256x128.Idx) :
    blk (View.ld x0 (Rect.unit (s := S1x1x2048x192) ![0, 0, off, 0] S1x1x256x192.size hq)) (keys x1) (vals x2) x
      = outAt x0 x1 x2 ((Rect.unit (s := S1x2048x128) ![0, off, 0] S1x256x128.size ho).emb x) := by
  rw [eq_ix3 x]
  have h0 : x 0 = (0 : Fin 1) := Subsingleton.elim (α := Fin 1) _ _
  rw [h0]
  refine blk_apply _ _ _ (x 1) (x 2) _ _ (fun c j => ?_) (fun c j => ?_)
  · refine Finset.sum_congr rfl fun e _ => congrArg₂ (· * ·) ?_ (keys_apply x1 c j e).symm
    refine (View.ld_unit_apply_of _ _ _ _ _ _ fun a => ?_).symm
    match a with
    | ⟨0, _⟩ => rfl
    | ⟨1, _⟩ => rfl
    | ⟨2, _⟩ => show off + 1 * (x 1).val = off + (x 1).val; omega
    | ⟨3, _⟩ => exact (Nat.zero_add _).symm
  · refine Eq.trans ?_ (vals_apply x2 c j (x 2)).symm
    refine congrArg x2 (congrArg (ix4 (0 : Fin 1) (0 : Fin 1) (key c j)) (Fin.ext ?_))
    show 0 + 1 * (x 2).val = (x 2).val
    omega

/-- What a grid point writes. -/
theorem out_apply (x0 : Vec Ideal S1x1x2048x192 .bf16) (x1 : Vec Ideal S1x1x4096x192 .bf16) (x2 : Vec Ideal S1x1x4096x128 .bf16)
    (y : S1x2048x128.Idx) : out0_3 x0 x1 x2 y = outAt x0 x1 x2 y := by
  rw [out_eq]
  refine View.canon_apply_of_pieces (Val := Elt Ideal) (e := .bf16) (outAt x0 x1 x2) _ (fun p hp x => ?_) y (cover0_3 _ _ _ _ _ _ _ _ y)
  simp only [List.mem_cons, List.not_mem_nil, or_false] at hp
  rcases hp with rfl | rfl | rfl | rfl | rfl | rfl | rfl | rfl
  · exact blk_ld x0 x1 x2 1792 _ inb_S1x2048x128_S1x256x128_0_1792_0 x
  · exact blk_ld x0 x1 x2 1536 _ inb_S1x2048x128_S1x256x128_0_1536_0 x
  · exact blk_ld x0 x1 x2 1280 _ inb_S1x2048x128_S1x256x128_0_1280_0 x
  · exact blk_ld x0 x1 x2 1024 _ inb_S1x2048x128_S1x256x128_0_1024_0 x
  · exact blk_ld x0 x1 x2 768 _ inb_S1x2048x128_S1x256x128_0_768_0 x
  · exact blk_ld x0 x1 x2 512 _ inb_S1x2048x128_S1x256x128_0_512_0 x
  · exact blk_ld x0 x1 x2 256 _ inb_S1x2048x128_S1x256x128_0_256_0 x
  · exact blk_ld x0 x1 x2 0 _ inb_S1x2048x128_S1x256x128_0_0_0 x

/-- The head of a result column, and the value column in that head. -/
def head (n : Fin 1024) : Fin 8 := ⟨n.val / 128, by omega⟩
def col (n : Fin 1024) : Fin 128 := ⟨n.val % 128, by omega⟩

/-- The result array from the arrays of queries, keys and values (heads before positions). -/
def attArr (A0 : Vec Ideal S4x8x4096x192 .bf16) (A1 : Vec Ideal S4x8x4096x192 .bf16) (A2 : Vec Ideal S4x8x4096x128 .bf16)
    (i : S4x4096x1024.Idx) : EReal :=
  att (fun k => ∑ e : Fin 192, A0 (ix4 (i 0) (head (i 2)) (i 1) e) * A1 (ix4 (i 0) (head (i 2)) k e))
    (fun k => A2 (ix4 (i 0) (head (i 2)) k (col (i 2))))

/-- The block indices of the four windows at a grid point. -/
theorem idx_facts : ∀ t : Fin cfg0.N,
    win0_0.index t (0 : Fin 4) = win0_3.index t (0 : Fin 3) ∧ win0_0.index t (1 : Fin 4) = win0_3.index t (2 : Fin 3)
    ∧ win0_0.index t (2 : Fin 4) = win0_3.index t (1 : Fin 3) ∧ win0_0.index t (3 : Fin 4) = 0
    ∧ win0_1.index t (0 : Fin 4) = win0_3.index t (0 : Fin 3) ∧ win0_1.index t (1 : Fin 4) = win0_3.index t (2 : Fin 3)
    ∧ win0_1.index t (2 : Fin 4) = 0 ∧ win0_1.index t (3 : Fin 4) = 0
    ∧ win0_2.index t (0 : Fin 4) = win0_3.index t (0 : Fin 3) ∧ win0_2.index t (1 : Fin 4) = win0_3.index t (2 : Fin 3)
    ∧ win0_2.index t (2 : Fin 4) = 0 ∧ win0_2.index t (3 : Fin 4) = 0
    ∧ win0_3.index t (0 : Fin 3) < 4 ∧ win0_3.index t (1 : Fin 3) < 2 ∧ win0_3.index t (2 : Fin 3) < 8 :=
  (by decide +kernel : ∀ t : Fin grid0.N, _)

/-- Every block of the result is some grid point's. -/
theorem idx_onto : ∀ (b : Fin 4) (s : Fin 2) (h : Fin 8), ∃ t : Fin cfg0.N, win0_3.index t = ![b.val, s.val, h.val] :=
  (by decide +kernel : ∀ (b : Fin 4) (s : Fin 2) (h : Fin 8), ∃ t : Fin grid0.N, win0_3.index t = ![b.val, s.val, h.val])

variable {m : (ℓ : Loc nD τ sig) → Buf (Elt Ideal) ℓ}

/-- What grid point `t` writes back is its block of the result array. -/
theorem flushed_eq (c : Dev nD) (t : Fin cfg0.N) :
    (dats m 0 c).flushed 3 t = ((cfg0.win 3).blk t).view.read (Elt Ideal)
      (attArr (V m c main_v6) (V m c main_v8) (V m c main_v10)) := by
  rw [Value.flushed3]
  funext j
  show out0_3 (iblk m c 0 t) (iblk m c 1 t) (iblk m c 2 t) j
    = attArr (V m c main_v6) (V m c main_v8) (V m c main_v10) (((cfg0.win 3).blk t).view.emb j)
  rw [out_apply]
  obtain ⟨e00, e01, e02, e03, e10, e11, e12, e13, e20, e21, e22, e23, l0, l1, l2⟩ := idx_facts t
  have hj0 : (j 0).val < 1 := (j 0).isLt
  have hj1 : (j 1).val < 2048 := (j 1).isLt
  have hj2 : (j 2).val < 128 := (j 2).isLt
  unfold outAt attArr
  have hq : ∀ e : Fin 192, iblk m c 0 t (ix4 (0 : Fin 1) (0 : Fin 1) (j 1) e) = V m c main_v6
      (ix4 ((((cfg0.win 3).blk t).view.emb j) 0) (head ((((cfg0.win 3).blk t).view.emb j) 2)) ((((cfg0.win 3).blk t).view.emb j) 1) e) := fun e => by
    show V m c main_v6 (((cfg0.win 0).blk t).view.emb (ix4 (0 : Fin 1) (0 : Fin 1) (j 1) e)) = _
    refine congrArg (V m c main_v6) (funext fun a => Fin.ext ?_)
    match a with
    | ⟨0, _⟩ => show win0_0.index t (0 : Fin 4) * 1 + 1 * 0 = win0_3.index t (0 : Fin 3) * 1 + 1 * (j 0).val; omega
    | ⟨1, _⟩ => show win0_0.index t (1 : Fin 4) * 1 + 1 * 0 = (win0_3.index t (2 : Fin 3) * 128 + 1 * (j 2).val) / 128; omega
    | ⟨2, _⟩ => show win0_0.index t (2 : Fin 4) * 2048 + 1 * (j 1).val = win0_3.index t (1 : Fin 3) * 2048 + 1 * (j 1).val; omega
    | ⟨3, _⟩ => show win0_0.index t (3 : Fin 4) * 192 + 1 * e.val = e.val; omega
  have hk : ∀ (k : Fin 4096) (e : Fin 192), iblk m c 1 t (ix4 (0 : Fin 1) (0 : Fin 1) k e) = V m c main_v8
      (ix4 ((((cfg0.win 3).blk t).view.emb j) 0) (head ((((cfg0.win 3).blk t).view.emb j) 2)) k e) := fun k e => by
    show V m c main_v8 (((cfg0.win 1).blk t).view.emb (ix4 (0 : Fin 1) (0 : Fin 1) k e)) = _
    refine congrArg (V m c main_v8) (funext fun a => Fin.ext ?_)
    match a with
    | ⟨0, _⟩ => show win0_1.index t (0 : Fin 4) * 1 + 1 * 0 = win0_3.index t (0 : Fin 3) * 1 + 1 * (j 0).val; omega
    | ⟨1, _⟩ => show win0_1.index t (1 : Fin 4) * 1 + 1 * 0 = (win0_3.index t (2 : Fin 3) * 128 + 1 * (j 2).val) / 128; omega
    | ⟨2, _⟩ => show win0_1.index t (2 : Fin 4) * 4096 + 1 * k.val = k.val; omega
    | ⟨3, _⟩ => show win0_1.index t (3 : Fin 4) * 192 + 1 * e.val = e.val; omega
  have hv : ∀ (k : Fin 4096), iblk m c 2 t (ix4 (0 : Fin 1) (0 : Fin 1) k (j 2)) = V m c main_v10
      (ix4 ((((cfg0.win 3).blk t).view.emb j) 0) (head ((((cfg0.win 3).blk t).view.emb j) 2)) k
        (col ((((cfg0.win 3).blk t).view.emb j) 2))) := fun k => by
    show V m c main_v10 (((cfg0.win 2).blk t).view.emb (ix4 (0 : Fin 1) (0 : Fin 1) k (j 2))) = _
    refine congrArg (V m c main_v10) (funext fun a => Fin.ext ?_)
    match a with
    | ⟨0, _⟩ => show win0_2.index t (0 : Fin 4) * 1 + 1 * 0 = win0_3.index t (0 : Fin 3) * 1 + 1 * (j 0).val; omega
    | ⟨1, _⟩ => show win0_2.index t (1 : Fin 4) * 1 + 1 * 0 = (win0_3.index t (2 : Fin 3) * 128 + 1 * (j 2).val) / 128; omega
    | ⟨2, _⟩ => show win0_2.index t (2 : Fin 4) * 4096 + 1 * k.val = k.val; omega
    | ⟨3, _⟩ => show win0_2.index t (3 : Fin 4) * 128 + 1 * (j 2).val = (win0_3.index t (2 : Fin 3) * 128 + 1 * (j 2).val) % 128; omega
  refine congrArg₂ att (funext fun k => Finset.sum_congr rfl fun e _ => congrArg₂ (· * ·) (hq e) (hk k e)) (funext hv)

/-- An index of the result is in point `t`'s block iff each coordinate is in the block's range. -/
theorem mem_blk (t : Fin cfg0.N) (i : S4x4096x1024.Idx) :
    i ∈ ((cfg0.win 3).blk t).view.set ↔ ∀ a : Fin 3, win0_3.index t a * S1x2048x128.size a ≤ (i a).val
      ∧ (i a).val < win0_3.index t a * S1x2048x128.size a + S1x2048x128.size a :=
  (cfg0.win 3).emb_mem_blk_iff t i

/-- The result array after the run. -/
theorem final (c : Dev nD) : (dats m 0 c).arrAt 3 cfg0.N = attArr (V m c main_v6) (V m c main_v8) (V m c main_v10) :=
  (dats m 0 c).arrAt_eq_of_cover 3 _ (fun t _ => flushed_eq c t) fun i => by
    have h0 : (i 0).val < 4 := (i 0).isLt
    have h1 : (i 1).val < 4096 := (i 1).isLt
    have h2 : (i 2).val < 1024 := (i 2).isLt
    obtain ⟨t, ht⟩ := idx_onto ⟨(i 0).val, h0⟩ ⟨(i 1).val / 2048, by omega⟩ ⟨(i 2).val / 128, by omega⟩
    have q0 : win0_3.index t (0 : Fin 3) = (i 0).val := congrFun ht 0
    have q1 : win0_3.index t (1 : Fin 3) = (i 1).val / 2048 := congrFun ht 1
    have q2 : win0_3.index t (2 : Fin 3) = (i 2).val / 128 := congrFun ht 2
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 2048 ≤ (i 1).val ∧ (i 1).val < win0_3.index t (1 : Fin 3) * 2048 + 2048; omega
    | ⟨2, _⟩ => show win0_3.index t (2 : Fin 3) * 128 ≤ (i 2).val ∧ (i 2).val < win0_3.index t (2 : Fin 3) * 128 + 128; omega

end Cert.KernelIdeal.Attn

end
-- ==== Proof.AttnMath.lean ====
/- Why the two ways of writing a softmax-weighted value agree: scores over `log 2` with powers of two against scores
   with exponentials, and one division after the sum against a division of every weight. -/
module

public import Idealize.ShloMosaic.PureOps.Ideal
public import proofs.«01_k».proof.Proof.AttnRead

@[expose] public section

noncomputable section

namespace Cert.KernelIdeal.Attn

open Idealize.ShloMosaic
open scoped BigOperators

/-- A sum of reals, read among the extended reals. -/
theorem coe_sum_real {n : Nat} (x : Fin n → ℝ) : ((∑ e, x e : ℝ) : EReal) = ∑ e, (x e : EReal) := by
  induction n with
  | zero => simp
  | succ n ih => rw [Fin.sum_univ_succ, Fin.sum_univ_succ, EReal.coe_add, ih]

/-- A nonnegative real factor goes into a sum of any extended reals. -/
theorem sum_mul_coe {n : Nat} (f : Fin n → EReal) (r : ℝ) (hr : 0 ≤ r) :
    (∑ k, f k) * (r : EReal) = ∑ k, f k * (r : EReal) := by
  induction n with
  | zero => simp
  | succ n ih =>
    rw [Fin.sum_univ_succ, Fin.sum_univ_succ, EReal.right_distrib_of_nonneg_of_ne_top (EReal.coe_nonneg.2 hr) (EReal.coe_ne_top r), ih]

/-- The largest of finitely many reals is a real, and it is attained. -/
theorem iSup_real {n : Nat} (T : Fin (n + 1) → ℝ) : ∃ M : ℝ, (⨆ k, (T k : EReal)) = (M : EReal) ∧ ∀ c : ℝ, 0 < c →
    (⨆ k, ((T k / c : ℝ) : EReal)) = ((M / c : ℝ) : EReal) := by
  obtain ⟨k₀, hk⟩ := Finite.exists_max T
  refine ⟨T k₀, le_antisymm (iSup_le fun k => EReal.coe_le_coe_iff.2 (hk k)) (le_iSup (fun k => (T k : EReal)) k₀), fun c hc => ?_⟩
  exact le_antisymm (iSup_le fun k => EReal.coe_le_coe_iff.2 (div_le_div_of_nonneg_right (hk k) hc.le))
    (le_iSup (fun k => ((T k / c : ℝ) : EReal)) k₀)

/-- Two to a real over `log 2` is that real's exponential. -/
theorem exp2_div_log (t : ℝ) : Ideal.exp2 ((t / Real.log 2 : ℝ) : EReal) = (Real.exp t : EReal) := by
  rw [Ideal.exp2_coe]
  refine congrArg _ ?_
  show (2 : ℝ) ^ (t / Real.log 2) = Real.exp t
  rw [Real.rpow_def_of_pos (by norm_num), mul_div_cancel₀ _ (Real.log_pos (by norm_num)).ne']

/-- The weighted values with scores over `log 2` and powers of two, divided once: the softmax of the scores against
    the values. -/
theorem att_softmax {n : Nat} (T : Fin (n + 1) → ℝ) (V : Fin (n + 1) → EReal) :
    att (fun k => ((T k / Real.log 2 : ℝ) : EReal)) V
      = ∑ k, V k * Ideal.div (Ideal.exp ((T k : EReal) - ⨆ j, (T j : EReal))) (∑ j, Ideal.exp ((T j : EReal) - ⨆ j, (T j : EReal))) := by
  obtain ⟨M, hM, hc⟩ := iSup_real T
  have hlog : (0 : ℝ) < Real.log 2 := Real.log_pos (by norm_num)
  have hw : ∀ k, wt (fun k => ((T k / Real.log 2 : ℝ) : EReal)) k = (Real.exp (T k - M) : EReal) := fun k => by
    unfold wt
    rw [hc _ hlog, ← EReal.coe_sub, ← sub_div, exp2_div_log]
  have he : ∀ k, Ideal.exp ((T k : EReal) - ⨆ j, (T j : EReal)) = (Real.exp (T k - M) : EReal) := fun k => by
    rw [hM, ← EReal.coe_sub, Ideal.exp_coe]
  unfold att
  simp only [hw, he]
  rw [← coe_sum_real]
  have hpos : 0 < ∑ k, Real.exp (T k - M) := Finset.sum_pos (fun k _ => Real.exp_pos _) Finset.univ_nonempty
  have hne : ((∑ k, Real.exp (T k - M) : ℝ) : EReal) ≠ 0 := by
    exact_mod_cast hpos.ne'
  simp only [Ideal.div, if_neg hne]
  rw [← EReal.coe_inv, sum_mul_coe _ _ (inv_nonneg.2 hpos.le)]
  refine Finset.sum_congr rfl fun k _ => ?_
  rw [mul_comm (Real.exp (T k - M) : EReal) (V k), mul_assoc]

end Cert.KernelIdeal.Attn

end
-- ==== Proof.AttnSpec.lean ====
/- The attention program and its reference read at one index of the result, and their equality for finite queries and
   keys. -/
module

public import proofs.«01_k».proof.Proof.AttnArray
public import proofs.«01_k».proof.Proof.AttnMath
public import proofs.«01_k».proof.Proof.Gen.Pre_finite_qk
public import proofs.«01_k».proof.Proof.Gen.ReferenceIdeal.Run
public import proofs.«01_k».proof.Proof.Gen.ReferenceIdeal.Read
public import Idealize.ShloMosaic.Lib.KernelVsHost

@[expose] public section

noncomputable section

namespace Cert.KernelIdeal.Attn

open Cert.KernelIdeal Cert.KernelIdeal.Gen Idealize.ShloMosaic Idealize.ShloMosaic.ValueIdx Idealize.ShloMosaic.StableHlo
open Idealize.ShloMosaic.TcCoe
open scoped BigOperators

/-- The scale of the scores: the real number of the f32 word both programs multiply the queries by. -/
theorem scale_real : ∃ c : ℝ, Ideal.ofBits .f32 0x3D93CD3A#32 = (c : EReal) := by
  refine ⟨9686330 / 2 ^ 27, ?_⟩
  simp [Ideal.ofBits, Ideal.ieee, -EReal.coe_mul]; norm_num

theorem two_real : Ideal.ofBits .f32 0x40000000#32 = ((2 : ℝ) : EReal) := by
  simp [Ideal.ofBits, Ideal.ieee, -EReal.coe_mul]; norm_num

/-- An absolute value below infinity is a real's. -/
theorem real_of_abs_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have h' : Ideal.cmp .olt (max x (-x)) (Ideal.ofBits .f32 0x7F800000#32) = 1#1 := h
  have hi : Ideal.ofBits .f32 0x7F800000#32 = ⊤ := by simp [Ideal.ofBits, Ideal.ieee]
  rw [hi] at h'
  induction x with
  | bot => simp [Ideal.cmp] at h'
  | coe r => exact ⟨r, rfl⟩
  | top => simp [Ideal.cmp] at h'

/-- The precondition, at one element. -/
theorem pre_real (q k : (⟨S4x4096x8x192, .f32⟩ : BufTy).Contents (Elt Ideal)) (v : (⟨S4x4096x8x128, .f32⟩ : BufTy).Contents (Elt Ideal))
    (h : Cert.Pre_finite_qk.fn (F := Ideal) q k v = fun _ => 1#1) (i : S4x4096x8x192.Idx) :
    (∃ r : ℝ, q i = (r : EReal)) ∧ ∃ r : ℝ, k i = (r : EReal) := by
  have hi := congrFun h i
  have h2 : FloatOps.cmpf (F := Ideal) (φ := .f32) .olt (FloatOps.hostAbsf (F := Ideal) (φ := .f32) (q i)) (FloatOps.ofBits (F := Ideal) .f32 0x7F800000#32)
      &&& FloatOps.cmpf (F := Ideal) (φ := .f32) .olt (FloatOps.hostAbsf (F := Ideal) (φ := .f32) (k i)) (FloatOps.ofBits (F := Ideal) .f32 0x7F800000#32) = 1#1 := hi
  have hb : ∀ a b : BitVec 1, a &&& b = 1#1 → a = 1#1 ∧ b = 1#1 := by decide
  exact ⟨real_of_abs_lt _ (hb _ _ h2).1, real_of_abs_lt _ (hb _ _ h2).2⟩

variable (m : (ℓ : Loc nD τ sig) → Buf (Elt Ideal) ℓ)

/-- The three arguments on a device. -/
abbrev arg0 (c : Dev nD) : Vec Ideal S4x4096x8x192 .f32 := m ((c : Thread nD τ).loc main_arg0)
abbrev arg1 (c : Dev nD) : Vec Ideal S4x4096x8x192 .f32 := m ((c : Thread nD τ).loc main_arg1)
abbrev arg2 (c : Dev nD) : Vec Ideal S4x4096x8x128 .f32 := m ((c : Thread nD τ).loc main_arg2)

/-- The three arrays the call's windows read. -/
abbrev qArr (c : Dev nD) : Vec Ideal S4x8x4096x192 .bf16 := V m c main_v6
abbrev kArr (c : Dev nD) : Vec Ideal S4x8x4096x192 .bf16 := V m c main_v8
abbrev vArr (c : Dev nD) : Vec Ideal S4x8x4096x128 .bf16 := V m c main_v10

/-- The prepared queries, by the call's host operations. -/
theorem V6_apply (c : Dev nD) (b : Fin 4) (h : Fin 8) (s : Fin 4096) (e : Fin 192) :
    qArr m c (ix4 b h s e) = Ideal.div (arg0 m c (ix4 b s h e)
      * Ideal.ofBits .f32 0x3D93CD3A#32) (Ideal.log (Ideal.ofBits .f32 0x40000000#32)) := by
  have hV : qArr m c = transpose S4x8x4096x192 [0, 2, 1, 3] (truncf (F := Ideal) .bf16 (Host.divf (mulf (arg0 m c)
      (broadcastInDim S4x4096x8x192 ![] bcast_S_S4x4096x8x192 (constant (F := Ideal) S_ .f32 0x3D93CD3A#32)))
      (broadcastInDim S4x4096x8x192 ![] bcast_S_S4x4096x8x192 (Host.log (constant (F := Ideal) S_ .f32 0x40000000#32)))) bitsLt_bf16_f32)
      transposes_S4x4096x8x192_S4x8x4096x192_0_2_1_3 := by
    show StableHlo.after hostOps0 _ _ = _
    after_results
  rw [hV, transpose_apply _ _ _ (ix4 b h s e) (ix4 b s h e) (fun a => match a with
    | ⟨0, _⟩ => rfl
    | ⟨1, _⟩ => rfl
    | ⟨2, _⟩ => rfl
    | ⟨3, _⟩ => rfl)]
  rfl

/-- The prepared keys. -/
theorem V8_apply (c : Dev nD) (b : Fin 4) (h : Fin 8) (s : Fin 4096) (e : Fin 192) :
    kArr m c (ix4 b h s e) = arg1 m c (ix4 b s h e) := by
  have hV : kArr m c = transpose S4x8x4096x192 [0, 2, 1, 3] (truncf (F := Ideal) .bf16 (arg1 m c) bitsLt_bf16_f32)
      transposes_S4x4096x8x192_S4x8x4096x192_0_2_1_3 := by
    show StableHlo.after hostOps0 _ _ = _
    after_results
  rw [hV, transpose_apply _ _ _ (ix4 b h s e) (ix4 b s h e) (fun a => match a with
    | ⟨0, _⟩ => rfl
    | ⟨1, _⟩ => rfl
    | ⟨2, _⟩ => rfl
    | ⟨3, _⟩ => rfl)]
  rfl

/-- The prepared values. -/
theorem V10_apply (c : Dev nD) (b : Fin 4) (h : Fin 8) (s : Fin 4096) (d : Fin 128) :
    vArr m c (ix4 b h s d) = arg2 m c (ix4 b s h d) := by
  have hV : vArr m c = transpose S4x8x4096x128 [0, 2, 1, 3] (truncf (F := Ideal) .bf16 (arg2 m c) bitsLt_bf16_f32)
      transposes_S4x4096x8x128_S4x8x4096x128_0_2_1_3 := by
    show StableHlo.after hostOps0 _ _ = _
    after_results
  rw [hV, transpose_apply _ _ _ (ix4 b h s d) (ix4 b s h d) (fun a => match a with
    | ⟨0, _⟩ => rfl
    | ⟨1, _⟩ => rfl
    | ⟨2, _⟩ => rfl
    | ⟨3, _⟩ => rfl)]
  rfl

end Cert.KernelIdeal.Attn

namespace Cert.ReferenceIdeal.Attn

open Cert.ReferenceIdeal Cert.ReferenceIdeal.Gen Cert.ReferenceIdeal.Read Idealize.ShloMosaic Idealize.ShloMosaic.ValueIdx
open Cert.KernelIdeal.Attn (head col ofBits_neg_inf)
open scoped BigOperators

/-- The reference's score. -/
def score (x0 x1 : (⟨S4x4096x8x192, .f32⟩ : BufTy).Contents (Elt Ideal)) (b : Fin 4) (h : Fin 8) (s k : Fin 4096) : EReal :=
  ∑ e : Fin 192, (x0 (ix4 b s h e) * Ideal.ofBits .f32 0x3D93CD3A#32) * x1 (ix4 b k h e)

theorem v2_apply (x0 x1 : (⟨S4x4096x8x192, .f32⟩ : BufTy).Contents (Elt Ideal)) (b : Fin 4) (h : Fin 8) (s k : Fin 4096) :
    val_main_v2 (F := Ideal) x0 x1 (ix4 b h s k) = score x0 x1 b h s k := by
  rw [val_main_v2_apply]
  refine Finset.sum_congr rfl fun e _ => ?_
  rw [val_main_v1_apply, val_main_v0_apply, val_main_cst_apply]
  refine congrArg₂ (· * ·) (congrArg₂ (· * ·) (congrArg x0 ?_) rfl) (congrArg x1 ?_) <;>
  · funext a; apply Fin.ext
    match a with
    | ⟨0, _⟩ => rfl
    | ⟨1, _⟩ => rfl
    | ⟨2, _⟩ => rfl
    | ⟨3, _⟩ => rfl

/-- The host's row maximum, from minus infinity. -/
theorem reduceMax_apply (y : FVec Ideal S4x8x4096x4096 .f32) (b : Fin 4) (h : Fin 8) (s : Fin 4096) :
    Host.reduce FloatOps.maximumf y (constant (F := Ideal) S_ .f32 0xFF800000#32) reducesTo_S4x8x4096x4096_S4x8x4096_d3 h_S_ (ix3 b h s)
      = ⨆ k : Fin 4096, y (ix4 b h s k) := by
  have hr : S4x8x4096x4096.Reduces [3] S4x8x4096 := by decide
  have e := hostReduce_maximumf_eq_multiReduction y (FKind.maximumf.neutral .f32 (.inl rfl)) reducesTo_S4x8x4096x4096_S4x8x4096_d3 h_S_ hr (.inl rfl) rfl
  refine (congrFun e (ix3 b h s)).trans ?_
  refine (Ideal.multiReduction_maximumf_single _ _ _ _ _ _).trans ?_
  have hb : FloatOps.ofBits (F := Ideal) .f32 (FKind.maximumf.neutral .f32 (.inl rfl)) = (⊥ : EReal) := ofBits_neg_inf
  rw [hb, ← Finset.sup_univ_eq_iSup]
  refine congrArg (Finset.sup Finset.univ) (funext fun k => congrArg y ?_)
  funext a; apply Fin.ext
  match a with
  | ⟨0, _⟩ => rfl
  | ⟨1, _⟩ => rfl
  | ⟨2, _⟩ => rfl
  | ⟨3, _⟩ => rfl

/-- The largest score of a row. -/
theorem v3_apply (x0 x1 : (⟨S4x4096x8x192, .f32⟩ : BufTy).Contents (Elt Ideal)) (b : Fin 4) (h : Fin 8) (s : Fin 4096) :
    val_main_v3 (F := Ideal) x0 x1 (ix3 b h s) = ⨆ k, score x0 x1 b h s k :=
  (reduceMax_apply _ b h s).trans (iSup_congr fun k => v2_apply x0 x1 b h s k)

/-- One exponential. -/
theorem v9_apply (x0 x1 : (⟨S4x4096x8x192, .f32⟩ : BufTy).Contents (Elt Ideal)) (b : Fin 4) (h : Fin 8) (s k : Fin 4096) :
    val_main_v9 (F := Ideal) x0 x1 (ix4 b h s k) = Ideal.exp (score x0 x1 b h s k - ⨆ j, score x0 x1 b h s j) := by
  rw [val_main_v9_apply, val_main_v8_apply, v2_apply, val_main_v7_apply, val_main_v6_apply, val_main_v5_apply, val_main_v4_apply,
    val_main_cst_1_apply]
  have hi : idx_main_v6 (idx_main_v7 (ix4 b h s k)) = ix3 b h s := by
    funext a; apply Fin.ext
    match a with
    | ⟨0, _⟩ => rfl
    | ⟨1, _⟩ => rfl
    | ⟨2, _⟩ => rfl
  rw [hi, v3_apply]
  have hb : FloatOps.ofBits (F := Ideal) .f32 0xFF800000#32 = (⊥ : EReal) := ofBits_neg_inf
  rw [hb]
  show Ideal.exp (score x0 x1 b h s k - max ⊥ _) = _
  rw [max_eq_right bot_le]

/-- One weight of the softmax. -/
theorem v13_apply (x0 x1 : (⟨S4x4096x8x192, .f32⟩ : BufTy).Contents (Elt Ideal)) (b : Fin 4) (h : Fin 8) (s k : Fin 4096) :
    val_main_v13 (F := Ideal) x0 x1 (ix4 b h s k) = Ideal.div (Ideal.exp (score x0 x1 b h s k - ⨆ j, score x0 x1 b h s j))
      (∑ j, Ideal.exp (score x0 x1 b h s j - ⨆ j, score x0 x1 b h s j)) := by
  rw [val_main_v13_apply, v9_apply, val_main_v12_apply, val_main_v11_apply, val_main_v10_apply, val_main_cst_2_apply]
  refine congrArg (Ideal.div _) ?_
  have hz : FloatOps.ofBits (F := Ideal) .f32 0x00000000#32 = (0 : EReal) := Ideal.ofBits_zero_f32
  rw [hz, zero_add]
  refine Finset.sum_congr rfl fun j _ => ?_
  rw [← v9_apply]
  refine congrArg (val_main_v9 (F := Ideal) x0 x1) ?_
  funext a; apply Fin.ext
  match a with
  | ⟨0, _⟩ => rfl
  | ⟨1, _⟩ => rfl
  | ⟨2, _⟩ => rfl
  | ⟨3, _⟩ => rfl

/-- The reference's result at an index. -/
theorem v17_apply (x0 x1 : (⟨S4x4096x8x192, .f32⟩ : BufTy).Contents (Elt Ideal)) (x2 : (⟨S4x4096x8x128, .f32⟩ : BufTy).Contents (Elt Ideal))
    (b : Fin 4) (s : Fin 4096) (n : Fin 1024) :
    val_main_v17 (F := Ideal) x0 x1 x2 (ix3 b s n) = ∑ k, x2 (ix4 b k (head n) (col n))
      * Ideal.div (Ideal.exp (score x0 x1 b (head n) s k - ⨆ j, score x0 x1 b (head n) s j))
        (∑ j, Ideal.exp (score x0 x1 b (head n) s j - ⨆ j, score x0 x1 b (head n) s j)) := by
  rw [val_main_v17_apply, val_main_v16_apply, val_main_v15_apply]
  refine (val_main_v14_apply _ _ _ _).trans (Finset.sum_congr rfl fun k _ => ?_)
  rw [← v13_apply]
  have hb := b.isLt
  have hs := s.isLt
  have hn := n.isLt
  refine congrArg₂ (· * ·) (congrArg x2 ?_) (congrArg (val_main_v13 (F := Ideal) x0 x1) ?_)
  · funext a; apply Fin.ext
    match a with
    | ⟨0, _⟩ => show ((b.val * 4096 + s.val) * 1024 + n.val) / 4194304 = b.val; omega
    | ⟨1, _⟩ => rfl
    | ⟨2, _⟩ => show ((b.val * 4096 + s.val) * 1024 + n.val) / 128 % 8 = n.val / 128; omega
    | ⟨3, _⟩ => show ((b.val * 4096 + s.val) * 1024 + n.val) % 128 = n.val % 128; omega
  · funext a; apply Fin.ext
    match a with
    | ⟨0, _⟩ => show ((b.val * 4096 + s.val) * 1024 + n.val) / 4194304 = b.val; omega
    | ⟨1, _⟩ => show ((b.val * 4096 + s.val) * 1024 + n.val) / 128 % 8 = n.val / 128; omega
    | ⟨2, _⟩ => show ((b.val * 4096 + s.val) * 1024 + n.val) / 1024 % 4096 = s.val; omega
    | ⟨3, _⟩ => rfl

end Cert.ReferenceIdeal.Attn

namespace Cert.KernelIdeal.Attn

open Cert.KernelIdeal Cert.KernelIdeal.Gen Idealize.ShloMosaic Idealize.ShloMosaic.ValueIdx
open Idealize.ShloMosaic.TcCoe
open scoped BigOperators

/-- For finite queries and keys the call's result is the reference's at every index. -/
theorem result_at (m : (ℓ : Loc nD τ sig) → Buf (Elt Ideal) ℓ) (c : Dev nD)
    (h : Cert.Pre_finite_qk.fn (F := Ideal) (arg0 m c) (arg1 m c) (arg2 m c)
      = fun _ => 1#1) (b : Fin 4) (s : Fin 4096) (n : Fin 1024) :
    attArr (qArr m c) (kArr m c) (vArr m c) (ix3 b s n)
      = Cert.ReferenceIdeal.Read.val_main_v17 (F := Ideal) (arg0 m c) (arg1 m c) (arg2 m c) (ix3 b s n) := by
  refine Eq.trans ?_ (Cert.ReferenceIdeal.Attn.v17_apply _ _ _ b s n).symm
  obtain ⟨w, hw⟩ := scale_real
  choose x hx using fun i => (pre_real _ _ _ h i).1
  choose y hy using fun i => (pre_real _ _ _ h i).2
  have hT : ∀ k, Cert.ReferenceIdeal.Attn.score (arg0 m c) (arg1 m c) b (head n) s k
      = ((∑ e : Fin 192, (x (ix4 b s (head n) e) * w) * y (ix4 b k (head n) e) : ℝ) : EReal) := fun k => by
    unfold Cert.ReferenceIdeal.Attn.score
    rw [coe_sum_real]
    refine Finset.sum_congr rfl fun e _ => ?_
    rw [hx, hy, hw, EReal.coe_mul, EReal.coe_mul]
  have hS : ∀ k, (∑ e : Fin 192, qArr m c (ix4 b (head n) s e) * kArr m c (ix4 b (head n) k e))
      = (((∑ e : Fin 192, (x (ix4 b s (head n) e) * w) * y (ix4 b k (head n) e)) / Real.log 2 : ℝ) : EReal) := fun k => by
    have hlog : Ideal.log (Ideal.ofBits .f32 0x40000000#32) = (Real.log 2 : EReal) := by
      rw [two_real, Ideal.log_coe, if_neg (by norm_num)]
    have hne : (Real.log 2 : EReal) ≠ 0 := by
      exact_mod_cast (Real.log_pos (by norm_num : (1 : ℝ) < 2)).ne'
    rw [Finset.sum_div, coe_sum_real]
    refine Finset.sum_congr rfl fun e _ => ?_
    rw [V6_apply, V8_apply, hlog, hx, hy, hw, Ideal.div, if_neg hne, ← EReal.coe_inv, ← EReal.coe_mul, ← EReal.coe_mul, ← EReal.coe_mul]
    refine congrArg _ ?_
    ring
  simp only [hT]
  refine Eq.trans ?_ (att_softmax (n := 4095) _ _)
  refine congrArg₂ att (funext hS) (funext fun k => V10_apply m c b (head n) k (col n))

/-- So its result array is the reference's. -/
theorem result_eq (m : (ℓ : Loc nD τ sig) → Buf (Elt Ideal) ℓ) (c : Dev nD)
    (h : Cert.Pre_finite_qk.fn (F := Ideal) (arg0 m c) (arg1 m c) (arg2 m c) = fun _ => 1#1) :
    (dats m 0 c).arrAt 3 cfg0.N = Cert.ReferenceIdeal.Read.val_main_v17 (F := Ideal) (arg0 m c) (arg1 m c) (arg2 m c) := by
  rw [final]
  funext i
  rw [eq_ix3 i]
  exact result_at m c h (i 0) (i 1) (i 2)

end Cert.KernelIdeal.Attn

end
-- ==== Proof.FfnArray.lean ====
/- The expert call over the extended reals: what a grid point writes, and its result array index by index from the
   five arrays its windows read. -/
module

public import proofs.«01_k».proof.Proof.Gen.Kernel2Ideal.Value
public import Idealize.ShloMosaic.Lib.Pipeline.ValueKit.Tiles
public import Idealize.ShloMosaic.Lib.Pipeline.ValueKit.Geometry
public import Idealize.ShloMosaic.Lib.MatmulPlain
public import Idealize.ShloMosaic.Lib.ValueIdx
public import Idealize.ShloMosaic.Lib.ValueLayout

@[expose] public section

noncomputable section

namespace Cert.Kernel2Ideal.Ffn

open Cert.Kernel2Ideal Cert.Kernel2Ideal.Gen Idealize.ShloMosaic Idealize.ShloMosaic.ValueIdx
open Idealize.ShloMosaic.Pipeline Idealize.ShloMosaic.TcCoe
open scoped BigOperators

/-- The sigmoid both programs spell out. -/
def sigm (x : EReal) : EReal :=
  Ideal.div (Ideal.ofBits .f32 0x3F800000#32) (Ideal.ofBits .f32 0x3F800000#32 + Ideal.exp (-x))

/-- A token's hidden value from its two projections. -/
def hidden (g u : EReal) : EReal := (g * sigm g) * u

/-- One result of the expert's network: the hidden values of token `x` under the two weights, summed with a column of
    the third weight, times the gate. -/
def expert (x : Fin 1024 → EReal) (wg wu : Fin 1024 → Fin 1024 → EReal) (wd : Fin 1024 → EReal) (gate : EReal) : EReal :=
  (∑ f, hidden (∑ k, x k * wg k f) (∑ k, x k * wu k f) * wd f) * gate

theorem dot_eq : dot_S512x1024_S1024x1024_S512x1024_1_0_0_1_n_n = DotDims.plain 512 1024 1024 := rfl

/-- A matrix of weights taken out of its block and rounded is that block's. -/
theorem weight_apply (w : Vec Ideal S1x1024x1024 .f32) (k f : Fin 1024) :
    truncf (F := Ideal) .bf16 (shapeCast S1024x1024 w shapeCasts_S1x1024x1024_S1024x1024) bitsLt_bf16_f32 (ix2 k f) = w (ix3 (0 : Fin 1) k f) :=
  congrArg w (reshapeEquiv_ix2_1ab _ k f)

/-- A product with a weight, at a row and a column. -/
theorem prod_apply (x : FVec Ideal S512x1024 .bf16) (w : Vec Ideal S1x1024x1024 .f32) (r : Fin 512) (f : Fin 1024) :
    matmul dot_S512x1024_S1024x1024_S512x1024_1_0_0_1_n_n none x
      (truncf (F := Ideal) .bf16 (shapeCast S1024x1024 w shapeCasts_S1x1024x1024_S1024x1024) bitsLt_bf16_f32)
      (constant S512x1024 .f32 0x00000000#32) (ix2 r f) = ∑ k : Fin 1024, x (ix2 r k) * w (ix3 (0 : Fin 1) k f) := by
  rw [dot_eq]
  refine (Ideal.matmul_plain_apply none _ _ _ r f).trans ?_
  rw [constant_apply, Ideal.ofBits_zero_f32, zero_add]
  exact Finset.sum_congr rfl fun k _ => congrArg (x (ix2 r k) * ·) (weight_apply w k f)

/-- The tokens of a grid point under a weight. -/
def proj (v0 : Vec Ideal S1x1x512x1024 .bf16) (w : Vec Ideal S1x1024x1024 .f32) : FVec Ideal S512x1024 .f32 :=
  matmul dot_S512x1024_S1024x1024_S512x1024_1_0_0_1_n_n none (shapeCast S512x1024 v0 shapeCasts_S1x1x512x1024_S512x1024 : FVec Ideal S512x1024 .bf16)
    (truncf (F := Ideal) .bf16 (shapeCast S1024x1024 w shapeCasts_S1x1024x1024_S1024x1024) bitsLt_bf16_f32)
    (constant S512x1024 .f32 0x00000000#32)

theorem proj_apply (v0 : Vec Ideal S1x1x512x1024 .bf16) (w : Vec Ideal S1x1024x1024 .f32) (r : Fin 512) (f : Fin 1024) :
    proj v0 w (ix2 r f) = ∑ k : Fin 1024, v0 (ix4 (0 : Fin 1) (0 : Fin 1) r k) * w (ix3 (0 : Fin 1) k f) :=
  (prod_apply _ w r f).trans (Finset.sum_congr rfl fun k _ => congrArg (· * _) (congrArg v0 (reshapeEquiv_ix2_11ab _ r k)))

/-- The hidden block of a grid point. -/
def hid (v0 : Vec Ideal S1x1x512x1024 .bf16) (v2 v6 : Vec Ideal S1x1024x1024 .f32) : FVec Ideal S512x1024 .f32 :=
  mulf (mulf (proj v0 v2) (divf (broadcast S512x1024 (Scalar.ofBits .f32 0x3F800000#32)) (addf (broadcast S512x1024 (Scalar.ofBits .f32 0x3F800000#32))
    (exp (subf (broadcast S512x1024 (Scalar.ofBits .f32 0x00000000#32)) (proj v0 v2)))))) (proj v0 v6)

theorem hid_apply (v0 : Vec Ideal S1x1x512x1024 .bf16) (v2 v6 : Vec Ideal S1x1024x1024 .f32) (r : Fin 512) (f : Fin 1024) :
    hid v0 v2 v6 (ix2 r f) = hidden (∑ k : Fin 1024, v0 (ix4 (0 : Fin 1) (0 : Fin 1) r k) * v2 (ix3 (0 : Fin 1) k f))
      (∑ k : Fin 1024, v0 (ix4 (0 : Fin 1) (0 : Fin 1) r k) * v6 (ix3 (0 : Fin 1) k f)) := by
  rw [← proj_apply, ← proj_apply]
  have hz : ∀ y : EReal, Ideal.ofBits .f32 0x00000000#32 - y = -y := fun y => by rw [Ideal.ofBits_zero_f32, sub_eq_add_neg, zero_add]
  unfold hidden sigm
  rw [← hz]
  rfl

/-- What a grid point computes, at a token and a column. -/
theorem pay_apply (v0 : Vec Ideal S1x1x512x1024 .bf16) (v2 v6 v20 : Vec Ideal S1x1024x1024 .f32) (v24 : Vec Ideal S1x1x512x128 .f32)
    (r : Fin 512) (d : Fin 1024) :
    k0_pay2 v0 v2 v6 v20 v24 (ix2 r d) = expert (fun k => v0 (ix4 (0 : Fin 1) (0 : Fin 1) r k)) (fun k f => v2 (ix3 (0 : Fin 1) k f))
      (fun k f => v6 (ix3 (0 : Fin 1) k f)) (fun f => v20 (ix3 (0 : Fin 1) f d)) (v24 (ix4 (0 : Fin 1) (0 : Fin 1) r (0 : Fin 128))) := by
  show mulf (matmul dot_S512x1024_S1024x1024_S512x1024_1_0_0_1_n_n none (truncf (F := Ideal) .bf16 (hid v0 v2 v6) bitsLt_bf16_f32)
    (truncf (F := Ideal) .bf16 (shapeCast S1024x1024 v20 shapeCasts_S1x1024x1024_S1024x1024) bitsLt_bf16_f32) (constant S512x1024 .f32 0x00000000#32))
    (broadcastTo S512x1024 (extractStridedSlice S512x1 ![0, 0] (shapeCast S512x128 v24 shapeCasts_S1x1x512x128_S512x128) slices_S512x128_o0_0_S512x1)
      broadcasts_S512x1_S512x1024) (ix2 r d) = _
  rw [mulf_apply, prod_apply, broadcastTo_apply _ broadcasts_S512x1_S512x1024 (ix2 r d) (ix2 r (0 : Fin 1)) (fun a => match a with
    | ⟨0, _⟩ => rfl
    | ⟨1, _⟩ => rfl), extractStridedSlice_apply ![0, 0] _ _ (ix2 r (0 : Fin 1)) (ix2 r (0 : Fin 128)) (fun a => match a with
    | ⟨0, _⟩ => (Nat.zero_add _).symm
    | ⟨1, _⟩ => rfl)]
  unfold expert
  refine congrArg₂ (· * ·) (Finset.sum_congr rfl fun f _ => congrArg (· * _) ?_) (congrArg v24 (reshapeEquiv_ix2_11ab _ r (0 : Fin 128)))
  exact hid_apply v0 v2 v6 r f

/-- What a grid point writes at an index of its block. -/
theorem out_apply (x0 : Vec Ideal S1x1x512x1024 .bf16) (x1 : Vec Ideal S1x1x512x128 .f32) (x2 x3 x4 : Vec Ideal S1x1024x1024 .f32)
    (y : S1x1x512x1024.Idx) :
    out0_5 x0 x1 x2 x3 x4 y = expert (fun k => x0 (ix4 (0 : Fin 1) (0 : Fin 1) (y 2) k)) (fun k f => x2 (ix3 (0 : Fin 1) k f))
      (fun k f => x3 (ix3 (0 : Fin 1) k f)) (fun f => x4 (ix3 (0 : Fin 1) f (y 3))) (x1 (ix4 (0 : Fin 1) (0 : Fin 1) (y 2) (0 : Fin 128))) := by
  have h0 : View.ld x0 r0_0 = x0 := by
    funext z; exact View.ld_unit_apply_of _ _ _ _ _ _ fun a => match a with
      | ⟨0, _⟩ => (Nat.zero_add _).symm | ⟨1, _⟩ => (Nat.zero_add _).symm | ⟨2, _⟩ => (Nat.zero_add _).symm | ⟨3, _⟩ => (Nat.zero_add _).symm
  have hw : ∀ x : Vec Ideal S1x1024x1024 .f32, View.ld x r0_1 = x := fun x => by
    funext z; exact View.ld_unit_apply_of _ _ _ _ _ _ fun a => match a with
      | ⟨0, _⟩ => (Nat.zero_add _).symm | ⟨1, _⟩ => (Nat.zero_add _).symm | ⟨2, _⟩ => (Nat.zero_add _).symm
  have h1 : View.ld x1 r0_2 = x1 := by
    funext z; exact View.ld_unit_apply_of _ _ _ _ _ _ fun a => match a with
      | ⟨0, _⟩ => (Nat.zero_add _).symm | ⟨1, _⟩ => (Nat.zero_add _).symm | ⟨2, _⟩ => (Nat.zero_add _).symm | ⟨3, _⟩ => (Nat.zero_add _).symm
  unfold out0_5
  rw [h0, h1, hw, hw, hw, Value.canon5_eq]
  show k0_pay2 x0 x2 x3 x4 x1 (Value.ix5_0 y) = _
  refine Eq.trans (congrArg (k0_pay2 x0 x2 x3 x4 x1) (funext fun a => ?_)) (pay_apply x0 x2 x3 x4 x1 (y 2) (y 3))
  match a with
  | ⟨0, _⟩ => rfl
  | ⟨1, _⟩ => rfl

/-- The result array from the tokens, the gates over the lanes and the three weights. -/
def ffnArr (A0 : Vec Ideal S4x16x512x1024 .bf16) (A1 : Vec Ideal S4x16x512x128 .f32) (A2 A3 A4 : Vec Ideal S16x1024x1024 .f32)
    (i : S4x16x512x1024.Idx) : EReal :=
  expert (fun k => A0 (ix4 (i 0) (i 1) (i 2) k)) (fun k f => A2 (ix3 (i 1) k f)) (fun k f => A3 (ix3 (i 1) k f)) (fun f => A4 (ix3 (i 1) f (i 3)))
    (A1 (ix4 (i 0) (i 1) (i 2) (0 : Fin 128)))

/-- The block indices of the windows at a grid point. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = 0 ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 3) = win0_5.index t (1 : Fin 4) ∧ win0_2.index t (1 : Fin 3) = 0 ∧ win0_2.index t (2 : Fin 3) = 0)
    ∧ (win0_3.index t (0 : Fin 3) = win0_5.index t (1 : Fin 4) ∧ win0_3.index t (1 : Fin 3) = 0 ∧ win0_3.index t (2 : Fin 3) = 0)
    ∧ (win0_4.index t (0 : Fin 3) = win0_5.index t (1 : Fin 4) ∧ win0_4.index t (1 : Fin 3) = 0 ∧ win0_4.index t (2 : Fin 3) = 0)
    ∧ win0_5.index t (2 : Fin 4) = 0 ∧ win0_5.index t (3 : Fin 4) = 0 :=
  (by decide +kernel : ∀ t : Fin grid0.N, _)

/-- Every block of the result is some grid point's. -/
theorem idx_onto : ∀ (b : Fin 4) (e : Fin 16), ∃ t : Fin cfg0.N, win0_5.index t = ![b.val, e.val, 0, 0] :=
  (by decide +kernel : ∀ (b : Fin 4) (e : Fin 16), ∃ t : Fin grid0.N, win0_5.index t = ![b.val, e.val, 0, 0])

variable {m : (ℓ : Loc nD τ sig) → Buf (Elt Ideal) ℓ}

/-- What grid point `t` writes back is its block of the result array. -/
theorem flushed_eq (c : Dev nD) (t : Fin cfg0.N) :
    (dats m 0 c).flushed 5 t = ((cfg0.win 5).blk t).view.read (Elt Ideal)
      (ffnArr (V m c main_v2) (V m c main_v1) (V m c main_arg2) (V m c main_arg3) (V m c main_arg4)) := by
  rw [Value.flushed5]
  funext j
  show out0_5 (iblk m c 0 t) (iblk m c 1 t) (iblk m c 2 t) (iblk m c 3 t) (iblk m c 4 t) j
    = ffnArr (V m c main_v2) (V m c main_v1) (V m c main_arg2) (V m c main_arg3) (V m c main_arg4) (((cfg0.win 5).blk t).view.emb j)
  rw [out_apply]
  obtain ⟨⟨a0, a1, a2, a3⟩, ⟨b0, b1, b2, b3⟩, ⟨c0, c1, c2⟩, ⟨d0, d1, d2⟩, ⟨e0, e1, e2⟩, o2, o3⟩ := idx_facts t
  have hj0 : (j 0).val < 1 := (j 0).isLt
  have hj1 : (j 1).val < 1 := (j 1).isLt
  unfold ffnArr
  have h0 : ∀ k : Fin 1024, iblk m c 0 t (ix4 (0 : Fin 1) (0 : Fin 1) (j 2) k) = V m c main_v2 (ix4 ((((cfg0.win 5).blk t).view.emb j) 0)
      ((((cfg0.win 5).blk t).view.emb j) 1) ((((cfg0.win 5).blk t).view.emb j) 2) k) := fun k => by
    show V m c main_v2 (((cfg0.win 0).blk t).view.emb (ix4 (0 : Fin 1) (0 : Fin 1) (j 2) k)) = _
    refine congrArg (V m c main_v2) (funext fun a => Fin.ext ?_)
    match a with
    | ⟨0, _⟩ => show win0_0.index t (0 : Fin 4) * 1 + 1 * 0 = win0_5.index t (0 : Fin 4) * 1 + 1 * (j 0).val; omega
    | ⟨1, _⟩ => show win0_0.index t (1 : Fin 4) * 1 + 1 * 0 = win0_5.index t (1 : Fin 4) * 1 + 1 * (j 1).val; omega
    | ⟨2, _⟩ => show win0_0.index t (2 : Fin 4) * 512 + 1 * (j 2).val = win0_5.index t (2 : Fin 4) * 512 + 1 * (j 2).val; omega
    | ⟨3, _⟩ => show win0_0.index t (3 : Fin 4) * 1024 + 1 * k.val = k.val; omega
  have h1 : iblk m c 1 t (ix4 (0 : Fin 1) (0 : Fin 1) (j 2) (0 : Fin 128)) = V m c main_v1 (ix4 ((((cfg0.win 5).blk t).view.emb j) 0)
      ((((cfg0.win 5).blk t).view.emb j) 1) ((((cfg0.win 5).blk t).view.emb j) 2) (0 : Fin 128)) := by
    show V m c main_v1 (((cfg0.win 1).blk t).view.emb (ix4 (0 : Fin 1) (0 : Fin 1) (j 2) (0 : Fin 128))) = _
    refine congrArg (V m c main_v1) (funext fun a => Fin.ext ?_)
    match a with
    | ⟨0, _⟩ => show win0_1.index t (0 : Fin 4) * 1 + 1 * 0 = win0_5.index t (0 : Fin 4) * 1 + 1 * (j 0).val; omega
    | ⟨1, _⟩ => show win0_1.index t (1 : Fin 4) * 1 + 1 * 0 = win0_5.index t (1 : Fin 4) * 1 + 1 * (j 1).val; omega
    | ⟨2, _⟩ => show win0_1.index t (2 : Fin 4) * 512 + 1 * (j 2).val = win0_5.index t (2 : Fin 4) * 512 + 1 * (j 2).val; omega
    | ⟨3, _⟩ => show win0_1.index t (3 : Fin 4) * 128 + 1 * 0 = 0; omega
  have h2 : ∀ k f : Fin 1024, iblk m c 2 t (ix3 (0 : Fin 1) k f) = V m c main_arg2 (ix3 ((((cfg0.win 5).blk t).view.emb j) 1) k f) := fun k f => by
    show V m c main_arg2 (((cfg0.win 2).blk t).view.emb (ix3 (0 : Fin 1) k f)) = _
    refine congrArg (V m c main_arg2) (funext fun a => Fin.ext ?_)
    match a with
    | ⟨0, _⟩ => show win0_2.index t (0 : Fin 3) * 1 + 1 * 0 = win0_5.index t (1 : Fin 4) * 1 + 1 * (j 1).val; omega
    | ⟨1, _⟩ => show win0_2.index t (1 : Fin 3) * 1024 + 1 * k.val = k.val; omega
    | ⟨2, _⟩ => show win0_2.index t (2 : Fin 3) * 1024 + 1 * f.val = f.val; omega
  have h3 : ∀ k f : Fin 1024, iblk m c 3 t (ix3 (0 : Fin 1) k f) = V m c main_arg3 (ix3 ((((cfg0.win 5).blk t).view.emb j) 1) k f) := fun k f => by
    show V m c main_arg3 (((cfg0.win 3).blk t).view.emb (ix3 (0 : Fin 1) k f)) = _
    refine congrArg (V m c main_arg3) (funext fun a => Fin.ext ?_)
    match a with
    | ⟨0, _⟩ => show win0_3.index t (0 : Fin 3) * 1 + 1 * 0 = win0_5.index t (1 : Fin 4) * 1 + 1 * (j 1).val; omega
    | ⟨1, _⟩ => show win0_3.index t (1 : Fin 3) * 1024 + 1 * k.val = k.val; omega
    | ⟨2, _⟩ => show win0_3.index t (2 : Fin 3) * 1024 + 1 * f.val = f.val; omega
  have h4 : ∀ f : Fin 1024, iblk m c 4 t (ix3 (0 : Fin 1) f (j 3)) = V m c main_arg4 (ix3 ((((cfg0.win 5).blk t).view.emb j) 1) f
      ((((cfg0.win 5).blk t).view.emb j) 3)) := fun f => by
    show V m c main_arg4 (((cfg0.win 4).blk t).view.emb (ix3 (0 : Fin 1) f (j 3))) = _
    refine congrArg (V m c main_arg4) (funext fun a => Fin.ext ?_)
    match a with
    | ⟨0, _⟩ => show win0_4.index t (0 : Fin 3) * 1 + 1 * 0 = win0_5.index t (1 : Fin 4) * 1 + 1 * (j 1).val; omega
    | ⟨1, _⟩ => show win0_4.index t (1 : Fin 3) * 1024 + 1 * f.val = f.val; omega
    | ⟨2, _⟩ => show win0_4.index t (2 : Fin 3) * 1024 + 1 * (j 3).val = win0_5.index t (3 : Fin 4) * 1024 + 1 * (j 3).val; omega
  rw [h1]
  refine congr (congr (congr (congrArg₂ expert (funext h0) (funext fun k => funext (h2 k))) (funext fun k => funext (h3 k))) (funext h4)) rfl

/-- An index of the result is in point `t`'s block iff each coordinate is in the block's range. -/
theorem mem_blk (t : Fin cfg0.N) (i : S4x16x512x1024.Idx) :
    i ∈ ((cfg0.win 5).blk t).view.set ↔ ∀ a : Fin 4, win0_5.index t a * S1x1x512x1024.size a ≤ (i a).val
      ∧ (i a).val < win0_5.index t a * S1x1x512x1024.size a + S1x1x512x1024.size a :=
  (cfg0.win 5).emb_mem_blk_iff t i

/-- The result array after the run. -/
theorem final (c : Dev nD) : (dats m 0 c).arrAt 5 cfg0.N
    = ffnArr (V m c main_v2) (V m c main_v1) (V m c main_arg2) (V m c main_arg3) (V m c main_arg4) :=
  (dats m 0 c).arrAt_eq_of_cover 5 _ (fun t _ => flushed_eq c t) fun i => by
    have h0 : (i 0).val < 4 := (i 0).isLt
    have h1 : (i 1).val < 16 := (i 1).isLt
    have h2 : (i 2).val < 512 := (i 2).isLt
    have h3 : (i 3).val < 1024 := (i 3).isLt
    obtain ⟨t, ht⟩ := idx_onto ⟨(i 0).val, h0⟩ ⟨(i 1).val, h1⟩
    have q0 : win0_5.index t (0 : Fin 4) = (i 0).val := congrFun ht 0
    have q1 : win0_5.index t (1 : Fin 4) = (i 1).val := congrFun ht 1
    have q2 : win0_5.index t (2 : Fin 4) = 0 := congrFun ht 2
    have q3 : win0_5.index t (3 : Fin 4) = 0 := congrFun ht 3
    refine ⟨t, flush0_5 t, ?_⟩
    rw [mem_blk]
    intro a
    match a with
    | ⟨0, _⟩ => show win0_5.index t (0 : Fin 4) * 1 ≤ (i 0).val ∧ (i 0).val < win0_5.index t (0 : Fin 4) * 1 + 1; omega
    | ⟨1, _⟩ => show win0_5.index t (1 : Fin 4) * 1 ≤ (i 1).val ∧ (i 1).val < win0_5.index t (1 : Fin 4) * 1 + 1; omega
    | ⟨2, _⟩ => show win0_5.index t (2 : Fin 4) * 512 ≤ (i 2).val ∧ (i 2).val < win0_5.index t (2 : Fin 4) * 512 + 512; omega
    | ⟨3, _⟩ => show win0_5.index t (3 : Fin 4) * 1024 ≤ (i 3).val ∧ (i 3).val < win0_5.index t (3 : Fin 4) * 1024 + 1024; omega

end Cert.Kernel2Ideal.Ffn

end
-- ==== Proof.FfnSpec.lean ====
/- The expert program and its reference read at one index of the result, and their equality. -/
module

public import proofs.«01_k».proof.Proof.FfnArray
public import proofs.«01_k».proof.Proof.Gen.Reference2Ideal.Run
public import proofs.«01_k».proof.Proof.Gen.Reference2Ideal.Read

@[expose] public section

noncomputable section

namespace Cert.Reference2Ideal.Ffn

open Cert.Reference2Ideal Cert.Reference2Ideal.Gen Cert.Reference2Ideal.Read Idealize.ShloMosaic Idealize.ShloMosaic.ValueIdx
open Cert.Kernel2Ideal.Ffn (sigm hidden expert)
open scoped BigOperators

variable (x0 : (⟨S4x16x512x1024, .f32⟩ : BufTy).Contents (Elt Ideal)) (x1 : (⟨S4x16x512, .f32⟩ : BufTy).Contents (Elt Ideal))
  (x2 x3 x4 : (⟨S16x1024x1024, .f32⟩ : BufTy).Contents (Elt Ideal))

theorem v1_apply (b : Fin 4) (e : Fin 16) (s : Fin 512) (f : Fin 1024) :
    val_main_v1 (F := Ideal) x0 x2 (ix4 b e s f) = ∑ k : Fin 1024, x0 (ix4 b e s k) * x2 (ix3 e k f) := by
  rw [val_main_v1_apply, val_main_v0_apply]
  refine Finset.sum_congr rfl fun k _ => (mul_comm _ _).trans (congrArg₂ (· * ·) (congrArg x0 ?_) (congrArg x2 ?_))
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl

theorem v4_apply (b : Fin 4) (e : Fin 16) (s : Fin 512) (f : Fin 1024) :
    val_main_v4 (F := Ideal) x0 x3 (ix4 b e s f) = ∑ k : Fin 1024, x0 (ix4 b e s k) * x3 (ix3 e k f) := v1_apply x0 x3 b e s f

/-- The hidden value. -/
theorem v5_apply (b : Fin 4) (e : Fin 16) (s : Fin 512) (f : Fin 1024) :
    val_main_v5 (F := Ideal) x0 x2 x3 (ix4 b e s f) = hidden (∑ k : Fin 1024, x0 (ix4 b e s k) * x2 (ix3 e k f))
      (∑ k : Fin 1024, x0 (ix4 b e s k) * x3 (ix3 e k f)) := by
  rw [val_main_v5_apply, v4_apply, val_main_v2_apply, val_main_call0_v5_apply, val_main_call0_v4_apply, val_main_call0_cst_0_apply,
    val_main_call0_v3_apply, val_main_call0_v2_apply, val_main_call0_cst_apply, val_main_call0_v1_apply, val_main_call0_v0_apply, v1_apply]
  rfl

/-- The reference's result at an index. -/
theorem v11_apply (b : Fin 4) (e : Fin 16) (s : Fin 512) (d : Fin 1024) :
    val_main_v11 (F := Ideal) x0 x1 x2 x3 x4 (ix4 b e s d) = expert (fun k => x0 (ix4 b e s k)) (fun k f => x2 (ix3 e k f)) (fun k f => x3 (ix3 e k f))
      (fun f => x4 (ix3 e f d)) (x1 (ix3 b e s)) := by
  rw [val_main_v11_apply, val_main_v10_apply, val_main_v7_apply, val_main_v6_apply, val_main_v9_apply, val_main_v8_apply]
  unfold expert
  refine congrArg₂ (· * ·) (Finset.sum_congr rfl fun f _ => ?_) (congrArg x1 ?_)
  · rw [← v5_apply]
    refine (mul_comm _ _).trans (congrArg₂ (· * ·) (congrArg (val_main_v5 (F := Ideal) x0 x2 x3) ?_) (congrArg x4 ?_))
    · funext a; apply Fin.ext
      match a with
      | ⟨0, _⟩ => rfl
      | ⟨1, _⟩ => rfl
      | ⟨2, _⟩ => rfl
      | ⟨3, _⟩ => rfl
    · funext a; apply Fin.ext
      match a with
      | ⟨0, _⟩ => rfl
      | ⟨1, _⟩ => rfl
      | ⟨2, _⟩ => rfl
  · funext a; apply Fin.ext
    match a with
    | ⟨0, _⟩ => rfl
    | ⟨1, _⟩ => rfl
    | ⟨2, _⟩ => rfl

end Cert.Reference2Ideal.Ffn

namespace Cert.Kernel2Ideal.Ffn

open Cert.Kernel2Ideal Cert.Kernel2Ideal.Gen Idealize.ShloMosaic Idealize.ShloMosaic.ValueIdx Idealize.ShloMosaic.StableHlo
open Idealize.ShloMosaic.TcCoe
open scoped BigOperators

variable (m : (ℓ : Loc nD τ sig) → Buf (Elt Ideal) ℓ)

/-- The five arguments on a device, and the two arrays the call's host operations make of the first two. -/
abbrev arg0 (c : Dev nD) : Vec Ideal S4x16x512x1024 .f32 := m ((c : Thread nD τ).loc main_arg0)
abbrev arg1 (c : Dev nD) : Vec Ideal S4x16x512 .f32 := m ((c : Thread nD τ).loc main_arg1)
abbrev arg2 (c : Dev nD) : Vec Ideal S16x1024x1024 .f32 := m ((c : Thread nD τ).loc main_arg2)
abbrev arg3 (c : Dev nD) : Vec Ideal S16x1024x1024 .f32 := m ((c : Thread nD τ).loc main_arg3)
abbrev arg4 (c : Dev nD) : Vec Ideal S16x1024x1024 .f32 := m ((c : Thread nD τ).loc main_arg4)
abbrev tokArr (c : Dev nD) : Vec Ideal S4x16x512x1024 .bf16 := V m c main_v2
abbrev gateArr (c : Dev nD) : Vec Ideal S4x16x512x128 .f32 := V m c main_v1

theorem tok_apply (c : Dev nD) (i : S4x16x512x1024.Idx) : tokArr m c i = arg0 m c i := by
  have hV : tokArr m c = truncf (F := Ideal) .bf16 (arg0 m c) bitsLt_bf16_f32 := by
    show StableHlo.after hostOps0 _ _ = _
    after_results
  rw [hV]; rfl

theorem gate_apply (c : Dev nD) (b : Fin 4) (e : Fin 16) (s : Fin 512) (l : Fin 128) : gateArr m c (ix4 b e s l) = arg1 m c (ix3 b e s) := by
  have hV : gateArr m c = broadcastInDim S4x16x512x128 ![0, 1, 2, 3] bcast_S4x16x512x1_S4x16x512x128_0_1_2_3
      (broadcastInDim S4x16x512x1 ![0, 1, 2] bcast_S4x16x512_S4x16x512x1_0_1_2 (arg1 m c)) := by
    show StableHlo.after hostOps0 _ _ = _
    after_results
  rw [hV, broadcastInDim_apply _ _ _ (ix4 b e s l) (ix4 b e s (0 : Fin 1)) (fun a => match a with
    | ⟨0, _⟩ => rfl
    | ⟨1, _⟩ => rfl
    | ⟨2, _⟩ => rfl
    | ⟨3, _⟩ => rfl), broadcastInDim_apply _ _ _ (ix4 b e s (0 : Fin 1)) (ix3 b e s) (fun a => match a with
    | ⟨0, _⟩ => rfl
    | ⟨1, _⟩ => rfl
    | ⟨2, _⟩ => rfl)]

/-- The call's result is the reference's at every index. -/
theorem result_at (c : Dev nD) (b : Fin 4) (e : Fin 16) (s : Fin 512) (d : Fin 1024) :
    ffnArr (tokArr m c) (gateArr m c) (arg2 m c) (arg3 m c) (arg4 m c) (ix4 b e s d)
      = Cert.Reference2Ideal.Read.val_main_v11 (F := Ideal) (arg0 m c) (arg1 m c) (arg2 m c) (arg3 m c) (arg4 m c) (ix4 b e s d) := by
  refine Eq.trans ?_ (Cert.Reference2Ideal.Ffn.v11_apply _ _ _ _ _ b e s d).symm
  rw [← gate_apply m c b e s (0 : Fin 128), ← funext fun k => tok_apply m c (ix4 b e s k)]
  rfl

/-- So its result array is the reference's. -/
theorem result_eq (c : Dev nD) :
    (dats m 0 c).arrAt 5 cfg0.N = Cert.Reference2Ideal.Read.val_main_v11 (F := Ideal) (arg0 m c) (arg1 m c) (arg2 m c) (arg3 m c) (arg4 m c) := by
  have e2 : V m c main_arg2 = arg2 m c := V_main_arg2 m c
  have e3 : V m c main_arg3 = arg3 m c := V_main_arg3 m c
  have e4 : V m c main_arg4 = arg4 m c := V_main_arg4 m c
  rw [final, e2, e3, e4]
  funext i
  rw [eq_ix4 i]
  exact result_at m c (i 0) (i 1) (i 2) (i 3)

end Cert.Kernel2Ideal.Ffn

end
-- ==== Proof.MergeRow.lean ====
/- The merge call over the extended reals: what a grid point writes at one token, by the values of that token's row. -/
module

public import proofs.«01_k».proof.Proof.Gen.Kernel3Ideal.Value
public import proofs.«01_k».proof.Proof.AttnRead
public import proofs.«01_k».proof.Proof.FfnArray
public import Idealize.ShloMosaic.Lib.Pipeline.ValueKit.Tiles
public import Idealize.ShloMosaic.Lib.MatmulPlain
public import Idealize.ShloMosaic.Lib.ValueIdx
public import Idealize.ShloMosaic.Lib.ValueLayout

@[expose] public section

noncomputable section

namespace Cert.Kernel3Ideal.Merge

open Cert.Kernel3Ideal Cert.Kernel3Ideal.Gen Idealize.ShloMosaic Idealize.ShloMosaic.ValueIdx
open Cert.Kernel2Ideal.Ffn (sigm)
open scoped BigOperators

/-- What one token's results depend on: its two attention outputs, its two gate rows, its residual row, the three rows
    of the modulation, the scale of the norm, and the four weights. -/
@[ext] structure Row where
  yd : Fin 1024 → EReal
  ym : Fin 1024 → EReal
  gd : Fin 1024 → EReal
  gm : Fin 1024 → EReal
  x : Fin 1024 → EReal
  gt : Fin 1024 → EReal
  sh : Fin 1024 → EReal
  sc : Fin 1024 → EReal
  gf : Fin 1024 → EReal
  wd : Fin 1024 → Fin 1024 → EReal
  wm : Fin 1024 → Fin 1024 → EReal
  wo : Fin 1024 → Fin 1024 → EReal
  wr : Fin 16 → Fin 1024 → EReal

/-- The gated sum of the two projected outputs. -/
def Row.merged (R : Row) (n : Fin 1024) : EReal :=
  sigm (R.gd n) * (∑ k, R.yd k * R.wd k n) + sigm (R.gm n) * (∑ k, R.ym k * R.wm k n)

/-- The new residual row. -/
def Row.x1 (R : Row) (n : Fin 1024) : EReal := R.x n + R.gt n * ∑ k, R.merged k * R.wo k n

/-- A row over its root mean square, scaled and modulated. -/
def norm (X gf sc : Fin 1024 → EReal) (n : Fin 1024) : EReal :=
  X n * Ideal.rsqrt (Ideal.div (∑ k, X k * X k) (Ideal.ofBits .f32 0x44800000#32) + Ideal.ofBits .f32 0x358637BD#32) * gf n
    * (Ideal.ofBits .f32 0x3F800000#32 + sc n)

/-- The normalised row. -/
def Row.h (R : Row) (n : Fin 1024) : EReal := norm R.x1 R.gf R.sc n + R.sh n

/-- The softmax of sixteen values. -/
def soft (L : Fin 16 → EReal) (e : Fin 16) : EReal :=
  Ideal.div (Ideal.exp (L e - ⨆ j, L j)) (∑ i, Ideal.exp (L i - ⨆ j, L j))

/-- The affinities to the sixteen experts. -/
def Row.aff (R : Row) (e : Fin 16) : EReal := soft (fun i => ∑ k, R.wr i k * R.h k) e

theorem dot_eq : dot_S1024x1024_S1024x1024_S1024x1024_1_0_0_1_n_n = DotDims.plain 1024 1024 1024 := rfl
theorem dotNt_eq : dot_S16x1024_S1024x1024_S16x1024_1_1_0_0_n_n = DotDims.transposedRhs 16 1024 1024 := rfl

/-- A product with a weight, at a row and a column. -/
theorem prod_apply (a : FVec Ideal S1024x1024 .bf16) (w : Vec Ideal S1024x1024 .bf16) (r n : Fin 1024) :
    matmul dot_S1024x1024_S1024x1024_S1024x1024_1_0_0_1_n_n none a (shapeCast S1024x1024 w shapeCasts_S1024x1024_S1024x1024 : FVec Ideal S1024x1024 .bf16)
      (constant S1024x1024 .f32 0x00000000#32) (ix2 r n) = ∑ k : Fin 1024, a (ix2 r k) * w (ix2 k n) := by
  rw [dot_eq]
  refine (Ideal.matmul_plain_apply none _ _ _ r n).trans ?_
  rw [constant_apply, Ideal.ofBits_zero_f32, zero_add]
  exact Finset.sum_congr rfl fun k _ => congrArg (a (ix2 r k) * ·) (shapeCast_apply w _ (ix2 k n) (ix2 k n) rfl)

/-- A row of the modulation or of the norm's scale, spread over the tokens. -/
theorem row_apply (v : FVec Ideal S1x1024 .f32) (r n : Fin 1024) :
    broadcastTo S1024x1024 v broadcasts_S1x1024_S1024x1024 (ix2 r n) = v (ix2 (0 : Fin 1) n) :=
  broadcastTo_apply v broadcasts_S1x1024_S1024x1024 (ix2 r n) (ix2 (0 : Fin 1) n) fun a => match a with
    | ⟨0, _⟩ => rfl
    | ⟨1, _⟩ => rfl

theorem mod_apply (v : Vec Ideal S1x1x1024 .f32) (n : Fin 1024) :
    shapeCast S1x1024 v shapeCasts_S1x1x1024_S1x1024 (ix2 (0 : Fin 1) n) = v (ix3 (0 : Fin 1) (0 : Fin 1) n) :=
  congrArg v (reshapeEquiv_ix2_1ab _ (0 : Fin 1) n)

/-- One gated projection. -/
def gated (v0 : Vec Ideal S1x1024x1024 .bf16) (v2 : Vec Ideal S1024x1024 .bf16) (v10 : Vec Ideal S1x1024x1024 .bf16) : FVec Ideal S1024x1024 .f32 :=
  mulf (divf (broadcast S1024x1024 (Scalar.ofBits .f32 0x3F800000#32)) (addf (broadcast S1024x1024 (Scalar.ofBits .f32 0x3F800000#32))
      (exp (subf (broadcast S1024x1024 (Scalar.ofBits .f32 0x00000000#32))
        (extf .f32 (shapeCast S1024x1024 v10 shapeCasts_S1x1024x1024_S1024x1024 : FVec Ideal S1024x1024 .bf16) bitsLt_bf16_f32)))))
    (matmul dot_S1024x1024_S1024x1024_S1024x1024_1_0_0_1_n_n none (shapeCast S1024x1024 v0 shapeCasts_S1x1024x1024_S1024x1024 : FVec Ideal S1024x1024 .bf16)
      (shapeCast S1024x1024 v2 shapeCasts_S1024x1024_S1024x1024 : FVec Ideal S1024x1024 .bf16) (constant S1024x1024 .f32 0x00000000#32))

theorem gated_apply (v0 : Vec Ideal S1x1024x1024 .bf16) (v2 : Vec Ideal S1024x1024 .bf16) (v10 : Vec Ideal S1x1024x1024 .bf16) (r n : Fin 1024) :
    gated v0 v2 v10 (ix2 r n) = sigm (v10 (ix3 (0 : Fin 1) r n)) * ∑ k : Fin 1024, v0 (ix3 (0 : Fin 1) r k) * v2 (ix2 k n) := by
  unfold gated
  rw [mulf_apply, prod_apply]
  refine congrArg₂ (· * ·) ?_ (Finset.sum_congr rfl fun k _ => congrArg (· * _) (congrArg v0 (reshapeEquiv_ix2_1ab _ r k)))
  have hz : ∀ y : EReal, Ideal.ofBits .f32 0x00000000#32 - y = -y := fun y => by rw [Ideal.ofBits_zero_f32, sub_eq_add_neg, zero_add]
  have hv : v10 (ix3 (0 : Fin 1) r n) = shapeCast S1024x1024 v10 shapeCasts_S1x1024x1024_S1024x1024 (ix2 r n) :=
    (congrArg v10 (reshapeEquiv_ix2_1ab _ r n)).symm
  rw [hv]
  unfold sigm
  rw [← hz]
  rfl

theorem pay4_apply (v0 : Vec Ideal S1x1024x1024 .bf16) (v2 : Vec Ideal S1024x1024 .bf16) (v5 : Vec Ideal S1x1024x1024 .bf16) (v7 : Vec Ideal S1024x1024 .bf16)
    (v10 v21 : Vec Ideal S1x1024x1024 .bf16) (r n : Fin 1024) :
    k0_pay4 v0 v2 v5 v7 v10 v21 (ix2 r n) = sigm (v10 (ix3 (0 : Fin 1) r n)) * (∑ k : Fin 1024, v0 (ix3 (0 : Fin 1) r k) * v2 (ix2 k n))
      + sigm (v21 (ix3 (0 : Fin 1) r n)) * (∑ k : Fin 1024, v5 (ix3 (0 : Fin 1) r k) * v7 (ix2 k n)) := by
  rw [← gated_apply, ← gated_apply]
  rfl

theorem pay5_apply (v32 : FVec Ideal S1024x1024 .f32) (v33 : Vec Ideal S1x1024x1024 .f32) (v35 : Vec Ideal S1x1x1024 .f32) (v38 : Vec Ideal S1024x1024 .bf16)
    (r n : Fin 1024) :
    k0_pay5 v32 v33 v35 v38 (ix2 r n) = v33 (ix3 (0 : Fin 1) r n) + v35 (ix3 (0 : Fin 1) (0 : Fin 1) n) * ∑ k : Fin 1024, v32 (ix2 r k) * v38 (ix2 k n) := by
  unfold k0_pay5
  rw [addf_apply, mulf_apply, prod_apply, row_apply, mod_apply]
  exact congrArg (· + _) (congrArg v33 (reshapeEquiv_ix2_1ab _ r n))

/-- The sum of a row. -/
theorem sum_apply (y : FVec Ideal S1024x1024 .f32) (r : Fin 1024) :
    shapeCast S1024x1 (multiReduction .add [1] S1024 y 0x00000000#32 reduces_S1024x1024_S1024 (.inl rfl) rfl) shapeCasts_S1024_S1024x1 (ix2 r (0 : Fin 1))
      = ∑ k : Fin 1024, y (ix2 r k) := by
  rw [shapeCast_apply _ _ (ix2 r (0 : Fin 1)) (ix1 r) (by
    rw [Shape.rowMajor_val_one, Shape.rowMajor_val_two]; simp [ix1, ix2])]
  refine (Ideal.multiReduction_add_single _ _ _ _ _ _).trans (Finset.sum_congr rfl fun k _ => congrArg y ?_)
  funext a; apply Fin.ext
  match a with
  | ⟨0, _⟩ => rfl
  | ⟨1, _⟩ => rfl

theorem pay7_apply (v32 : FVec Ideal S1024x1024 .f32) (v33 : Vec Ideal S1x1024x1024 .f32) (v35 : Vec Ideal S1x1x1024 .f32) (v38 : Vec Ideal S1024x1024 .bf16)
    (v57 : Vec Ideal S1x1024 .f32) (v61 : Vec Ideal S1x1x1024 .f32) (r n : Fin 1024) :
    k0_pay7 v32 v33 v35 v38 v57 v61 (ix2 r n) = norm (fun k => k0_pay5 v32 v33 v35 v38 (ix2 r k)) (fun k => v57 (ix2 (0 : Fin 1) k))
      (fun k => v61 (ix3 (0 : Fin 1) (0 : Fin 1) k)) n := by
  unfold k0_pay7 norm
  generalize k0_pay5 v32 v33 v35 v38 = y
  rw [mulf_apply, mulf_apply, mulf_apply, row_apply, row_apply, addf_apply, mod_apply,
    broadcastTo_apply _ broadcasts_S1024x1_S1024x1024 (ix2 r n) (ix2 r (0 : Fin 1)) (fun a => match a with
      | ⟨0, _⟩ => rfl
      | ⟨1, _⟩ => rfl)]
  refine congrArg₂ (· * ·) (congrArg₂ (· * ·) (congrArg (y (ix2 r n) * ·) ?_) (shapeCast_apply v57 _ (ix2 (0 : Fin 1) n) (ix2 (0 : Fin 1) n) rfl)) rfl
  refine congrArg (fun s => Ideal.rsqrt (Ideal.div s (Ideal.ofBits .f32 0x44800000#32) + Ideal.ofBits .f32 0x358637BD#32)) ?_
  exact sum_apply (mulf y y) r

theorem pay1_apply (v66 : FVec Ideal S1024x1024 .f32) (v68 : FVec Ideal S1x1024 .f32) (r n : Fin 1024) :
    k0_pay1 v66 v68 (ix2 r n) = v66 (ix2 r n) + v68 (ix2 (0 : Fin 1) n) :=
  congrArg (v66 (ix2 r n) + ·) (row_apply v68 r n)

/-- A row of one value per token, spread over the experts. -/
theorem tok_apply (v : FVec Ideal S1024 .f32) (e : Fin 16) (r : Fin 1024) :
    broadcastTo S16x1024 (shapeCast S1x1024 v shapeCasts_S1024_S1x1024) broadcasts_S1x1024_S16x1024 (ix2 e r) = v (ix1 r) := by
  rw [broadcastTo_apply _ broadcasts_S1x1024_S16x1024 (ix2 e r) (ix2 (0 : Fin 1) r) (fun a => match a with
    | ⟨0, _⟩ => rfl
    | ⟨1, _⟩ => rfl)]
  exact shapeCast_apply _ _ (ix2 (0 : Fin 1) r) (ix1 r) (by rw [Shape.rowMajor_val_one, Shape.rowMajor_val_two]; simp [ix1, ix2])

theorem lift_eq (r : Fin 1024) (k : Fin 16) : Shape.Reduces.lift reduces_S16x1024_S1024 (ix1 r) k = ix2 k r := by
  funext a; apply Fin.ext
  match a with
  | ⟨0, _⟩ => rfl
  | ⟨1, _⟩ => rfl

theorem colMax_apply (y : FVec Ideal S16x1024 .f32) (r : Fin 1024) :
    multiReduction .maximumf [0] S1024 y 0xFF800000#32 reduces_S16x1024_S1024 (.inl rfl) rfl (ix1 r) = ⨆ k : Fin 16, y (ix2 k r) := by
  refine (Ideal.multiReduction_maximumf_single _ _ _ _ _ _).trans ?_
  have hb : FloatOps.ofBits (F := Ideal) .f32 0xFF800000#32 = (⊥ : EReal) := Cert.KernelIdeal.Attn.ofBits_neg_inf
  rw [hb, ← Finset.sup_univ_eq_iSup]
  exact congrArg (Finset.sup Finset.univ) (funext fun k => congrArg y (lift_eq r k))

theorem colSum_apply (y : FVec Ideal S16x1024 .f32) (r : Fin 1024) :
    multiReduction .add [0] S1024 y 0x00000000#32 reduces_S16x1024_S1024 (.inl rfl) rfl (ix1 r) = ∑ k : Fin 16, y (ix2 k r) :=
  (Ideal.multiReduction_add_single _ _ _ _ _ _).trans (Finset.sum_congr rfl fun k _ => congrArg y (lift_eq r k))

/-- The softmax over the experts of a block of logits. -/
def softBlk (y : FVec Ideal S16x1024 .f32) : FVec Ideal S16x1024 .f32 :=
  exp (subf y (broadcastTo S16x1024 (shapeCast S1x1024 (multiReduction .maximumf [0] S1024 y 0xFF800000#32 reduces_S16x1024_S1024 (.inl rfl) rfl)
    shapeCasts_S1024_S1x1024) broadcasts_S1x1024_S16x1024))

theorem softBlk_apply (y : FVec Ideal S16x1024 .f32) (e : Fin 16) (r : Fin 1024) :
    softBlk y (ix2 e r) = Ideal.exp (y (ix2 e r) - ⨆ k : Fin 16, y (ix2 k r)) := by
  rw [← colMax_apply]
  exact congrArg (fun z => Ideal.exp (y (ix2 e r) - z)) (tok_apply _ e r)

theorem pay3_apply (v66 : FVec Ideal S1024x1024 .f32) (v68 : FVec Ideal S1x1024 .f32) (v75 : Vec Ideal S16x1024 .bf16) (e : Fin 16) (r : Fin 1024) :
    k0_pay3 v66 v68 v75 (ix3 (0 : Fin 1) e r) = soft (fun i => ∑ k : Fin 1024, v75 (ix2 i k) * k0_pay1 v66 v68 (ix2 r k)) e := by
  unfold k0_pay3
  generalize k0_pay1 v66 v68 = h
  have hl : ∀ i : Fin 16, matmul dot_S16x1024_S1024x1024_S16x1024_1_1_0_0_n_n none (shapeCast S16x1024 v75 shapeCasts_S16x1024_S16x1024 : FVec Ideal S16x1024 .bf16) h
      (constant S16x1024 .f32 0x00000000#32) (ix2 i r) = ∑ k : Fin 1024, v75 (ix2 i k) * h (ix2 r k) := fun i => by
    rw [dotNt_eq]
    refine (Ideal.matmul_transposedRhs_apply none _ _ _ i r).trans ?_
    rw [constant_apply, Ideal.ofBits_zero_f32, zero_add]
    exact Finset.sum_congr rfl fun k _ => congrArg (· * _) (shapeCast_apply v75 _ (ix2 i k) (ix2 i k) rfl)
  simp only [← hl]
  generalize matmul dot_S16x1024_S1024x1024_S16x1024_1_1_0_0_n_n none (shapeCast S16x1024 v75 shapeCasts_S16x1024_S16x1024 : FVec Ideal S16x1024 .bf16) h
      (constant S16x1024 .f32 0x00000000#32) = y
  rw [shapeCast_apply _ _ (ix3 (0 : Fin 1) e r) (ix2 e r) (by rw [Shape.rowMajor_val_three, Shape.rowMajor_val_two]; simp [ix2, ix3])]
  show Ideal.div (softBlk y (ix2 e r)) (broadcastTo S16x1024 (shapeCast S1x1024 (multiReduction .add [0] S1024 (softBlk y) 0x00000000#32
    reduces_S16x1024_S1024 (.inl rfl) rfl) shapeCasts_S1024_S1x1024) broadcasts_S1x1024_S16x1024 (ix2 e r)) = _
  rw [tok_apply, colSum_apply]
  simp only [softBlk_apply]
  rfl

/-- The row of token `r` of a grid point's blocks. -/
def rowOf (x0 x1 x2 x3 : Vec Ideal S1x1024x1024 .bf16) (x4 : Vec Ideal S1x1024x1024 .f32) (x5 : Vec Ideal S1x6x1024 .f32)
    (x6 x7 x8 : Vec Ideal S1024x1024 .bf16) (x9 : Vec Ideal S1x1024 .f32) (x10 : Vec Ideal S16x1024 .bf16) (r : Fin 1024) : Row where
  yd k := x0 (ix3 (0 : Fin 1) r k)
  ym k := x1 (ix3 (0 : Fin 1) r k)
  gd n := x2 (ix3 (0 : Fin 1) r n)
  gm n := x3 (ix3 (0 : Fin 1) r n)
  x n := x4 (ix3 (0 : Fin 1) r n)
  gt n := x5 (ix3 (0 : Fin 1) (2 : Fin 6) n)
  sh n := x5 (ix3 (0 : Fin 1) (3 : Fin 6) n)
  sc n := x5 (ix3 (0 : Fin 1) (4 : Fin 6) n)
  gf n := x9 (ix2 (0 : Fin 1) n)
  wd k n := x6 (ix2 k n)
  wm k n := x7 (ix2 k n)
  wo k n := x8 (ix2 k n)
  wr e k := x10 (ix2 e k)

section
variable (x0 x1 x2 x3 : Vec Ideal S1x1024x1024 .bf16) (x4 : Vec Ideal S1x1024x1024 .f32) (x5 : Vec Ideal S1x6x1024 .f32)
  (x6 x7 x8 : Vec Ideal S1024x1024 .bf16) (x9 : Vec Ideal S1x1024 .f32) (x10 : Vec Ideal S16x1024 .bf16)

theorem ld3 {e : EltTy} (x : Vec Ideal S1x1024x1024 e) : View.ld x r0_0 = x := by
  funext z; exact View.ld_unit_apply_of _ _ _ _ _ _ fun a => match a with
    | ⟨0, _⟩ => (Nat.zero_add _).symm | ⟨1, _⟩ => (Nat.zero_add _).symm | ⟨2, _⟩ => (Nat.zero_add _).symm

theorem ld2 (x : Vec Ideal S1024x1024 .bf16) : View.ld x r0_1 = x := by
  funext z; exact View.ld_unit_apply_of _ _ _ _ _ _ fun a => match a with
    | ⟨0, _⟩ => (Nat.zero_add _).symm | ⟨1, _⟩ => (Nat.zero_add _).symm

theorem merged_apply (r n : Fin 1024) :
    k0_pay9 x0 x1 x2 x3 x4 x5 x6 x7 x8 x9 x10 (ix2 r n) = (rowOf x0 x1 x2 x3 x4 x5 x6 x7 x8 x9 x10 r).merged n := by
  unfold k0_pay9
  rw [ld3, ld3, ld3, ld3, ld2, ld2, pay4_apply]
  rfl

theorem x1_apply (r n : Fin 1024) :
    k0_pay5 (k0_pay9 x0 x1 x2 x3 x4 x5 x6 x7 x8 x9 x10) (View.ld x4 r0_0) (View.ld x5 r0_2) (View.ld x8 r0_1) (ix2 r n)
      = (rowOf x0 x1 x2 x3 x4 x5 x6 x7 x8 x9 x10 r).x1 n := by
  rw [ld3, ld2, pay5_apply]
  have hg : View.ld x5 r0_2 (ix3 (0 : Fin 1) (0 : Fin 1) n) = x5 (ix3 (0 : Fin 1) (2 : Fin 6) n) :=
    View.ld_unit_apply_of _ _ _ _ _ _ fun a => match a with | ⟨0, _⟩ => rfl | ⟨1, _⟩ => rfl | ⟨2, _⟩ => (Nat.zero_add _).symm
  rw [hg]
  simp only [merged_apply]
  rfl

theorem h_apply (r n : Fin 1024) :
    k0_pay1 (k0_pay10 x0 x1 x2 x3 x4 x5 x6 x7 x8 x9 x10) (k0_pay11 x0 x1 x2 x3 x4 x5 x6 x7 x8 x9 x10) (ix2 r n)
      = (rowOf x0 x1 x2 x3 x4 x5 x6 x7 x8 x9 x10 r).h n := by
  rw [pay1_apply]
  unfold k0_pay10 k0_pay11 k0_pay8
  rw [pay7_apply, mod_apply]
  have hs : View.ld x5 r0_5 (ix3 (0 : Fin 1) (0 : Fin 1) n) = x5 (ix3 (0 : Fin 1) (3 : Fin 6) n) :=
    View.ld_unit_apply_of _ _ _ _ _ _ fun a => match a with | ⟨0, _⟩ => rfl | ⟨1, _⟩ => rfl | ⟨2, _⟩ => (Nat.zero_add _).symm
  have hc : ∀ k : Fin 1024, View.ld x5 r0_4 (ix3 (0 : Fin 1) (0 : Fin 1) k) = x5 (ix3 (0 : Fin 1) (4 : Fin 6) k) := fun k =>
    View.ld_unit_apply_of _ _ _ _ _ _ fun a => match a with | ⟨0, _⟩ => rfl | ⟨1, _⟩ => rfl | ⟨2, _⟩ => (Nat.zero_add _).symm
  have hg : ∀ k : Fin 1024, View.ld x9 r0_3 (ix2 (0 : Fin 1) k) = x9 (ix2 (0 : Fin 1) k) := fun k =>
    View.ld_unit_apply_of _ _ _ _ _ _ fun a => match a with | ⟨0, _⟩ => rfl | ⟨1, _⟩ => (Nat.zero_add _).symm
  rw [hs, funext hc, funext hg, funext fun k => x1_apply x0 x1 x2 x3 x4 x5 x6 x7 x8 x9 x10 r k]
  rfl

/-- A store of a whole block leaves what it stores. -/
theorem canon3 {e : EltTy} (p : Vec Ideal S1x1024x1024 e) (y : S1x1024x1024.Idx) :
    View.canon (Val := Elt Ideal) [⟨r0_0, p⟩] y = p y := by
  have hy : r0_0.emb y = y := funext fun a => Fin.ext (match a with
    | ⟨0, _⟩ => (Nat.zero_add _).trans (Nat.one_mul _) | ⟨1, _⟩ => (Nat.zero_add _).trans (Nat.one_mul _) | ⟨2, _⟩ => (Nat.zero_add _).trans (Nat.one_mul _))
  conv_lhs => rw [← hy]
  exact View.canon_cons_emb (Val := Elt Ideal) (e := e) r0_0 p [] y

theorem canon16 (p : Vec Ideal S1x16x1024 .f32) (y : S1x16x1024.Idx) :
    View.canon (Val := Elt Ideal) [⟨r0_7, p⟩] y = p y := by
  have hy : r0_7.emb y = y := funext fun a => Fin.ext (match a with
    | ⟨0, _⟩ => (Nat.zero_add _).trans (Nat.one_mul _) | ⟨1, _⟩ => (Nat.zero_add _).trans (Nat.one_mul _) | ⟨2, _⟩ => (Nat.zero_add _).trans (Nat.one_mul _))
  conv_lhs => rw [← hy]
  exact View.canon_cons_emb (Val := Elt Ideal) (e := .f32) r0_7 p [] y

/-- A block of rows as a block with a leading unit axis. -/
theorem lead_apply {φ : FTy} (p : FVec Ideal S1024x1024 φ) (r n : Fin 1024) :
    shapeCast S1x1024x1024 p shapeCasts_S1024x1024_S1x1024x1024 (ix3 (0 : Fin 1) r n) = p (ix2 r n) :=
  shapeCast_apply _ _ (ix3 (0 : Fin 1) r n) (ix2 r n) (by rw [Shape.rowMajor_val_three, Shape.rowMajor_val_two]; simp [ix2, ix3])

theorem aff_apply (r : Fin 1024) (e : Fin 16) :
    k0_pay3 (k0_pay10 x0 x1 x2 x3 x4 x5 x6 x7 x8 x9 x10) (k0_pay11 x0 x1 x2 x3 x4 x5 x6 x7 x8 x9 x10) (View.ld x10 r0_6) (ix3 (0 : Fin 1) e r)
      = (rowOf x0 x1 x2 x3 x4 x5 x6 x7 x8 x9 x10 r).aff e := by
  rw [pay3_apply]
  have hr : View.ld x10 r0_6 = x10 := by
    funext z; exact View.ld_unit_apply_of _ _ _ _ _ _ fun a => match a with
      | ⟨0, _⟩ => (Nat.zero_add _).symm | ⟨1, _⟩ => (Nat.zero_add _).symm
  rw [hr]
  simp only [h_apply]
  rfl

/-- An index of a block of tokens, its first coordinate being zero. -/
theorem eq_tok (y : S1x1024x1024.Idx) : y = ix3 (0 : Fin 1) (y 1) (y 2) := by
  funext a
  match a with
  | ⟨0, _⟩ => exact Subsingleton.elim (α := Fin 1) _ _
  | ⟨1, _⟩ => rfl
  | ⟨2, _⟩ => rfl

theorem eq_exp (y : S1x16x1024.Idx) : y = ix3 (0 : Fin 1) (y 1) (y 2) := by
  funext a
  match a with
  | ⟨0, _⟩ => exact Subsingleton.elim (α := Fin 1) _ _
  | ⟨1, _⟩ => rfl
  | ⟨2, _⟩ => rfl

theorem out11_apply (y : S1x1024x1024.Idx) :
    out0_11 x0 x1 x2 x3 x4 x5 x6 x7 x8 x9 x10 y = (rowOf x0 x1 x2 x3 x4 x5 x6 x7 x8 x9 x10 (y 1)).x1 (y 2) := by
  unfold out0_11
  refine (canon3 _ y).trans ?_
  refine Eq.trans ?_ (x1_apply x0 x1 x2 x3 x4 x5 x6 x7 x8 x9 x10 (y 1) (y 2))
  refine (congrArg _ (eq_tok y)).trans ?_
  exact lead_apply (k0_pay5 (k0_pay9 x0 x1 x2 x3 x4 x5 x6 x7 x8 x9 x10) (View.ld x4 r0_0) (View.ld x5 r0_2) (View.ld x8 r0_1)) (y 1) (y 2)

theorem out12_apply (y : S1x1024x1024.Idx) :
    out0_12 x0 x1 x2 x3 x4 x5 x6 x7 x8 x9 x10 y = (rowOf x0 x1 x2 x3 x4 x5 x6 x7 x8 x9 x10 (y 1)).h (y 2) := by
  unfold out0_12
  refine (canon3 _ y).trans ?_
  refine Eq.trans ?_ (h_apply x0 x1 x2 x3 x4 x5 x6 x7 x8 x9 x10 (y 1) (y 2))
  refine (congrArg _ (eq_tok y)).trans ?_
  exact lead_apply (k0_pay1 (k0_pay10 x0 x1 x2 x3 x4 x5 x6 x7 x8 x9 x10) (k0_pay11 x0 x1 x2 x3 x4 x5 x6 x7 x8 x9 x10)) (y 1) (y 2)

theorem out13_apply (y : S1x16x1024.Idx) :
    out0_13 x0 x1 x2 x3 x4 x5 x6 x7 x8 x9 x10 y = (rowOf x0 x1 x2 x3 x4 x5 x6 x7 x8 x9 x10 (y 2)).aff (y 1) := by
  unfold out0_13
  refine (canon16 _ y).trans ?_
  exact (congrArg _ (eq_exp y)).trans (aff_apply x0 x1 x2 x3 x4 x5 x6 x7 x8 x9 x10 (y 2) (y 1))

end

end Cert.Kernel3Ideal.Merge

end
-- ==== Proof.MergeArray.lean ====
/- The merge call over the extended reals: its three result arrays, index by index, from the arrays its windows read. -/
module

public import proofs.«01_k».proof.Proof.MergeRow
public import Idealize.ShloMosaic.Lib.Pipeline.ValueKit.Geometry

@[expose] public section

noncomputable section

namespace Cert.Kernel3Ideal.Merge

open Cert.Kernel3Ideal Cert.Kernel3Ideal.Gen Idealize.ShloMosaic Idealize.ShloMosaic.ValueIdx
open Idealize.ShloMosaic.Pipeline Idealize.ShloMosaic.TcCoe
open scoped BigOperators

/-- The two gates' columns in the projected array. -/
def gateD (n : Fin 1024) : Fin 7168 := ⟨5120 + n.val, by omega⟩
def gateM (n : Fin 1024) : Fin 7168 := ⟨6144 + n.val, by omega⟩

/-- The row of token `s` of sequence `b`, from the arrays. -/
def rowAt (A0 A1 : Vec Ideal S4x4096x1024 .bf16) (A2 : Vec Ideal S4x4096x7168 .bf16) (A4 : Vec Ideal S4x4096x1024 .f32) (A5 : Vec Ideal S4x6x1024 .f32)
    (A6 A7 A8 : Vec Ideal S1024x1024 .bf16) (A9 : Vec Ideal S1x1024 .f32) (A10 : Vec Ideal S16x1024 .bf16) (b : Fin 4) (s : Fin 4096) : Row where
  yd k := A0 (ix3 b s k)
  ym k := A1 (ix3 b s k)
  gd n := A2 (ix3 b s (gateD n))
  gm n := A2 (ix3 b s (gateM n))
  x n := A4 (ix3 b s n)
  gt n := A5 (ix3 b (2 : Fin 6) n)
  sh n := A5 (ix3 b (3 : Fin 6) n)
  sc n := A5 (ix3 b (4 : Fin 6) n)
  gf n := A9 (ix2 (0 : Fin 1) n)
  wd k n := A6 (ix2 k n)
  wm k n := A7 (ix2 k n)
  wo k n := A8 (ix2 k n)
  wr e k := A10 (ix2 e k)

/-- The block indices of the windows at a grid point. -/
theorem idx_facts : ∀ t : Fin cfg0.N,
    (win0_0.index t (0 : Fin 3) = win0_11.index t (0 : Fin 3) ∧ win0_0.index t (1 : Fin 3) = win0_11.index t (1 : Fin 3) ∧ win0_0.index t (2 : Fin 3) = 0)
    ∧ (win0_1.index t (0 : Fin 3) = win0_11.index t (0 : Fin 3) ∧ win0_1.index t (1 : Fin 3) = win0_11.index t (1 : Fin 3) ∧ win0_1.index t (2 : Fin 3) = 0)
    ∧ (win0_4.index t (0 : Fin 3) = win0_11.index t (0 : Fin 3) ∧ win0_4.index t (1 : Fin 3) = win0_11.index t (1 : Fin 3) ∧ win0_4.index t (2 : Fin 3) = 0)
    ∧ (win0_2.index t (0 : Fin 3) = win0_11.index t (0 : Fin 3) ∧ win0_2.index t (1 : Fin 3) = win0_11.index t (1 : Fin 3) ∧ win0_2.index t (2 : Fin 3) = 5)
    ∧ (win0_3.index t (0 : Fin 3) = win0_11.index t (0 : Fin 3) ∧ win0_3.index t (1 : Fin 3) = win0_11.index t (1 : Fin 3) ∧ win0_3.index t (2 : Fin 3) = 6)
    ∧ (win0_5.index t (0 : Fin 3) = win0_11.index t (0 : Fin 3) ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The block indices of the other two results. -/
theorem idx_out : ∀ t : Fin cfg0.N, win0_11.index t (2 : Fin 3) = 0
    ∧ (win0_12.index t (0 : Fin 3) = win0_11.index t (0 : Fin 3) ∧ win0_12.index t (1 : Fin 3) = win0_11.index t (1 : Fin 3) ∧ win0_12.index t (2 : Fin 3) = 0)
    ∧ (win0_13.index t (0 : Fin 3) = win0_11.index t (0 : Fin 3) ∧ win0_13.index t (1 : Fin 3) = 0 ∧ win0_13.index t (2 : Fin 3) = win0_11.index t (1 : Fin 3)) :=
  (by decide +kernel : ∀ t : Fin grid0.N, _)

/-- Every block of tokens is some grid point's. -/
theorem idx_onto : ∀ (b : Fin 4) (s : Fin 4), ∃ t : Fin cfg0.N, win0_11.index t = ![b.val, s.val, 0] :=
  (by decide +kernel : ∀ (b : Fin 4) (s : Fin 4), ∃ t : Fin grid0.N, win0_11.index t = ![b.val, s.val, 0])

variable {m : (ℓ : Loc nD τ sig) → Buf (Elt Ideal) ℓ}

set_option maxHeartbeats 1000000 in
/-- The row of a token in a grid point's blocks is its row in the arrays. -/
theorem row_eq (c : Dev nD) (t : Fin cfg0.N) (r : Fin 1024) (b : Fin 4) (s : Fin 4096) (hb : win0_11.index t (0 : Fin 3) = b.val)
    (hs : win0_11.index t (1 : Fin 3) * 1024 + r.val = s.val) :
    rowOf (iblk m c 0 t) (iblk m c 1 t) (iblk m c 2 t) (iblk m c 3 t) (iblk m c 4 t) (iblk m c 5 t) (iblk m c 6 t) (iblk m c 7 t) (iblk m c 8 t) (iblk m c 9 t) (iblk m c 10 t) r
      = rowAt (V m c main_v0) (V m c main_v1) (V m c main_v2) (V m c main_arg3) (V m c main_arg4) (V m c main_v3) (V m c main_v4) (V m c main_v5) (V m c main_v8) (V m c main_v7) b s := by
  obtain ⟨⟨a0, b0, c0⟩, ⟨a1, b1, c1⟩, ⟨a4, b4, c4⟩, ⟨a2, b2, c2⟩, ⟨a3, b3, c3⟩, ⟨a5, b5, c5⟩, ⟨a6, b6⟩, ⟨a7, b7⟩, ⟨a8, b8⟩, ⟨a9, b9⟩, ⟨a10, b10⟩⟩ := idx_facts t
  have h0 : ∀ k : Fin 1024, iblk m c 0 t (ix3 (0 : Fin 1) r k) = V m c main_v0 (ix3 b s k) := fun k => by
    show V m c main_v0 (((cfg0.win 0).blk t).view.emb (ix3 (0 : Fin 1) r k)) = _
    refine congrArg (V m c main_v0) (funext fun a => Fin.ext ?_)
    match a with
    | ⟨0, _⟩ => show win0_0.index t (0 : Fin 3) * 1 + 1 * 0 = b.val; omega
    | ⟨1, _⟩ => show win0_0.index t (1 : Fin 3) * 1024 + 1 * r.val = s.val; omega
    | ⟨2, _⟩ => show win0_0.index t (2 : Fin 3) * 1024 + 1 * k.val = k.val; omega
  have h1 : ∀ k : Fin 1024, iblk m c 1 t (ix3 (0 : Fin 1) r k) = V m c main_v1 (ix3 b s k) := fun k => by
    show V m c main_v1 (((cfg0.win 1).blk t).view.emb (ix3 (0 : Fin 1) r k)) = _
    refine congrArg (V m c main_v1) (funext fun a => Fin.ext ?_)
    match a with
    | ⟨0, _⟩ => show win0_1.index t (0 : Fin 3) * 1 + 1 * 0 = b.val; omega
    | ⟨1, _⟩ => show win0_1.index t (1 : Fin 3) * 1024 + 1 * r.val = s.val; omega
    | ⟨2, _⟩ => show win0_1.index t (2 : Fin 3) * 1024 + 1 * k.val = k.val; omega
  have h2 : ∀ k : Fin 1024, iblk m c 2 t (ix3 (0 : Fin 1) r k) = V m c main_v2 (ix3 b s (gateD k)) := fun k => by
    show V m c main_v2 (((cfg0.win 2).blk t).view.emb (ix3 (0 : Fin 1) r k)) = _
    refine congrArg (V m c main_v2) (funext fun a => Fin.ext ?_)
    match a with
    | ⟨0, _⟩ => show win0_2.index t (0 : Fin 3) * 1 + 1 * 0 = b.val; omega
    | ⟨1, _⟩ => show win0_2.index t (1 : Fin 3) * 1024 + 1 * r.val = s.val; omega
    | ⟨2, _⟩ => show win0_2.index t (2 : Fin 3) * 1024 + 1 * k.val = 5120 + k.val; omega
  have h3 : ∀ k : Fin 1024, iblk m c 3 t (ix3 (0 : Fin 1) r k) = V m c main_v2 (ix3 b s (gateM k)) := fun k => by
    show V m c main_v2 (((cfg0.win 3).blk t).view.emb (ix3 (0 : Fin 1) r k)) = _
    refine congrArg (V m c main_v2) (funext fun a => Fin.ext ?_)
    match a with
    | ⟨0, _⟩ => show win0_3.index t (0 : Fin 3) * 1 + 1 * 0 = b.val; omega
    | ⟨1, _⟩ => show win0_3.index t (1 : Fin 3) * 1024 + 1 * r.val = s.val; omega
    | ⟨2, _⟩ => show win0_3.index t (2 : Fin 3) * 1024 + 1 * k.val = 6144 + k.val; omega
  have h4 : ∀ k : Fin 1024, iblk m c 4 t (ix3 (0 : Fin 1) r k) = V m c main_arg3 (ix3 b s k) := fun k => by
    show V m c main_arg3 (((cfg0.win 4).blk t).view.emb (ix3 (0 : Fin 1) r k)) = _
    refine congrArg (V m c main_arg3) (funext fun a => Fin.ext ?_)
    match a with
    | ⟨0, _⟩ => show win0_4.index t (0 : Fin 3) * 1 + 1 * 0 = b.val; omega
    | ⟨1, _⟩ => show win0_4.index t (1 : Fin 3) * 1024 + 1 * r.val = s.val; omega
    | ⟨2, _⟩ => show win0_4.index t (2 : Fin 3) * 1024 + 1 * k.val = k.val; omega
  have h5 : ∀ (j : Fin 6) (n : Fin 1024), iblk m c 5 t (ix3 (0 : Fin 1) j n) = V m c main_arg4 (ix3 b j n) := fun j n => by
    show V m c main_arg4 (((cfg0.win 5).blk t).view.emb (ix3 (0 : Fin 1) j n)) = _
    refine congrArg (V m c main_arg4) (funext fun a => Fin.ext ?_)
    match a with
    | ⟨0, _⟩ => show win0_5.index t (0 : Fin 3) * 1 + 1 * 0 = b.val; omega
    | ⟨1, _⟩ => show win0_5.index t (1 : Fin 3) * 6 + 1 * j.val = j.val; omega
    | ⟨2, _⟩ => show win0_5.index t (2 : Fin 3) * 1024 + 1 * n.val = n.val; omega
  have h6 : ∀ (k : Fin 1024) (n : Fin 1024), iblk m c 6 t (ix2 k n) = V m c main_v3 (ix2 k n) := fun k n => by
    show V m c main_v3 (((cfg0.win 6).blk t).view.emb (ix2 k n)) = _
    refine congrArg (V m c main_v3) (funext fun a => Fin.ext ?_)
    match a with
    | ⟨0, _⟩ => show win0_6.index t (0 : Fin 2) * 1024 + 1 * k.val = k.val; omega
    | ⟨1, _⟩ => show win0_6.index t (1 : Fin 2) * 1024 + 1 * n.val = n.val; omega
  have h7 : ∀ (k : Fin 1024) (n : Fin 1024), iblk m c 7 t (ix2 k n) = V m c main_v4 (ix2 k n) := fun k n => by
    show V m c main_v4 (((cfg0.win 7).blk t).view.emb (ix2 k n)) = _
    refine congrArg (V m c main_v4) (funext fun a => Fin.ext ?_)
    match a with
    | ⟨0, _⟩ => show win0_7.index t (0 : Fin 2) * 1024 + 1 * k.val = k.val; omega
    | ⟨1, _⟩ => show win0_7.index t (1 : Fin 2) * 1024 + 1 * n.val = n.val; omega
  have h8 : ∀ (k : Fin 1024) (n : Fin 1024), iblk m c 8 t (ix2 k n) = V m c main_v5 (ix2 k n) := fun k n => by
    show V m c main_v5 (((cfg0.win 8).blk t).view.emb (ix2 k n)) = _
    refine congrArg (V m c main_v5) (funext fun a => Fin.ext ?_)
    match a with
    | ⟨0, _⟩ => show win0_8.index t (0 : Fin 2) * 1024 + 1 * k.val = k.val; omega
    | ⟨1, _⟩ => show win0_8.index t (1 : Fin 2) * 1024 + 1 * n.val = n.val; omega
  have h9 : ∀ (k : Fin 1) (n : Fin 1024), iblk m c 9 t (ix2 k n) = V m c main_v8 (ix2 k n) := fun k n => by
    show V m c main_v8 (((cfg0.win 9).blk t).view.emb (ix2 k n)) = _
    refine congrArg (V m c main_v8) (funext fun a => Fin.ext ?_)
    match a with
    | ⟨0, _⟩ => show win0_9.index t (0 : Fin 2) * 1 + 1 * k.val = k.val; omega
    | ⟨1, _⟩ => show win0_9.index t (1 : Fin 2) * 1024 + 1 * n.val = n.val; omega
  have h10 : ∀ (k : Fin 16) (n : Fin 1024), iblk m c 10 t (ix2 k n) = V m c main_v7 (ix2 k n) := fun k n => by
    show V m c main_v7 (((cfg0.win 10).blk t).view.emb (ix2 k n)) = _
    refine congrArg (V m c main_v7) (funext fun a => Fin.ext ?_)
    match a with
    | ⟨0, _⟩ => show win0_10.index t (0 : Fin 2) * 16 + 1 * k.val = k.val; omega
    | ⟨1, _⟩ => show win0_10.index t (1 : Fin 2) * 1024 + 1 * n.val = n.val; omega
  refine Row.ext ?_ ?_ ?_ ?_ ?_ ?_ ?_ ?_ ?_ ?_ ?_ ?_ ?_
  · funext k; exact h0 k
  · funext k; exact h1 k
  · funext k; exact h2 k
  · funext k; exact h3 k
  · funext k; exact h4 k
  · funext k; exact h5 2 k
  · funext k; exact h5 3 k
  · funext k; exact h5 4 k
  · funext k; exact h9 (0 : Fin 1) k
  · funext k n; exact h6 k n
  · funext k n; exact h7 k n
  · funext k n; exact h8 k n
  · funext k n; exact h10 k n

/-- The three results from the rows of all tokens. -/
def x1Arr (R : Fin 4 → Fin 4096 → Row) (i : S4x4096x1024.Idx) : EReal := (R (i 0) (i 1)).x1 (i 2)
def hArr (R : Fin 4 → Fin 4096 → Row) (i : S4x4096x1024.Idx) : EReal := (R (i 0) (i 1)).h (i 2)
def affArr (R : Fin 4 → Fin 4096 → Row) (i : S4x16x4096.Idx) : EReal := (R (i 0) (i 2)).aff (i 1)

/-- The rows of all tokens, from the arrays the windows read. -/
abbrev rows (m : (ℓ : Loc nD τ sig) → Buf (Elt Ideal) ℓ) (c : Dev nD) : Fin 4 → Fin 4096 → Row :=
  rowAt (V m c main_v0) (V m c main_v1) (V m c main_v2) (V m c main_arg3) (V m c main_arg4) (V m c main_v3) (V m c main_v4) (V m c main_v5) (V m c main_v8) (V m c main_v7)

/-- What grid point `t` writes back is its block of the result. -/
theorem flushed11_eq (c : Dev nD) (t : Fin cfg0.N) :
    (dats m 0 c).flushed 11 t = ((cfg0.win 11).blk t).view.read (Elt Ideal) (x1Arr (rows m c)) := by
  rw [Value.flushed11]
  funext j
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j
    = x1Arr (rows m c) (((cfg0.win 11).blk t).view.emb j)
  rw [out11_apply]
  obtain ⟨z2, ⟨u0, u1, u2⟩, v0, v1, v2⟩ := idx_out t
  have hj0 : (j 0).val < 1 := (j 0).isLt
  have hn : (((cfg0.win 11).blk t).view.emb j) 2 = (j 2 : Fin 1024) := Fin.ext (by
    show win0_11.index t (2 : Fin 3) * 1024 + 1 * (j 2).val = (j 2).val; omega)
  have hr := row_eq (m := m) c t (j 1) ((((cfg0.win 11).blk t).view.emb j) 0) ((((cfg0.win 11).blk t).view.emb j) 1)
    (by show _ = win0_11.index t (0 : Fin 3) * 1 + 1 * (j 0).val; omega)
    (by show _ = win0_11.index t (1 : Fin 3) * 1024 + 1 * (j 1).val; omega)
  unfold x1Arr
  exact congr (congrArg Row.x1 hr) hn.symm

theorem mem_blk11 (t : Fin cfg0.N) (i : S4x4096x1024.Idx) :
    i ∈ ((cfg0.win 11).blk t).view.set ↔ ∀ a : Fin 3, win0_11.index t a * S1x1024x1024.size a ≤ (i a).val
      ∧ (i a).val < win0_11.index t a * S1x1024x1024.size a + S1x1024x1024.size a :=
  (cfg0.win 11).emb_mem_blk_iff t i

/-- The result array after the run. -/
theorem final11 (c : Dev nD) : (dats m 0 c).arrAt 11 cfg0.N = x1Arr (rows m c) :=
  (dats m 0 c).arrAt_eq_of_cover 11 _ (fun t _ => flushed11_eq c t) fun i => by
    have h0 : (i 0).val < 4 := (i 0).isLt
    have h1 : (i 1).val < 4096 := (i 1).isLt
    have h2 : (i 2).val < 1024 := (i 2).isLt
    obtain ⟨t, ht⟩ := idx_onto ⟨(i 0).val, h0⟩ ⟨(i 1).val / 1024, by omega⟩
    have q0 : win0_11.index t (0 : Fin 3) = (i 0).val := congrFun ht 0
    have q1 : win0_11.index t (1 : Fin 3) = (i 1).val / 1024 := congrFun ht 1
    obtain ⟨z2, ⟨u0, u1, u2⟩, v0, v1, v2⟩ := idx_out t
    refine ⟨t, flush0_11 t, ?_⟩
    rw [mem_blk11]
    intro a
    match a with
    | ⟨0, _⟩ => show win0_11.index t (0 : Fin 3) * 1 ≤ (i 0).val ∧ (i 0).val < win0_11.index t (0 : Fin 3) * 1 + 1; omega
    | ⟨1, _⟩ => show win0_11.index t (1 : Fin 3) * 1024 ≤ (i 1).val ∧ (i 1).val < win0_11.index t (1 : Fin 3) * 1024 + 1024; omega
    | ⟨2, _⟩ => show win0_11.index t (2 : Fin 3) * 1024 ≤ (i 2).val ∧ (i 2).val < win0_11.index t (2 : Fin 3) * 1024 + 1024; omega

/-- What grid point `t` writes back is its block of the result. -/
theorem flushed12_eq (c : Dev nD) (t : Fin cfg0.N) :
    (dats m 0 c).flushed 12 t = ((cfg0.win 12).blk t).view.read (Elt Ideal) (hArr (rows m c)) := by
  rw [Value.flushed12]
  funext j
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) j
    = hArr (rows m c) (((cfg0.win 12).blk t).view.emb j)
  rw [out12_apply]
  obtain ⟨z2, ⟨u0, u1, u2⟩, v0, v1, v2⟩ := idx_out t
  have hj0 : (j 0).val < 1 := (j 0).isLt
  have hn : (((cfg0.win 12).blk t).view.emb j) 2 = (j 2 : Fin 1024) := Fin.ext (by
    show win0_12.index t (2 : Fin 3) * 1024 + 1 * (j 2).val = (j 2).val; omega)
  have hr := row_eq (m := m) c t (j 1) ((((cfg0.win 12).blk t).view.emb j) 0) ((((cfg0.win 12).blk t).view.emb j) 1)
    (by show _ = win0_12.index t (0 : Fin 3) * 1 + 1 * (j 0).val; omega)
    (by show _ = win0_12.index t (1 : Fin 3) * 1024 + 1 * (j 1).val; omega)
  unfold hArr
  exact congr (congrArg Row.h hr) hn.symm

theorem mem_blk12 (t : Fin cfg0.N) (i : S4x4096x1024.Idx) :
    i ∈ ((cfg0.win 12).blk t).view.set ↔ ∀ a : Fin 3, win0_12.index t a * S1x1024x1024.size a ≤ (i a).val
      ∧ (i a).val < win0_12.index t a * S1x1024x1024.size a + S1x1024x1024.size a :=
  (cfg0.win 12).emb_mem_blk_iff t i

/-- The result array after the run. -/
theorem final12 (c : Dev nD) : (dats m 0 c).arrAt 12 cfg0.N = hArr (rows m c) :=
  (dats m 0 c).arrAt_eq_of_cover 12 _ (fun t _ => flushed12_eq c t) fun i => by
    have h0 : (i 0).val < 4 := (i 0).isLt
    have h1 : (i 1).val < 4096 := (i 1).isLt
    have h2 : (i 2).val < 1024 := (i 2).isLt
    obtain ⟨t, ht⟩ := idx_onto ⟨(i 0).val, h0⟩ ⟨(i 1).val / 1024, by omega⟩
    have q0 : win0_11.index t (0 : Fin 3) = (i 0).val := congrFun ht 0
    have q1 : win0_11.index t (1 : Fin 3) = (i 1).val / 1024 := congrFun ht 1
    obtain ⟨z2, ⟨u0, u1, u2⟩, v0, v1, v2⟩ := idx_out t
    refine ⟨t, flush0_12 t, ?_⟩
    rw [mem_blk12]
    intro a
    match a with
    | ⟨0, _⟩ => show win0_12.index t (0 : Fin 3) * 1 ≤ (i 0).val ∧ (i 0).val < win0_12.index t (0 : Fin 3) * 1 + 1; omega
    | ⟨1, _⟩ => show win0_12.index t (1 : Fin 3) * 1024 ≤ (i 1).val ∧ (i 1).val < win0_12.index t (1 : Fin 3) * 1024 + 1024; omega
    | ⟨2, _⟩ => show win0_12.index t (2 : Fin 3) * 1024 ≤ (i 2).val ∧ (i 2).val < win0_12.index t (2 : Fin 3) * 1024 + 1024; omega

/-- What grid point `t` writes back is its block of the result. -/
theorem flushed13_eq (c : Dev nD) (t : Fin cfg0.N) :
    (dats m 0 c).flushed 13 t = ((cfg0.win 13).blk t).view.read (Elt Ideal) (affArr (rows m c)) := by
  rw [Value.flushed13]
  funext j
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) j
    = affArr (rows m c) (((cfg0.win 13).blk t).view.emb j)
  rw [out13_apply]
  obtain ⟨z2, ⟨u0, u1, u2⟩, v0, v1, v2⟩ := idx_out t
  have hj0 : (j 0).val < 1 := (j 0).isLt
  have hn : (((cfg0.win 13).blk t).view.emb j) 1 = (j 1 : Fin 16) := Fin.ext (by
    show win0_13.index t (1 : Fin 3) * 16 + 1 * (j 1).val = (j 1).val; omega)
  have hr := row_eq (m := m) c t (j 2) ((((cfg0.win 13).blk t).view.emb j) 0) ((((cfg0.win 13).blk t).view.emb j) 2)
    (by show _ = win0_13.index t (0 : Fin 3) * 1 + 1 * (j 0).val; omega)
    (by show _ = win0_13.index t (2 : Fin 3) * 1024 + 1 * (j 2).val; omega)
  unfold affArr
  exact congr (congrArg Row.aff hr) hn.symm

theorem mem_blk13 (t : Fin cfg0.N) (i : S4x16x4096.Idx) :
    i ∈ ((cfg0.win 13).blk t).view.set ↔ ∀ a : Fin 3, win0_13.index t a * S1x16x1024.size a ≤ (i a).val
      ∧ (i a).val < win0_13.index t a * S1x16x1024.size a + S1x16x1024.size a :=
  (cfg0.win 13).emb_mem_blk_iff t i

/-- The result array after the run. -/
theorem final13 (c : Dev nD) : (dats m 0 c).arrAt 13 cfg0.N = affArr (rows m c) :=
  (dats m 0 c).arrAt_eq_of_cover 13 _ (fun t _ => flushed13_eq c t) fun i => by
    have h0 : (i 0).val < 4 := (i 0).isLt
    have h1 : (i 2).val < 4096 := (i 2).isLt
    have h2 : (i 1).val < 16 := (i 1).isLt
    obtain ⟨t, ht⟩ := idx_onto ⟨(i 0).val, h0⟩ ⟨(i 2).val / 1024, by omega⟩
    have q0 : win0_11.index t (0 : Fin 3) = (i 0).val := congrFun ht 0
    have q1 : win0_11.index t (1 : Fin 3) = (i 2).val / 1024 := congrFun ht 1
    obtain ⟨z2, ⟨u0, u1, u2⟩, v0, v1, v2⟩ := idx_out t
    refine ⟨t, flush0_13 t, ?_⟩
    rw [mem_blk13]
    intro a
    match a with
    | ⟨0, _⟩ => show win0_13.index t (0 : Fin 3) * 1 ≤ (i 0).val ∧ (i 0).val < win0_13.index t (0 : Fin 3) * 1 + 1; omega
    | ⟨1, _⟩ => show win0_13.index t (1 : Fin 3) * 16 ≤ (i 1).val ∧ (i 1).val < win0_13.index t (1 : Fin 3) * 16 + 16; omega
    | ⟨2, _⟩ => show win0_13.index t (2 : Fin 3) * 1024 ≤ (i 2).val ∧ (i 2).val < win0_13.index t (2 : Fin 3) * 1024 + 1024; omega

end Cert.Kernel3Ideal.Merge

end
-- ==== Proof.MergeSpec.lean ====
/- The merge program and its reference read at one index of each result, and their equality. -/
module

public import proofs.«01_k».proof.Proof.MergeArray
public import proofs.«01_k».proof.Proof.Gen.Reference3Ideal.Run
public import proofs.«01_k».proof.Proof.Gen.Reference3Ideal.Read
public import Idealize.ShloMosaic.Lib.KernelVsHost

@[expose] public section

noncomputable section

namespace Cert.Reference3Ideal.Merge

open Cert.Reference3Ideal Cert.Reference3Ideal.Gen Cert.Reference3Ideal.Read Idealize.ShloMosaic Idealize.ShloMosaic.ValueIdx
open Cert.Kernel3Ideal.Merge (Row norm soft gateD gateM)
open Cert.Kernel2Ideal.Ffn (sigm)
open scoped BigOperators

variable (x0 x1 : (⟨S4x4096x1024, .f32⟩ : BufTy).Contents (Elt Ideal)) (x2 : (⟨S4x4096x7168, .f32⟩ : BufTy).Contents (Elt Ideal))
  (x3 : (⟨S4x4096x1024, .f32⟩ : BufTy).Contents (Elt Ideal)) (x4 : (⟨S4x6x1024, .f32⟩ : BufTy).Contents (Elt Ideal))
  (x5 x6 x7 : (⟨S1024x1024, .f32⟩ : BufTy).Contents (Elt Ideal)) (x8 : (⟨S1024, .f32⟩ : BufTy).Contents (Elt Ideal))
  (x9 : (⟨S1024x16, .f32⟩ : BufTy).Contents (Elt Ideal))

/-- The row of token `s` of sequence `b`, from the reference's arguments. -/
def row (b : Fin 4) (s : Fin 4096) : Row where
  yd k := x0 (ix3 b s k)
  ym k := x1 (ix3 b s k)
  gd n := x2 (ix3 b s (gateD n))
  gm n := x2 (ix3 b s (gateM n))
  x n := x3 (ix3 b s n)
  gt n := x4 (ix3 b (2 : Fin 6) n)
  sh n := x4 (ix3 b (3 : Fin 6) n)
  sc n := x4 (ix3 b (4 : Fin 6) n)
  gf n := x8 (ix1 n)
  wd k n := x5 (ix2 k n)
  wm k n := x6 (ix2 k n)
  wo k n := x7 (ix2 k n)
  wr e k := x9 (ix2 k e)

/-- A projected output. -/
theorem v3_apply (b : Fin 4) (s : Fin 4096) (n : Fin 1024) :
    val_main_v3 (F := Ideal) x0 x5 (ix3 b s n) = ∑ k : Fin 1024, x0 (ix3 b s k) * x5 (ix2 k n) := by
  rw [val_main_v3_apply]
  refine Finset.sum_congr rfl fun k _ => congrArg₂ (· * ·) (congrArg x0 ?_) (congrArg x5 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem v4_apply (b : Fin 4) (s : Fin 4096) (n : Fin 1024) :
    val_main_v4 (F := Ideal) x1 x6 (ix3 b s n) = ∑ k : Fin 1024, x1 (ix3 b s k) * x6 (ix2 k n) := v3_apply x1 x6 b s n

/-- The two gates. -/
theorem v11_apply (i : S4x4096x2048.Idx) : val_main_v11 (F := Ideal) x2 i = sigm (x2 (idx_main_v5 i)) := by
  rw [val_main_v11_apply, val_main_v10_apply, val_main_cst_0_apply, val_main_v9_apply, val_main_v8_apply, val_main_cst_apply, val_main_v7_apply,
    val_main_v6_apply, val_main_v5_apply]
  rfl

theorem v12_apply (b : Fin 4) (s : Fin 4096) (n : Fin 1024) : val_main_v12 (F := Ideal) x2 (ix3 b s n) = sigm (x2 (ix3 b s (gateD n))) := by
  rw [val_main_v12_apply, v11_apply]
  refine congrArg (fun i => sigm (x2 i)) ?_
  funext a; apply Fin.ext
  match a with
  | ⟨0, _⟩ => rfl
  | ⟨1, _⟩ => rfl
  | ⟨2, _⟩ => rfl

theorem v13_apply (b : Fin 4) (s : Fin 4096) (n : Fin 1024) : val_main_v13 (F := Ideal) x2 (ix3 b s n) = sigm (x2 (ix3 b s (gateM n))) := by
  rw [val_main_v13_apply, v11_apply]
  refine congrArg (fun i => sigm (x2 i)) ?_
  funext a; apply Fin.ext
  match a with
  | ⟨0, _⟩ => rfl
  | ⟨1, _⟩ => rfl
  | ⟨2, _⟩ => show 5120 + (1024 + n.val) = 6144 + n.val; omega

theorem v16_apply (b : Fin 4) (s : Fin 4096) (n : Fin 1024) :
    val_main_v16 (F := Ideal) x0 x1 x2 x5 x6 (ix3 b s n) = (row x0 x1 x2 x3 x4 x5 x6 x7 x8 x9 b s).merged n := by
  rw [val_main_v16_apply, val_main_v14_apply, val_main_v15_apply, v12_apply, v13_apply, v3_apply, v4_apply]
  rfl

/-- The new residual row. -/
theorem v20_apply (b : Fin 4) (s : Fin 4096) (n : Fin 1024) :
    val_main_v20 (F := Ideal) x0 x1 x2 x3 x4 x5 x6 x7 (ix3 b s n) = (row x0 x1 x2 x3 x4 x5 x6 x7 x8 x9 b s).x1 n := by
  have hs : val_main_v17 (F := Ideal) x0 x1 x2 x5 x6 x7 (ix3 b s n) = ∑ k : Fin 1024, (row x0 x1 x2 x3 x4 x5 x6 x7 x8 x9 b s).merged k * x7 (ix2 k n) := by
    rw [val_main_v17_apply]
    refine Finset.sum_congr rfl fun k _ => congrArg₂ (· * ·) ?_ (congrArg x7 ?_)
    · refine Eq.trans (congrArg (val_main_v16 (F := Ideal) x0 x1 x2 x5 x6) ?_) (v16_apply x0 x1 x2 x3 x4 x5 x6 x7 x8 x9 b s k)
      funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  rw [val_main_v20_apply, val_main_v19_apply, hs, val_main_v18_apply, val_main_v0_apply]
  refine congrArg (fun g => x3 (ix3 b s n) + g * _) (congrArg x4 ?_)
  funext a; apply Fin.ext
  match a with
  | ⟨0, _⟩ => rfl
  | ⟨1, _⟩ => rfl
  | ⟨2, _⟩ => rfl

/-- The normalised row. -/
theorem v39_apply (b : Fin 4) (s : Fin 4096) (n : Fin 1024) :
    val_main_v39 (F := Ideal) x0 x1 x2 x3 x4 x5 x6 x7 x8 (ix3 b s n) = (row x0 x1 x2 x3 x4 x5 x6 x7 x8 x9 b s).h n := by
  have hsum : val_main_v22 (F := Ideal) x0 x1 x2 x3 x4 x5 x6 x7 (ix2 b s) = ∑ k : Fin 1024, (row x0 x1 x2 x3 x4 x5 x6 x7 x8 x9 b s).x1 k * (row x0 x1 x2 x3 x4 x5 x6 x7 x8 x9 b s).x1 k := by
    rw [val_main_v22_apply, val_main_cst_1_apply]
    refine (congrArg (· + _) Ideal.ofBits_zero_f32).trans ((zero_add _).trans (Finset.sum_congr rfl fun k _ => ?_))
    rw [val_main_v21_apply]
    have hi : idx_main_v22 (ix2 b s) k = ix3 b s k := by
      funext a; apply Fin.ext
      match a with
      | ⟨0, _⟩ => rfl
      | ⟨1, _⟩ => rfl
      | ⟨2, _⟩ => rfl
    rw [hi, v20_apply x0 x1 x2 x3 x4 x5 x6 x7 x8 x9]
    rfl
  have h28 : val_main_v29 (F := Ideal) x0 x1 x2 x3 x4 x5 x6 x7 (ix3 b s n) = Ideal.rsqrt (Ideal.div (∑ k : Fin 1024, (row x0 x1 x2 x3 x4 x5 x6 x7 x8 x9 b s).x1 k * (row x0 x1 x2 x3 x4 x5 x6 x7 x8 x9 b s).x1 k)
      (Ideal.ofBits .f32 0x44800000#32) + Ideal.ofBits .f32 0x358637BD#32) := by
    rw [val_main_v29_apply, val_main_v28_apply, val_main_v27_apply, val_main_v26_apply, val_main_cst_3_apply, val_main_v25_apply, val_main_v24_apply,
      val_main_cst_2_apply, val_main_v23_apply]
    refine congrArg (fun z => Ideal.rsqrt (Ideal.div z (Ideal.ofBits .f32 0x44800000#32) + Ideal.ofBits .f32 0x358637BD#32)) ?_
    refine Eq.trans (congrArg (val_main_v22 (F := Ideal) x0 x1 x2 x3 x4 x5 x6 x7) ?_) hsum
    funext a; apply Fin.ext
    match a with
    | ⟨0, _⟩ => rfl
    | ⟨1, _⟩ => rfl
  have hg : val_main_v32 (F := Ideal) x8 (ix3 b s n) = x8 (ix1 n) := by
    rw [val_main_v32_apply, val_main_v31_apply]
    refine congrArg x8 ?_
    funext a; apply Fin.ext
    match a with
    | ⟨0, _⟩ => rfl
  have hc : val_main_v36 (F := Ideal) x4 (ix3 b s n) = Ideal.ofBits .f32 0x3F800000#32 + x4 (ix3 b (4 : Fin 6) n) := by
    rw [val_main_v36_apply, val_main_v35_apply, val_main_v34_apply, val_main_cst_4_apply, val_main_v2_apply]
    refine congrArg (fun i => Ideal.ofBits .f32 0x3F800000#32 + x4 i) ?_
    funext a; apply Fin.ext
    match a with
    | ⟨0, _⟩ => rfl
    | ⟨1, _⟩ => rfl
    | ⟨2, _⟩ => rfl
  have hh : val_main_v38 (F := Ideal) x4 (ix3 b s n) = x4 (ix3 b (3 : Fin 6) n) := by
    rw [val_main_v38_apply, val_main_v1_apply]
    refine congrArg x4 ?_
    funext a; apply Fin.ext
    match a with
    | ⟨0, _⟩ => rfl
    | ⟨1, _⟩ => rfl
    | ⟨2, _⟩ => rfl
  rw [val_main_v39_apply, val_main_v37_apply, val_main_v33_apply, val_main_v30_apply, h28, hg, hc, hh, v20_apply x0 x1 x2 x3 x4 x5 x6 x7 x8 x9]
  rfl

/-- The host's maximum over the experts, from minus infinity. -/
theorem expMax_apply (y : FVec Ideal S4x4096x16 .f32) (b : Fin 4) (s : Fin 4096) :
    Host.reduce FloatOps.maximumf y (constant (F := Ideal) S_ .f32 0xFF800000#32) reducesTo_S4x4096x16_S4x4096_d2 h_S_ (ix2 b s)
      = ⨆ k : Fin 16, y (ix3 b s k) := by
  have hr : S4x4096x16.Reduces [2] S4x4096 := by decide
  have e := hostReduce_maximumf_eq_multiReduction y (FKind.maximumf.neutral .f32 (.inl rfl)) reducesTo_S4x4096x16_S4x4096_d2 h_S_ hr (.inl rfl) rfl
  refine (congrFun e (ix2 b s)).trans ?_
  refine (Ideal.multiReduction_maximumf_single _ _ _ _ _ _).trans ?_
  have hb : FloatOps.ofBits (F := Ideal) .f32 (FKind.maximumf.neutral .f32 (.inl rfl)) = (⊥ : EReal) := Cert.KernelIdeal.Attn.ofBits_neg_inf
  rw [hb, ← Finset.sup_univ_eq_iSup]
  refine congrArg (Finset.sup Finset.univ) (funext fun k => congrArg y ?_)
  funext a; apply Fin.ext
  match a with
  | ⟨0, _⟩ => rfl
  | ⟨1, _⟩ => rfl
  | ⟨2, _⟩ => rfl

/-- The affinities. -/
theorem v53_apply (b : Fin 4) (e : Fin 16) (s : Fin 4096) :
    val_main_v53 (F := Ideal) x0 x1 x2 x3 x4 x5 x6 x7 x8 x9 (ix3 b e s) = (row x0 x1 x2 x3 x4 x5 x6 x7 x8 x9 b s).aff e := by
  have hl : ∀ i : Fin 16, val_main_v40 (F := Ideal) x0 x1 x2 x3 x4 x5 x6 x7 x8 x9 (ix3 b s i) = ∑ k : Fin 1024, (row x0 x1 x2 x3 x4 x5 x6 x7 x8 x9 b s).wr i k * (row x0 x1 x2 x3 x4 x5 x6 x7 x8 x9 b s).h k := fun i => by
    rw [val_main_v40_apply]
    refine Finset.sum_congr rfl fun k _ => (mul_comm _ _).trans (congrArg₂ (· * ·) (congrArg x9 ?_) ?_)
    · funext a; apply Fin.ext
      match a with
      | ⟨0, _⟩ => rfl
      | ⟨1, _⟩ => rfl
    · refine Eq.trans (congrArg (val_main_v39 (F := Ideal) x0 x1 x2 x3 x4 x5 x6 x7 x8) ?_) (v39_apply x0 x1 x2 x3 x4 x5 x6 x7 x8 x9 b s k)
      funext a; apply Fin.ext
      match a with
      | ⟨0, _⟩ => rfl
      | ⟨1, _⟩ => rfl
      | ⟨2, _⟩ => rfl
  have hm : ∀ i : Fin 16, val_main_v45 (F := Ideal) x0 x1 x2 x3 x4 x5 x6 x7 x8 x9 (ix3 b s i) = ⨆ j : Fin 16, val_main_v40 (F := Ideal) x0 x1 x2 x3 x4 x5 x6 x7 x8 x9 (ix3 b s j) := fun i => by
    rw [val_main_v45_apply, val_main_v44_apply, val_main_v43_apply, val_main_v42_apply, val_main_cst_6_apply]
    have hi : idx_main_v44 (idx_main_v45 (ix3 b s i)) = ix2 b s := by
      funext a; apply Fin.ext
      match a with
      | ⟨0, _⟩ => rfl
      | ⟨1, _⟩ => rfl
    rw [hi]
    refine (congrArg₂ max Cert.KernelIdeal.Attn.ofBits_neg_inf (expMax_apply (val_main_v40 (F := Ideal) x0 x1 x2 x3 x4 x5 x6 x7 x8 x9) b s)).trans ?_
    exact bot_sup_eq _
  have hx : ∀ i : Fin 16, val_main_v47 (F := Ideal) x0 x1 x2 x3 x4 x5 x6 x7 x8 x9 (ix3 b s i)
      = Ideal.exp (val_main_v40 (F := Ideal) x0 x1 x2 x3 x4 x5 x6 x7 x8 x9 (ix3 b s i) - ⨆ j : Fin 16, val_main_v40 (F := Ideal) x0 x1 x2 x3 x4 x5 x6 x7 x8 x9 (ix3 b s j)) := fun i => by
    rw [val_main_v47_apply, val_main_v46_apply, hm]
    rfl
  have hs : val_main_v50 (F := Ideal) x0 x1 x2 x3 x4 x5 x6 x7 x8 x9 (ix3 b s e) = ∑ i : Fin 16, val_main_v47 (F := Ideal) x0 x1 x2 x3 x4 x5 x6 x7 x8 x9 (ix3 b s i) := by
    rw [val_main_v50_apply, val_main_v49_apply, val_main_v48_apply, val_main_cst_7_apply]
    refine (congrArg (· + _) Ideal.ofBits_zero_f32).trans ((zero_add _).trans (Finset.sum_congr rfl fun k _ => ?_))
    refine congrArg (val_main_v47 (F := Ideal) x0 x1 x2 x3 x4 x5 x6 x7 x8 x9) ?_
    funext a; apply Fin.ext
    match a with
    | ⟨0, _⟩ => rfl
    | ⟨1, _⟩ => rfl
    | ⟨2, _⟩ => rfl
  have hi : idx_main_v53 (ix3 b e s) = ix3 b s e := by
    funext a; apply Fin.ext
    match a with
    | ⟨0, _⟩ => rfl
    | ⟨1, _⟩ => rfl
    | ⟨2, _⟩ => rfl
  rw [val_main_v53_apply, hi, val_main_v51_apply, hs]
  simp only [hx, hl]
  rfl

end Cert.Reference3Ideal.Merge

namespace Cert.Kernel3Ideal.Merge

open Cert.Kernel3Ideal Cert.Kernel3Ideal.Gen Idealize.ShloMosaic Idealize.ShloMosaic.ValueIdx Idealize.ShloMosaic.StableHlo
open Idealize.ShloMosaic.TcCoe
open scoped BigOperators

variable (m : (ℓ : Loc nD τ sig) → Buf (Elt Ideal) ℓ)

/-- The arguments on a device. -/
abbrev arg0 (c : Dev nD) : Vec Ideal S4x4096x1024 .f32 := m ((c : Thread nD τ).loc main_arg0)
abbrev arg1 (c : Dev nD) : Vec Ideal S4x4096x1024 .f32 := m ((c : Thread nD τ).loc main_arg1)
abbrev arg2 (c : Dev nD) : Vec Ideal S4x4096x7168 .f32 := m ((c : Thread nD τ).loc main_arg2)
abbrev arg3 (c : Dev nD) : Vec Ideal S4x4096x1024 .f32 := m ((c : Thread nD τ).loc main_arg3)
abbrev arg4 (c : Dev nD) : Vec Ideal S4x6x1024 .f32 := m ((c : Thread nD τ).loc main_arg4)
abbrev arg5 (c : Dev nD) : Vec Ideal S1024x1024 .f32 := m ((c : Thread nD τ).loc main_arg5)
abbrev arg6 (c : Dev nD) : Vec Ideal S1024x1024 .f32 := m ((c : Thread nD τ).loc main_arg6)
abbrev arg7 (c : Dev nD) : Vec Ideal S1024x1024 .f32 := m ((c : Thread nD τ).loc main_arg7)
abbrev arg8 (c : Dev nD) : Vec Ideal S1024 .f32 := m ((c : Thread nD τ).loc main_arg8)
abbrev arg9 (c : Dev nD) : Vec Ideal S1024x16 .f32 := m ((c : Thread nD τ).loc main_arg9)

/-- The arrays the call's host operations make. -/
theorem V0_eq (c : Dev nD) : (V m c main_v0 : Vec Ideal S4x4096x1024 .bf16) = truncf (F := Ideal) .bf16 (arg0 m c) bitsLt_bf16_f32 := by
  show StableHlo.after hostOps0 _ _ = _
  after_results
theorem V1_eq (c : Dev nD) : (V m c main_v1 : Vec Ideal S4x4096x1024 .bf16) = truncf (F := Ideal) .bf16 (arg1 m c) bitsLt_bf16_f32 := by
  show StableHlo.after hostOps0 _ _ = _
  after_results
theorem V2_eq (c : Dev nD) : (V m c main_v2 : Vec Ideal S4x4096x7168 .bf16) = truncf (F := Ideal) .bf16 (arg2 m c) bitsLt_bf16_f32 := by
  show StableHlo.after hostOps0 _ _ = _
  after_results
theorem V3_eq (c : Dev nD) : (V m c main_v3 : Vec Ideal S1024x1024 .bf16) = truncf (F := Ideal) .bf16 (arg5 m c) bitsLt_bf16_f32 := by
  show StableHlo.after hostOps0 _ _ = _
  after_results
theorem V4_eq (c : Dev nD) : (V m c main_v4 : Vec Ideal S1024x1024 .bf16) = truncf (F := Ideal) .bf16 (arg6 m c) bitsLt_bf16_f32 := by
  show StableHlo.after hostOps0 _ _ = _
  after_results
theorem V5_eq (c : Dev nD) : (V m c main_v5 : Vec Ideal S1024x1024 .bf16) = truncf (F := Ideal) .bf16 (arg7 m c) bitsLt_bf16_f32 := by
  show StableHlo.after hostOps0 _ _ = _
  after_results

theorem V7_apply (c : Dev nD) (e : Fin 16) (k : Fin 1024) : (V m c main_v7 : Vec Ideal S16x1024 .bf16) (ix2 e k) = arg9 m c (ix2 k e) := by
  have hV : (V m c main_v7 : Vec Ideal S16x1024 .bf16)
      = truncf (F := Ideal) .bf16 (transpose S16x1024 [1, 0] (arg9 m c) transposes_S1024x16_S16x1024_1_0) bitsLt_bf16_f32 := by
    show StableHlo.after hostOps0 _ _ = _
    after_results
  rw [hV]
  exact transpose_apply [1, 0] (arg9 m c) transposes_S1024x16_S16x1024_1_0 (ix2 e k) (ix2 k e) (fun a => match a with
    | ⟨0, _⟩ => rfl
    | ⟨1, _⟩ => rfl)

theorem V8_apply (c : Dev nD) (n : Fin 1024) : (V m c main_v8 : Vec Ideal S1x1024 .f32) (ix2 (0 : Fin 1) n) = arg8 m c (ix1 n) := by
  have hV : (V m c main_v8 : Vec Ideal S1x1024 .f32) = shapeCast S1x1024 (arg8 m c) shapeCasts_S1024_S1x1024 := by
    show StableHlo.after hostOps0 _ _ = _
    after_results
    rfl
  rw [hV]
  exact shapeCast_apply _ _ (ix2 (0 : Fin 1) n) (ix1 n) (by rw [Shape.rowMajor_val_one, Shape.rowMajor_val_two]; simp [ix1, ix2])

/-- The rows of the call are the reference's. -/
theorem rows_eq (c : Dev nD) : rows m c = Cert.Reference3Ideal.Merge.row (arg0 m c) (arg1 m c) (arg2 m c) (arg3 m c) (arg4 m c) (arg5 m c) (arg6 m c)
    (arg7 m c) (arg8 m c) (arg9 m c) := by
  have e3 : V m c main_arg3 = arg3 m c := V_main_arg3 m c
  have e4 : V m c main_arg4 = arg4 m c := V_main_arg4 m c
  funext b s
  unfold rows
  rw [e3, e4]
  refine Row.ext ?_ ?_ ?_ ?_ rfl rfl rfl rfl ?_ ?_ ?_ ?_ ?_
  · funext k; exact congrFun (V0_eq m c) (ix3 b s k)
  · funext k; exact congrFun (V1_eq m c) (ix3 b s k)
  · funext k; exact congrFun (V2_eq m c) (ix3 b s (gateD k))
  · funext k; exact congrFun (V2_eq m c) (ix3 b s (gateM k))
  · funext k; exact V8_apply m c k
  · funext k n; exact congrFun (V3_eq m c) (ix2 k n)
  · funext k n; exact congrFun (V4_eq m c) (ix2 k n)
  · funext k n; exact congrFun (V5_eq m c) (ix2 k n)
  · funext e k; exact V7_apply m c e k

/-- So the three result arrays are the reference's. -/
theorem x1_eq (c : Dev nD) : (dats m 0 c).arrAt 11 cfg0.N = Cert.Reference3Ideal.Read.val_main_v20 (F := Ideal) (arg0 m c) (arg1 m c) (arg2 m c) (arg3 m c)
    (arg4 m c) (arg5 m c) (arg6 m c) (arg7 m c) := by
  rw [final11, rows_eq]
  funext i
  rw [eq_ix3 i]
  exact (Cert.Reference3Ideal.Merge.v20_apply (arg0 m c) (arg1 m c) (arg2 m c) (arg3 m c) (arg4 m c) (arg5 m c) (arg6 m c) (arg7 m c) (arg8 m c) (arg9 m c)
    (i 0) (i 1) (i 2)).symm

theorem h_eq (c : Dev nD) : (dats m 0 c).arrAt 12 cfg0.N = Cert.Reference3Ideal.Read.val_main_v52 (F := Ideal) (arg0 m c) (arg1 m c) (arg2 m c) (arg3 m c)
    (arg4 m c) (arg5 m c) (arg6 m c) (arg7 m c) (arg8 m c) := by
  rw [final12, rows_eq]
  funext i
  rw [eq_ix3 i]
  exact (Cert.Reference3Ideal.Merge.v39_apply (arg0 m c) (arg1 m c) (arg2 m c) (arg3 m c) (arg4 m c) (arg5 m c) (arg6 m c) (arg7 m c) (arg8 m c) (arg9 m c)
    (i 0) (i 1) (i 2)).symm

theorem aff_eq (c : Dev nD) : (dats m 0 c).arrAt 13 cfg0.N = Cert.Reference3Ideal.Read.val_main_v53 (F := Ideal) (arg0 m c) (arg1 m c) (arg2 m c) (arg3 m c)
    (arg4 m c) (arg5 m c) (arg6 m c) (arg7 m c) (arg8 m c) (arg9 m c) := by
  rw [final13, rows_eq]
  funext i
  rw [eq_ix3 i]
  exact (Cert.Reference3Ideal.Merge.v53_apply (arg0 m c) (arg1 m c) (arg2 m c) (arg3 m c) (arg4 m c) (arg5 m c) (arg6 m c) (arg7 m c) (arg8 m c) (arg9 m c)
    (i 0) (i 1) (i 2)).symm

end Cert.Kernel3Ideal.Merge

end
-- ==== Proof.InRun.lean ====
/- The input projection's run, at any values: at each block of tokens the first point normalises the block into the
   scratch, every point multiplies it by a block of the packed weight, and the third point also keeps 128 columns of its
   product apart. The buffer of those columns is handed on as found at the other points, and the fourth point's copy
   takes what the third left. -/
module

public import proofs.«01_k».proof.Proof.Gen.Kernel4Ideal.Frame
public import proofs.«01_k».proof.Proof.Gen.Kernel4Ideal.Points
public import proofs.«01_k».proof.Proof.Gen.Kernel4Ideal.Launch
public import proofs.«01_k».proof.Proof.Gen.Kernel4Ideal.Skeleton
public import Idealize.ShloMosaic.Lib.Pipeline.Value
public import Idealize.ShloMosaic.Lib.VecWindow
public import Idealize.ShloMosaic.Lib.Claim
public import Idealize.ShloMosaic.Lib.Pipeline.TableIdle

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's first condition: the innermost coordinate is zero. -/
abbrev first (i : grid0.Coords) : Prop :=
  Scalar.cmpi .ne (Scalar.extui (Scalar.cmpi .eq (BitVec.ofNat 32 (i 2).val) 0#32)) 0#32 = 1#1

theorem first_iff : ∀ t : Fin cfg0.N, first (grid0.coords t) ↔ t.val % 4 = 0 :=
  (fun t => by
    have ht : t.val < 64 := Nat.lt_of_lt_of_eq t.isLt N_0
    have e : (grid0.coords t 2).val = t.val / 1 % 4 := Pipeline.Grid.coords_val t 2 (by decide) rfl
    simp only [first, e]
    word_cmp
   : ∀ t : Fin grid0.N, first (grid0.coords t) ↔ t.val % 4 = 0)

theorem third_iff : ∀ t : Fin cfg0.N, k0_cond2 (grid0.coords t) = 1#1 ↔ t.val % 4 = 2 :=
  (fun t => by
    have ht : t.val < 64 := Nat.lt_of_lt_of_eq t.isLt N_0
    have e : (grid0.coords t 2).val = t.val / 1 % 4 := Pipeline.Grid.coords_val t 2 (by decide) rfl
    simp only [k0_cond2, e]
    word_cmp
   : ∀ t : Fin grid0.N, k0_cond2 (grid0.coords t) = 1#1 ↔ t.val % 4 = 2)

/-- The normalised block of tokens, by the blocks it is made of. -/
def hblk (x0 : Vec F S1x1024x1024 .f32) (x1 : Vec F S1x6x1024 .f32) (x2 : Vec F S1x1024 .f32) : Vec F S1024x1024 .bf16 :=
  k0_pay1 x0 x2 (View.ld x1 (Rect.unit (s := S1x6x1024) ![0, 1, 0] S1x1x1024.size inb_S1x6x1024_S1x1x1024_0_1_0))
    (View.ld x1 (Rect.unit (s := S1x6x1024) ![0, 0, 0] S1x1x1024.size inb_S1x6x1024_S1x1x1024_0_0_0))

/-! ## The body on any whole buffers -/

section Body

variable (c : Dev nD) (i : grid0.Coords) (arg3 : Memref sig .tc .vmem S1x1024x1024 .f32) (harg3 : arg3.IsWhole)
  (arg4 : Memref sig .tc .vmem S1x6x1024 .f32) (harg4 : arg4.IsWhole) (arg5 : Memref sig .tc .vmem S1x1024 .f32) (harg5 : arg5.IsWhole)
  (arg6 : Memref sig .tc .vmem S1024x1792 .bf16) (harg6 : arg6.IsWhole) (arg7 : Memref sig .tc .vmem S1x1024x1792 .bf16) (harg7 : arg7.IsWhole)
  (arg8 : Memref sig .tc .vmem S1x1024x128 .f32) (harg8 : arg8.IsWhole) (arg9 : Memref sig .tc .vmem S1024x1024 .bf16) (harg9 : arg9.IsWhole)
  (x0 : Vec F S1x1024x1024 .f32) (x1 : Vec F S1x6x1024 .f32) (x2 : Vec F S1x1024 .f32) (x3 : Vec F S1024x1792 .bf16) (h : Vec F S1024x1024 .bf16)

theorem zero2 : (![0, 0] : Fin 2 → ℕ) = fun _ => 0 := by
  funext a; match a with
  | ⟨0, _⟩ => rfl
  | ⟨1, _⟩ => rfl

theorem zero3 : (![0, 0, 0] : Fin 3 → ℕ) = fun _ => 0 := by
  funext a; match a with
  | ⟨0, _⟩ => rfl
  | ⟨1, _⟩ => rfl
  | ⟨2, _⟩ => rfl

/-- What a buffer holds after one store of the whole of it. -/
theorem read_store2 {n k : ℕ} {e : EltTy} (v : View sig .tc .vmem ⟨2, ![n, k]⟩ e) (f : v.ty.Contents (Elt F))
    (inb : ∀ a, (![0, 0] : Fin 2 → ℕ) a + (⟨2, ![n, k]⟩ : Shape).size a ≤ (⟨2, ![n, k]⟩ : Shape).size a)
    (w : Vec F ⟨2, ![n, k]⟩ e) :
    v.read (Elt F) (v.writes (Elt F) f [⟨Rect.unit (s := ⟨2, ![n, k]⟩) ![0, 0] (⟨2, ![n, k]⟩ : Shape).size inb, w⟩]) = w := by
  exact (View.ld_unit_zero (S := ⟨2, ![n, k]⟩) zero2 inb _).symm.trans (View.readAt_writes_full v f inb inb w [])

theorem read_store3 {b n k : ℕ} {e : EltTy} (v : View sig .tc .vmem ⟨3, ![b, n, k]⟩ e) (f : v.ty.Contents (Elt F))
    (inb : ∀ a, (![0, 0, 0] : Fin 3 → ℕ) a + (⟨3, ![b, n, k]⟩ : Shape).size a ≤ (⟨3, ![b, n, k]⟩ : Shape).size a)
    (w : Vec F ⟨3, ![b, n, k]⟩ e) :
    v.read (Elt F) (v.writes (Elt F) f [⟨Rect.unit (s := ⟨3, ![b, n, k]⟩) ![0, 0, 0] (⟨3, ![b, n, k]⟩ : Shape).size inb, w⟩]) = w := by
  exact (View.ld_unit_zero (S := ⟨3, ![b, n, k]⟩) zero3 inb _).symm.trans (View.readAt_writes_full v f inb inb w [])

set_option maxHeartbeats 1000000 in
/-- The first point of a block of tokens. -/
theorem body_first (hc0 : first i) (hc1 : ¬ k0_cond2 i = 1#1) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k0_pay3 (hblk x0 x1 x2) x3)
            ∗ owns (c : Thread nD τ) arg9 fullShare (hblk x0 x1 x2)) -∗ K ⟨⟩))
      ⊢ wp frame (wpE (defs₀ (F := F)) Variants.none c none) E
          (cc0__inproj_kernel i arg3 harg3 arg4 harg4 arg5 harg5 arg6 harg6 arg7 harg7 arg8 harg8 arg9 harg9) K := by
  simp only [cc0__inproj_kernel_eq_skeleton]; unfold cc0__inproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg3.eq_unread hf0; obtain rfl := harg4.eq_unread hf1; obtain rfl := harg5.eq_unread hf2; obtain rfl := harg6.eq_unread hf3
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [read_store3]
    sl_unfold_words
    simp only [View.readAt_eq_ld, View.readCov_unit_zero (S := S1024x1024) _ zero2, harg3.read_unread, harg4.read_unread, harg5.read_unread, harg6.read_unread, View.ld_unit_zero (S := S1024x1024) zero2, View.ld_unit_zero (S := S1x1024) zero2,
      View.ld_unit_zero (S := S1024x1792) zero2, View.ld_unit_zero (S := S1x1024x1024) zero3]
    rfl
  iexists _; isplitr
  swap; · iexact HS
  ipureintro
  sl_unfold_words
  rw [read_store2]
  simp only [View.readAt_eq_ld, harg3.read_unread, harg4.read_unread, harg5.read_unread, View.ld_unit_zero (S := S1024x1024) zero2, View.ld_unit_zero (S := S1x1024) zero2,
      View.ld_unit_zero (S := S1024x1792) zero2, View.ld_unit_zero (S := S1x1024x1024) zero3]
  rfl

set_option maxHeartbeats 1000000 in
/-- A point that only multiplies. -/
theorem body_next (hc0 : ¬ first i) (hc1 : ¬ k0_cond2 i = 1#1) (E : Set ℕ) (K : PUnit → sProp 𝕄) :
    iprop(owns (c : Thread nD τ) arg6 fullShare x3 ∗ (∃ d, owns (c : Thread nD τ) arg7 fullShare d) ∗ owns (c : Thread nD τ) arg9 fullShare h
        ∗ (iprop(owns (c : Thread nD τ) arg6 fullShare x3 ∗ owns (c : Thread nD τ) arg7 fullShare (k0_pay3 h x3)
            ∗ owns (c : Thread nD τ) arg9 fullShare h) -∗ K ⟨⟩))
      ⊢ wp frame (wpE (defs₀ (F := F)) Variants.none c none) E
          (cc0__inproj_kernel i arg3 harg3 arg4 harg4 arg5 harg5 arg6 harg6 arg7 harg7 arg8 harg8 arg9 harg9) K := by
  simp only [cc0__inproj_kernel_eq_skeleton]; unfold cc0__inproj_kernel_skel
  unfold owns
  iintro ⟨⟨%f3, %hf3, H3⟩, ⟨%d4, %f4, -, H4⟩, ⟨%fs, %hfs, HS⟩, Hk⟩
  obtain rfl := harg6.eq_unread hf3; obtain rfl := harg9.eq_unread hfs
  sl_exec (disch := first | sl_exact hc0 | sl_exact hc1)
  sl_step
  iapply Hk
  isplitl [H3]
  · iexists _; isplitr; · ipureintro; exact harg6.read_unread _
    iexact H3
  isplitl [H4]
  · iexists _; isplitr
    swap; · iexact H4
    ipureintro
    rw [read_store3]
    sl_unfold_words
    simp only [View.readAt_eq_ld, harg9.read_unread, harg6.read_unread, View.ld_unit_zero (S := S1024x1024) zero2,
      View.ld_unit_zero (S := S1024x1792) zero2]
  iexists _; isplitr; · ipureintro; exact harg9.read_unread _
  iexact HS

set_option maxHeartbeats 1000000 in
/-- The third point of a block of tokens. -/
theorem body_third (hc0 : ¬ first i) (hc1 : k0_cond2 i = 1#1) (E : Set ℕ) (K : PUnit → sProp 𝕄) :
    iprop(owns (c : Thread nD τ) arg6 fullShare x3 ∗ (∃ d, owns (c : Thread nD τ) arg7 fullShare d) ∗ (∃ d, owns (c : Thread nD τ) arg8 fullShare d)
        ∗ owns (c : Thread nD τ) arg9 fullShare h
        ∗ (iprop(owns (c : Thread nD τ) arg6 fullShare x3 ∗ owns (c : Thread nD τ) arg7 fullShare (k0_pay3 h x3)
            ∗ owns (c : Thread nD τ) arg8 fullShare (k0_pay4 h x3) ∗ owns (c : Thread nD τ) arg9 fullShare h) -∗ K ⟨⟩))
      ⊢ wp frame (wpE (defs₀ (F := F)) Variants.none c none) E
          (cc0__inproj_kernel i arg3 harg3 arg4 harg4 arg5 harg5 arg6 harg6 arg7 harg7 arg8 harg8 arg9 harg9) K := by
  simp only [cc0__inproj_kernel_eq_skeleton]; unfold cc0__inproj_kernel_skel
  unfold owns
  iintro ⟨⟨%f3, %hf3, H3⟩, ⟨%d4, %f4, -, H4⟩, ⟨%d5, %f5, -, H5⟩, ⟨%fs, %hfs, HS⟩, Hk⟩
  obtain rfl := harg6.eq_unread hf3; obtain rfl := harg9.eq_unread hfs
  sl_exec (disch := first | sl_exact hc0 | sl_exact hc1)
  sl_step
  iapply Hk
  isplitl [H3]
  · iexists _; isplitr; · ipureintro; exact harg6.read_unread _
    iexact H3
  isplitl [H4]
  · iexists _; isplitr
    swap; · iexact H4
    ipureintro
    rw [read_store3]
    sl_unfold_words
    simp only [View.readAt_eq_ld, harg9.read_unread, harg6.read_unread, View.ld_unit_zero (S := S1024x1024) zero2,
      View.ld_unit_zero (S := S1024x1792) zero2]
  isplitl [H5]
  · iexists _; isplitr
    swap; · iexact H5
    ipureintro
    rw [read_store3]
    sl_unfold_words
    simp only [View.readAt_eq_ld, harg9.read_unread, harg6.read_unread, View.ld_unit_zero (S := S1024x1024) zero2,
      View.ld_unit_zero (S := S1024x1792) zero2]
  iexists _; isplitr; · ipureintro; exact harg9.read_unread _
  iexact HS

end Body

/-! ## The pipeline's proof data -/

/-- The first point of the block of tokens point `n` works on, and its third. -/
def head (n : ℕ) (hn : n < cfg0.N) : Fin cfg0.N := ⟨n / 4 * 4, by omega⟩

def third (n : ℕ) (hn : n < cfg0.N) : Fin cfg0.N := ⟨n / 4 * 4 + 2, by have h : cfg0.N = 64 := N_0; omega⟩

/-- The normalised block point `n` works on. -/
def hrow (c : Dev nD) (n : ℕ) (hn : n < cfg0.N) : Vec F S1024x1024 .bf16 :=
  hblk (iblk m c 0 (head n hn)) (iblk m c 1 (head n hn)) (iblk m c 2 (head n hn))

/-- The columns kept apart of the block point `n` works on. -/
def apart (c : Dev nD) (n : ℕ) (hn : n < cfg0.N) : Vec F S1x1024x128 .f32 := k0_pay4 (hrow m c n hn) (iblk m c 3 (third n hn))

theorem head_pred (n : ℕ) (hn : n < cfg0.N) (h : ¬ n % 4 = 0) : head (n - 1) (by omega) = head n hn := Fin.ext (by simp only [head]; omega)

theorem third_pred (n : ℕ) (hn : n < cfg0.N) (h : ¬ n % 4 = 0) : third (n - 1) (by omega) = third n hn := Fin.ext (by simp only [third]; omega)

theorem hrow_pred (c : Dev nD) (n : ℕ) (hn : n < cfg0.N) (h : ¬ n % 4 = 0) : hrow m c (n - 1) (by omega) = hrow m c n hn := by
  unfold hrow; rw [head_pred n hn h]

theorem apart_pred (c : Dev nD) (n : ℕ) (hn : n < cfg0.N) (h : ¬ n % 4 = 0) : apart m c (n - 1) (by omega) = apart m c n hn := by
  unfold apart; rw [hrow_pred m c n hn h, third_pred n hn h]

theorem hrow_first (c : Dev nD) (t : Fin cfg0.N) (h : t.val % 4 = 0) :
    hrow m c t.val t.isLt = hblk (iblk m c 0 t) (iblk m c 1 t) (iblk m c 2 t) := by
  have e : head t.val t.isLt = t := Fin.ext (by simp only [head]; omega)
  unfold hrow; rw [e]

theorem apart_third (c : Dev nD) (t : Fin cfg0.N) (h : t.val % 4 = 2) :
    apart m c t.val t.isLt = k0_pay4 (hrow m c t.val t.isLt) (iblk m c 3 t) := by
  have e : third t.val t.isLt = t := Fin.ext (by simp only [third]; omega)
  unfold apart; rw [e]

/-- The scratch. -/
abbrev scr : Memref sig .tc .vmem S1024x1024 .bf16 := Memref.whole cc0_scratch0

theorem rest_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-- Between the points: the scratch at the normalised block of the point before. -/
def Inv (c : Dev nD) : (n : ℕ) → n ≤ cfg0.N → sProp 𝕄
  | 0, _ => Pipeline.ΦA spec0 c
  | n + 1, hn => iprop(owns (c : Thread nD τ) scr fullShare (hrow m c n hn) ∗ (∃ r, prngReg c r))

theorem Inv_pos (c : Dev nD) (n : ℕ) (hn : n ≤ cfg0.N) (hz : n ≠ 0) :
    Inv m c n hn = iprop(owns (c : Thread nD τ) scr fullShare (hrow m c (n - 1) (by omega)) ∗ (∃ r, prngReg c r)) := by
  cases n with
  | zero => exact absurd rfl hz
  | succ n => rfl

/-- Before any point the scratch holds something. -/
theorem Inv_any (c : Dev nD) (n : ℕ) (hn : n ≤ cfg0.N) :
    Inv m c n hn ⊢ iprop(iprop(∃ d, owns (c : Thread nD τ) scr fullShare d) ∗ (∃ r, prngReg c r)) := by
  cases n with
  | zero => rw [← rest_eq]; exact Idealize.SL.BI.Entails.refl _
  | succ n =>
    show iprop(owns (c : Thread nD τ) scr fullShare (hrow m c n hn) ∗ (∃ r, prngReg c r)) ⊢ _
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (hrow m c t.val t.isLt) (iblk m c 3 t)
    | ⟨5, _⟩ => apart m c t.val t.isLt
  Φ t := Inv m c t.val (Nat.le_of_lt_succ t.isLt)
  q _ := fullShare
  owed _ := 0

theorem dat_A (c : Dev nD) (w : Fin cfg0.W) : (dats m 0 c).A w = V m c (Pipeline.arrRef spec0 w) := by dsimp only [dats]
theorem dat_inv (c : Dev nD) (t : Fin cfg0.N) : (dats m 0 c).Φ t.castSucc = Inv m c t.val (Nat.le_of_lt t.isLt) := by
  dsimp only [dats]; exact Pipeline.Dat.Φ_castSucc (Inv m c) t
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = k0_pay3 (hrow m c t.val t.isLt) (iblk m c 3 t) := by dsimp only [dats]
theorem left5 (c : Dev nD) (t : Fin cfg0.N) : (dats m 0 c).after 5 t = apart m c t.val t.isLt := by dsimp only [dats]
theorem found0 (c : Dev nD) (t : Fin cfg0.N) (d) : (dats m 0 c).before 0 t d = iblk m c 0 t := before0_0_of m (dats m 0 c) (dat_A m c 0) (left0 m c) t d
theorem found1 (c : Dev nD) (t : Fin cfg0.N) (d) : (dats m 0 c).before 1 t d = iblk m c 1 t := before0_1_of m (dats m 0 c) (dat_A m c 1) (left1 m c) t d
theorem found2 (c : Dev nD) (t : Fin cfg0.N) (d) : (dats m 0 c).before 2 t d = iblk m c 2 t := before0_2_of m (dats m 0 c) (dat_A m c 2) (left2 m c) t d
theorem found3 (c : Dev nD) (t : Fin cfg0.N) (d) : (dats m 0 c).before 3 t d = iblk m c 3 t := before0_3_of m (dats m 0 c) (dat_A m c 3) (left3 m c) t d

/-! ## The columns kept apart: idle at all but the third point -/

theorem idle_iff (t : Fin cfg0.N) : cfg0.idle 5 (cfg0.grid.coords t) = true ↔ ¬ t.val % 4 = 2 := by
  rw [← third_iff t]
  show (!(k0_cond2 (grid0.coords t) == 1#1)) = true ↔ _
  simp

theorem flush_false (t : Fin cfg0.N) (h : ¬ t.val % 4 = 3) : (cfg0.win 5).flush t = false := by
  rw [← Bool.not_eq_true]; exact fun hf => h ((flush0_5 t).mp hf)

/-- The fourth point finds what the third left. -/
theorem found5 (c : Dev nD) (t : Fin cfg0.N) (h : t.val % 4 = 3) (d) : (dats m 0 c).before 5 t d = apart m c t.val t.isLt := by
  have hl : t.val - 1 < cfg0.N := by omega
  have hi : cfg0.idle 5 (cfg0.grid.coords ⟨t.val - 1, hl⟩) = false := by
    rw [← Bool.not_eq_true, idle_iff]; intro hne; apply hne; show (t.val - 1) % 4 = 2; omega
  rw [(dats m 0 c).before_of_pos 5 t (by omega) ((cfg0.win 5).fetch_out rfl t) d,
    flush_false ⟨t.val - 1, hl⟩ (by show ¬ (t.val - 1) % 4 = 3; omega), if_neg Bool.false_ne_true]
  unfold Dat.left
  rw [hi]
  show (dats m 0 c).kept 5 ⟨t.val - 1, hl⟩ d = _
  unfold Dat.kept
  rw [Pipeline.fill_of_clip_none 5 _ (fun _ => rfl) d ((dats m 0 c).after 5 _), Window.fill_cut, left5]
  exact apart_pred m c t.val t.isLt (by omega)

/-! ## The body at every point -/

/-- What the body returns of the buffer of the columns kept apart. -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem post5_third (c : Dev nD) (t : Fin cfg0.N) (h : t.val % 4 = 2) :
    post5 m c t = owns (c : Thread nD τ) (st0_5 t) fullShare (k0_pay4 (hrow m c t.val t.isLt) (iblk m c 3 t)) := by
  have hi : cfg0.idle 5 (cfg0.grid.coords t) = false := by rw [← Bool.not_eq_true, idle_iff]; exact fun hn => hn h
  unfold post5; rw [hi, left5, apart_third m c t h]

/-- At the other points the buffer is returned as found. -/
theorem post5_found (c : Dev nD) (t : Fin cfg0.N) (h : ¬ t.val % 4 = 2) :
    iprop(∃ d, owns (c : Thread nD τ) (st0_5 t) fullShare ((dats m 0 c).before 5 t d)) ⊢ post5 m c t := by
  have hi : cfg0.idle 5 (cfg0.grid.coords t) = true := (idle_iff t).mpr h
  unfold post5; rw [hi]
  by_cases hf : t.val % 4 = 3
  · rw [(flush0_5 t).mpr hf, left5]
    simp only [found5 m c t hf]
    iintro ⟨%d, H⟩
    iexact H
  · rw [flush_false t hf]

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ post5 m c t)

set_option maxHeartbeats 3200000 in
theorem sound (c : Dev nD) (t : Fin cfg0.N) :
    pre m c t ⊢ wp frame (wpE (defs₀ (F := F)) Variants.none c none) Set.univ (bodyAt0 t) (fun _ => post m c t) := by
  unfold pre post bodyAt0
  simp only [found0, found1, found2, found3]
  rw [show (dats m 0 c).owesAt () t.succ = (dats m 0 c).owesAt () t.castSucc from rfl, left0, left1, left2, left3, left4,
    show (dats m 0 c).Φ t.succ = iprop(owns (c : Thread nD τ) scr fullShare (hrow m c t.val t.isLt) ∗ (∃ r, prngReg c r)) from rfl, dat_inv m c t]
  by_cases h0 : t.val % 4 = 0
  · have h2 : ¬ t.val % 4 = 2 := by omega
    rw [hrow_first m c t h0]
    refine (BIClass.sep_mono (Inv_any m c t.val _) (BIClass.sep_mono .rfl (BIClass.sep_mono .rfl (BIClass.sep_mono .rfl (BIClass.sep_mono .rfl (BIClass.sep_mono .rfl (BIClass.sep_mono .rfl (post5_found m c t h2)))))))).trans ?_
    iintro ⟨⟨HS, Hg⟩, Ho, ⟨%d0, H0⟩, ⟨%d1, H1⟩, ⟨%d2, H2⟩, ⟨%d3, H3⟩, ⟨%d4, H4⟩, H5⟩
    iapply body_first c (grid0.coords t) _ _ _ _ _ _ _ _ _ _ _ _ _ _ (iblk m c 0 t) (iblk m c 1 t) (iblk m c 2 t) (iblk m c 3 t)
      ((first_iff t).mpr h0) (fun h => h2 ((third_iff t).mp h)) Set.univ _
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := by omega
    rw [Inv_pos m c t.val _ hz, hrow_pred m c t.val t.isLt h0]
    by_cases h2 : t.val % 4 = 2
    · rw [post5_third m c t h2]
      iintro ⟨⟨HS, Hg⟩, Ho, ⟨%d0, H0⟩, ⟨%d1, H1⟩, ⟨%d2, H2⟩, ⟨%d3, H3⟩, ⟨%d4, H4⟩, ⟨%d5, H5⟩⟩
      iapply body_third c (grid0.coords t) _ _ _ _ _ _ _ _ _ _ _ _ _ _ (iblk m c 3 t) (hrow m c t.val t.isLt)
        (fun h => h0 ((first_iff t).mp h)) ((third_iff t).mpr h2) Set.univ _
      isplitl [H3]; · iexact H3
      isplitl [H4]; · iexists _; iexact H4
      isplitl [H5]; · iexists _; iexact H5
      isplitl [HS]; · iexact HS
      iintro ⟨H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · refine (BIClass.sep_mono .rfl (BIClass.sep_mono .rfl (BIClass.sep_mono .rfl (BIClass.sep_mono .rfl (BIClass.sep_mono .rfl (BIClass.sep_mono .rfl (BIClass.sep_mono .rfl (post5_found m c t h2)))))))).trans ?_
      iintro ⟨⟨HS, Hg⟩, Ho, ⟨%d0, H0⟩, ⟨%d1, H1⟩, ⟨%d2, H2⟩, ⟨%d3, H3⟩, ⟨%d4, H4⟩, H5⟩
      iapply body_next c (grid0.coords t) _ _ _ _ _ _ _ _ _ _ _ _ _ _ (iblk m c 3 t) (hrow m c t.val t.isLt)
        (fun h => h0 ((first_iff t).mp h)) (fun h => h2 ((third_iff t).mp h)) Set.univ _
      isplitl [H3]; · iexact H3
      isplitl [H4]; · iexists _; iexact H4
      isplitl [HS]; · iexact HS
      iintro ⟨H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [rest_eq]; exact Inv_any m c (Fin.last cfg0.N).val _

/-! ## The run -/

set_option backward.isDefEq.respectTransparency.types false in
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dat_A m) (hin := enter m) (hout := leave m)

/-- Every array of the pipeline ends at what the proof data say. -/
theorem run_arrays : θ_run defs (onTc (τ := τ) (main (F := F))) (s₀ m ρ) (Pipeline.FramePost cfgs (dats m) 0 (V m)) :=
  (θ_run defs _ _).mono (fun _ h => h.1) (run_all m ρ)

/-- The arguments end unchanged, every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dat_A m) (run_arrays m ρ)) ((θ_run defs _ _).mono (fun _ h => h.2) (run_all m ρ))

end Cert.Kernel4Ideal.InProj

end
-- ==== Proof.InArray.lean ====
/- The input projection over the extended reals: its two result arrays, index by index, from the arrays its windows read. -/
module

public import proofs.«01_k».proof.Proof.InRun
public import proofs.«01_k».proof.Proof.MergeRow
public import Idealize.ShloMosaic.Lib.Pipeline.ValueKit.Geometry

@[expose] public section

noncomputable section

namespace Cert.Kernel4Ideal.InProj

open Cert.Kernel4Ideal Cert.Kernel4Ideal.Gen Idealize.ShloMosaic Idealize.ShloMosaic.ValueIdx
open Idealize.ShloMosaic.Pipeline Idealize.ShloMosaic.TcCoe
open scoped BigOperators

/-- The normalised and modulated block at a row and a column. -/
theorem pay1_apply (v14 : Vec Ideal S1x1024x1024 .f32) (v26 : Vec Ideal S1x1024 .f32) (v30 v36 : Vec Ideal S1x1x1024 .f32) (r n : Fin 1024) :
    k0_pay1 v14 v26 v30 v36 (ix2 r n) = Cert.Kernel3Ideal.Merge.norm (fun k => v14 (ix3 (0 : Fin 1) r k)) (fun k => v26 (ix2 (0 : Fin 1) k))
      (fun k => v30 (ix3 (0 : Fin 1) (0 : Fin 1) k)) n + v36 (ix3 (0 : Fin 1) (0 : Fin 1) n) := by
  have hy : (fun k => v14 (ix3 (0 : Fin 1) r k)) = fun k => shapeCast S1024x1024 v14 shapeCasts_S1x1024x1024_S1024x1024 (ix2 r k) :=
    funext fun k => (congrArg v14 (reshapeEquiv_ix2_1ab _ r k)).symm
  rw [hy]
  unfold k0_pay1 Cert.Kernel3Ideal.Merge.norm
  refine (shapeCast_apply _ _ (ix2 r n) (ix2 r n) rfl).trans ?_
  generalize shapeCast S1024x1024 v14 shapeCasts_S1x1024x1024_S1024x1024 = y
  refine congrArg₂ (· + ·) ?_ ((Cert.Kernel3Ideal.Merge.row_apply _ r n).trans (Cert.Kernel3Ideal.Merge.mod_apply v36 n))
  refine congrArg₂ (· * ·) (congrArg₂ (· * ·) (congrArg (y (ix2 r n) * ·) ?_)
    ((Cert.Kernel3Ideal.Merge.row_apply _ r n).trans (shapeCast_apply v26 _ (ix2 (0 : Fin 1) n) (ix2 (0 : Fin 1) n) rfl))) ?_
  · refine (broadcastTo_apply _ broadcasts_S1024x1_S1024x1024 (ix2 r n) (ix2 r (0 : Fin 1)) (fun a => match a with
      | ⟨0, _⟩ => rfl
      | ⟨1, _⟩ => rfl)).trans ?_
    exact congrArg (fun s => Ideal.rsqrt (Ideal.div s (Ideal.ofBits .f32 0x44800000#32) + Ideal.ofBits .f32 0x358637BD#32))
      (Cert.Kernel3Ideal.Merge.sum_apply (mulf y y) r)
  · refine (Cert.Kernel3Ideal.Merge.row_apply _ r n).trans ?_
    exact congrArg (Ideal.ofBits .f32 0x3F800000#32 + ·) (Cert.Kernel3Ideal.Merge.mod_apply v30 n)

theorem hblk_apply (x0 : Vec Ideal S1x1024x1024 .f32) (x1 : Vec Ideal S1x6x1024 .f32) (x2 : Vec Ideal S1x1024 .f32) (r n : Fin 1024) :
    hblk x0 x1 x2 (ix2 r n) = Cert.Kernel3Ideal.Merge.norm (fun k => x0 (ix3 (0 : Fin 1) r k)) (fun k => x2 (ix2 (0 : Fin 1) k))
      (fun k => x1 (ix3 (0 : Fin 1) (1 : Fin 6) k)) n + x1 (ix3 (0 : Fin 1) (0 : Fin 6) n) := by
  unfold hblk
  rw [pay1_apply]
  refine congrArg₂ (· + ·) (congrArg (fun sc => Cert.Kernel3Ideal.Merge.norm _ _ sc n) (funext fun k => ?_)) ?_
  · exact View.ld_unit_apply_of _ _ _ _ _ _ fun a => match a with
      | ⟨0, _⟩ => rfl
      | ⟨1, _⟩ => rfl
      | ⟨2, _⟩ => (Nat.zero_add _).symm
  · exact View.ld_unit_apply_of _ _ _ _ _ _ fun a => match a with
      | ⟨0, _⟩ => rfl
      | ⟨1, _⟩ => rfl
      | ⟨2, _⟩ => (Nat.zero_add _).symm

theorem dot_plain : dot_S1024x1024_S1024x1792_S1024x1792_1_0_0_1_n_n = DotDims.plain 1024 1024 1792 := rfl

/-- The product with a block of the weight. -/
theorem pay2_apply (h : Vec Ideal S1024x1024 .bf16) (w : Vec Ideal S1024x1792 .bf16) (r : Fin 1024) (n : Fin 1792) :
    k0_pay2 h w (ix2 r n) = ∑ k : Fin 1024, h (ix2 r k) * w (ix2 k n) := by
  unfold k0_pay2
  rw [dot_plain]
  refine (Ideal.matmul_plain_apply none _ _ _ r n).trans ?_
  rw [constant_apply, Ideal.ofBits_zero_f32, zero_add]
  exact Finset.sum_congr rfl fun k _ => congrArg (h (ix2 r k) * ·) (shapeCast_apply w _ (ix2 k n) (ix2 k n) rfl)

theorem pay3_apply (h : Vec Ideal S1024x1024 .bf16) (w : Vec Ideal S1024x1792 .bf16) (r : Fin 1024) (n : Fin 1792) :
    k0_pay3 h w (ix3 (0 : Fin 1) r n) = ∑ k : Fin 1024, h (ix2 r k) * w (ix2 k n) := by
  unfold k0_pay3
  refine (shapeCast_apply _ _ (ix3 (0 : Fin 1) r n) (ix2 r n) (by
    rw [Shape.rowMajor_val_three, Shape.rowMajor_val_two]; simp [ix2, ix3])).trans ?_
  exact pay2_apply h w r n

/-- The columns kept apart are the product's from 1408. -/
theorem pay4_apply (h : Vec Ideal S1024x1024 .bf16) (w : Vec Ideal S1024x1792 .bf16) (r : Fin 1024) (l : Fin 128) :
    k0_pay4 h w (ix3 (0 : Fin 1) r l) = ∑ k : Fin 1024, h (ix2 r k) * w (ix2 k (⟨1408 + l.val, by omega⟩ : Fin 1792)) := by
  unfold k0_pay4
  refine (shapeCast_apply _ _ (ix3 (0 : Fin 1) r l) (ix2 r l) (by
    rw [Shape.rowMajor_val_three, Shape.rowMajor_val_two]; simp [ix2, ix3])).trans ?_
  refine (extractStridedSlice_apply ![0, 1408] _ slices_S1024x1792_o0_1408_S1024x128 (ix2 r l) (ix2 r (⟨1408 + l.val, by omega⟩ : Fin 1792)) (fun a => match a with
    | ⟨0, _⟩ => (Nat.zero_add _).symm
    | ⟨1, _⟩ => rfl)).trans ?_
  exact pay2_apply h w r _

/-- The normalised row of token `s` of sequence `b`, from the arrays. -/
def hAt (A0 : Vec Ideal S4x4096x1024 .f32) (A1 : Vec Ideal S4x6x1024 .f32) (A2 : Vec Ideal S1x1024 .f32) (b : Fin 4) (s : Fin 4096) (n : Fin 1024) : EReal :=
  Cert.Kernel3Ideal.Merge.norm (fun k => A0 (ix3 b s k)) (fun k => A2 (ix2 (0 : Fin 1) k)) (fun k => A1 (ix3 b (1 : Fin 6) k)) n + A1 (ix3 b (0 : Fin 6) n)

/-- One column of its projection. -/
def proj (H : Fin 1024 → EReal) (W : Vec Ideal S1024x7168 .bf16) (n : Fin 7168) : EReal := ∑ k : Fin 1024, H k * W (ix2 k n)

/-- The block indices of the windows at a grid point. -/
theorem idx_facts : ∀ t : Fin cfg0.N,
    (win0_0.index t (0 : Fin 3) = t.val / 16 ∧ win0_0.index t (1 : Fin 3) = t.val / 4 % 4 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = t.val % 4)
    ∧ (win0_4.index t (0 : Fin 3) = t.val / 16 ∧ win0_4.index t (1 : Fin 3) = t.val / 4 % 4 ∧ win0_4.index t (2 : Fin 3) = t.val % 4)
    ∧ (win0_5.index t (0 : Fin 3) = t.val / 16 ∧ win0_5.index t (1 : Fin 3) = t.val / 4 % 4 ∧ win0_5.index t (2 : Fin 3) = 0) :=
  (by decide +kernel : ∀ t : Fin grid0.N, _)

variable {m : (ℓ : Loc nD τ sig) → Buf (Elt Ideal) ℓ}

/-- The row of a token, from the arrays the windows read. -/
abbrev rowH (m : (ℓ : Loc nD τ sig) → Buf (Elt Ideal) ℓ) (c : Dev nD) : Fin 4 → Fin 4096 → Fin 1024 → EReal :=
  hAt (V m c main_arg0) (V m c main_arg1) (V m c main_v13)

/-- The row a grid point multiplies is the token's. -/
theorem hrow_apply (c : Dev nD) (t : Fin cfg0.N) (r k : Fin 1024) (b : Fin 4) (s : Fin 4096) (hb : t.val / 16 = b.val)
    (hs : t.val / 4 % 4 * 1024 + r.val = s.val) : hrow m c t.val t.isLt (ix2 r k) = rowH m c b s k := by
  have hd : (head t.val t.isLt).val = t.val / 4 * 4 := rfl
  obtain ⟨⟨a0, b0, c0⟩, ⟨a1, b1, c1⟩, ⟨a2, b2⟩, -, -, -⟩ := idx_facts (head t.val t.isLt)
  rw [hd] at a0 b0 a1
  have h0 : ∀ n : Fin 1024, iblk m c 0 (head t.val t.isLt) (ix3 (0 : Fin 1) r n) = V m c main_arg0 (ix3 b s n) := fun n => by
    show V m c main_arg0 (((cfg0.win 0).blk (head t.val t.isLt)).view.emb (ix3 (0 : Fin 1) r n)) = _
    refine congrArg (V m c main_arg0) (funext fun a => Fin.ext ?_)
    match a with
    | ⟨0, _⟩ => show win0_0.index (head t.val t.isLt) (0 : Fin 3) * 1 + 1 * 0 = b.val; omega
    | ⟨1, _⟩ => show win0_0.index (head t.val t.isLt) (1 : Fin 3) * 1024 + 1 * r.val = s.val; omega
    | ⟨2, _⟩ => show win0_0.index (head t.val t.isLt) (2 : Fin 3) * 1024 + 1 * n.val = n.val; omega
  have h1 : ∀ (j : Fin 6) (n : Fin 1024), iblk m c 1 (head t.val t.isLt) (ix3 (0 : Fin 1) j n) = V m c main_arg1 (ix3 b j n) := fun j n => by
    show V m c main_arg1 (((cfg0.win 1).blk (head t.val t.isLt)).view.emb (ix3 (0 : Fin 1) j n)) = _
    refine congrArg (V m c main_arg1) (funext fun a => Fin.ext ?_)
    match a with
    | ⟨0, _⟩ => show win0_1.index (head t.val t.isLt) (0 : Fin 3) * 1 + 1 * 0 = b.val; omega
    | ⟨1, _⟩ => show win0_1.index (head t.val t.isLt) (1 : Fin 3) * 6 + 1 * j.val = j.val; omega
    | ⟨2, _⟩ => show win0_1.index (head t.val t.isLt) (2 : Fin 3) * 1024 + 1 * n.val = n.val; omega
  have h2 : ∀ n : Fin 1024, iblk m c 2 (head t.val t.isLt) (ix2 (0 : Fin 1) n) = V m c main_v13 (ix2 (0 : Fin 1) n) := fun n => by
    show V m c main_v13 (((cfg0.win 2).blk (head t.val t.isLt)).view.emb (ix2 (0 : Fin 1) n)) = _
    refine congrArg (V m c main_v13) (funext fun a => Fin.ext ?_)
    match a with
    | ⟨0, _⟩ => show win0_2.index (head t.val t.isLt) (0 : Fin 2) * 1 + 1 * 0 = 0; omega
    | ⟨1, _⟩ => show win0_2.index (head t.val t.isLt) (1 : Fin 2) * 1024 + 1 * n.val = n.val; omega
  unfold hrow
  refine (hblk_apply _ _ _ r k).trans ?_
  unfold rowH hAt
  exact congrArg₂ (· + ·) (congrFun (congr (congr (congrArg Cert.Kernel3Ideal.Merge.norm (funext h0)) (funext h2)) (funext fun n => h1 1 n)) k) (h1 0 k)

/-- The weight's block. -/
theorem wblk_apply (c : Dev nD) (t : Fin cfg0.N) (k : Fin 1024) (n : Fin 1792) (g : Fin 7168) (hg : t.val % 4 * 1792 + n.val = g.val) :
    iblk m c 3 t (ix2 k n) = V m c main_v12 (ix2 k g) := by
  obtain ⟨-, -, -, ⟨a3, b3⟩, -, -⟩ := idx_facts t
  show V m c main_v12 (((cfg0.win 3).blk t).view.emb (ix2 k n)) = _
  refine congrArg (V m c main_v12) (funext fun a => Fin.ext ?_)
  match a with
  | ⟨0, _⟩ => show win0_3.index t (0 : Fin 2) * 1024 + 1 * k.val = k.val; omega
  | ⟨1, _⟩ => show win0_3.index t (1 : Fin 2) * 1792 + 1 * n.val = g.val; omega

/-- The two results. -/
def packArr (H : Fin 4 → Fin 4096 → Fin 1024 → EReal) (W : Vec Ideal S1024x7168 .bf16) (i : S4x4096x7168.Idx) : EReal :=
  proj (H (i 0) (i 1)) W (i 2)

/-- Column `l` of the second result. -/
def apartCol (l : Fin 128) : Fin 7168 := ⟨4992 + l.val, by omega⟩

def apartArr (H : Fin 4 → Fin 4096 → Fin 1024 → EReal) (W : Vec Ideal S1024x7168 .bf16) (i : S4x4096x128.Idx) : EReal :=
  proj (H (i 0) (i 1)) W (apartCol (i 2))

theorem left4_apply (c : Dev nD) (t : Fin cfg0.N) (r : Fin 1024) (n : Fin 1792) (b : Fin 4) (s : Fin 4096) (g : Fin 7168) (hb : t.val / 16 = b.val)
    (hs : t.val / 4 % 4 * 1024 + r.val = s.val) (hg : t.val % 4 * 1792 + n.val = g.val) :
    k0_pay3 (hrow m c t.val t.isLt) (iblk m c 3 t) (ix3 (0 : Fin 1) r n) = proj (rowH m c b s) (V m c main_v12) g :=
  (pay3_apply _ _ r n).trans (Finset.sum_congr rfl fun k _ => congrArg₂ (· * ·) (hrow_apply c t r k b s hb hs) (wblk_apply c t k n g hg))

theorem left5_apply (c : Dev nD) (t : Fin cfg0.N) (r : Fin 1024) (l : Fin 128) (b : Fin 4) (s : Fin 4096) (hb : t.val / 16 = b.val)
    (hs : t.val / 4 % 4 * 1024 + r.val = s.val) :
    apart m c t.val t.isLt (ix3 (0 : Fin 1) r l) = proj (rowH m c b s) (V m c main_v12) (apartCol l) := by
  unfold apart
  refine (pay4_apply _ _ r l).trans (Finset.sum_congr rfl fun k _ => congrArg₂ (· * ·) (hrow_apply c t r k b s hb hs) (wblk_apply c _ k _ _ ?_))
  show (t.val / 4 * 4 + 2) % 4 * 1792 + (1408 + l.val) = 4992 + l.val
  omega

/-- What grid point `t` writes back is its block of the result. -/
theorem flushed4_eq (c : Dev nD) (t : Fin cfg0.N) :
    (dats m 0 c).flushed 4 t = ((cfg0.win 4).blk t).view.read (Elt Ideal) (packArr (rowH m c) (V m c main_v12)) := by
  show (cfg0.win 4).cut (grid0.coords t) ((dats m 0 c).after 4 t) = _
  rw [left4]
  funext j
  show k0_pay3 (hrow m c t.val t.isLt) (iblk m c 3 t) j = packArr (rowH m c) (V m c main_v12) (((cfg0.win 4).blk t).view.emb j)
  obtain ⟨-, -, -, -, ⟨u0, u1, u2⟩, -⟩ := idx_facts t
  have hj0 : (j 0).val < 1 := (j 0).isLt
  have hj : j = ix3 (0 : Fin 1) (j 1) (j 2) := (eq_ix3 j).trans (congrArg (fun z : Fin 1 => ix3 z (j 1) (j 2)) (Fin.ext (Nat.lt_one_iff.mp hj0)))
  have he := left4_apply (m := m) c t (j 1) (j 2) ((((cfg0.win 4).blk t).view.emb j) 0) ((((cfg0.win 4).blk t).view.emb j) 1) ((((cfg0.win 4).blk t).view.emb j) 2)
    (by show _ = win0_4.index t (0 : Fin 3) * 1 + 1 * (j 0).val; omega)
    (by show _ = win0_4.index t (1 : Fin 3) * 1024 + 1 * (j 1).val; omega)
    (by show _ = win0_4.index t (2 : Fin 3) * 1792 + 1 * (j 2).val; omega)
  exact (congrArg (k0_pay3 (hrow m c t.val t.isLt) (iblk m c 3 t)) hj).trans he

theorem mem_blk4 (t : Fin cfg0.N) (i : S4x4096x7168.Idx) :
    i ∈ ((cfg0.win 4).blk t).view.set ↔ ∀ a : Fin 3, win0_4.index t a * S1x1024x1792.size a ≤ (i a).val
      ∧ (i a).val < win0_4.index t a * S1x1024x1792.size a + S1x1024x1792.size a :=
  (cfg0.win 4).emb_mem_blk_iff t i

/-- The first result array after the run. -/
theorem final4 (c : Dev nD) : (dats m 0 c).arrAt 4 cfg0.N = packArr (rowH m c) (V m c main_v12) :=
  (dats m 0 c).arrAt_eq_of_cover 4 _ (fun t _ => flushed4_eq c t) fun i => by
    have h0 : (i 0).val < 4 := (i 0).isLt
    have h1 : (i 1).val < 4096 := (i 1).isLt
    have h2 : (i 2).val < 7168 := (i 2).isLt
    have hN : cfg0.N = 64 := N_0
    have ht : (i 0).val * 16 + (i 1).val / 1024 * 4 + (i 2).val / 1792 < cfg0.N := by omega
    obtain ⟨-, -, -, -, ⟨u0, u1, u2⟩, -⟩ := idx_facts ⟨_, ht⟩
    refine ⟨⟨_, ht⟩, flush0_4 _, ?_⟩
    rw [mem_blk4]
    generalize hT : (⟨_, ht⟩ : Fin cfg0.N) = t at u0 u1 u2
    have hv : t.val = (i 0).val * 16 + (i 1).val / 1024 * 4 + (i 2).val / 1792 := congrArg Fin.val hT.symm
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 1024 ≤ (i 1).val ∧ (i 1).val < win0_4.index t (1 : Fin 3) * 1024 + 1024; omega
    | ⟨2, _⟩ => show win0_4.index t (2 : Fin 3) * 1792 ≤ (i 2).val ∧ (i 2).val < win0_4.index t (2 : Fin 3) * 1792 + 1792; omega

/-- What a grid point's buffer of the columns kept apart holds is its block of the second result. -/
theorem flushed5_eq (c : Dev nD) (t : Fin cfg0.N) :
    (dats m 0 c).flushed 5 t = ((cfg0.win 5).blk t).view.read (Elt Ideal) (apartArr (rowH m c) (V m c main_v12)) := by
  show (cfg0.win 5).cut (grid0.coords t) ((dats m 0 c).after 5 t) = _
  rw [left5]
  funext j
  show apart m c t.val t.isLt j = apartArr (rowH m c) (V m c main_v12) (((cfg0.win 5).blk t).view.emb j)
  obtain ⟨-, -, -, -, -, u0, u1, u2⟩ := idx_facts t
  have hj0 : (j 0).val < 1 := (j 0).isLt
  have hj : j = ix3 (0 : Fin 1) (j 1) (j 2) := (eq_ix3 j).trans (congrArg (fun z : Fin 1 => ix3 z (j 1) (j 2)) (Fin.ext (Nat.lt_one_iff.mp hj0)))
  have hn : (((cfg0.win 5).blk t).view.emb j) 2 = (j 2 : Fin 128) := Fin.ext (by
    show win0_5.index t (2 : Fin 3) * 128 + 1 * (j 2).val = (j 2).val; omega)
  have he := left5_apply (m := m) c t (j 1) (j 2) ((((cfg0.win 5).blk t).view.emb j) 0) ((((cfg0.win 5).blk t).view.emb j) 1)
    (by show _ = win0_5.index t (0 : Fin 3) * 1 + 1 * (j 0).val; omega)
    (by show _ = win0_5.index t (1 : Fin 3) * 1024 + 1 * (j 1).val; omega)
  exact (congrArg (apart m c t.val t.isLt) hj).trans (he.trans (congrArg (fun l : Fin 128 => proj (rowH m c ((((cfg0.win 5).blk t).view.emb j) 0)
    ((((cfg0.win 5).blk t).view.emb j) 1)) (V m c main_v12) (apartCol l)) hn.symm))

theorem mem_blk5 (t : Fin cfg0.N) (i : S4x4096x128.Idx) :
    i ∈ ((cfg0.win 5).blk t).view.set ↔ ∀ a : Fin 3, win0_5.index t a * S1x1024x128.size a ≤ (i a).val
      ∧ (i a).val < win0_5.index t a * S1x1024x128.size a + S1x1024x128.size a :=
  (cfg0.win 5).emb_mem_blk_iff t i

/-- The second result array after the run. -/
theorem final5 (c : Dev nD) : (dats m 0 c).arrAt 5 cfg0.N = apartArr (rowH m c) (V m c main_v12) :=
  (dats m 0 c).arrAt_eq_of_cover 5 _ (fun t _ => flushed5_eq c t) fun i => by
    have h0 : (i 0).val < 4 := (i 0).isLt
    have h1 : (i 1).val < 4096 := (i 1).isLt
    have h2 : (i 2).val < 128 := (i 2).isLt
    have hN : cfg0.N = 64 := N_0
    have ht : (i 0).val * 16 + (i 1).val / 1024 * 4 + 3 < cfg0.N := by omega
    obtain ⟨-, -, -, -, -, u0, u1, u2⟩ := idx_facts ⟨_, ht⟩
    refine ⟨⟨_, ht⟩, (flush0_5 _).mpr (by show ((i 0).val * 16 + (i 1).val / 1024 * 4 + 3) % 4 = 3; omega), ?_⟩
    rw [mem_blk5]
    generalize hT : (⟨_, ht⟩ : Fin cfg0.N) = t at u0 u1 u2
    have hv : t.val = (i 0).val * 16 + (i 1).val / 1024 * 4 + 3 := congrArg Fin.val hT.symm
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1024 ≤ (i 1).val ∧ (i 1).val < win0_5.index t (1 : Fin 3) * 1024 + 1024; omega
    | ⟨2, _⟩ => show win0_5.index t (2 : Fin 3) * 128 ≤ (i 2).val ∧ (i 2).val < win0_5.index t (2 : Fin 3) * 128 + 128; omega

end Cert.Kernel4Ideal.InProj

end
-- ==== Proof.InSpec.lean ====
/- The input projection and its reference read at one index of each result, and their equality. -/
module

public import proofs.«01_k».proof.Proof.InArray
public import proofs.«01_k».proof.Proof.Gen.Reference4Ideal.Run
public import proofs.«01_k».proof.Proof.Gen.Reference4Ideal.Read

@[expose] public section

noncomputable section

namespace Cert.Kernel4Ideal.InProj

open Cert.Kernel4Ideal Cert.Kernel4Ideal.Gen Idealize.ShloMosaic Idealize.ShloMosaic.ValueIdx Idealize.ShloMosaic.StableHlo
open Idealize.ShloMosaic.TcCoe
open scoped BigOperators

/-- The packed order of the projection's columns: column `n` of the packed result is this column of the projection, and zero on
    the pad between the second result's columns and the gates. -/
def pick (f : Fin 7008 → EReal) (n : Fin 7168) : EReal :=
  if h0 : n.val < 4096 then f ⟨n.val, by omega⟩
  else if h1 : n.val < 4928 then f ⟨n.val + 32, by omega⟩
  else if h2 : n.val < 4960 then f ⟨n.val, by omega⟩
  else if h3 : n.val < 4992 then f ⟨n.val - 64, by omega⟩
  else if h4 : n.val < 5024 then f ⟨n.val - 896, by omega⟩
  else if h5 : n.val < 5120 then 0
  else f ⟨n.val - 160, by omega⟩

theorem pick_eq (f : Fin 7008 → EReal) (n : Fin 7168) (g : Fin 7008)
    (h : (n.val < 4096 ∧ g.val = n.val) ∨ (4096 ≤ n.val ∧ n.val < 4928 ∧ g.val = n.val + 32) ∨ (4928 ≤ n.val ∧ n.val < 4960 ∧ g.val = n.val)
      ∨ (4960 ≤ n.val ∧ n.val < 4992 ∧ g.val + 64 = n.val) ∨ (4992 ≤ n.val ∧ n.val < 5024 ∧ g.val + 896 = n.val) ∨ (5120 ≤ n.val ∧ g.val + 160 = n.val)) :
    pick f n = f g := by
  unfold pick
  split_ifs <;> first | omega | exact congrArg f (Fin.ext (by simp only []; omega))

theorem pick_zero (f : Fin 7008 → EReal) (n : Fin 7168) (h0 : 5024 ≤ n.val) (h1 : n.val < 5120) : pick f n = 0 := by
  unfold pick
  split_ifs <;> first | rfl | omega

/-- Projecting with the packed weight is packing the projection. -/
theorem pick_sum (H : Fin 1024 → EReal) (w : Fin 1024 → Fin 7008 → EReal) (n : Fin 7168) :
    ∑ k : Fin 1024, H k * pick (w k) n = pick (fun j => ∑ k : Fin 1024, H k * w k j) n := by
  unfold pick
  split_ifs <;> first | rfl | simp only [mul_zero, Finset.sum_const_zero]

/-- The packed weight. -/
def wcat (u0 : FVec Ideal S1024x4096 .f32) (u1 : FVec Ideal S1024x512 .f32) (u2 : FVec Ideal S1024x256 .f32) (u3 u4 : FVec Ideal S1024x64 .f32)
    (u5 u6 : FVec Ideal S1024x16 .f32) (u7 : FVec Ideal S1024x96 .f32) (u8 : FVec Ideal S1024x2048 .f32) : FVec Ideal S1024x7168 .f32 :=
  concatenate S1024x7168 1 [⟨S1024x4096, u0⟩, ⟨S1024x512, u1⟩, ⟨S1024x256, u2⟩, ⟨S1024x64, u3⟩, ⟨S1024x64, u4⟩, ⟨S1024x16, u5⟩, ⟨S1024x16, u6⟩, ⟨S1024x96, u7⟩, ⟨S1024x2048, u8⟩]
    concatenates_S1024x4096_S1024x512_S1024x256_S1024x64_S1024x64_S1024x16_S1024x16_S1024x96_S1024x2048_S1024x7168_d1

section
variable (u0 : FVec Ideal S1024x4096 .f32) (u1 : FVec Ideal S1024x512 .f32) (u2 : FVec Ideal S1024x256 .f32) (u3 u4 : FVec Ideal S1024x64 .f32)
  (u5 u6 : FVec Ideal S1024x16 .f32) (u7 : FVec Ideal S1024x96 .f32) (u8 : FVec Ideal S1024x2048 .f32) (k : Fin 1024) (n : Fin 7168)

theorem wcat_0 (l : Fin 4096) (h : 0 + l.val = n.val) : wcat u0 u1 u2 u3 u4 u5 u6 u7 u8 (ix2 k n) = u0 (ix2 k l) :=
  concatenate_apply_piece (1 : Fin 2) _ _ (ix2 k n) 0 (by simp) S1024x4096 u0 rfl rfl 0 rfl (ix2 k l)
    (fun b hb => match b with | ⟨0, _⟩ => rfl | ⟨1, _⟩ => absurd rfl hb) h

theorem wcat_1 (l : Fin 512) (h : 4096 + l.val = n.val) : wcat u0 u1 u2 u3 u4 u5 u6 u7 u8 (ix2 k n) = u1 (ix2 k l) :=
  concatenate_apply_piece (1 : Fin 2) _ _ (ix2 k n) 1 (by simp) S1024x512 u1 rfl rfl 4096 rfl (ix2 k l)
    (fun b hb => match b with | ⟨0, _⟩ => rfl | ⟨1, _⟩ => absurd rfl hb) h

theorem wcat_2 (l : Fin 256) (h : 4608 + l.val = n.val) : wcat u0 u1 u2 u3 u4 u5 u6 u7 u8 (ix2 k n) = u2 (ix2 k l) :=
  concatenate_apply_piece (1 : Fin 2) _ _ (ix2 k n) 2 (by simp) S1024x256 u2 rfl rfl 4608 rfl (ix2 k l)
    (fun b hb => match b with | ⟨0, _⟩ => rfl | ⟨1, _⟩ => absurd rfl hb) h

theorem wcat_3 (l : Fin 64) (h : 4864 + l.val = n.val) : wcat u0 u1 u2 u3 u4 u5 u6 u7 u8 (ix2 k n) = u3 (ix2 k l) :=
  concatenate_apply_piece (1 : Fin 2) _ _ (ix2 k n) 3 (by simp) S1024x64 u3 rfl rfl 4864 rfl (ix2 k l)
    (fun b hb => match b with | ⟨0, _⟩ => rfl | ⟨1, _⟩ => absurd rfl hb) h

theorem wcat_4 (l : Fin 64) (h : 4928 + l.val = n.val) : wcat u0 u1 u2 u3 u4 u5 u6 u7 u8 (ix2 k n) = u4 (ix2 k l) :=
  concatenate_apply_piece (1 : Fin 2) _ _ (ix2 k n) 4 (by simp) S1024x64 u4 rfl rfl 4928 rfl (ix2 k l)
    (fun b hb => match b with | ⟨0, _⟩ => rfl | ⟨1, _⟩ => absurd rfl hb) h

theorem wcat_5 (l : Fin 16) (h : 4992 + l.val = n.val) : wcat u0 u1 u2 u3 u4 u5 u6 u7 u8 (ix2 k n) = u5 (ix2 k l) :=
  concatenate_apply_piece (1 : Fin 2) _ _ (ix2 k n) 5 (by simp) S1024x16 u5 rfl rfl 4992 rfl (ix2 k l)
    (fun b hb => match b with | ⟨0, _⟩ => rfl | ⟨1, _⟩ => absurd rfl hb) h

theorem wcat_6 (l : Fin 16) (h : 5008 + l.val = n.val) : wcat u0 u1 u2 u3 u4 u5 u6 u7 u8 (ix2 k n) = u6 (ix2 k l) :=
  concatenate_apply_piece (1 : Fin 2) _ _ (ix2 k n) 6 (by simp) S1024x16 u6 rfl rfl 5008 rfl (ix2 k l)
    (fun b hb => match b with | ⟨0, _⟩ => rfl | ⟨1, _⟩ => absurd rfl hb) h

theorem wcat_7 (l : Fin 96) (h : 5024 + l.val = n.val) : wcat u0 u1 u2 u3 u4 u5 u6 u7 u8 (ix2 k n) = u7 (ix2 k l) :=
  concatenate_apply_piece (1 : Fin 2) _ _ (ix2 k n) 7 (by simp) S1024x96 u7 rfl rfl 5024 rfl (ix2 k l)
    (fun b hb => match b with | ⟨0, _⟩ => rfl | ⟨1, _⟩ => absurd rfl hb) h

theorem wcat_8 (l : Fin 2048) (h : 5120 + l.val = n.val) : wcat u0 u1 u2 u3 u4 u5 u6 u7 u8 (ix2 k n) = u8 (ix2 k l) :=
  concatenate_apply_piece (1 : Fin 2) _ _ (ix2 k n) 8 (by simp) S1024x2048 u8 rfl rfl 5120 rfl (ix2 k l)
    (fun b hb => match b with | ⟨0, _⟩ => rfl | ⟨1, _⟩ => absurd rfl hb) h

end

variable (m : (ℓ : Loc nD τ sig) → Buf (Elt Ideal) ℓ)

/-- The arguments on a device. -/
abbrev arg0 (c : Dev nD) : Vec Ideal S4x4096x1024 .f32 := m ((c : Thread nD τ).loc main_arg0)
abbrev arg1 (c : Dev nD) : Vec Ideal S4x6x1024 .f32 := m ((c : Thread nD τ).loc main_arg1)
abbrev arg2 (c : Dev nD) : Vec Ideal S1024 .f32 := m ((c : Thread nD τ).loc main_arg2)
abbrev arg3 (c : Dev nD) : Vec Ideal S1024x7008 .f32 := m ((c : Thread nD τ).loc main_arg3)

/-- The rotary key's columns, and with their halves swapped. -/
abbrev kr (w : Vec Ideal S1024x7008 .f32) : FVec Ideal S1024x64 .f32 := extractStridedSlice S1024x64 ![0, 4896] w slices_S1024x7008_S1024x64_0_4896
def krSwap (w : Vec Ideal S1024x7008 .f32) : FVec Ideal S1024x64 .f32 :=
  concatenate S1024x64 1 [⟨S1024x32, extractStridedSlice S1024x32 ![0, 32] (kr w) slices_S1024x64_S1024x32_0_32⟩,
    ⟨S1024x32, extractStridedSlice S1024x32 ![0, 0] (kr w) slices_S1024x64_S1024x32_0_0⟩] concatenates_S1024x32_S1024x32_S1024x64_d1

theorem V12_eq (c : Dev nD) : (V m c main_v12 : Vec Ideal S1024x7168 .bf16) = truncf (F := Ideal) .bf16
    (wcat (extractStridedSlice S1024x4096 ![0, 0] (arg3 m c) slices_S1024x7008_S1024x4096_0_0)
      (extractStridedSlice S1024x512 ![0, 4128] (arg3 m c) slices_S1024x7008_S1024x512_0_4128)
      (extractStridedSlice S1024x256 ![0, 4640] (arg3 m c) slices_S1024x7008_S1024x256_0_4640)
      (kr (arg3 m c)) (krSwap (arg3 m c))
      (extractStridedSlice S1024x16 ![0, 4096] (arg3 m c) slices_S1024x7008_S1024x16_0_4096)
      (extractStridedSlice S1024x16 ![0, 4112] (arg3 m c) slices_S1024x7008_S1024x16_0_4112)
      (broadcastInDim S1024x96 ![] bcast_S_S1024x96 (constant (F := Ideal) S_ .f32 0x00000000#32))
      (extractStridedSlice S1024x2048 ![0, 4960] (arg3 m c) slices_S1024x7008_S1024x2048_0_4960)) bitsLt_bf16_f32 := by
  show StableHlo.after hostOps0 _ _ = _
  after_results
  rfl

/-- Columns cut out of a weight. -/
theorem cut_apply {p q : ℕ} (o : ℕ) (w : FVec Ideal ⟨2, ![1024, p]⟩ .f32) (h : Shape.Slices ⟨2, ![1024, p]⟩ ![0, o] ⟨2, ![1024, q]⟩) (k : Fin 1024)
    (l : Fin q) (g : Fin p) (hg : g.val = o + l.val) : extractStridedSlice ⟨2, ![1024, q]⟩ ![0, o] w h (ix2 k l) = w (ix2 k g) :=
  extractStridedSlice_apply ![0, o] w h (ix2 k l) (ix2 k g) (fun a => match a with
    | ⟨0, _⟩ => (Nat.zero_add _).symm
    | ⟨1, _⟩ => hg)

theorem krSwap_apply (w : Vec Ideal S1024x7008 .f32) (k : Fin 1024) (l : Fin 64) :
    krSwap w (ix2 k l) = if h : l.val < 32 then w (ix2 k ⟨4928 + l.val, by omega⟩) else w (ix2 k ⟨4864 + l.val, by omega⟩) := by
  have hk : ∀ z : Fin 64, kr w (ix2 k z) = w (ix2 k (⟨4896 + z.val, by omega⟩ : Fin 7008)) := fun z =>
    cut_apply 4896 w _ k z _ rfl
  unfold krSwap
  by_cases h : l.val < 32
  · rw [dif_pos h]
    refine (concatenate_pair_apply_left (s₁ := S1024x32) (s₂ := S1024x32) (1 : Fin 2) _ _ _ (ix2 k l) rfl (ix2 k (⟨l.val, h⟩ : Fin 32)) (fun b => match b with
      | ⟨0, _⟩ => rfl
      | ⟨1, _⟩ => rfl)).trans ?_
    refine (cut_apply 32 (kr w) _ k (⟨l.val, h⟩ : Fin 32) (⟨32 + l.val, by omega⟩ : Fin 64) rfl).trans ?_
    exact (hk _).trans (congrArg (fun z : Fin 7008 => w (ix2 k z)) (Fin.ext (show 4896 + (32 + l.val) = 4928 + l.val by omega)))
  · rw [dif_neg h]
    refine (concatenate_pair_apply_right (s₁ := S1024x32) (s₂ := S1024x32) (1 : Fin 2) _ _ _ (ix2 k l) rfl rfl (ix2 k (⟨l.val - 32, by omega⟩ : Fin 32)) (fun b hb => match b with
      | ⟨0, _⟩ => rfl
      | ⟨1, _⟩ => absurd rfl hb) (show l.val - 32 + 32 = l.val by omega)).trans ?_
    refine (cut_apply 0 (kr w) _ k (⟨l.val - 32, by omega⟩ : Fin 32) (⟨l.val - 32, by omega⟩ : Fin 64) (Nat.zero_add _).symm).trans ?_
    exact (hk _).trans (congrArg (fun z : Fin 7008 => w (ix2 k z)) (Fin.ext (show 4896 + (l.val - 32) = 4864 + l.val by omega)))

/-- The packed weight's columns are the weight's, in the packed order. -/
theorem V12_apply (c : Dev nD) (k : Fin 1024) (n : Fin 7168) :
    (V m c main_v12 : Vec Ideal S1024x7168 .bf16) (ix2 k n) = pick (fun j => arg3 m c (ix2 k j)) n := by
  rw [V12_eq]
  generalize arg3 m c = w
  refine (show _ = _ from rfl : truncf (F := Ideal) .bf16 (wcat _ _ _ _ _ _ _ _ _) bitsLt_bf16_f32 (ix2 k n) = wcat _ _ _ _ _ _ _ _ _ (ix2 k n)).trans ?_
  have hn := n.isLt
  by_cases h0 : n.val < 4096
  · exact (wcat_0 _ _ _ _ _ _ _ _ _ k n (⟨n.val - 0, by omega⟩ : Fin 4096) (show 0 + (n.val - 0) = n.val by omega)).trans
      ((cut_apply 0 w _ k (⟨n.val - 0, by omega⟩ : Fin 4096) (⟨0 + (n.val - 0), by omega⟩ : Fin 7008) rfl).trans (pick_eq (fun j => w (ix2 k j)) n _ (by simp only []; omega)).symm)
  by_cases h1 : n.val < 4608
  · exact (wcat_1 _ _ _ _ _ _ _ _ _ k n (⟨n.val - 4096, by omega⟩ : Fin 512) (show 4096 + (n.val - 4096) = n.val by omega)).trans
      ((cut_apply 4128 w _ k (⟨n.val - 4096, by omega⟩ : Fin 512) (⟨4128 + (n.val - 4096), by omega⟩ : Fin 7008) rfl).trans (pick_eq (fun j => w (ix2 k j)) n _ (by simp only []; omega)).symm)
  by_cases h2 : n.val < 4864
  · exact (wcat_2 _ _ _ _ _ _ _ _ _ k n (⟨n.val - 4608, by omega⟩ : Fin 256) (show 4608 + (n.val - 4608) = n.val by omega)).trans
      ((cut_apply 4640 w _ k (⟨n.val - 4608, by omega⟩ : Fin 256) (⟨4640 + (n.val - 4608), by omega⟩ : Fin 7008) rfl).trans (pick_eq (fun j => w (ix2 k j)) n _ (by simp only []; omega)).symm)
  by_cases h3 : n.val < 4928
  · exact (wcat_3 _ _ _ _ _ _ _ _ _ k n (⟨n.val - 4864, by omega⟩ : Fin 64) (show 4864 + (n.val - 4864) = n.val by omega)).trans
      ((cut_apply 4896 w _ k (⟨n.val - 4864, by omega⟩ : Fin 64) (⟨4896 + (n.val - 4864), by omega⟩ : Fin 7008) rfl).trans (pick_eq (fun j => w (ix2 k j)) n _ (by simp only []; omega)).symm)
  by_cases h4 : n.val < 4992
  · rw [wcat_4 _ _ _ _ _ _ _ _ _ k n ⟨n.val - 4928, by omega⟩ (show 4928 + (n.val - 4928) = n.val by omega)]
    refine (krSwap_apply w k _).trans ?_
    by_cases hs : n.val - 4928 < 32
    · rw [dif_pos hs]
      exact (pick_eq (fun j => w (ix2 k j)) n _ (by simp only []; omega)).symm
    · rw [dif_neg hs]
      exact (pick_eq (fun j => w (ix2 k j)) n _ (by simp only []; omega)).symm
  by_cases h5 : n.val < 5008
  · exact (wcat_5 _ _ _ _ _ _ _ _ _ k n (⟨n.val - 4992, by omega⟩ : Fin 16) (show 4992 + (n.val - 4992) = n.val by omega)).trans
      ((cut_apply 4096 w _ k (⟨n.val - 4992, by omega⟩ : Fin 16) (⟨4096 + (n.val - 4992), by omega⟩ : Fin 7008) rfl).trans (pick_eq (fun j => w (ix2 k j)) n _ (by simp only []; omega)).symm)
  by_cases h6 : n.val < 5024
  · exact (wcat_6 _ _ _ _ _ _ _ _ _ k n (⟨n.val - 5008, by omega⟩ : Fin 16) (show 5008 + (n.val - 5008) = n.val by omega)).trans
      ((cut_apply 4112 w _ k (⟨n.val - 5008, by omega⟩ : Fin 16) (⟨4112 + (n.val - 5008), by omega⟩ : Fin 7008) rfl).trans (pick_eq (fun j => w (ix2 k j)) n _ (by simp only []; omega)).symm)
  by_cases h7 : n.val < 5120
  · rw [wcat_7 _ _ _ _ _ _ _ _ _ k n ⟨n.val - 5024, by omega⟩ (show 5024 + (n.val - 5024) = n.val by omega), pick_zero _ _ (by omega) (by omega)]
    exact (broadcastInDim_apply _ bcast_S_S1024x96 _ _ (fun a => a.elim0) (fun a => a.elim0)).trans Ideal.ofBits_zero_f32
  exact (wcat_8 _ _ _ _ _ _ _ _ _ k n (⟨n.val - 5120, by omega⟩ : Fin 2048) (show 5120 + (n.val - 5120) = n.val by omega)).trans
    ((cut_apply 4960 w _ k (⟨n.val - 5120, by omega⟩ : Fin 2048) (⟨4960 + (n.val - 5120), by omega⟩ : Fin 7008) rfl).trans (pick_eq (fun j => w (ix2 k j)) n _ (by simp only []; omega)).symm)

theorem V13_apply (c : Dev nD) (n : Fin 1024) : (V m c main_v13 : Vec Ideal S1x1024 .f32) (ix2 (0 : Fin 1) n) = arg2 m c (ix1 n) := by
  have hV : (V m c main_v13 : Vec Ideal S1x1024 .f32) = shapeCast S1x1024 (arg2 m c) shapeCasts_S1024_S1x1024 := by
    show StableHlo.after hostOps0 _ _ = _
    after_results
    rfl
  rw [hV]
  exact shapeCast_apply _ _ (ix2 (0 : Fin 1) n) (ix1 n) (by rw [Shape.rowMajor_val_one, Shape.rowMajor_val_two]; simp [ix1, ix2])

end Cert.Kernel4Ideal.InProj

namespace Cert.Reference4Ideal.InProj

open Cert.Reference4Ideal Cert.Reference4Ideal.Gen Cert.Reference4Ideal.Read Idealize.ShloMosaic Idealize.ShloMosaic.ValueIdx
open Cert.Kernel4Ideal.InProj (pick pick_eq pick_zero apartCol)
open scoped BigOperators

variable (x0 : (⟨S4x4096x1024, .f32⟩ : BufTy).Contents (Elt Ideal)) (x1 : (⟨S4x6x1024, .f32⟩ : BufTy).Contents (Elt Ideal))
  (x2 : (⟨S1024, .f32⟩ : BufTy).Contents (Elt Ideal)) (x3 : (⟨S1024x7008, .f32⟩ : BufTy).Contents (Elt Ideal))

/-- The normalised row of token `s` of sequence `b`, from the reference's arguments. -/
def hRow (b : Fin 4) (s : Fin 4096) (n : Fin 1024) : EReal :=
  Cert.Kernel3Ideal.Merge.norm (fun k => x0 (ix3 b s k)) (fun k => x2 (ix1 k)) (fun k => x1 (ix3 b (1 : Fin 6) k)) n + x1 (ix3 b (0 : Fin 6) n)

theorem v20_apply (b : Fin 4) (s : Fin 4096) (n : Fin 1024) : val_main_v20 (F := Ideal) x0 x1 x2 (ix3 b s n) = hRow x0 x1 x2 b s n := by
  have hsum : val_main_v3 (F := Ideal) x0 (ix2 b s) = ∑ k : Fin 1024, x0 (ix3 b s k) * x0 (ix3 b s k) := by
    rw [val_main_v3_apply, val_main_cst_apply]
    refine (congrArg (· + _) Ideal.ofBits_zero_f32).trans ((zero_add _).trans (Finset.sum_congr rfl fun k _ => ?_))
    rw [val_main_v2_apply]
    have hi : idx_main_v3 (ix2 b s) k = ix3 b s k := by
      funext a; apply Fin.ext
      match a with
      | ⟨0, _⟩ => rfl
      | ⟨1, _⟩ => rfl
      | ⟨2, _⟩ => rfl
    rw [hi]
    rfl
  have hr : val_main_v10 (F := Ideal) x0 (ix3 b s n) = Ideal.rsqrt (Ideal.div (∑ k : Fin 1024, x0 (ix3 b s k) * x0 (ix3 b s k))
      (Ideal.ofBits .f32 0x44800000#32) + Ideal.ofBits .f32 0x358637BD#32) := by
    rw [val_main_v10_apply, val_main_v9_apply, val_main_v8_apply, val_main_v7_apply, val_main_cst_1_apply, val_main_v6_apply, val_main_v5_apply,
      val_main_cst_0_apply, val_main_v4_apply]
    refine congrArg (fun z => Ideal.rsqrt (Ideal.div z (Ideal.ofBits .f32 0x44800000#32) + Ideal.ofBits .f32 0x358637BD#32)) ?_
    refine Eq.trans (congrArg (val_main_v3 (F := Ideal) x0) ?_) hsum
    funext a; apply Fin.ext
    match a with
    | ⟨0, _⟩ => rfl
    | ⟨1, _⟩ => rfl
  have hg : val_main_v13 (F := Ideal) x2 (ix3 b s n) = x2 (ix1 n) := by
    rw [val_main_v13_apply, val_main_v12_apply]
    refine congrArg x2 ?_
    funext a; apply Fin.ext
    match a with
    | ⟨0, _⟩ => rfl
  have hc : val_main_v17 (F := Ideal) x1 (ix3 b s n) = Ideal.ofBits .f32 0x3F800000#32 + x1 (ix3 b (1 : Fin 6) n) := by
    rw [val_main_v17_apply, val_main_v16_apply, val_main_v15_apply, val_main_cst_2_apply, val_main_v1_apply]
    refine congrArg (fun i => Ideal.ofBits .f32 0x3F800000#32 + x1 i) ?_
    funext a; apply Fin.ext
    match a with
    | ⟨0, _⟩ => rfl
    | ⟨1, _⟩ => rfl
    | ⟨2, _⟩ => rfl
  have hh : val_main_v19 (F := Ideal) x1 (ix3 b s n) = x1 (ix3 b (0 : Fin 6) n) := by
    rw [val_main_v19_apply, val_main_v0_apply]
    refine congrArg x1 ?_
    funext a; apply Fin.ext
    match a with
    | ⟨0, _⟩ => rfl
    | ⟨1, _⟩ => rfl
    | ⟨2, _⟩ => rfl
  rw [val_main_v20_apply, val_main_v18_apply, val_main_v14_apply, val_main_v11_apply, hr, hg, hc, hh]
  rfl

/-- One column of the projection. -/
def col (b : Fin 4) (s : Fin 4096) (j : Fin 7008) : EReal := ∑ k : Fin 1024, hRow x0 x1 x2 b s k * x3 (ix2 k j)

theorem v21_apply (b : Fin 4) (s : Fin 4096) (j : Fin 7008) : val_main_v21 (F := Ideal) x0 x1 x2 x3 (ix3 b s j) = col x0 x1 x2 x3 b s j := by
  rw [val_main_v21_apply]
  refine Finset.sum_congr rfl fun k _ => congrArg₂ (· * ·) ?_ (congrArg x3 ?_)
  · refine Eq.trans (congrArg (val_main_v20 (F := Ideal) x0 x1 x2) ?_) (v20_apply x0 x1 x2 b s k)
    funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The projection at an index whose coordinates are known. -/
theorem v21_at (b : Fin 4) (s : Fin 4096) (j : Fin 7008) (i : S4x4096x7008.Idx) (h0 : (i 0).val = b.val) (h1 : (i 1).val = s.val) (h2 : (i 2).val = j.val) :
    val_main_v21 (F := Ideal) x0 x1 x2 x3 i = col x0 x1 x2 x3 b s j := by
  refine Eq.trans (congrArg (val_main_v21 (F := Ideal) x0 x1 x2 x3) ?_) (v21_apply x0 x1 x2 x3 b s j)
  funext a; apply Fin.ext
  match a with
  | ⟨0, _⟩ => exact h0
  | ⟨1, _⟩ => exact h1
  | ⟨2, _⟩ => exact h2

/-- The second result's columns are the packed columns from 4992. -/
theorem v31_apply (b : Fin 4) (s : Fin 4096) (l : Fin 128) :
    val_main_v31 (F := Ideal) x0 x1 x2 x3 (ix3 b s l) = pick (col x0 x1 x2 x3 b s) (apartCol l) := by
  unfold val_main_v31
  have hv : (apartCol l).val = 4992 + l.val := rfl
  by_cases h : l.val < 32
  · refine (concatenate_pair_apply_left (s₁ := S4x4096x32) (s₂ := S4x4096x96) (2 : Fin 3) _ _ _ (ix3 b s l) rfl (ix3 b s (⟨l.val, h⟩ : Fin 32)) (fun a => match a with
      | ⟨0, _⟩ => rfl
      | ⟨1, _⟩ => rfl
      | ⟨2, _⟩ => rfl)).trans ?_
    rw [val_main_v23_apply]
    refine (v21_at x0 x1 x2 x3 b s (⟨4096 + l.val, by omega⟩ : Fin 7008) _ rfl rfl rfl).trans ?_
    exact (pick_eq _ _ _ (by simp only []; omega)).symm
  · refine (concatenate_pair_apply_right (s₁ := S4x4096x32) (s₂ := S4x4096x96) (2 : Fin 3) _ _ _ (ix3 b s l) rfl rfl (ix3 b s (⟨l.val - 32, by omega⟩ : Fin 96)) (fun a ha => match a with
      | ⟨0, _⟩ => rfl
      | ⟨1, _⟩ => rfl
      | ⟨2, _⟩ => absurd rfl ha) (show l.val - 32 + 32 = l.val by omega)).trans ?_
    rw [val_main_v30_apply, val_main_cst_3_apply, pick_zero _ _ (by omega) (by omega)]
    exact Ideal.ofBits_zero_f32

section
variable (u0 : FVec Ideal S4x4096x4096 .f32) (u1 : FVec Ideal S4x4096x512 .f32) (u2 : FVec Ideal S4x4096x256 .f32) (u3 u4 u5 u6 : FVec Ideal S4x4096x32 .f32)
  (u7 : FVec Ideal S4x4096x128 .f32) (u8 : FVec Ideal S4x4096x2048 .f32) (b : Fin 4) (s : Fin 4096) (n : Fin 7168)

/-- The packed result. -/
def rcat : FVec Ideal S4x4096x7168 .f32 :=
  concatenate S4x4096x7168 2 [⟨S4x4096x4096, u0⟩, ⟨S4x4096x512, u1⟩, ⟨S4x4096x256, u2⟩, ⟨S4x4096x32, u3⟩, ⟨S4x4096x32, u4⟩, ⟨S4x4096x32, u5⟩, ⟨S4x4096x32, u6⟩,
    ⟨S4x4096x128, u7⟩, ⟨S4x4096x2048, u8⟩]
    concatenates_S4x4096x4096_S4x4096x512_S4x4096x256_S4x4096x32_S4x4096x32_S4x4096x32_S4x4096x32_S4x4096x128_S4x4096x2048_S4x4096x7168_d2

theorem rcat_0 (l : Fin 4096) (h : 0 + l.val = n.val) : rcat u0 u1 u2 u3 u4 u5 u6 u7 u8 (ix3 b s n) = u0 (ix3 b s l) :=
  concatenate_apply_piece (2 : Fin 3) _ _ (ix3 b s n) 0 (by simp) S4x4096x4096 u0 rfl rfl 0 rfl (ix3 b s l)
    (fun a ha => match a with | ⟨0, _⟩ => rfl | ⟨1, _⟩ => rfl | ⟨2, _⟩ => absurd rfl ha) h

theorem rcat_1 (l : Fin 512) (h : 4096 + l.val = n.val) : rcat u0 u1 u2 u3 u4 u5 u6 u7 u8 (ix3 b s n) = u1 (ix3 b s l) :=
  concatenate_apply_piece (2 : Fin 3) _ _ (ix3 b s n) 1 (by simp) S4x4096x512 u1 rfl rfl 4096 rfl (ix3 b s l)
    (fun a ha => match a with | ⟨0, _⟩ => rfl | ⟨1, _⟩ => rfl | ⟨2, _⟩ => absurd rfl ha) h

theorem rcat_2 (l : Fin 256) (h : 4608 + l.val = n.val) : rcat u0 u1 u2 u3 u4 u5 u6 u7 u8 (ix3 b s n) = u2 (ix3 b s l) :=
  concatenate_apply_piece (2 : Fin 3) _ _ (ix3 b s n) 2 (by simp) S4x4096x256 u2 rfl rfl 4608 rfl (ix3 b s l)
    (fun a ha => match a with | ⟨0, _⟩ => rfl | ⟨1, _⟩ => rfl | ⟨2, _⟩ => absurd rfl ha) h

theorem rcat_3 (l : Fin 32) (h : 4864 + l.val = n.val) : rcat u0 u1 u2 u3 u4 u5 u6 u7 u8 (ix3 b s n) = u3 (ix3 b s l) :=
  concatenate_apply_piece (2 : Fin 3) _ _ (ix3 b s n) 3 (by simp) S4x4096x32 u3 rfl rfl 4864 rfl (ix3 b s l)
    (fun a ha => match a with | ⟨0, _⟩ => rfl | ⟨1, _⟩ => rfl | ⟨2, _⟩ => absurd rfl ha) h

theorem rcat_4 (l : Fin 32) (h : 4896 + l.val = n.val) : rcat u0 u1 u2 u3 u4 u5 u6 u7 u8 (ix3 b s n) = u4 (ix3 b s l) :=
  concatenate_apply_piece (2 : Fin 3) _ _ (ix3 b s n) 4 (by simp) S4x4096x32 u4 rfl rfl 4896 rfl (ix3 b s l)
    (fun a ha => match a with | ⟨0, _⟩ => rfl | ⟨1, _⟩ => rfl | ⟨2, _⟩ => absurd rfl ha) h

theorem rcat_5 (l : Fin 32) (h : 4928 + l.val = n.val) : rcat u0 u1 u2 u3 u4 u5 u6 u7 u8 (ix3 b s n) = u5 (ix3 b s l) :=
  concatenate_apply_piece (2 : Fin 3) _ _ (ix3 b s n) 5 (by simp) S4x4096x32 u5 rfl rfl 4928 rfl (ix3 b s l)
    (fun a ha => match a with | ⟨0, _⟩ => rfl | ⟨1, _⟩ => rfl | ⟨2, _⟩ => absurd rfl ha) h

theorem rcat_6 (l : Fin 32) (h : 4960 + l.val = n.val) : rcat u0 u1 u2 u3 u4 u5 u6 u7 u8 (ix3 b s n) = u6 (ix3 b s l) :=
  concatenate_apply_piece (2 : Fin 3) _ _ (ix3 b s n) 6 (by simp) S4x4096x32 u6 rfl rfl 4960 rfl (ix3 b s l)
    (fun a ha => match a with | ⟨0, _⟩ => rfl | ⟨1, _⟩ => rfl | ⟨2, _⟩ => absurd rfl ha) h

theorem rcat_7 (l : Fin 128) (h : 4992 + l.val = n.val) : rcat u0 u1 u2 u3 u4 u5 u6 u7 u8 (ix3 b s n) = u7 (ix3 b s l) :=
  concatenate_apply_piece (2 : Fin 3) _ _ (ix3 b s n) 7 (by simp) S4x4096x128 u7 rfl rfl 4992 rfl (ix3 b s l)
    (fun a ha => match a with | ⟨0, _⟩ => rfl | ⟨1, _⟩ => rfl | ⟨2, _⟩ => absurd rfl ha) h

theorem rcat_8 (l : Fin 2048) (h : 5120 + l.val = n.val) : rcat u0 u1 u2 u3 u4 u5 u6 u7 u8 (ix3 b s n) = u8 (ix3 b s l) :=
  concatenate_apply_piece (2 : Fin 3) _ _ (ix3 b s n) 8 (by simp) S4x4096x2048 u8 rfl rfl 5120 rfl (ix3 b s l)
    (fun a ha => match a with | ⟨0, _⟩ => rfl | ⟨1, _⟩ => rfl | ⟨2, _⟩ => absurd rfl ha) h

end

/-- The packed result's columns are the projection's, in the packed order. -/
theorem v32_apply (b : Fin 4) (s : Fin 4096) (n : Fin 7168) :
    val_main_v32 (F := Ideal) x0 x1 x2 x3 (ix3 b s n) = pick (col x0 x1 x2 x3 b s) n := by
  show rcat (val_main_v22 (F := Ideal) x0 x1 x2 x3) (val_main_v24 (F := Ideal) x0 x1 x2 x3) (val_main_v25 (F := Ideal) x0 x1 x2 x3) (val_main_v28 (F := Ideal) x0 x1 x2 x3)
    (val_main_v29 (F := Ideal) x0 x1 x2 x3) (val_main_v29 (F := Ideal) x0 x1 x2 x3) (val_main_v28 (F := Ideal) x0 x1 x2 x3) (val_main_v31 (F := Ideal) x0 x1 x2 x3)
    (val_main_v27 (F := Ideal) x0 x1 x2 x3) (ix3 b s n) = _
  have hn := n.isLt
  by_cases h0 : n.val < 4096
  · refine (rcat_0 _ _ _ _ _ _ _ _ _ b s n (⟨n.val - 0, by omega⟩ : Fin 4096) (show 0 + (n.val - 0) = n.val by omega)).trans ?_
    rw [val_main_v22_apply]
    refine (v21_at x0 x1 x2 x3 b s (⟨0 + (n.val - 0), by omega⟩ : Fin 7008) _ rfl rfl ?_).trans (pick_eq _ _ _ (by simp only []; omega)).symm
    show n.val - 0 = 0 + (n.val - 0)
    omega
  by_cases h1 : n.val < 4608
  · refine (rcat_1 _ _ _ _ _ _ _ _ _ b s n (⟨n.val - 4096, by omega⟩ : Fin 512) (show 4096 + (n.val - 4096) = n.val by omega)).trans ?_
    rw [val_main_v24_apply]
    refine (v21_at x0 x1 x2 x3 b s (⟨4128 + (n.val - 4096), by omega⟩ : Fin 7008) _ rfl rfl ?_).trans (pick_eq _ _ _ (by simp only []; omega)).symm
    show 4128 + (n.val - 4096) = 4128 + (n.val - 4096)
    omega
  by_cases h2 : n.val < 4864
  · refine (rcat_2 _ _ _ _ _ _ _ _ _ b s n (⟨n.val - 4608, by omega⟩ : Fin 256) (show 4608 + (n.val - 4608) = n.val by omega)).trans ?_
    rw [val_main_v25_apply]
    refine (v21_at x0 x1 x2 x3 b s (⟨4640 + (n.val - 4608), by omega⟩ : Fin 7008) _ rfl rfl ?_).trans (pick_eq _ _ _ (by simp only []; omega)).symm
    show 4640 + (n.val - 4608) = 4640 + (n.val - 4608)
    omega
  by_cases h3 : n.val < 4896
  · refine (rcat_3 _ _ _ _ _ _ _ _ _ b s n (⟨n.val - 4864, by omega⟩ : Fin 32) (show 4864 + (n.val - 4864) = n.val by omega)).trans ?_
    rw [val_main_v28_apply, val_main_v26_apply]
    refine (v21_at x0 x1 x2 x3 b s (⟨4896 + (n.val - 4864), by omega⟩ : Fin 7008) _ rfl rfl ?_).trans (pick_eq _ _ _ (by simp only []; omega)).symm
    show 4896 + (n.val - 4864) = 4896 + (n.val - 4864)
    omega
  by_cases h4 : n.val < 4928
  · refine (rcat_4 _ _ _ _ _ _ _ _ _ b s n (⟨n.val - 4896, by omega⟩ : Fin 32) (show 4896 + (n.val - 4896) = n.val by omega)).trans ?_
    rw [val_main_v29_apply, val_main_v26_apply]
    refine (v21_at x0 x1 x2 x3 b s (⟨4928 + (n.val - 4896), by omega⟩ : Fin 7008) _ rfl rfl ?_).trans (pick_eq _ _ _ (by simp only []; omega)).symm
    show 4896 + (32 + (n.val - 4896)) = 4928 + (n.val - 4896)
    omega
  by_cases h5 : n.val < 4960
  · refine (rcat_5 _ _ _ _ _ _ _ _ _ b s n (⟨n.val - 4928, by omega⟩ : Fin 32) (show 4928 + (n.val - 4928) = n.val by omega)).trans ?_
    rw [val_main_v29_apply, val_main_v26_apply]
    refine (v21_at x0 x1 x2 x3 b s (⟨4928 + (n.val - 4928), by omega⟩ : Fin 7008) _ rfl rfl ?_).trans (pick_eq _ _ _ (by simp only []; omega)).symm
    show 4896 + (32 + (n.val - 4928)) = 4928 + (n.val - 4928)
    omega
  by_cases h6 : n.val < 4992
  · refine (rcat_6 _ _ _ _ _ _ _ _ _ b s n (⟨n.val - 4960, by omega⟩ : Fin 32) (show 4960 + (n.val - 4960) = n.val by omega)).trans ?_
    rw [val_main_v28_apply, val_main_v26_apply]
    refine (v21_at x0 x1 x2 x3 b s (⟨4896 + (n.val - 4960), by omega⟩ : Fin 7008) _ rfl rfl ?_).trans (pick_eq _ _ _ (by simp only []; omega)).symm
    show 4896 + (n.val - 4960) = 4896 + (n.val - 4960)
    omega
  by_cases h7 : n.val < 5120
  · refine (rcat_7 _ _ _ _ _ _ _ _ _ b s n (⟨n.val - 4992, by omega⟩ : Fin 128) (show 4992 + (n.val - 4992) = n.val by omega)).trans ?_
    refine (v31_apply x0 x1 x2 x3 b s _).trans (congrArg (pick _) (Fin.ext ?_))
    show 4992 + (n.val - 4992) = n.val
    omega
  refine (rcat_8 _ _ _ _ _ _ _ _ _ b s n (⟨n.val - 5120, by omega⟩ : Fin 2048) (show 5120 + (n.val - 5120) = n.val by omega)).trans ?_
  rw [val_main_v27_apply]
  refine (v21_at x0 x1 x2 x3 b s (⟨4960 + (n.val - 5120), by omega⟩ : Fin 7008) _ rfl rfl ?_).trans (pick_eq _ _ _ (by simp only []; omega)).symm
  show 4960 + (n.val - 5120) = 4960 + (n.val - 5120)
  omega

end Cert.Reference4Ideal.InProj

namespace Cert.Kernel4Ideal.InProj

open Cert.Kernel4Ideal Cert.Kernel4Ideal.Gen Idealize.ShloMosaic Idealize.ShloMosaic.ValueIdx
open Idealize.ShloMosaic.TcCoe
open scoped BigOperators

variable (m : (ℓ : Loc nD τ sig) → Buf (Elt Ideal) ℓ)

/-- The rows of the call are the reference's. -/
theorem rowH_eq (c : Dev nD) : rowH m c = Cert.Reference4Ideal.InProj.hRow (arg0 m c) (arg1 m c) (arg2 m c) := by
  have e0 : V m c main_arg0 = arg0 m c := V_main_arg0 m c
  have e1 : V m c main_arg1 = arg1 m c := V_main_arg1 m c
  funext b s n
  unfold rowH hAt
  rw [e0, e1]
  exact congrArg (fun g => Cert.Kernel3Ideal.Merge.norm _ g _ n + _) (funext fun k => V13_apply m c k)

/-- A packed column of the call. -/
theorem proj_eq (c : Dev nD) (b : Fin 4) (s : Fin 4096) (n : Fin 7168) :
    proj (rowH m c b s) (V m c main_v12) n = pick (Cert.Reference4Ideal.InProj.col (arg0 m c) (arg1 m c) (arg2 m c) (arg3 m c) b s) n := by
  rw [rowH_eq]
  unfold proj
  refine (Finset.sum_congr rfl fun k _ => congrArg (_ * ·) (V12_apply m c k n)).trans ?_
  exact pick_sum _ (fun k j => arg3 m c (ix2 k j)) n

/-- So the two result arrays are the reference's. -/
theorem packed_eq (c : Dev nD) : (dats m 0 c).arrAt 4 cfg0.N = Cert.Reference4Ideal.Read.val_main_v33 (F := Ideal) (arg0 m c) (arg1 m c) (arg2 m c) (arg3 m c) := by
  rw [final4]
  funext i
  rw [eq_ix3 i]
  exact (proj_eq m c (i 0) (i 1) (i 2)).trans (Cert.Reference4Ideal.InProj.v32_apply (arg0 m c) (arg1 m c) (arg2 m c) (arg3 m c) (i 0) (i 1) (i 2)).symm

theorem apart_eq (c : Dev nD) : (dats m 0 c).arrAt 5 cfg0.N = Cert.Reference4Ideal.Read.val_main_v31 (F := Ideal) (arg0 m c) (arg1 m c) (arg2 m c) (arg3 m c) := by
  rw [final5]
  funext i
  rw [eq_ix3 i]
  exact (proj_eq m c (i 0) (i 1) (apartCol (i 2))).trans (Cert.Reference4Ideal.InProj.v31_apply (arg0 m c) (arg1 m c) (arg2 m c) (arg3 m c) (i 0) (i 1) (i 2)).symm

/-- The run, at the two results and the arguments. -/
theorem run_results (ρ : Dev nD → PrngReg) : θ_run defs (onTc (τ := τ) (main (F := Ideal))) ⟨m, fun _ => 0, ρ⟩ fun r => ∀ c : Dev nD,
      r.2.mem ((c.tc : Thread nD τ).loc main_v14_0) = (dats m 0 c).arrAt 4 cfg0.N
      ∧ r.2.mem ((c.tc : Thread nD τ).loc main_v14_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 4, (h.1 c).1 5, h.2.1 c⟩) (θ_run_and (run_arrays m ρ) (run_frame m ρ))

end Cert.Kernel4Ideal.InProj

end
-- ==== Proof.MlaBlock.lean ====
/- The latent projections over the extended reals: what a grid point writes at one token and one head, by the values
   of that token's row. -/
module

public import proofs.«01_k».proof.Proof.Gen.Kernel5Ideal.Value
public import proofs.«01_k».proof.Proof.AttnRead
public import Idealize.ShloMosaic.Lib.Pipeline.ReadBack
public import Idealize.ShloMosaic.Lib.Pipeline.ValueKit.Tiles
public import Idealize.ShloMosaic.Lib.MatmulPlain
public import Idealize.ShloMosaic.Lib.ValueIdx
public import Idealize.ShloMosaic.Lib.ValueLayout

@[expose] public section

noncomputable section

namespace Cert.Kernel5Ideal.Mla

open Cert.Kernel5Ideal Cert.Kernel5Ideal.Gen Idealize.ShloMosaic Idealize.ShloMosaic.ValueIdx Idealize.ShloMosaic.Tactic
open scoped BigOperators

/-- What one token's queries, keys and values depend on: its two latents, its positional key and that key with its halves
    exchanged, its position, the frequencies and signs of the rotation, the gains of the two norms, and the five weights. -/
@[ext] structure Row where
  cq : Fin 512 → EReal
  ckv : Fin 256 → EReal
  kr : Fin 64 → EReal
  ks : Fin 64 → EReal
  pos : EReal
  invf : Fin 64 → EReal
  sgn : Fin 64 → EReal
  qg : Fin 512 → EReal
  kvg : Fin 256 → EReal
  wqn : Fin 512 → Fin 1024 → EReal
  wqr : Fin 512 → Fin 512 → EReal
  wqs : Fin 512 → Fin 512 → EReal
  wkn : Fin 256 → Fin 1024 → EReal
  wv : Fin 256 → Fin 1024 → EReal

/-- A row over its root mean square, times the gain. -/
def nrm {n : ℕ} (c : EReal) (X g : Fin n → EReal) (k : Fin n) : EReal :=
  X k * Ideal.rsqrt (Ideal.div (∑ j, X j * X j) c + Ideal.ofBits .f32 0x358637BD#32) * g k

/-- The columns of head `h`. -/
def c128 (h : Fin 8) (d : Fin 128) : Fin 1024 := ⟨h.val * 128 + d.val, by omega⟩
def c64 (h : Fin 8) (e : Fin 64) : Fin 512 := ⟨h.val * 64 + e.val, by omega⟩

/-- The scale of the queries. -/
def scale : EReal := Ideal.ofBits .f32 0x3DD53B95#32

section
variable (R : Row)

def Row.hq (k : Fin 512) : EReal := nrm (Ideal.ofBits .f32 0x44000000#32) R.cq R.qg k
def Row.hkv (k : Fin 256) : EReal := nrm (Ideal.ofBits .f32 0x43800000#32) R.ckv R.kvg k
def Row.cos (e : Fin 64) : EReal := Ideal.cos (R.pos * R.invf e)
def Row.sin (e : Fin 64) : EReal := Ideal.sin (R.pos * R.invf e) * R.sgn e

/-- The two parts of a query. -/
def Row.qn (h : Fin 8) (d : Fin 128) : EReal := (∑ k, R.hq k * R.wqn k (c128 h d)) * scale
def Row.qr (h : Fin 8) (e : Fin 64) : EReal :=
  ((∑ k, R.hq k * R.wqr k (c64 h e)) * R.cos e + (∑ k, R.hq k * R.wqs k (c64 h e)) * R.sin e) * scale

/-- The two parts of a key. -/
def Row.kn (h : Fin 8) (d : Fin 128) : EReal := ∑ k, R.hkv k * R.wkn k (c128 h d)
def Row.kp (e : Fin 64) : EReal := R.kr e * R.cos e + R.ks e * R.sin e

def Row.q (h : Fin 8) (d : Fin 192) : EReal := if hd : d.val < 128 then R.qn h ⟨d.val, hd⟩ else R.qr h ⟨d.val - 128, by omega⟩
def Row.k (h : Fin 8) (d : Fin 192) : EReal := if hd : d.val < 128 then R.kn h ⟨d.val, hd⟩ else R.kp ⟨d.val - 128, by omega⟩
def Row.v (h : Fin 8) (d : Fin 128) : EReal := ∑ k, R.hkv k * R.wv k (c128 h d)

end

theorem dotq_eq : dot_S512x512_S512x1024_S512x1024_1_0_0_1_n_n = DotDims.plain 512 512 1024 := rfl
theorem dotr_eq : dot_S512x512_S512x512_S512x512_1_0_0_1_n_n = DotDims.plain 512 512 512 := rfl
theorem dotk_eq : dot_S512x256_S256x1024_S512x1024_1_0_0_1_n_n = DotDims.plain 512 256 1024 := rfl

/-- A plain product from zero, the second factor under a cast that changes nothing. -/
theorem prod_apply {M K N : ℕ} (a : FVec Ideal ⟨2, ![M, K]⟩ .bf16) (w : FVec Ideal ⟨2, ![K, N]⟩ .bf16)
    (hc : Shape.ShapeCasts ⟨2, ![K, N]⟩ ⟨2, ![K, N]⟩) (r : Fin M) (n : Fin N) :
    matmul (DotDims.plain M K N) none a (shapeCast ⟨2, ![K, N]⟩ w hc) (constant ⟨2, ![M, N]⟩ .f32 0x00000000#32) (ix2 r n)
      = ∑ k : Fin K, a (ix2 r k) * w (ix2 k n) := by
  refine (Ideal.matmul_plain_apply none _ _ _ r n).trans ?_
  rw [constant_apply, Ideal.ofBits_zero_f32, zero_add]
  exact Finset.sum_congr rfl fun k _ => congrArg (a (ix2 r k) * ·) (shapeCast_apply w _ (ix2 k n) (ix2 k n) rfl)

/-- The sum of a row. -/
theorem sum_apply {n : ℕ} (y : FVec Ideal ⟨2, ![512, n]⟩ .f32) (hr : Shape.Reduces ⟨2, ![512, n]⟩ [1] S512) (r : Fin 512) :
    shapeCast S512x1 (multiReduction .add [1] S512 y 0x00000000#32 hr (.inl rfl) rfl) shapeCasts_S512_S512x1 (ix2 r (0 : Fin 1))
      = ∑ k : Fin n, y (ix2 r k) := by
  rw [shapeCast_apply _ _ (ix2 r (0 : Fin 1)) (ix1 r) (by
    rw [Shape.rowMajor_val_one, Shape.rowMajor_val_two]; simp [ix1, ix2])]
  refine (Ideal.multiReduction_add_single _ _ _ _ _ _).trans (Finset.sum_congr rfl fun k _ => congrArg y ?_)
  funext a; apply Fin.ext
  match a with
  | ⟨0, _⟩ => rfl
  | ⟨1, _⟩ => rfl

/-- A row of columns, spread over the tokens; a column of tokens, spread over the columns. -/
theorem row_apply {n : ℕ} {e : EltTy} (v : Vec Ideal ⟨2, ![1, n]⟩ e) (hb : Shape.Broadcasts ⟨2, ![1, n]⟩ ⟨2, ![512, n]⟩) (hn : n ≠ 1) (r : Fin 512) (k : Fin n) :
    broadcastTo ⟨2, ![512, n]⟩ v hb (ix2 r k) = v (ix2 (0 : Fin 1) k) :=
  broadcastTo_apply v hb (ix2 r k) (ix2 (0 : Fin 1) k) fun a => match a with
    | ⟨0, _⟩ => rfl
    | ⟨1, _⟩ => (if_neg hn).symm

theorem colm_apply {n : ℕ} (v : FVec Ideal S512x1 .f32) (hb : Shape.Broadcasts S512x1 ⟨2, ![512, n]⟩) (r : Fin 512) (k : Fin n) :
    broadcastTo ⟨2, ![512, n]⟩ v hb (ix2 r k) = v (ix2 r (0 : Fin 1)) :=
  broadcastTo_apply v hb (ix2 r k) (ix2 r (0 : Fin 1)) fun a => match a with
    | ⟨0, _⟩ => rfl
    | ⟨1, _⟩ => rfl

/-- A block of rows over their root mean squares, times the gain. -/
theorem nrm_apply {n : ℕ} (c : BitVec 32) (x : FVec Ideal ⟨2, ![512, n]⟩ .f32) (g : FVec Ideal ⟨2, ![1, n]⟩ .f32)
    (hr : Shape.Reduces ⟨2, ![512, n]⟩ [1] S512) (hb : Shape.Broadcasts S512x1 ⟨2, ![512, n]⟩)
    (hg : Shape.Broadcasts ⟨2, ![1, n]⟩ ⟨2, ![512, n]⟩) (hc : Shape.ShapeCasts ⟨2, ![1, n]⟩ ⟨2, ![1, n]⟩) (hn : n ≠ 1) (r : Fin 512) (k : Fin n) :
    mulf (mulf x (broadcastTo ⟨2, ![512, n]⟩ (rsqrt (addf (divf (shapeCast S512x1 (multiReduction .add [1] S512 (mulf x x) 0x00000000#32 hr (.inl rfl) rfl)
      shapeCasts_S512_S512x1) (broadcast S512x1 (Scalar.ofBits .f32 c))) (broadcast S512x1 (Scalar.ofBits .f32 0x358637BD#32)))) hb))
      (broadcastTo ⟨2, ![512, n]⟩ (shapeCast ⟨2, ![1, n]⟩ g hc) hg) (ix2 r k)
      = nrm (Ideal.ofBits .f32 c) (fun j => x (ix2 r j)) (fun j => g (ix2 (0 : Fin 1) j)) k := by
  rw [mulf_apply, mulf_apply, row_apply (e := .f32) _ _ hn, colm_apply]
  refine congrArg₂ (· * ·) (congrArg (x (ix2 r k) * ·) ?_) (shapeCast_apply g _ (ix2 (0 : Fin 1) k) (ix2 (0 : Fin 1) k) rfl)
  exact congrArg (fun s => Ideal.rsqrt (Ideal.div s (Ideal.ofBits .f32 c) + Ideal.ofBits .f32 0x358637BD#32)) (sum_apply (mulf x x) hr r)

theorem pay5_apply (v0 : Vec Ideal S1x512x512 .bf16) (v13 : Vec Ideal S1x512 .f32) (r k : Fin 512) :
    k0_pay5 v0 v13 (ix2 r k) = nrm (Ideal.ofBits .f32 0x44000000#32) (fun j => v0 (ix3 (0 : Fin 1) r j)) (fun j => v13 (ix2 (0 : Fin 1) j)) k := by
  refine (nrm_apply 0x44000000#32 (extf .f32 (shapeCast S512x512 v0 shapeCasts_S1x512x512_S512x512 : FVec Ideal S512x512 .bf16) bitsLt_bf16_f32) v13
    reduces_S512x512_S512 broadcasts_S512x1_S512x512 broadcasts_S1x512_S512x512 shapeCasts_S1x512_S1x512 (by decide) r k).trans ?_
  refine congrArg (fun X : Fin 512 → EReal => nrm _ X _ k) (funext fun j => ?_)
  exact congrArg v0 (reshapeEquiv_ix2_1ab _ r j)

theorem pay12_apply (v41 : Vec Ideal S1x512x256 .bf16) (v54 : Vec Ideal S1x256 .f32) (r : Fin 512) (k : Fin 256) :
    k0_pay12 v41 v54 (ix2 r k) = nrm (Ideal.ofBits .f32 0x43800000#32) (fun j => v41 (ix3 (0 : Fin 1) r j)) (fun j => v54 (ix2 (0 : Fin 1) j)) k := by
  refine (nrm_apply 0x43800000#32 (extf .f32 (shapeCast S512x256 v41 shapeCasts_S1x512x256_S512x256 : FVec Ideal S512x256 .bf16) bitsLt_bf16_f32) v54
    reduces_S512x256_S512 broadcasts_S512x1_S512x256 broadcasts_S1x256_S512x256 shapeCasts_S1x256_S1x256 (by decide) r k).trans ?_
  refine congrArg (fun X : Fin 256 → EReal => nrm _ X _ k) (funext fun j => ?_)
  exact congrArg v41 (reshapeEquiv_ix2_1ab _ r j)

/-- The rotation's angles, and its cosines and signed sines. -/
theorem pay9_apply (v27 : Vec Ideal S1x512x1 .i32) (v30 : Vec Ideal S1x64 .f32) (r : Fin 512) (e : Fin 64) :
    k0_pay9 v27 v30 (ix2 r e) = FloatOps.sitofp (F := Ideal) .f32 (v27 (ix3 (0 : Fin 1) r (0 : Fin 1))) * v30 (ix2 (0 : Fin 1) e) := by
  unfold k0_pay9
  rw [mulf_apply, row_apply (e := .f32) _ _ (by decide), colm_apply]
  refine congrArg₂ (· * ·) ?_ (shapeCast_apply v30 _ (ix2 (0 : Fin 1) e) (ix2 (0 : Fin 1) e) rfl)
  exact congrArg (fun z => FloatOps.sitofp (F := Ideal) .f32 (v27 z)) (reshapeEquiv_ix2_1ab _ r (0 : Fin 1))

theorem pay11_apply (v34 : FVec Ideal S512x64 .f32) (v37 : Vec Ideal S1x64 .f32) (r : Fin 512) (e : Fin 64) :
    k0_pay11 v34 v37 (ix2 r e) = Ideal.sin (v34 (ix2 r e)) * v37 (ix2 (0 : Fin 1) e) := by
  unfold k0_pay11
  rw [mulf_apply, row_apply (e := .f32) _ _ (by decide)]
  exact congrArg₂ (· * ·) rfl (shapeCast_apply v37 _ (ix2 (0 : Fin 1) e) (ix2 (0 : Fin 1) e) rfl)

/-- A span of columns. -/
theorem cut_apply {p q : ℕ} (o : ℕ) (w : FVec Ideal ⟨2, ![512, p]⟩ .f32) (h : Shape.Slices ⟨2, ![512, p]⟩ ![0, o] ⟨2, ![512, q]⟩) (r : Fin 512)
    (l : Fin q) (g : Fin p) (hg : g.val = o + l.val) : extractStridedSlice ⟨2, ![512, q]⟩ ![0, o] w h (ix2 r l) = w (ix2 r g) :=
  extractStridedSlice_apply ![0, o] w h (ix2 r l) (ix2 r g) fun a => match a with
    | ⟨0, _⟩ => (Nat.zero_add _).symm
    | ⟨1, _⟩ => hg

theorem pay15_apply (v34 v35 : FVec Ideal S512x64 .f32) (v37 : Vec Ideal S1x64 .f32) (v65 : Vec Ideal S1x512x128 .bf16) (r : Fin 512) (e : Fin 64) :
    k0_pay15 v34 v35 v37 v65 (ix2 r e) = v65 (ix3 (0 : Fin 1) r (⟨e.val, by omega⟩ : Fin 128)) * v35 (ix2 r e)
      + v65 (ix3 (0 : Fin 1) r (⟨64 + e.val, by omega⟩ : Fin 128)) * k0_pay11 v34 v37 (ix2 r e) := by
  have hx : ∀ l : Fin 128, (extf .f32 (shapeCast S512x128 v65 shapeCasts_S1x512x128_S512x128 : FVec Ideal S512x128 .bf16) bitsLt_bf16_f32 : FVec Ideal S512x128 .f32) (ix2 r l)
      = v65 (ix3 (0 : Fin 1) r l) := fun l => congrArg v65 (reshapeEquiv_ix2_1ab _ r l)
  rw [← hx, ← hx]
  unfold k0_pay15
  generalize k0_pay11 v34 v37 = s
  generalize (extf .f32 (shapeCast S512x128 v65 shapeCasts_S1x512x128_S512x128 : FVec Ideal S512x128 .bf16) bitsLt_bf16_f32 : FVec Ideal S512x128 .f32) = w
  exact congrArg₂ (· + ·) (congrArg (· * _) (cut_apply 0 w slices_S512x128_o0_0_S512x64 r e (⟨e.val, by omega⟩ : Fin 128) (Nat.zero_add _).symm))
    (congrArg (· * _) (cut_apply 64 w slices_S512x128_o0_64_S512x64 r e (⟨64 + e.val, by omega⟩ : Fin 128) rfl))

/-- A stored piece of 128 or of 64 columns, read at its own index. -/
theorem lay_apply {n : ℕ} {φ : FTy} (p : FVec Ideal ⟨2, ![512, n]⟩ φ) (hc : Shape.ShapeCasts ⟨2, ![512, n]⟩ ⟨4, ![1, 1, 512, n]⟩) (r : Fin 512) (d : Fin n) :
    shapeCast ⟨4, ![1, 1, 512, n]⟩ p hc (ix4 (0 : Fin 1) (0 : Fin 1) r d) = p (ix2 r d) :=
  shapeCast_apply _ _ (ix4 (0 : Fin 1) (0 : Fin 1) r d) (ix2 r d) (by
    rw [Shape.rowMajor_val_four, Shape.rowMajor_val_two]; simp [ix2, ix4]
    show r.val * n + d.val = ((0 + 0) * 512 + r.val) * n + d.val
    simp)

/-- Head `h`'s unrotated query piece, its rotated one, and an unscaled piece. -/
def nope (o : ℕ) (hs : Shape.Slices S512x1024 ![0, o] S512x128) (v : FVec Ideal S512x1024 .f32) : FVec Ideal S1x1x512x128 .bf16 :=
  shapeCast S1x1x512x128 (truncf .bf16 (mulf (extractStridedSlice S512x128 ![0, o] v hs) (broadcast S512x128 (Scalar.ofBits .f32 0x3DD53B95#32))) bitsLt_bf16_f32)
    shapeCasts_S512x128_S1x1x512x128

def rope (o : ℕ) (hs : Shape.Slices S512x512 ![0, o] S512x64) (a b : FVec Ideal S512x512 .f32) (c s : FVec Ideal S512x64 .f32) : FVec Ideal S1x1x512x64 .bf16 :=
  shapeCast S1x1x512x64 (truncf .bf16 (mulf (addf (mulf (extractStridedSlice S512x64 ![0, o] a hs) c) (mulf (extractStridedSlice S512x64 ![0, o] b hs) s))
    (broadcast S512x64 (Scalar.ofBits .f32 0x3DD53B95#32))) bitsLt_bf16_f32) shapeCasts_S512x64_S1x1x512x64

def span (o : ℕ) (hs : Shape.Slices S512x1024 ![0, o] S512x128) (v : FVec Ideal S512x1024 .f32) : FVec Ideal S1x1x512x128 .bf16 :=
  shapeCast S1x1x512x128 (truncf .bf16 (extractStridedSlice S512x128 ![0, o] v hs) bitsLt_bf16_f32) shapeCasts_S512x128_S1x1x512x128

theorem nope_apply (o : ℕ) (hs : Shape.Slices S512x1024 ![0, o] S512x128) (v : FVec Ideal S512x1024 .f32) (r : Fin 512) (d : Fin 128) (g : Fin 1024)
    (hg : g.val = o + d.val) : nope o hs v (ix4 (0 : Fin 1) (0 : Fin 1) r d) = v (ix2 r g) * scale :=
  (lay_apply _ _ r d).trans (congrArg (· * scale) (cut_apply o v hs r d g hg))

theorem span_apply (o : ℕ) (hs : Shape.Slices S512x1024 ![0, o] S512x128) (v : FVec Ideal S512x1024 .f32) (r : Fin 512) (d : Fin 128) (g : Fin 1024)
    (hg : g.val = o + d.val) : span o hs v (ix4 (0 : Fin 1) (0 : Fin 1) r d) = v (ix2 r g) :=
  (lay_apply _ _ r d).trans (cut_apply o v hs r d g hg)

theorem rope_apply (o : ℕ) (hs : Shape.Slices S512x512 ![0, o] S512x64) (a b : FVec Ideal S512x512 .f32) (c s : FVec Ideal S512x64 .f32) (r : Fin 512) (e : Fin 64)
    (g : Fin 512) (hg : g.val = o + e.val) :
    rope o hs a b c s (ix4 (0 : Fin 1) (0 : Fin 1) r e) = (a (ix2 r g) * c (ix2 r e) + b (ix2 r g) * s (ix2 r e)) * scale :=
  (lay_apply _ _ r e).trans (congrArg (· * scale) (congrArg₂ (· + ·) (congrArg (· * _) (cut_apply o a hs r e g hg)) (congrArg (· * _) (cut_apply o b hs r e g hg))))

/-- The row of token `r` of a grid point's blocks. -/
def rowOf (x0 : Vec Ideal S1x512x512 .bf16) (x1 : Vec Ideal S1x512x256 .bf16) (x2 : Vec Ideal S1x512x128 .bf16) (x3 : Vec Ideal S1x512x1 .i32)
    (x4 x5 : Vec Ideal S1x64 .f32) (x6 : Vec Ideal S1x512 .f32) (x7 : Vec Ideal S1x256 .f32) (x8 : Vec Ideal S512x1024 .bf16) (x9 x10 : Vec Ideal S512x512 .bf16)
    (x11 x12 : Vec Ideal S256x1024 .bf16) (r : Fin 512) : Row where
  cq k := x0 (ix3 (0 : Fin 1) r k)
  ckv k := x1 (ix3 (0 : Fin 1) r k)
  kr e := x2 (ix3 (0 : Fin 1) r (⟨e.val, by omega⟩ : Fin 128))
  ks e := x2 (ix3 (0 : Fin 1) r (⟨64 + e.val, by omega⟩ : Fin 128))
  pos := FloatOps.sitofp (F := Ideal) .f32 (x3 (ix3 (0 : Fin 1) r (0 : Fin 1)))
  invf e := x4 (ix2 (0 : Fin 1) e)
  sgn e := x5 (ix2 (0 : Fin 1) e)
  qg k := x6 (ix2 (0 : Fin 1) k)
  kvg k := x7 (ix2 (0 : Fin 1) k)
  wqn k n := x8 (ix2 k n)
  wqr k n := x9 (ix2 k n)
  wqs k n := x10 (ix2 k n)
  wkn k n := x11 (ix2 k n)
  wv k n := x12 (ix2 k n)

/-- The three blocks from the rows of their tokens. -/
def qBlk (R : Fin 512 → Row) (y : S1x8x512x192.Idx) : EReal := (R (y 2)).q (y 1) (y 3)
def kBlk (R : Fin 512 → Row) (y : S1x8x512x192.Idx) : EReal := (R (y 2)).k (y 1) (y 3)
def vBlk (R : Fin 512 → Row) (y : S1x8x512x128.Idx) : EReal := (R (y 2)).v (y 1) (y 3)

/-- An index of a stored piece, its first two coordinates being zero. -/
theorem eq_piece {n : ℕ} (x : Shape.Idx ⟨4, ![1, 1, 512, n]⟩) : x = ix4 (0 : Fin 1) (0 : Fin 1) (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem q_low (R : Row) (h : Fin 8) (d : Fin 192) (e : Fin 128) (he : d.val = e.val) : R.q h d = R.qn h e := by
  unfold Row.q
  rw [dif_pos (by omega)]
  exact congrArg (R.qn h) (Fin.ext he)

theorem q_high (R : Row) (h : Fin 8) (d : Fin 192) (e : Fin 64) (he : d.val = 128 + e.val) : R.q h d = R.qr h e := by
  unfold Row.q
  rw [dif_neg (by omega)]
  exact congrArg (R.qr h) (Fin.ext (by show d.val - 128 = e.val; omega))

theorem k_low (R : Row) (h : Fin 8) (d : Fin 192) (e : Fin 128) (he : d.val = e.val) : R.k h d = R.kn h e := by
  unfold Row.k
  rw [dif_pos (by omega)]
  exact congrArg (R.kn h) (Fin.ext he)

theorem k_high (R : Row) (h : Fin 8) (d : Fin 192) (e : Fin 64) (he : d.val = 128 + e.val) : R.k h d = R.kp e := by
  unfold Row.k
  rw [dif_neg (by omega)]
  exact congrArg R.kp (Fin.ext (by show d.val - 128 = e.val; omega))

section
variable (x0 : Vec Ideal S1x512x512 .bf16) (x1 : Vec Ideal S1x512x256 .bf16) (x2 : Vec Ideal S1x512x128 .bf16) (x3 : Vec Ideal S1x512x1 .i32)
  (x4 x5 : Vec Ideal S1x64 .f32) (x6 : Vec Ideal S1x512 .f32) (x7 : Vec Ideal S1x256 .f32) (x8 : Vec Ideal S512x1024 .bf16) (x9 x10 : Vec Ideal S512x512 .bf16)
  (x11 x12 : Vec Ideal S256x1024 .bf16)

theorem qn_apply (r : Fin 512) (n : Fin 1024) : k0_pay6 x0 x6 x8 (ix2 r n) = ∑ k, (rowOf x0 x1 x2 x3 x4 x5 x6 x7 x8 x9 x10 x11 x12 r).hq k * x8 (ix2 k n) := by
  unfold k0_pay6
  rw [dotq_eq]
  exact (prod_apply (k0_pay5 x0 x6) x8 shapeCasts_S512x1024_S512x1024 r n).trans (Finset.sum_congr rfl fun k _ => congrArg (· * _) (pay5_apply x0 x6 r k))

theorem qr_apply (r n : Fin 512) : k0_pay7 x0 x6 x9 (ix2 r n) = ∑ k, (rowOf x0 x1 x2 x3 x4 x5 x6 x7 x8 x9 x10 x11 x12 r).hq k * x9 (ix2 k n) := by
  unfold k0_pay7
  rw [dotr_eq]
  exact (prod_apply (k0_pay5 x0 x6) x9 shapeCasts_S512x512_S512x512 r n).trans (Finset.sum_congr rfl fun k _ => congrArg (· * _) (pay5_apply x0 x6 r k))

theorem kn_apply (r : Fin 512) (n : Fin 1024) : k0_pay13 x1 x7 x11 (ix2 r n) = ∑ k, (rowOf x0 x1 x2 x3 x4 x5 x6 x7 x8 x9 x10 x11 x12 r).hkv k * x11 (ix2 k n) := by
  unfold k0_pay13
  rw [dotk_eq]
  exact (prod_apply (k0_pay12 x1 x7) x11 shapeCasts_S256x1024_S256x1024 r n).trans (Finset.sum_congr rfl fun k _ => congrArg (· * _) (pay12_apply x1 x7 r k))

theorem cos_apply (r : Fin 512) (e : Fin 64) : k0_pay10 x3 x4 (ix2 r e) = (rowOf x0 x1 x2 x3 x4 x5 x6 x7 x8 x9 x10 x11 x12 r).cos e :=
  congrArg Ideal.cos (pay9_apply x3 x4 r e)

theorem sin_apply (r : Fin 512) (e : Fin 64) : k0_pay11 (k0_pay9 x3 x4) x5 (ix2 r e) = (rowOf x0 x1 x2 x3 x4 x5 x6 x7 x8 x9 x10 x11 x12 r).sin e :=
  (pay11_apply _ _ r e).trans (congrArg (fun z => Ideal.sin z * _) (pay9_apply x3 x4 r e))

theorem qs_apply (r n : Fin 512) : k0_pay8 x0 x6 x10 (ix2 r n) = ∑ k, ((rowOf x0 x1 x2 x3 x4 x5 x6 x7 x8 x9 x10 x11 x12) r).hq k * x10 (ix2 k n) := by
  unfold k0_pay8
  rw [dotr_eq]
  exact (prod_apply (k0_pay5 x0 x6) x10 shapeCasts_S512x512_S512x512 r n).trans (Finset.sum_congr rfl fun k _ => congrArg (· * _) (pay5_apply x0 x6 r k))

theorem vv_apply (r : Fin 512) (n : Fin 1024) : k0_pay14 x1 x7 x12 (ix2 r n) = ∑ k, ((rowOf x0 x1 x2 x3 x4 x5 x6 x7 x8 x9 x10 x11 x12) r).hkv k * x12 (ix2 k n) := by
  unfold k0_pay14
  rw [dotk_eq]
  exact (prod_apply (k0_pay12 x1 x7) x12 shapeCasts_S256x1024_S256x1024 r n).trans (Finset.sum_congr rfl fun k _ => congrArg (· * _) (pay12_apply x1 x7 r k))

/-- Where each kind of piece is stored. -/
theorem q_emb_low (R : Fin 512 → Row) (h : Fin 8) (ho : ∀ a, ![0, h.val, 0, 0] a + S1x1x512x128.size a ≤ S1x8x512x192.size a) (x : S1x1x512x128.Idx) :
    qBlk R ((Rect.unit (s := S1x8x512x192) ![0, h.val, 0, 0] S1x1x512x128.size ho).emb x) = (R (x 2)).qn h (x 3) := by
  have h1 : (x 1).val < 1 := (x 1).isLt
  have e1 : ((Rect.unit (s := S1x8x512x192) ![0, h.val, 0, 0] S1x1x512x128.size ho).emb x) 1 = h := Fin.ext (by show h.val + 1 * (x 1).val = h.val; omega)
  have e2 : ((Rect.unit (s := S1x8x512x192) ![0, h.val, 0, 0] S1x1x512x128.size ho).emb x) 2 = (x 2 : Fin 512) := Fin.ext (by show 0 + 1 * (x 2).val = (x 2).val; omega)
  exact (congrArg (fun r : Fin 512 => (R r).q _ _) e2).trans ((congrArg (fun g : Fin 8 => (R (x 2)).q g _) e1).trans
    (q_low _ _ _ (x 3) (by show 0 + 1 * (x 3).val = (x 3).val; omega)))

theorem q_emb_high (R : Fin 512 → Row) (h : Fin 8) (ho : ∀ a, ![0, h.val, 0, 128] a + S1x1x512x64.size a ≤ S1x8x512x192.size a) (x : S1x1x512x64.Idx) :
    qBlk R ((Rect.unit (s := S1x8x512x192) ![0, h.val, 0, 128] S1x1x512x64.size ho).emb x) = (R (x 2)).qr h (x 3) := by
  have h1 : (x 1).val < 1 := (x 1).isLt
  have e1 : ((Rect.unit (s := S1x8x512x192) ![0, h.val, 0, 128] S1x1x512x64.size ho).emb x) 1 = h := Fin.ext (by show h.val + 1 * (x 1).val = h.val; omega)
  have e2 : ((Rect.unit (s := S1x8x512x192) ![0, h.val, 0, 128] S1x1x512x64.size ho).emb x) 2 = (x 2 : Fin 512) := Fin.ext (by show 0 + 1 * (x 2).val = (x 2).val; omega)
  exact (congrArg (fun r : Fin 512 => (R r).q _ _) e2).trans ((congrArg (fun g : Fin 8 => (R (x 2)).q g _) e1).trans
    (q_high _ _ _ (x 3) (by show 128 + 1 * (x 3).val = 128 + (x 3).val; omega)))

theorem k_emb_low (R : Fin 512 → Row) (h : Fin 8) (ho : ∀ a, ![0, h.val, 0, 0] a + S1x1x512x128.size a ≤ S1x8x512x192.size a) (x : S1x1x512x128.Idx) :
    kBlk R ((Rect.unit (s := S1x8x512x192) ![0, h.val, 0, 0] S1x1x512x128.size ho).emb x) = (R (x 2)).kn h (x 3) := by
  have h1 : (x 1).val < 1 := (x 1).isLt
  have e1 : ((Rect.unit (s := S1x8x512x192) ![0, h.val, 0, 0] S1x1x512x128.size ho).emb x) 1 = h := Fin.ext (by show h.val + 1 * (x 1).val = h.val; omega)
  have e2 : ((Rect.unit (s := S1x8x512x192) ![0, h.val, 0, 0] S1x1x512x128.size ho).emb x) 2 = (x 2 : Fin 512) := Fin.ext (by show 0 + 1 * (x 2).val = (x 2).val; omega)
  exact (congrArg (fun r : Fin 512 => (R r).k _ _) e2).trans ((congrArg (fun g : Fin 8 => (R (x 2)).k g _) e1).trans
    (k_low _ _ _ (x 3) (by show 0 + 1 * (x 3).val = (x 3).val; omega)))

theorem k_emb_high (R : Fin 512 → Row) (h : Fin 8) (ho : ∀ a, ![0, h.val, 0, 128] a + S1x1x512x64.size a ≤ S1x8x512x192.size a) (x : S1x1x512x64.Idx) :
    kBlk R ((Rect.unit (s := S1x8x512x192) ![0, h.val, 0, 128] S1x1x512x64.size ho).emb x) = (R (x 2)).kp (x 3) := by
  have h1 : (x 1).val < 1 := (x 1).isLt
  have e1 : ((Rect.unit (s := S1x8x512x192) ![0, h.val, 0, 128] S1x1x512x64.size ho).emb x) 1 = h := Fin.ext (by show h.val + 1 * (x 1).val = h.val; omega)
  have e2 : ((Rect.unit (s := S1x8x512x192) ![0, h.val, 0, 128] S1x1x512x64.size ho).emb x) 2 = (x 2 : Fin 512) := Fin.ext (by show 0 + 1 * (x 2).val = (x 2).val; omega)
  exact (congrArg (fun r : Fin 512 => (R r).k _ _) e2).trans ((congrArg (fun g : Fin 8 => (R (x 2)).k g _) e1).trans
    (k_high _ _ _ (x 3) (by show 128 + 1 * (x 3).val = 128 + (x 3).val; omega)))

theorem v_emb (R : Fin 512 → Row) (h : Fin 8) (ho : ∀ a, ![0, h.val, 0, 0] a + S1x1x512x128.size a ≤ S1x8x512x128.size a) (x : S1x1x512x128.Idx) :
    vBlk R ((Rect.unit (s := S1x8x512x128) ![0, h.val, 0, 0] S1x1x512x128.size ho).emb x) = (R (x 2)).v h (x 3) := by
  have h1 : (x 1).val < 1 := (x 1).isLt
  have e1 : ((Rect.unit (s := S1x8x512x128) ![0, h.val, 0, 0] S1x1x512x128.size ho).emb x) 1 = h := Fin.ext (by show h.val + 1 * (x 1).val = h.val; omega)
  have e2 : ((Rect.unit (s := S1x8x512x128) ![0, h.val, 0, 0] S1x1x512x128.size ho).emb x) 2 = (x 2 : Fin 512) := Fin.ext (by show 0 + 1 * (x 2).val = (x 2).val; omega)
  exact (congrArg (fun r : Fin 512 => (R r).v _ _) e2).trans ((congrArg (fun g : Fin 8 => (R (x 2)).v g _) e1).trans
    (congrArg ((R (x 2)).v h) (Fin.ext (by show 0 + 1 * (x 3).val = (x 3).val; omega))))

/-- Each kind of piece holds the rows' values of its head. -/
theorem nope_row (h : Fin 8) (o : ℕ) (hs : Shape.Slices S512x1024 ![0, o] S512x128) (hi : o = h.val * 128) (r : Fin 512) (d : Fin 128) :
    nope o hs (k0_pay6 x0 x6 x8) (ix4 (0 : Fin 1) (0 : Fin 1) r d) = ((rowOf x0 x1 x2 x3 x4 x5 x6 x7 x8 x9 x10 x11 x12) r).qn h d :=
  (nope_apply o hs _ r d (c128 h d) (by show h.val * 128 + d.val = _; omega)).trans (congrArg (· * scale) (qn_apply x0 x1 x2 x3 x4 x5 x6 x7 x8 x9 x10 x11 x12 r _))

theorem rope_row (h : Fin 8) (o : ℕ) (hs : Shape.Slices S512x512 ![0, o] S512x64) (hi : o = h.val * 64) (r : Fin 512) (e : Fin 64) :
    rope o hs (k0_pay7 x0 x6 x9) (k0_pay8 x0 x6 x10) (k0_pay10 x3 x4) (k0_pay11 (k0_pay9 x3 x4) x5) (ix4 (0 : Fin 1) (0 : Fin 1) r e) = ((rowOf x0 x1 x2 x3 x4 x5 x6 x7 x8 x9 x10 x11 x12) r).qr h e :=
  (rope_apply o hs _ _ _ _ r e (c64 h e) (by show h.val * 64 + e.val = _; omega)).trans (congrArg (· * scale)
    (congrArg₂ (· + ·) (congrArg₂ (· * ·) (qr_apply x0 x1 x2 x3 x4 x5 x6 x7 x8 x9 x10 x11 x12 r _) (cos_apply x0 x1 x2 x3 x4 x5 x6 x7 x8 x9 x10 x11 x12 r e))
      (congrArg₂ (· * ·) (qs_apply x0 x1 x2 x3 x4 x5 x6 x7 x8 x9 x10 x11 x12 r _) (sin_apply x0 x1 x2 x3 x4 x5 x6 x7 x8 x9 x10 x11 x12 r e))))

theorem kn_row (h : Fin 8) (o : ℕ) (hs : Shape.Slices S512x1024 ![0, o] S512x128) (hi : o = h.val * 128) (r : Fin 512) (d : Fin 128) :
    span o hs (k0_pay13 x1 x7 x11) (ix4 (0 : Fin 1) (0 : Fin 1) r d) = ((rowOf x0 x1 x2 x3 x4 x5 x6 x7 x8 x9 x10 x11 x12) r).kn h d :=
  (span_apply o hs _ r d (c128 h d) (by show h.val * 128 + d.val = _; omega)).trans (kn_apply x0 x1 x2 x3 x4 x5 x6 x7 x8 x9 x10 x11 x12 r _)

theorem v_row (h : Fin 8) (o : ℕ) (hs : Shape.Slices S512x1024 ![0, o] S512x128) (hi : o = h.val * 128) (r : Fin 512) (d : Fin 128) :
    span o hs (k0_pay14 x1 x7 x12) (ix4 (0 : Fin 1) (0 : Fin 1) r d) = ((rowOf x0 x1 x2 x3 x4 x5 x6 x7 x8 x9 x10 x11 x12) r).v h d :=
  (span_apply o hs _ r d (c128 h d) (by show h.val * 128 + d.val = _; omega)).trans (vv_apply x0 x1 x2 x3 x4 x5 x6 x7 x8 x9 x10 x11 x12 r _)

theorem kp_row (r : Fin 512) (e : Fin 64) :
    k0_pay21 (k0_pay15 (k0_pay9 x3 x4) (k0_pay10 x3 x4) x5 x2) (ix4 (0 : Fin 1) (0 : Fin 1) r e) = ((rowOf x0 x1 x2 x3 x4 x5 x6 x7 x8 x9 x10 x11 x12) r).kp e :=
  (lay_apply _ _ r e).trans ((pay15_apply _ _ _ _ r e).trans (congrArg₂ (· + ·) (congrArg (_ * ·) (cos_apply x0 x1 x2 x3 x4 x5 x6 x7 x8 x9 x10 x11 x12 r e))
    (congrArg (_ * ·) (sin_apply x0 x1 x2 x3 x4 x5 x6 x7 x8 x9 x10 x11 x12 r e))))

theorem q_piece_low (h : Fin 8) (o : ℕ) (hs : Shape.Slices S512x1024 ![0, o] S512x128) (hi : o = h.val * 128)
    (ho : ∀ a, ![0, h.val, 0, 0] a + S1x1x512x128.size a ≤ S1x8x512x192.size a) (x : S1x1x512x128.Idx) :
    nope o hs (k0_pay6 x0 x6 x8) x = qBlk (rowOf x0 x1 x2 x3 x4 x5 x6 x7 x8 x9 x10 x11 x12) ((Rect.unit (s := S1x8x512x192) ![0, h.val, 0, 0] S1x1x512x128.size ho).emb x) :=
  (congrArg _ (eq_piece x)).trans ((nope_row x0 x1 x2 x3 x4 x5 x6 x7 x8 x9 x10 x11 x12 h o hs hi (x 2) (x 3)).trans (q_emb_low _ h ho x).symm)

theorem q_piece_high (h : Fin 8) (o : ℕ) (hs : Shape.Slices S512x512 ![0, o] S512x64) (hi : o = h.val * 64)
    (ho : ∀ a, ![0, h.val, 0, 128] a + S1x1x512x64.size a ≤ S1x8x512x192.size a) (x : S1x1x512x64.Idx) :
    rope o hs (k0_pay7 x0 x6 x9) (k0_pay8 x0 x6 x10) (k0_pay10 x3 x4) (k0_pay11 (k0_pay9 x3 x4) x5) x
      = qBlk (rowOf x0 x1 x2 x3 x4 x5 x6 x7 x8 x9 x10 x11 x12) ((Rect.unit (s := S1x8x512x192) ![0, h.val, 0, 128] S1x1x512x64.size ho).emb x) :=
  (congrArg _ (eq_piece x)).trans ((rope_row x0 x1 x2 x3 x4 x5 x6 x7 x8 x9 x10 x11 x12 h o hs hi (x 2) (x 3)).trans (q_emb_high _ h ho x).symm)

theorem k_piece_low (h : Fin 8) (o : ℕ) (hs : Shape.Slices S512x1024 ![0, o] S512x128) (hi : o = h.val * 128)
    (ho : ∀ a, ![0, h.val, 0, 0] a + S1x1x512x128.size a ≤ S1x8x512x192.size a) (x : S1x1x512x128.Idx) :
    span o hs (k0_pay13 x1 x7 x11) x = kBlk (rowOf x0 x1 x2 x3 x4 x5 x6 x7 x8 x9 x10 x11 x12) ((Rect.unit (s := S1x8x512x192) ![0, h.val, 0, 0] S1x1x512x128.size ho).emb x) :=
  (congrArg _ (eq_piece x)).trans ((kn_row x0 x1 x2 x3 x4 x5 x6 x7 x8 x9 x10 x11 x12 h o hs hi (x 2) (x 3)).trans (k_emb_low _ h ho x).symm)

theorem k_piece_high (h : Fin 8) (ho : ∀ a, ![0, h.val, 0, 128] a + S1x1x512x64.size a ≤ S1x8x512x192.size a) (x : S1x1x512x64.Idx) :
    k0_pay21 (k0_pay15 (k0_pay9 x3 x4) (k0_pay10 x3 x4) x5 x2) x
      = kBlk (rowOf x0 x1 x2 x3 x4 x5 x6 x7 x8 x9 x10 x11 x12) ((Rect.unit (s := S1x8x512x192) ![0, h.val, 0, 128] S1x1x512x64.size ho).emb x) :=
  (congrArg _ (eq_piece x)).trans ((kp_row x0 x1 x2 x3 x4 x5 x6 x7 x8 x9 x10 x11 x12 (x 2) (x 3)).trans (k_emb_high _ h ho x).symm)

theorem v_piece (h : Fin 8) (o : ℕ) (hs : Shape.Slices S512x1024 ![0, o] S512x128) (hi : o = h.val * 128)
    (ho : ∀ a, ![0, h.val, 0, 0] a + S1x1x512x128.size a ≤ S1x8x512x128.size a) (x : S1x1x512x128.Idx) :
    span o hs (k0_pay14 x1 x7 x12) x = vBlk (rowOf x0 x1 x2 x3 x4 x5 x6 x7 x8 x9 x10 x11 x12) ((Rect.unit (s := S1x8x512x128) ![0, h.val, 0, 0] S1x1x512x128.size ho).emb x) :=
  (congrArg _ (eq_piece x)).trans ((v_row x0 x1 x2 x3 x4 x5 x6 x7 x8 x9 x10 x11 x12 h o hs hi (x 2) (x 3)).trans (v_emb _ h ho x).symm)

end

variable {m : (ℓ : Loc nD τ sig) → Buf (Elt Ideal) ℓ}

/-- The rows of a grid point's blocks. -/
abbrev rowsAt (m : (ℓ : Loc nD τ sig) → Buf (Elt Ideal) ℓ) (c : Dev nD) (t : Fin cfg0.N) : Fin 512 → Row :=
  rowOf (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t)

set_option maxHeartbeats 1000000 in
/-- What grid point `t` leaves in this window. -/
theorem out15_apply (c : Dev nD) (t : Fin cfg0.N) (y : S1x8x512x128.Idx) : (outsAt0 m c t).2.2 y = vBlk (rowsAt m c t) y := by
  unfold outsAt0
  dsimp only
  frame_out
  refine View.canon_apply_of_pieces (Val := Elt Ideal) (e := .bf16) (vBlk (rowsAt m c t)) _ (fun p hp x => ?_) y (View.cover_of_tiledL (s := S1x8x512x128) _ S1x1x512x128.size (by sl_kernel_rfl) y)
  simp only [List.mem_cons, List.not_mem_nil, or_false] at hp
  rcases hp with rfl | rfl | rfl | rfl | rfl | rfl | rfl | rfl
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 7 896 slices_S512x1024_o0_896_S512x128 rfl inb_S1x8x512x128_S1x1x512x128_0_7_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 6 768 slices_S512x1024_o0_768_S512x128 rfl inb_S1x8x512x128_S1x1x512x128_0_6_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 5 640 slices_S512x1024_o0_640_S512x128 rfl inb_S1x8x512x128_S1x1x512x128_0_5_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 4 512 slices_S512x1024_o0_512_S512x128 rfl inb_S1x8x512x128_S1x1x512x128_0_4_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 3 384 slices_S512x1024_o0_384_S512x128 rfl inb_S1x8x512x128_S1x1x512x128_0_3_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 2 256 slices_S512x1024_o0_256_S512x128 rfl inb_S1x8x512x128_S1x1x512x128_0_2_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 1 128 slices_S512x1024_o0_128_S512x128 rfl inb_S1x8x512x128_S1x1x512x128_0_1_0_0 x
  · exact v_piece (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 0 0 slices_S512x1024_o0_0_S512x128 rfl inb_S1x8x512x128_S1x1x512x128_0_0_0_0 x

set_option maxHeartbeats 1000000 in
/-- What grid point `t` leaves in this window. -/
theorem out13_apply (c : Dev nD) (t : Fin cfg0.N) (y : S1x8x512x192.Idx) : (outsAt0 m c t).1 y = qBlk (rowsAt m c t) y := by
  unfold outsAt0
  dsimp only
  frame_out
  refine View.canon_apply_of_pieces (Val := Elt Ideal) (e := .bf16) (qBlk (rowsAt m c t)) _ (fun p hp x => ?_) y (View.cover_of_tiledBy (s := S1x8x512x192) _ ![1, 1, 512, 64] (by sl_kernel_rfl) y)
  simp only [List.mem_cons, List.not_mem_nil, or_false] at hp
  rcases hp with rfl | rfl | rfl | rfl | rfl | rfl | rfl | rfl | rfl | rfl | rfl | rfl | rfl | rfl | rfl | rfl
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 7 448 slices_S512x512_o0_448_S512x64 rfl inb_S1x8x512x192_S1x1x512x64_0_7_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 7 896 slices_S512x1024_o0_896_S512x128 rfl inb_S1x8x512x192_S1x1x512x128_0_7_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 6 384 slices_S512x512_o0_384_S512x64 rfl inb_S1x8x512x192_S1x1x512x64_0_6_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 6 768 slices_S512x1024_o0_768_S512x128 rfl inb_S1x8x512x192_S1x1x512x128_0_6_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 5 320 slices_S512x512_o0_320_S512x64 rfl inb_S1x8x512x192_S1x1x512x64_0_5_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 5 640 slices_S512x1024_o0_640_S512x128 rfl inb_S1x8x512x192_S1x1x512x128_0_5_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 4 256 slices_S512x512_o0_256_S512x64 rfl inb_S1x8x512x192_S1x1x512x64_0_4_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 4 512 slices_S512x1024_o0_512_S512x128 rfl inb_S1x8x512x192_S1x1x512x128_0_4_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 3 192 slices_S512x512_o0_192_S512x64 rfl inb_S1x8x512x192_S1x1x512x64_0_3_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 3 384 slices_S512x1024_o0_384_S512x128 rfl inb_S1x8x512x192_S1x1x512x128_0_3_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 2 128 slices_S512x512_o0_128_S512x64 rfl inb_S1x8x512x192_S1x1x512x64_0_2_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 2 256 slices_S512x1024_o0_256_S512x128 rfl inb_S1x8x512x192_S1x1x512x128_0_2_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 1 64 slices_S512x512_o0_64_S512x64 rfl inb_S1x8x512x192_S1x1x512x64_0_1_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 1 128 slices_S512x1024_o0_128_S512x128 rfl inb_S1x8x512x192_S1x1x512x128_0_1_0_0 x
  · exact q_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 0 0 slices_S512x512_o0_0_S512x64 rfl inb_S1x8x512x192_S1x1x512x64_0_0_0_128 x
  · exact q_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 0 0 slices_S512x1024_o0_0_S512x128 rfl inb_S1x8x512x192_S1x1x512x128_0_0_0_0 x

set_option maxHeartbeats 1000000 in
/-- What grid point `t` leaves in this window. -/
theorem out14_apply (c : Dev nD) (t : Fin cfg0.N) (y : S1x8x512x192.Idx) : (outsAt0 m c t).2.1 y = kBlk (rowsAt m c t) y := by
  unfold outsAt0
  dsimp only
  frame_out
  refine View.canon_apply_of_pieces (Val := Elt Ideal) (e := .bf16) (kBlk (rowsAt m c t)) _ (fun p hp x => ?_) y (View.cover_of_tiledBy (s := S1x8x512x192) _ ![1, 1, 512, 64] (by sl_kernel_rfl) y)
  simp only [List.mem_cons, List.not_mem_nil, or_false] at hp
  rcases hp with rfl | rfl | rfl | rfl | rfl | rfl | rfl | rfl | rfl | rfl | rfl | rfl | rfl | rfl | rfl | rfl
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 7 inb_S1x8x512x192_S1x1x512x64_0_7_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 7 896 slices_S512x1024_o0_896_S512x128 rfl inb_S1x8x512x192_S1x1x512x128_0_7_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 6 inb_S1x8x512x192_S1x1x512x64_0_6_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 6 768 slices_S512x1024_o0_768_S512x128 rfl inb_S1x8x512x192_S1x1x512x128_0_6_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 5 inb_S1x8x512x192_S1x1x512x64_0_5_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 5 640 slices_S512x1024_o0_640_S512x128 rfl inb_S1x8x512x192_S1x1x512x128_0_5_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 4 inb_S1x8x512x192_S1x1x512x64_0_4_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 4 512 slices_S512x1024_o0_512_S512x128 rfl inb_S1x8x512x192_S1x1x512x128_0_4_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 3 inb_S1x8x512x192_S1x1x512x64_0_3_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 3 384 slices_S512x1024_o0_384_S512x128 rfl inb_S1x8x512x192_S1x1x512x128_0_3_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 2 inb_S1x8x512x192_S1x1x512x64_0_2_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 2 256 slices_S512x1024_o0_256_S512x128 rfl inb_S1x8x512x192_S1x1x512x128_0_2_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 1 inb_S1x8x512x192_S1x1x512x64_0_1_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 1 128 slices_S512x1024_o0_128_S512x128 rfl inb_S1x8x512x192_S1x1x512x128_0_1_0_0 x
  · exact k_piece_high (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 0 inb_S1x8x512x192_S1x1x512x64_0_0_0_128 x
  · exact k_piece_low (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) 0 0 slices_S512x1024_o0_0_S512x128 rfl inb_S1x8x512x192_S1x1x512x128_0_0_0_0 x

end Cert.Kernel5Ideal.Mla

end
-- ==== Proof.MlaArray.lean ====
/- The latent projections over the extended reals: the three result arrays, index by index, from the arrays the windows read. -/
module

public import proofs.«01_k».proof.Proof.MlaBlock
public import Idealize.ShloMosaic.Lib.Pipeline.ValueKit.Geometry

@[expose] public section

noncomputable section

namespace Cert.Kernel5Ideal.Mla

open Cert.Kernel5Ideal Cert.Kernel5Ideal.Gen Idealize.ShloMosaic Idealize.ShloMosaic.ValueIdx
open Idealize.ShloMosaic.Pipeline Idealize.ShloMosaic.TcCoe
open scoped BigOperators

/-- The row of token `s` of sequence `b`, from the arrays: the packed latents, the positions, the frequencies and signs,
    the gains and the five weights. -/
def rowAt (A0 : Vec Ideal S4x4096x7168 .bf16) (A3 : Vec Ideal S4x4096x1 .i32) (A4 A5 : Vec Ideal S1x64 .f32) (A6 : Vec Ideal S1x512 .f32)
    (A7 : Vec Ideal S1x256 .f32) (A8 : Vec Ideal S512x1024 .bf16) (A9 A10 : Vec Ideal S512x512 .bf16) (A11 A12 : Vec Ideal S256x1024 .bf16)
    (b : Fin 4) (s : Fin 4096) : Row where
  cq k := A0 (ix3 b s (⟨4096 + k.val, by omega⟩ : Fin 7168))
  ckv k := A0 (ix3 b s (⟨4608 + k.val, by omega⟩ : Fin 7168))
  kr e := A0 (ix3 b s (⟨4864 + e.val, by omega⟩ : Fin 7168))
  ks e := A0 (ix3 b s (⟨4928 + e.val, by omega⟩ : Fin 7168))
  pos := FloatOps.sitofp (F := Ideal) .f32 (A3 (ix3 b s (0 : Fin 1)))
  invf e := A4 (ix2 (0 : Fin 1) e)
  sgn e := A5 (ix2 (0 : Fin 1) e)
  qg k := A6 (ix2 (0 : Fin 1) k)
  kvg k := A7 (ix2 (0 : Fin 1) k)
  wqn k n := A8 (ix2 k n)
  wqr k n := A9 (ix2 k n)
  wqs k n := A10 (ix2 k n)
  wkn k n := A11 (ix2 k n)
  wv k n := A12 (ix2 k n)

/-- The block indices of the windows at a grid point. -/
theorem idx_facts : ∀ t : Fin cfg0.N,
    (win0_0.index t (0 : Fin 3) = win0_13.index t (0 : Fin 4) ∧ win0_0.index t (1 : Fin 3) = win0_13.index t (2 : Fin 4) ∧ win0_0.index t (2 : Fin 3) = 8)
    ∧ (win0_1.index t (0 : Fin 3) = win0_13.index t (0 : Fin 4) ∧ win0_1.index t (1 : Fin 3) = win0_13.index t (2 : Fin 4) ∧ win0_1.index t (2 : Fin 3) = 18)
    ∧ (win0_2.index t (0 : Fin 3) = win0_13.index t (0 : Fin 4) ∧ win0_2.index t (1 : Fin 3) = win0_13.index t (2 : Fin 4) ∧ win0_2.index t (2 : Fin 3) = 38)
    ∧ (win0_3.index t (0 : Fin 3) = win0_13.index t (0 : Fin 4) ∧ win0_3.index t (1 : Fin 3) = win0_13.index t (2 : Fin 4) ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The block indices of the three results. -/
theorem idx_out : ∀ t : Fin cfg0.N, (win0_13.index t (1 : Fin 4) = 0 ∧ win0_13.index t (3 : Fin 4) = 0)
    ∧ (win0_14.index t (0 : Fin 4) = win0_13.index t (0 : Fin 4) ∧ win0_14.index t (1 : Fin 4) = 0 ∧ win0_14.index t (2 : Fin 4) = win0_13.index t (2 : Fin 4) ∧ win0_14.index t (3 : Fin 4) = 0)
    ∧ (win0_15.index t (0 : Fin 4) = win0_13.index t (0 : Fin 4) ∧ win0_15.index t (1 : Fin 4) = 0 ∧ win0_15.index t (2 : Fin 4) = win0_13.index t (2 : Fin 4) ∧ win0_15.index t (3 : Fin 4) = 0) :=
  (by decide +kernel : ∀ t : Fin grid0.N, _)

/-- Every block of tokens is some grid point's. -/
theorem idx_onto : ∀ (b : Fin 4) (s : Fin 8), ∃ t : Fin cfg0.N, win0_13.index t = ![b.val, 0, s.val, 0] :=
  (by decide +kernel : ∀ (b : Fin 4) (s : Fin 8), ∃ t : Fin grid0.N, win0_13.index t = ![b.val, 0, s.val, 0])

variable {m : (ℓ : Loc nD τ sig) → Buf (Elt Ideal) ℓ}

/-- The rows of all tokens, from the arrays the windows read. -/
abbrev rows (m : (ℓ : Loc nD τ sig) → Buf (Elt Ideal) ℓ) (c : Dev nD) : Fin 4 → Fin 4096 → Row :=
  rowAt (V m c main_v19) (V m c main_v13) (V m c main_v7) (V m c main_v12) (V m c main_v42) (V m c main_v43) (V m c main_v23) (V m c main_v26) (V m c main_v34)
    (V m c main_v38) (V m c main_v41)

/-- Each window's block is a block of its array. -/
theorem read0 (c : Dev nD) (t : Fin cfg0.N) (r : Fin 512) (b : Fin 4) (s : Fin 4096) (hb : win0_13.index t (0 : Fin 4) = b.val)
    (hs : win0_13.index t (2 : Fin 4) * 512 + r.val = s.val) (k : Fin 512) :
    iblk m c 0 t (ix3 (0 : Fin 1) r k) = V m c main_v19 (ix3 b s (⟨4096 + k.val, by omega⟩ : Fin 7168)) := by
  obtain ⟨f0, f1, f2⟩ := (idx_facts t).1
  show V m c main_v19 (((cfg0.win 0).blk t).view.emb (ix3 (0 : Fin 1) r k)) = _
  refine congrArg (V m c main_v19) (funext fun a => Fin.ext ?_)
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 512 + 1 * k.val = 4096 + k.val; omega

theorem read1 (c : Dev nD) (t : Fin cfg0.N) (r : Fin 512) (b : Fin 4) (s : Fin 4096) (hb : win0_13.index t (0 : Fin 4) = b.val)
    (hs : win0_13.index t (2 : Fin 4) * 512 + r.val = s.val) (k : Fin 256) :
    iblk m c 1 t (ix3 (0 : Fin 1) r k) = V m c main_v19 (ix3 b s (⟨4608 + k.val, by omega⟩ : Fin 7168)) := by
  obtain ⟨f0, f1, f2⟩ := (idx_facts t).2.1
  show V m c main_v19 (((cfg0.win 1).blk t).view.emb (ix3 (0 : Fin 1) r k)) = _
  refine congrArg (V m c main_v19) (funext fun a => Fin.ext ?_)
  match a with
  | ⟨0, _⟩ => show win0_1.index t (0 : Fin 3) * 1 + 1 * 0 = b.val; omega
  | ⟨1, _⟩ => show win0_1.index t (1 : Fin 3) * 512 + 1 * r.val = s.val; omega
  | ⟨2, _⟩ => show win0_1.index t (2 : Fin 3) * 256 + 1 * k.val = 4608 + k.val; omega

theorem read2 (c : Dev nD) (t : Fin cfg0.N) (r : Fin 512) (b : Fin 4) (s : Fin 4096) (hb : win0_13.index t (0 : Fin 4) = b.val)
    (hs : win0_13.index t (2 : Fin 4) * 512 + r.val = s.val) (k : Fin 128) (l : Fin 7168)
    (hl : 4864 + k.val = l.val) :
    iblk m c 2 t (ix3 (0 : Fin 1) r k) = V m c main_v19 (ix3 b s l) := by
  obtain ⟨f0, f1, f2⟩ := (idx_facts t).2.2.1
  show V m c main_v19 (((cfg0.win 2).blk t).view.emb (ix3 (0 : Fin 1) r k)) = _
  refine congrArg (V m c main_v19) (funext fun a => Fin.ext ?_)
  match a with
  | ⟨0, _⟩ => show win0_2.index t (0 : Fin 3) * 1 + 1 * 0 = b.val; omega
  | ⟨1, _⟩ => show win0_2.index t (1 : Fin 3) * 512 + 1 * r.val = s.val; omega
  | ⟨2, _⟩ => show win0_2.index t (2 : Fin 3) * 128 + 1 * k.val = l.val; omega

theorem read3 (c : Dev nD) (t : Fin cfg0.N) (r : Fin 512) (b : Fin 4) (s : Fin 4096) (hb : win0_13.index t (0 : Fin 4) = b.val)
    (hs : win0_13.index t (2 : Fin 4) * 512 + r.val = s.val) :
    iblk m c 3 t (ix3 (0 : Fin 1) r (0 : Fin 1)) = V m c main_v13 (ix3 b s (0 : Fin 1)) := by
  obtain ⟨f0, f1, f2⟩ := (idx_facts t).2.2.2.1
  show V m c main_v13 (((cfg0.win 3).blk t).view.emb (ix3 (0 : Fin 1) r (0 : Fin 1))) = _
  refine congrArg (V m c main_v13) (funext fun a => Fin.ext ?_)
  match a with
  | ⟨0, _⟩ => show win0_3.index t (0 : Fin 3) * 1 + 1 * 0 = b.val; omega
  | ⟨1, _⟩ => show win0_3.index t (1 : Fin 3) * 512 + 1 * r.val = s.val; omega
  | ⟨2, _⟩ => show win0_3.index t (2 : Fin 3) * 1 + 1 * 0 = 0; omega

theorem read4 (c : Dev nD) (t : Fin cfg0.N) (k : Fin 1) (n : Fin 64) : iblk m c 4 t (ix2 k n) = V m c main_v7 (ix2 k n) := by
  obtain ⟨f0, f1⟩ := (idx_facts t).2.2.2.2.1
  show V m c main_v7 (((cfg0.win 4).blk t).view.emb (ix2 k n)) = _
  refine congrArg (V m c main_v7) (funext fun a => Fin.ext ?_)
  match a with
  | ⟨0, _⟩ => show win0_4.index t (0 : Fin 2) * 1 + 1 * k.val = k.val; omega
  | ⟨1, _⟩ => show win0_4.index t (1 : Fin 2) * 64 + 1 * n.val = n.val; omega

theorem read5 (c : Dev nD) (t : Fin cfg0.N) (k : Fin 1) (n : Fin 64) : iblk m c 5 t (ix2 k n) = V m c main_v12 (ix2 k n) := by
  obtain ⟨f0, f1⟩ := (idx_facts t).2.2.2.2.2.1
  show V m c main_v12 (((cfg0.win 5).blk t).view.emb (ix2 k n)) = _
  refine congrArg (V m c main_v12) (funext fun a => Fin.ext ?_)
  match a with
  | ⟨0, _⟩ => show win0_5.index t (0 : Fin 2) * 1 + 1 * k.val = k.val; omega
  | ⟨1, _⟩ => show win0_5.index t (1 : Fin 2) * 64 + 1 * n.val = n.val; omega

theorem read6 (c : Dev nD) (t : Fin cfg0.N) (k : Fin 1) (n : Fin 512) : iblk m c 6 t (ix2 k n) = V m c main_v42 (ix2 k n) := by
  obtain ⟨f0, f1⟩ := (idx_facts t).2.2.2.2.2.2.1
  show V m c main_v42 (((cfg0.win 6).blk t).view.emb (ix2 k n)) = _
  refine congrArg (V m c main_v42) (funext fun a => Fin.ext ?_)
  match a with
  | ⟨0, _⟩ => show win0_6.index t (0 : Fin 2) * 1 + 1 * k.val = k.val; omega
  | ⟨1, _⟩ => show win0_6.index t (1 : Fin 2) * 512 + 1 * n.val = n.val; omega

theorem read7 (c : Dev nD) (t : Fin cfg0.N) (k : Fin 1) (n : Fin 256) : iblk m c 7 t (ix2 k n) = V m c main_v43 (ix2 k n) := by
  obtain ⟨f0, f1⟩ := (idx_facts t).2.2.2.2.2.2.2.1
  show V m c main_v43 (((cfg0.win 7).blk t).view.emb (ix2 k n)) = _
  refine congrArg (V m c main_v43) (funext fun a => Fin.ext ?_)
  match a with
  | ⟨0, _⟩ => show win0_7.index t (0 : Fin 2) * 1 + 1 * k.val = k.val; omega
  | ⟨1, _⟩ => show win0_7.index t (1 : Fin 2) * 256 + 1 * n.val = n.val; omega

theorem read8 (c : Dev nD) (t : Fin cfg0.N) (k : Fin 512) (n : Fin 1024) : iblk m c 8 t (ix2 k n) = V m c main_v23 (ix2 k n) := by
  obtain ⟨f0, f1⟩ := (idx_facts t).2.2.2.2.2.2.2.2.1
  show V m c main_v23 (((cfg0.win 8).blk t).view.emb (ix2 k n)) = _
  refine congrArg (V m c main_v23) (funext fun a => Fin.ext ?_)
  match a with
  | ⟨0, _⟩ => show win0_8.index t (0 : Fin 2) * 512 + 1 * k.val = k.val; omega
  | ⟨1, _⟩ => show win0_8.index t (1 : Fin 2) * 1024 + 1 * n.val = n.val; omega

theorem read9 (c : Dev nD) (t : Fin cfg0.N) (k : Fin 512) (n : Fin 512) : iblk m c 9 t (ix2 k n) = V m c main_v26 (ix2 k n) := by
  obtain ⟨f0, f1⟩ := (idx_facts t).2.2.2.2.2.2.2.2.2.1
  show V m c main_v26 (((cfg0.win 9).blk t).view.emb (ix2 k n)) = _
  refine congrArg (V m c main_v26) (funext fun a => Fin.ext ?_)
  match a with
  | ⟨0, _⟩ => show win0_9.index t (0 : Fin 2) * 512 + 1 * k.val = k.val; omega
  | ⟨1, _⟩ => show win0_9.index t (1 : Fin 2) * 512 + 1 * n.val = n.val; omega

theorem read10 (c : Dev nD) (t : Fin cfg0.N) (k : Fin 512) (n : Fin 512) : iblk m c 10 t (ix2 k n) = V m c main_v34 (ix2 k n) := by
  obtain ⟨f0, f1⟩ := (idx_facts t).2.2.2.2.2.2.2.2.2.2.1
  show V m c main_v34 (((cfg0.win 10).blk t).view.emb (ix2 k n)) = _
  refine congrArg (V m c main_v34) (funext fun a => Fin.ext ?_)
  match a with
  | ⟨0, _⟩ => show win0_10.index t (0 : Fin 2) * 512 + 1 * k.val = k.val; omega
  | ⟨1, _⟩ => show win0_10.index t (1 : Fin 2) * 512 + 1 * n.val = n.val; omega

theorem read11 (c : Dev nD) (t : Fin cfg0.N) (k : Fin 256) (n : Fin 1024) : iblk m c 11 t (ix2 k n) = V m c main_v38 (ix2 k n) := by
  obtain ⟨f0, f1⟩ := (idx_facts t).2.2.2.2.2.2.2.2.2.2.2.1
  show V m c main_v38 (((cfg0.win 11).blk t).view.emb (ix2 k n)) = _
  refine congrArg (V m c main_v38) (funext fun a => Fin.ext ?_)
  match a with
  | ⟨0, _⟩ => show win0_11.index t (0 : Fin 2) * 256 + 1 * k.val = k.val; omega
  | ⟨1, _⟩ => show win0_11.index t (1 : Fin 2) * 1024 + 1 * n.val = n.val; omega

theorem read12 (c : Dev nD) (t : Fin cfg0.N) (k : Fin 256) (n : Fin 1024) : iblk m c 12 t (ix2 k n) = V m c main_v41 (ix2 k n) := by
  obtain ⟨f0, f1⟩ := (idx_facts t).2.2.2.2.2.2.2.2.2.2.2.2
  show V m c main_v41 (((cfg0.win 12).blk t).view.emb (ix2 k n)) = _
  refine congrArg (V m c main_v41) (funext fun a => Fin.ext ?_)
  match a with
  | ⟨0, _⟩ => show win0_12.index t (0 : Fin 2) * 256 + 1 * k.val = k.val; omega
  | ⟨1, _⟩ => show win0_12.index t (1 : Fin 2) * 1024 + 1 * n.val = n.val; omega

/-- The row of a token in a grid point's blocks is its row in the arrays. -/
theorem row_eq (c : Dev nD) (t : Fin cfg0.N) (r : Fin 512) (b : Fin 4) (s : Fin 4096) (hb : win0_13.index t (0 : Fin 4) = b.val)
    (hs : win0_13.index t (2 : Fin 4) * 512 + r.val = s.val) : rowsAt m c t r = rows m c b s := by
  unfold rowsAt rowOf rows rowAt
  refine Row.ext ?_ ?_ ?_ ?_ ?_ ?_ ?_ ?_ ?_ ?_ ?_ ?_ ?_ ?_ <;> dsimp only
  · funext k; exact read0 (m := m) c t r b s hb hs k
  · funext k; exact read1 (m := m) c t r b s hb hs k
  · funext e
    have h := read2 (m := m) c t r b s hb hs (⟨e.val, by omega⟩ : Fin 128) (⟨4864 + e.val, by omega⟩ : Fin 7168) rfl
    exact h
  · funext e
    have h := read2 (m := m) c t r b s hb hs (⟨64 + e.val, by omega⟩ : Fin 128) (⟨4928 + e.val, by omega⟩ : Fin 7168)
      (show 4864 + (64 + e.val) = 4928 + e.val by omega)
    exact h
  · exact congrArg (FloatOps.sitofp (F := Ideal) .f32) (read3 (m := m) c t r b s hb hs)
  · funext e; exact read4 (m := m) c t (0 : Fin 1) e
  · funext e; exact read5 (m := m) c t (0 : Fin 1) e
  · funext k; exact read6 (m := m) c t (0 : Fin 1) k
  · funext k; exact read7 (m := m) c t (0 : Fin 1) k
  · funext k n; exact read8 (m := m) c t k n
  · funext k n; exact read9 (m := m) c t k n
  · funext k n; exact read10 (m := m) c t k n
  · funext k n; exact read11 (m := m) c t k n
  · funext k n; exact read12 (m := m) c t k n

/-- The three results from the rows of all tokens: heads before positions. -/
def qArr (R : Fin 4 → Fin 4096 → Row) (i : S4x8x4096x192.Idx) : EReal := (R (i 0) (i 2)).q (i 1) (i 3)
def kArr (R : Fin 4 → Fin 4096 → Row) (i : S4x8x4096x192.Idx) : EReal := (R (i 0) (i 2)).k (i 1) (i 3)
def vArr (R : Fin 4 → Fin 4096 → Row) (i : S4x8x4096x128.Idx) : EReal := (R (i 0) (i 2)).v (i 1) (i 3)

/-- What grid point `t` writes back is its block of the result. -/
theorem flushed13_eq (c : Dev nD) (t : Fin cfg0.N) :
    (dats m 0 c).flushed 13 t = ((cfg0.win 13).blk t).view.read (Elt Ideal) (qArr (rows m c)) := by
  rw [Value.flushed13]
  funext j
  refine (show _ = (outsAt0 m c t).1 j from rfl).trans ((out13_apply c t j).trans ?_)
  show qBlk (rowsAt m c t) j = qArr (rows m c) (((cfg0.win 13).blk t).view.emb j)
  obtain ⟨⟨z1, z3⟩, ⟨u0, u1, u2, u3⟩, v0, v1, v2, v3⟩ := idx_out t
  have hj0 : (j 0).val < 1 := (j 0).isLt
  have hh : (((cfg0.win 13).blk t).view.emb j) 1 = (j 1 : Fin 8) := Fin.ext (by
    show win0_13.index t (1 : Fin 4) * 8 + 1 * (j 1).val = (j 1).val; omega)
  have hn : (((cfg0.win 13).blk t).view.emb j) 3 = (j 3 : Fin 192) := Fin.ext (by
    show win0_13.index t (3 : Fin 4) * 192 + 1 * (j 3).val = (j 3).val; omega)
  have hr := row_eq (m := m) c t (j 2) ((((cfg0.win 13).blk t).view.emb j) 0) ((((cfg0.win 13).blk t).view.emb j) 2)
    (by show _ = win0_13.index t (0 : Fin 4) * 1 + 1 * (j 0).val; omega)
    (by show _ = win0_13.index t (2 : Fin 4) * 512 + 1 * (j 2).val; omega)
  unfold qArr qBlk
  exact congr (congr (congrArg Row.q hr) hh.symm) hn.symm

theorem mem_blk13 (t : Fin cfg0.N) (i : S4x8x4096x192.Idx) :
    i ∈ ((cfg0.win 13).blk t).view.set ↔ ∀ a : Fin 4, win0_13.index t a * S1x8x512x192.size a ≤ (i a).val
      ∧ (i a).val < win0_13.index t a * S1x8x512x192.size a + S1x8x512x192.size a :=
  (cfg0.win 13).emb_mem_blk_iff t i

/-- The result array after the run. -/
theorem final13 (c : Dev nD) : (dats m 0 c).arrAt 13 cfg0.N = qArr (rows m c) :=
  (dats m 0 c).arrAt_eq_of_cover 13 _ (fun t _ => flushed13_eq c t) fun i => by
    have h0 : (i 0).val < 4 := (i 0).isLt
    have h1 : (i 1).val < 8 := (i 1).isLt
    have h2 : (i 2).val < 4096 := (i 2).isLt
    have h3 : (i 3).val < 192 := (i 3).isLt
    obtain ⟨t, ht⟩ := idx_onto ⟨(i 0).val, h0⟩ ⟨(i 2).val / 512, by omega⟩
    have q0 : win0_13.index t (0 : Fin 4) = (i 0).val := congrFun ht 0
    have q2 : win0_13.index t (2 : Fin 4) = (i 2).val / 512 := congrFun ht 2
    obtain ⟨⟨z1, z3⟩, ⟨u0, u1, u2, u3⟩, v0, v1, v2, v3⟩ := idx_out t
    refine ⟨t, flush0_13 t, ?_⟩
    rw [mem_blk13]
    intro a
    match a with
    | ⟨0, _⟩ => show win0_13.index t (0 : Fin 4) * 1 ≤ (i 0).val ∧ (i 0).val < win0_13.index t (0 : Fin 4) * 1 + 1; omega
    | ⟨1, _⟩ => show win0_13.index t (1 : Fin 4) * 8 ≤ (i 1).val ∧ (i 1).val < win0_13.index t (1 : Fin 4) * 8 + 8; omega
    | ⟨2, _⟩ => show win0_13.index t (2 : Fin 4) * 512 ≤ (i 2).val ∧ (i 2).val < win0_13.index t (2 : Fin 4) * 512 + 512; omega
    | ⟨3, _⟩ => show win0_13.index t (3 : Fin 4) * 192 ≤ (i 3).val ∧ (i 3).val < win0_13.index t (3 : Fin 4) * 192 + 192; omega

/-- What grid point `t` writes back is its block of the result. -/
theorem flushed14_eq (c : Dev nD) (t : Fin cfg0.N) :
    (dats m 0 c).flushed 14 t = ((cfg0.win 14).blk t).view.read (Elt Ideal) (kArr (rows m c)) := by
  rw [Value.flushed14]
  funext j
  refine (show _ = (outsAt0 m c t).2.1 j from rfl).trans ((out14_apply c t j).trans ?_)
  show kBlk (rowsAt m c t) j = kArr (rows m c) (((cfg0.win 14).blk t).view.emb j)
  obtain ⟨⟨z1, z3⟩, ⟨u0, u1, u2, u3⟩, v0, v1, v2, v3⟩ := idx_out t
  have hj0 : (j 0).val < 1 := (j 0).isLt
  have hh : (((cfg0.win 14).blk t).view.emb j) 1 = (j 1 : Fin 8) := Fin.ext (by
    show win0_14.index t (1 : Fin 4) * 8 + 1 * (j 1).val = (j 1).val; omega)
  have hn : (((cfg0.win 14).blk t).view.emb j) 3 = (j 3 : Fin 192) := Fin.ext (by
    show win0_14.index t (3 : Fin 4) * 192 + 1 * (j 3).val = (j 3).val; omega)
  have hr := row_eq (m := m) c t (j 2) ((((cfg0.win 14).blk t).view.emb j) 0) ((((cfg0.win 14).blk t).view.emb j) 2)
    (by show _ = win0_14.index t (0 : Fin 4) * 1 + 1 * (j 0).val; omega)
    (by show _ = win0_14.index t (2 : Fin 4) * 512 + 1 * (j 2).val; omega)
  unfold kArr kBlk
  exact congr (congr (congrArg Row.k hr) hh.symm) hn.symm

theorem mem_blk14 (t : Fin cfg0.N) (i : S4x8x4096x192.Idx) :
    i ∈ ((cfg0.win 14).blk t).view.set ↔ ∀ a : Fin 4, win0_14.index t a * S1x8x512x192.size a ≤ (i a).val
      ∧ (i a).val < win0_14.index t a * S1x8x512x192.size a + S1x8x512x192.size a :=
  (cfg0.win 14).emb_mem_blk_iff t i

/-- The result array after the run. -/
theorem final14 (c : Dev nD) : (dats m 0 c).arrAt 14 cfg0.N = kArr (rows m c) :=
  (dats m 0 c).arrAt_eq_of_cover 14 _ (fun t _ => flushed14_eq c t) fun i => by
    have h0 : (i 0).val < 4 := (i 0).isLt
    have h1 : (i 1).val < 8 := (i 1).isLt
    have h2 : (i 2).val < 4096 := (i 2).isLt
    have h3 : (i 3).val < 192 := (i 3).isLt
    obtain ⟨t, ht⟩ := idx_onto ⟨(i 0).val, h0⟩ ⟨(i 2).val / 512, by omega⟩
    have q0 : win0_13.index t (0 : Fin 4) = (i 0).val := congrFun ht 0
    have q2 : win0_13.index t (2 : Fin 4) = (i 2).val / 512 := congrFun ht 2
    obtain ⟨⟨z1, z3⟩, ⟨u0, u1, u2, u3⟩, v0, v1, v2, v3⟩ := idx_out t
    refine ⟨t, flush0_14 t, ?_⟩
    rw [mem_blk14]
    intro a
    match a with
    | ⟨0, _⟩ => show win0_14.index t (0 : Fin 4) * 1 ≤ (i 0).val ∧ (i 0).val < win0_14.index t (0 : Fin 4) * 1 + 1; omega
    | ⟨1, _⟩ => show win0_14.index t (1 : Fin 4) * 8 ≤ (i 1).val ∧ (i 1).val < win0_14.index t (1 : Fin 4) * 8 + 8; omega
    | ⟨2, _⟩ => show win0_14.index t (2 : Fin 4) * 512 ≤ (i 2).val ∧ (i 2).val < win0_14.index t (2 : Fin 4) * 512 + 512; omega
    | ⟨3, _⟩ => show win0_14.index t (3 : Fin 4) * 192 ≤ (i 3).val ∧ (i 3).val < win0_14.index t (3 : Fin 4) * 192 + 192; omega

/-- What grid point `t` writes back is its block of the result. -/
theorem flushed15_eq (c : Dev nD) (t : Fin cfg0.N) :
    (dats m 0 c).flushed 15 t = ((cfg0.win 15).blk t).view.read (Elt Ideal) (vArr (rows m c)) := by
  rw [Value.flushed15]
  funext j
  refine (show _ = (outsAt0 m c t).2.2 j from rfl).trans ((out15_apply c t j).trans ?_)
  show vBlk (rowsAt m c t) j = vArr (rows m c) (((cfg0.win 15).blk t).view.emb j)
  obtain ⟨⟨z1, z3⟩, ⟨u0, u1, u2, u3⟩, v0, v1, v2, v3⟩ := idx_out t
  have hj0 : (j 0).val < 1 := (j 0).isLt
  have hh : (((cfg0.win 15).blk t).view.emb j) 1 = (j 1 : Fin 8) := Fin.ext (by
    show win0_15.index t (1 : Fin 4) * 8 + 1 * (j 1).val = (j 1).val; omega)
  have hn : (((cfg0.win 15).blk t).view.emb j) 3 = (j 3 : Fin 128) := Fin.ext (by
    show win0_15.index t (3 : Fin 4) * 128 + 1 * (j 3).val = (j 3).val; omega)
  have hr := row_eq (m := m) c t (j 2) ((((cfg0.win 15).blk t).view.emb j) 0) ((((cfg0.win 15).blk t).view.emb j) 2)
    (by show _ = win0_15.index t (0 : Fin 4) * 1 + 1 * (j 0).val; omega)
    (by show _ = win0_15.index t (2 : Fin 4) * 512 + 1 * (j 2).val; omega)
  unfold vArr vBlk
  exact congr (congr (congrArg Row.v hr) hh.symm) hn.symm

theorem mem_blk15 (t : Fin cfg0.N) (i : S4x8x4096x128.Idx) :
    i ∈ ((cfg0.win 15).blk t).view.set ↔ ∀ a : Fin 4, win0_15.index t a * S1x8x512x128.size a ≤ (i a).val
      ∧ (i a).val < win0_15.index t a * S1x8x512x128.size a + S1x8x512x128.size a :=
  (cfg0.win 15).emb_mem_blk_iff t i

/-- The result array after the run. -/
theorem final15 (c : Dev nD) : (dats m 0 c).arrAt 15 cfg0.N = vArr (rows m c) :=
  (dats m 0 c).arrAt_eq_of_cover 15 _ (fun t _ => flushed15_eq c t) fun i => by
    have h0 : (i 0).val < 4 := (i 0).isLt
    have h1 : (i 1).val < 8 := (i 1).isLt
    have h2 : (i 2).val < 4096 := (i 2).isLt
    have h3 : (i 3).val < 128 := (i 3).isLt
    obtain ⟨t, ht⟩ := idx_onto ⟨(i 0).val, h0⟩ ⟨(i 2).val / 512, by omega⟩
    have q0 : win0_13.index t (0 : Fin 4) = (i 0).val := congrFun ht 0
    have q2 : win0_13.index t (2 : Fin 4) = (i 2).val / 512 := congrFun ht 2
    obtain ⟨⟨z1, z3⟩, ⟨u0, u1, u2, u3⟩, v0, v1, v2, v3⟩ := idx_out t
    refine ⟨t, flush0_15 t, ?_⟩
    rw [mem_blk15]
    intro a
    match a with
    | ⟨0, _⟩ => show win0_15.index t (0 : Fin 4) * 1 ≤ (i 0).val ∧ (i 0).val < win0_15.index t (0 : Fin 4) * 1 + 1; omega
    | ⟨1, _⟩ => show win0_15.index t (1 : Fin 4) * 8 ≤ (i 1).val ∧ (i 1).val < win0_15.index t (1 : Fin 4) * 8 + 8; omega
    | ⟨2, _⟩ => show win0_15.index t (2 : Fin 4) * 512 ≤ (i 2).val ∧ (i 2).val < win0_15.index t (2 : Fin 4) * 512 + 512; omega
    | ⟨3, _⟩ => show win0_15.index t (3 : Fin 4) * 128 ≤ (i 3).val ∧ (i 3).val < win0_15.index t (3 : Fin 4) * 128 + 128; omega

end Cert.Kernel5Ideal.Mla

end
-- ==== Proof.MlaHost.lean ====
/- The latent projections: what the host operations before the call leave in the arrays its windows read, as the rows of the
   arguments. -/
module

public import proofs.«01_k».proof.Proof.MlaArray
public import Idealize.ShloMosaic.Lib.IdealHost

@[expose] public section

noncomputable section

namespace Cert.Kernel5Ideal.Mla

open Cert.Kernel5Ideal Cert.Kernel5Ideal.Gen Idealize.ShloMosaic Idealize.ShloMosaic.ValueIdx Idealize.ShloMosaic.StableHlo
open Idealize.ShloMosaic.TcCoe
open scoped BigOperators

/-- The rotary column whose partner is column `e`: the halves swapped. -/
def swp (e : Fin 64) : Fin 64 := ⟨(e.val + 32) % 64, Nat.mod_lt _ (by decide)⟩

/-- The rotary frequencies. -/
def freq : FVec Ideal S32 .f32 :=
  Host.powf (broadcastInDim S32 ![] bcast_S_S32 (constant (F := Ideal) S_ .f32 0x461C4000#32))
    (Host.divf (Host.negf (sitofp .f32 (iotaInDim S32 32 0))) (broadcastInDim S32 ![] bcast_S_S32 (constant (F := Ideal) S_ .f32 0x42000000#32)))

/-- The row of token `s` of sequence `b`, from the arguments. -/
def argRow (x0 : Vec Ideal S4x4096x512 .f32) (x1 : Vec Ideal S4x4096x256 .f32) (x2 : Vec Ideal S4x4096x64 .f32) (x3 : Vec Ideal S4x4096 .i32)
    (x4 : Vec Ideal S512 .f32) (x5 : Vec Ideal S512x1536 .f32) (x6 : Vec Ideal S256 .f32) (x7 : Vec Ideal S256x2048 .f32) (b : Fin 4) (s : Fin 4096) : Row where
  cq k := x0 (ix3 b s k)
  ckv k := x1 (ix3 b s k)
  kr e := x2 (ix3 b s e)
  ks e := x2 (ix3 b s (swp e))
  pos := FloatOps.sitofp (F := Ideal) .f32 (x3 (ix2 b s))
  invf e := freq (ix1 (⟨e.val % 32, Nat.mod_lt _ (by decide)⟩ : Fin 32))
  sgn e := if e.val < 32 then -1 else 1
  qg k := x4 (ix1 k)
  kvg k := x6 (ix1 k)
  wqn k n := x5 (ix2 k (⟨n.val / 128 * 192 + n.val % 128, by omega⟩ : Fin 1536))
  wqr k n := x5 (ix2 k (⟨n.val / 64 * 192 + (128 + n.val % 64), by omega⟩ : Fin 1536))
  wqs k n := x5 (ix2 k (⟨n.val / 64 * 192 + (128 + (n.val % 64 + 32) % 64), by omega⟩ : Fin 1536))
  wkn k n := x7 (ix2 k (⟨n.val / 128 * 256 + n.val % 128, by omega⟩ : Fin 2048))
  wv k n := x7 (ix2 k (⟨n.val / 128 * 256 + (128 + n.val % 128), by omega⟩ : Fin 2048))

/-- A weight's columns split into heads. -/
theorem split_apply {K P W : ℕ} (w : FVec Ideal ⟨2, ![K, P]⟩ .f32) (hc : Shape.ShapeCasts ⟨2, ![K, P]⟩ ⟨3, ![K, 8, W]⟩) (hP : P = 8 * W) (k : Fin K) (h : Fin 8)
    (d : Fin W) (g : Fin P) (hg : g.val = h.val * W + d.val) : shapeCast ⟨3, ![K, 8, W]⟩ w hc (ix3 k h d) = w (ix2 k g) :=
  shapeCast_apply w hc (ix3 k h d) (ix2 k g) (by
    rw [Shape.rowMajor_val_two, Shape.rowMajor_val_three]
    show k.val * P + g.val = (k.val * 8 + h.val) * W + d.val
    rw [hg, hP]
    ring)

/-- The heads' columns joined. -/
theorem join_apply {K N q : ℕ} (w : FVec Ideal ⟨3, ![K, 8, q]⟩ .f32) (hc : Shape.ShapeCasts ⟨3, ![K, 8, q]⟩ ⟨2, ![K, N]⟩) (hN : N = 8 * q) (k : Fin K) (h : Fin 8)
    (e : Fin q) (n : Fin N) (hn : n.val = h.val * q + e.val) : shapeCast ⟨2, ![K, N]⟩ w hc (ix2 k n) = w (ix3 k h e) :=
  shapeCast_apply w hc (ix2 k n) (ix3 k h e) (by
    rw [Shape.rowMajor_val_two, Shape.rowMajor_val_three]
    show (k.val * 8 + h.val) * q + e.val = k.val * N + n.val
    rw [hn, hN]
    ring)

/-- Last coordinates cut out of a rank-3 array. -/
theorem cut3_apply {A B W q : ℕ} (o : ℕ) (w : FVec Ideal ⟨3, ![A, B, W]⟩ .f32) (hs : Shape.Slices ⟨3, ![A, B, W]⟩ ![0, 0, o] ⟨3, ![A, B, q]⟩) (a : Fin A) (b : Fin B)
    (e : Fin q) (d : Fin W) (hd : d.val = o + e.val) : extractStridedSlice ⟨3, ![A, B, q]⟩ ![0, 0, o] w hs (ix3 a b e) = w (ix3 a b d) :=
  extractStridedSlice_apply ![0, 0, o] w hs (ix3 a b e) (ix3 a b d) (fun i => match i with
    | ⟨0, _⟩ => (Nat.zero_add _).symm
    | ⟨1, _⟩ => (Nat.zero_add _).symm
    | ⟨2, _⟩ => hd)

/-- Columns of every head, joined: column `n` is head `n / q`, column `n % q`. -/
theorem heads_apply {K P W q N : ℕ} (o : ℕ) (w : FVec Ideal ⟨2, ![K, P]⟩ .f32) (hc : Shape.ShapeCasts ⟨2, ![K, P]⟩ ⟨3, ![K, 8, W]⟩)
    (hs : Shape.Slices ⟨3, ![K, 8, W]⟩ ![0, 0, o] ⟨3, ![K, 8, q]⟩) (hj : Shape.ShapeCasts ⟨3, ![K, 8, q]⟩ ⟨2, ![K, N]⟩) (hP : P = 8 * W) (hN : N = 8 * q) (hq : o + q ≤ W)
    (k : Fin K) (n : Fin N) (g : Fin P) (hg : g.val = n.val / q * W + (o + n.val % q)) :
    shapeCast ⟨2, ![K, N]⟩ (extractStridedSlice ⟨3, ![K, 8, q]⟩ ![0, 0, o] (shapeCast ⟨3, ![K, 8, W]⟩ w hc) hs) hj (ix2 k n) = w (ix2 k g) := by
  have hq0 : 0 < q := by
    rcases Nat.eq_zero_or_pos q with h | h
    · have hn := n.isLt
      have hz : N = 0 := by rw [hN, h]
      omega
    · exact h
  have hm : n.val % q < q := Nat.mod_lt _ hq0
  have hd : n.val / q < 8 := by
    have hn := n.isLt
    rw [Nat.div_lt_iff_lt_mul hq0]
    omega
  refine (join_apply _ hj hN k (⟨n.val / q, hd⟩ : Fin 8) (⟨n.val % q, hm⟩ : Fin q) n (Nat.div_add_mod' _ _).symm).trans ?_
  refine (cut3_apply o _ hs k _ _ (⟨o + n.val % q, by omega⟩ : Fin W) rfl).trans ?_
  exact split_apply w hc hP k _ _ g hg

/-- The columns gathered by an index that stays in range. -/
theorem gather_apply (x : FVec Ideal S512x8x64 .f32) (idx : IVec S64x1 32) (k : Fin 512) (h : Fin 8) (e l : Fin 64)
    (hl : (idx (ix2 e (0 : Fin 1))).toInt.toNat = l.val) :
    Host.gather gather_S512x8x64_S64x1_S512x8x64_01_2_n_n_2_1_51281 x idx (ix3 k h e) = x (ix3 k h l) := by
  unfold Host.gather
  refine congrArg x (funext fun a => Fin.ext ?_)
  show GatherDims.start _ (ix3 k h e) idx a + GatherDims.batchCoord _ (ix3 k h e) a + GatherDims.offCoord _ (ix3 k h e) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show ¬(0 : Fin 3) ∈ gather_S512x8x64_S64x1_S512x8x64_01_2_n_n_2_1_51281.startIndexMap by decide), Nat.zero_add]
    rfl
  · unfold GatherDims.start
    rw [dif_neg (show ¬(1 : Fin 3) ∈ gather_S512x8x64_S64x1_S512x8x64_01_2_n_n_2_1_51281.startIndexMap by decide), Nat.zero_add]
    rfl
  · rw [GatherDims.offCoord_eq_zero _ _ _ (show ¬(2 : Fin 3) ∈ gather_S512x8x64_S64x1_S512x8x64_01_2_n_n_2_1_51281.sKept by decide), Nat.add_zero]
    unfold GatherDims.start
    rw [dif_pos (show (2 : Fin 3) ∈ gather_S512x8x64_S64x1_S512x8x64_01_2_n_n_2_1_51281.startIndexMap by decide)]
    have hi : GatherDims.siIdx gather_S512x8x64_S64x1_S512x8x64_01_2_n_n_2_1_51281 (ix3 k h e) ⟨0, by decide⟩ = ix2 e (0 : Fin 1) := by
      funext b; refine Fin.ext ?_
      match b with
      | ⟨0, _⟩ => rfl
      | ⟨1, _⟩ => rfl
    refine (congrArg (fun z => min (idx z).toInt.toNat (64 - 1)) hi).trans ?_
    show min (idx (ix2 e (0 : Fin 1))).toInt.toNat (64 - 1) = l.val
    rw [hl]
    have := l.isLt
    omega

/-- The gather's indices swap the halves. -/
def swapIdx : IVec S64x1 32 :=
  broadcastInDim S64x1 ![0] bcast_S64_S64x1_0 (select (constantI S64 1 0#1) (addi (fun i => lit0 (S64.rowMajor i)) (broadcastInDim S64 ![] bcast_S_S64 (constantI S_ 32 64#32)))
    (fun i => lit0 (S64.rowMajor i)))

theorem swapIdx_apply (e : Fin 64) : (swapIdx (ix2 e (0 : Fin 1))).toInt.toNat = (swp e).val := by
  have h1 : swapIdx (ix2 e (0 : Fin 1)) = lit0 e := by
    unfold swapIdx
    refine (broadcastInDim_apply _ bcast_S64_S64x1_0 _ _ (ix1 e) (fun a => match a with
      | ⟨0, _⟩ => by show e.val = if (64 : Nat) = 1 then 0 else e.val; rw [if_neg (by decide)])).trans ?_
    show lit0 (S64.rowMajor (ix1 e)) = lit0 e
    exact congrArg lit0 (Fin.ext (Shape.rowMajor_val_one _))
  rw [h1]
  exact (by decide +kernel : ∀ e : Fin 64, (lit0 e).toInt.toNat = (swp e).val) e

section
variable (u0 : FVec Ideal S4x4096x4096 .f32) (u1 : FVec Ideal S4x4096x512 .f32) (u2 : FVec Ideal S4x4096x256 .f32) (u3 : FVec Ideal S4x4096x64 .f32)
  (u4 u5 : FVec Ideal S4x4096x32 .f32) (u6 : FVec Ideal S4x4096x2176 .f32) (b : Fin 4) (s : Fin 4096) (n : Fin 7168)

/-- The latents in the packed layout. -/
def pcat : FVec Ideal S4x4096x7168 .f32 :=
  concatenate S4x4096x7168 2 [⟨S4x4096x4096, u0⟩, ⟨S4x4096x512, u1⟩, ⟨S4x4096x256, u2⟩, ⟨S4x4096x64, u3⟩, ⟨S4x4096x32, u4⟩, ⟨S4x4096x32, u5⟩, ⟨S4x4096x2176, u6⟩]
    concatenates_S4x4096x4096_S4x4096x512_S4x4096x256_S4x4096x64_S4x4096x32_S4x4096x32_S4x4096x2176_S4x4096x7168_d2

theorem pcat_1 (l : Fin 512) (h : 4096 + l.val = n.val) : pcat u0 u1 u2 u3 u4 u5 u6 (ix3 b s n) = u1 (ix3 b s l) :=
  concatenate_apply_piece (2 : Fin 3) _ _ (ix3 b s n) 1 (by simp) S4x4096x512 u1 rfl rfl 4096 rfl (ix3 b s l)
    (fun a ha => match a with | ⟨0, _⟩ => rfl | ⟨1, _⟩ => rfl | ⟨2, _⟩ => absurd rfl ha) h

theorem pcat_2 (l : Fin 256) (h : 4608 + l.val = n.val) : pcat u0 u1 u2 u3 u4 u5 u6 (ix3 b s n) = u2 (ix3 b s l) :=
  concatenate_apply_piece (2 : Fin 3) _ _ (ix3 b s n) 2 (by simp) S4x4096x256 u2 rfl rfl 4608 rfl (ix3 b s l)
    (fun a ha => match a with | ⟨0, _⟩ => rfl | ⟨1, _⟩ => rfl | ⟨2, _⟩ => absurd rfl ha) h

theorem pcat_3 (l : Fin 64) (h : 4864 + l.val = n.val) : pcat u0 u1 u2 u3 u4 u5 u6 (ix3 b s n) = u3 (ix3 b s l) :=
  concatenate_apply_piece (2 : Fin 3) _ _ (ix3 b s n) 3 (by simp) S4x4096x64 u3 rfl rfl 4864 rfl (ix3 b s l)
    (fun a ha => match a with | ⟨0, _⟩ => rfl | ⟨1, _⟩ => rfl | ⟨2, _⟩ => absurd rfl ha) h

theorem pcat_4 (l : Fin 32) (h : 4928 + l.val = n.val) : pcat u0 u1 u2 u3 u4 u5 u6 (ix3 b s n) = u4 (ix3 b s l) :=
  concatenate_apply_piece (2 : Fin 3) _ _ (ix3 b s n) 4 (by simp) S4x4096x32 u4 rfl rfl 4928 rfl (ix3 b s l)
    (fun a ha => match a with | ⟨0, _⟩ => rfl | ⟨1, _⟩ => rfl | ⟨2, _⟩ => absurd rfl ha) h

theorem pcat_5 (l : Fin 32) (h : 4960 + l.val = n.val) : pcat u0 u1 u2 u3 u4 u5 u6 (ix3 b s n) = u5 (ix3 b s l) :=
  concatenate_apply_piece (2 : Fin 3) _ _ (ix3 b s n) 5 (by simp) S4x4096x32 u5 rfl rfl 4960 rfl (ix3 b s l)
    (fun a ha => match a with | ⟨0, _⟩ => rfl | ⟨1, _⟩ => rfl | ⟨2, _⟩ => absurd rfl ha) h

end

variable (m : (ℓ : Loc nD τ sig) → Buf (Elt Ideal) ℓ)

/-- The arguments on a device. -/
abbrev arg0 (c : Dev nD) : Vec Ideal S4x4096x512 .f32 := m ((c : Thread nD τ).loc main_arg0)
abbrev arg1 (c : Dev nD) : Vec Ideal S4x4096x256 .f32 := m ((c : Thread nD τ).loc main_arg1)
abbrev arg2 (c : Dev nD) : Vec Ideal S4x4096x64 .f32 := m ((c : Thread nD τ).loc main_arg2)
abbrev arg3 (c : Dev nD) : Vec Ideal S4x4096 .i32 := m ((c : Thread nD τ).loc main_arg3)
abbrev arg4 (c : Dev nD) : Vec Ideal S512 .f32 := m ((c : Thread nD τ).loc main_arg4)
abbrev arg5 (c : Dev nD) : Vec Ideal S512x1536 .f32 := m ((c : Thread nD τ).loc main_arg5)
abbrev arg6 (c : Dev nD) : Vec Ideal S256 .f32 := m ((c : Thread nD τ).loc main_arg6)
abbrev arg7 (c : Dev nD) : Vec Ideal S256x2048 .f32 := m ((c : Thread nD τ).loc main_arg7)

/-- The rotary columns of every head, with their halves swapped. -/
def swapped (w : Vec Ideal S512x1536 .f32) : FVec Ideal S512x8x64 .f32 :=
  Host.gather gather_S512x8x64_S64x1_S512x8x64_01_2_n_n_2_1_51281 (extractStridedSlice S512x8x64 ![0, 0, 128] (shapeCast S512x8x192 w shapeCasts_S512x1536_S512x8x192) slices_S512x8x192_S512x8x64_0_0_128) swapIdx

theorem V7_eq (c : Dev nD) : (V m c main_v7 : Vec Ideal S1x64 .f32) = shapeCast S1x64 (concatenate S64 0 [⟨S32, freq⟩, ⟨S32, freq⟩] concatenates_S32_S32_S64_d0) shapeCasts_S64_S1x64 := by
  show StableHlo.after hostOps0 _ _ = _
  after_results
  rfl

theorem V12_eq (c : Dev nD) : (V m c main_v12 : Vec Ideal S1x64 .f32) = shapeCast S1x64 (concatenate S64 0 [⟨S32, Host.negf (broadcastInDim S32 ![] bcast_S_S32 (constant (F := Ideal) S_ .f32 0x3F800000#32))⟩,
    ⟨S32, broadcastInDim S32 ![] bcast_S_S32 (constant (F := Ideal) S_ .f32 0x3F800000#32)⟩] concatenates_S32_S32_S64_d0) shapeCasts_S64_S1x64 := by
  show StableHlo.after hostOps0 _ _ = _
  after_results
  rfl

theorem V13_eq (c : Dev nD) : (V m c main_v13 : Vec Ideal S4x4096x1 .i32) = shapeCast S4x4096x1 (arg3 m c) shapeCasts_S4x4096_S4x4096x1 := by
  show StableHlo.after hostOps0 _ _ = _
  after_results
  rfl

theorem V19_eq (c : Dev nD) : (V m c main_v19 : Vec Ideal S4x4096x7168 .bf16) = truncf (F := Ideal) .bf16
    (pcat (broadcastInDim S4x4096x4096 ![] bcast_S_S4x4096x4096 (constant (F := Ideal) S_ .f32 0x00000000#32)) (arg0 m c) (arg1 m c) (arg2 m c)
      (extractStridedSlice S4x4096x32 ![0, 0, 32] (arg2 m c) slices_S4x4096x64_S4x4096x32_0_0_32)
      (extractStridedSlice S4x4096x32 ![0, 0, 0] (arg2 m c) slices_S4x4096x64_S4x4096x32_0_0_0)
      (broadcastInDim S4x4096x2176 ![] bcast_S_S4x4096x2176 (constant (F := Ideal) S_ .f32 0x00000000#32))) bitsLt_bf16_f32 := by
  show StableHlo.after hostOps0 _ _ = _
  after_results
  rfl

theorem V23_eq (c : Dev nD) : (V m c main_v23 : Vec Ideal S512x1024 .bf16) = truncf (F := Ideal) .bf16 (shapeCast S512x1024
    (extractStridedSlice S512x8x128 ![0, 0, 0] (shapeCast S512x8x192 (arg5 m c) shapeCasts_S512x1536_S512x8x192) slices_S512x8x192_S512x8x128_0_0_0)
    shapeCasts_S512x8x128_S512x1024) bitsLt_bf16_f32 := by
  show StableHlo.after hostOps0 _ _ = _
  after_results
  rfl

theorem V26_eq (c : Dev nD) : (V m c main_v26 : Vec Ideal S512x512 .bf16) = truncf (F := Ideal) .bf16 (shapeCast S512x512
    (extractStridedSlice S512x8x64 ![0, 0, 128] (shapeCast S512x8x192 (arg5 m c) shapeCasts_S512x1536_S512x8x192) slices_S512x8x192_S512x8x64_0_0_128)
    shapeCasts_S512x8x64_S512x512) bitsLt_bf16_f32 := by
  show StableHlo.after hostOps0 _ _ = _
  after_results
  rfl

theorem V34_eq (c : Dev nD) : (V m c main_v34 : Vec Ideal S512x512 .bf16) = truncf (F := Ideal) .bf16 (shapeCast S512x512
    (swapped (arg5 m c))
    shapeCasts_S512x8x64_S512x512) bitsLt_bf16_f32 := by
  show StableHlo.after hostOps0 _ _ = _
  after_results
  rfl

theorem V38_eq (c : Dev nD) : (V m c main_v38 : Vec Ideal S256x1024 .bf16) = truncf (F := Ideal) .bf16 (shapeCast S256x1024
    (extractStridedSlice S256x8x128 ![0, 0, 0] (shapeCast S256x8x256 (arg7 m c) shapeCasts_S256x2048_S256x8x256) slices_S256x8x256_S256x8x128_0_0_0)
    shapeCasts_S256x8x128_S256x1024) bitsLt_bf16_f32 := by
  show StableHlo.after hostOps0 _ _ = _
  after_results
  rfl

theorem V41_eq (c : Dev nD) : (V m c main_v41 : Vec Ideal S256x1024 .bf16) = truncf (F := Ideal) .bf16 (shapeCast S256x1024
    (extractStridedSlice S256x8x128 ![0, 0, 128] (shapeCast S256x8x256 (arg7 m c) shapeCasts_S256x2048_S256x8x256) slices_S256x8x256_S256x8x128_0_0_128)
    shapeCasts_S256x8x128_S256x1024) bitsLt_bf16_f32 := by
  show StableHlo.after hostOps0 _ _ = _
  after_results
  rfl

theorem V42_eq (c : Dev nD) : (V m c main_v42 : Vec Ideal S1x512 .f32) = shapeCast S1x512 (arg4 m c) shapeCasts_S512_S1x512 := by
  show StableHlo.after hostOps0 _ _ = _
  after_results
  rfl

theorem V43_eq (c : Dev nD) : (V m c main_v43 : Vec Ideal S1x256 .f32) = shapeCast S1x256 (arg6 m c) shapeCasts_S256_S1x256 := by
  show StableHlo.after hostOps0 _ _ = _
  after_results
  rfl

/-- A row of 64 kept as one row. -/
theorem row64_apply {N : ℕ} (v : FVec Ideal ⟨1, ![N]⟩ .f32) (hc : Shape.ShapeCasts ⟨1, ![N]⟩ ⟨2, ![1, N]⟩) (e : Fin N) :
    shapeCast ⟨2, ![1, N]⟩ v hc (ix2 (0 : Fin 1) e) = v (ix1 e) :=
  shapeCast_apply v hc (ix2 (0 : Fin 1) e) (ix1 e) (by
    rw [Shape.rowMajor_val_one, Shape.rowMajor_val_two]
    show e.val = 0 * N + e.val
    rw [Nat.zero_mul, Nat.zero_add])

/-- Two halves joined. -/
theorem halves_low (x y : FVec Ideal S32 .f32) (e : Fin 64) (l : Fin 32) (h : l.val = e.val) :
    concatenate S64 0 [⟨S32, x⟩, ⟨S32, y⟩] concatenates_S32_S32_S64_d0 (ix1 e) = x (ix1 l) :=
  concatenate_pair_apply_left (s₁ := S32) (s₂ := S32) (0 : Fin 1) _ _ _ (ix1 e) rfl (ix1 l) (fun b => match b with
    | ⟨0, _⟩ => h)

theorem halves_high (x y : FVec Ideal S32 .f32) (e : Fin 64) (l : Fin 32) (h : l.val + 32 = e.val) :
    concatenate S64 0 [⟨S32, x⟩, ⟨S32, y⟩] concatenates_S32_S32_S64_d0 (ix1 e) = y (ix1 l) :=
  concatenate_pair_apply_right (s₁ := S32) (s₂ := S32) (0 : Fin 1) _ _ _ (ix1 e) rfl rfl (ix1 l) (fun b hb => match b with
    | ⟨0, _⟩ => absurd rfl hb) h

theorem V7_apply (c : Dev nD) (e : Fin 64) :
    (V m c main_v7 : Vec Ideal S1x64 .f32) (ix2 (0 : Fin 1) e) = freq (ix1 (⟨e.val % 32, Nat.mod_lt _ (by decide)⟩ : Fin 32)) := by
  refine (congrFun (V7_eq m c) _).trans ((row64_apply _ shapeCasts_S64_S1x64 e).trans ?_)
  have he := e.isLt
  by_cases h : e.val < 32
  · exact halves_low _ _ e _ (show e.val % 32 = e.val by omega)
  · exact halves_high _ _ e _ (show e.val % 32 + 32 = e.val by omega)

theorem V12_apply (c : Dev nD) (e : Fin 64) : (V m c main_v12 : Vec Ideal S1x64 .f32) (ix2 (0 : Fin 1) e) = (if e.val < 32 then (-1 : EReal) else 1) := by
  refine (congrFun (V12_eq m c) _).trans ((row64_apply _ shapeCasts_S64_S1x64 e).trans ?_)
  have he := e.isLt
  have h1 : ∀ i : S32.Idx, broadcastInDim S32 ![] bcast_S_S32 (constant (F := Ideal) S_ .f32 0x3F800000#32) i = (1 : EReal) := fun i =>
    (broadcastInDim_apply _ bcast_S_S32 _ _ (fun a => a.elim0) (fun a => a.elim0)).trans Ideal.ofBits_one_f32
  by_cases h : e.val < 32
  · rw [if_pos h]
    refine (halves_low _ _ e (⟨e.val, h⟩ : Fin 32) rfl).trans ?_
    exact congrArg (fun z : EReal => -z) (h1 _)
  · rw [if_neg h]
    exact (halves_high _ _ e (⟨e.val - 32, by omega⟩ : Fin 32) (show e.val - 32 + 32 = e.val by omega)).trans (h1 _)

theorem V13_apply (c : Dev nD) (b : Fin 4) (s : Fin 4096) : (V m c main_v13 : Vec Ideal S4x4096x1 .i32) (ix3 b s (0 : Fin 1)) = arg3 m c (ix2 b s) :=
  (congrFun (V13_eq m c) _).trans (shapeCast_apply _ _ (ix3 b s (0 : Fin 1)) (ix2 b s) (by
    rw [Shape.rowMajor_val_two, Shape.rowMajor_val_three]
    show b.val * 4096 + s.val = (b.val * 4096 + s.val) * 1 + 0
    omega))

theorem V19_swap (c : Dev nD) (b : Fin 4) (s : Fin 4096) (e : Fin 64) :
    (V m c main_v19 : Vec Ideal S4x4096x7168 .bf16) (ix3 b s (⟨4928 + e.val, by omega⟩ : Fin 7168)) = arg2 m c (ix3 b s (swp e)) := by
  refine (congrFun (V19_eq m c) _).trans ?_
  have he := e.isLt
  by_cases h : e.val < 32
  · refine (pcat_4 _ _ _ _ _ _ _ b s _ (⟨e.val, h⟩ : Fin 32) rfl).trans ?_
    exact cut3_apply 32 _ _ b s (⟨e.val, h⟩ : Fin 32) (swp e) (show (e.val + 32) % 64 = 32 + e.val by omega)
  · refine (pcat_5 _ _ _ _ _ _ _ b s _ (⟨e.val - 32, by omega⟩ : Fin 32) (show 4960 + (e.val - 32) = 4928 + e.val by omega)).trans ?_
    exact cut3_apply 0 _ _ b s (⟨e.val - 32, by omega⟩ : Fin 32) (swp e) (show (e.val + 32) % 64 = 0 + (e.val - 32) by omega)

theorem V34_apply (c : Dev nD) (k n : Fin 512) :
    (V m c main_v34 : Vec Ideal S512x512 .bf16) (ix2 k n) = arg5 m c (ix2 k (⟨n.val / 64 * 192 + (128 + (n.val % 64 + 32) % 64), by omega⟩ : Fin 1536)) := by
  refine (congrFun (V34_eq m c) _).trans ?_
  refine (join_apply (K := 512) (N := 512) (q := 64) (swapped (arg5 m c)) shapeCasts_S512x8x64_S512x512 rfl k (⟨n.val / 64, by omega⟩ : Fin 8) (⟨n.val % 64, by omega⟩ : Fin 64) n
    (show n.val = n.val / 64 * 64 + n.val % 64 by omega)).trans ?_
  unfold swapped
  refine (gather_apply _ _ k _ _ (swp ⟨n.val % 64, by omega⟩) (swapIdx_apply _)).trans ?_
  have hl : 128 + (n.val % 64 + 32) % 64 < 192 := by omega
  have hd : n.val / 64 < 8 := by omega
  have hg : n.val / 64 * 192 + (128 + (n.val % 64 + 32) % 64) < 1536 := by omega
  refine (cut3_apply (A := 512) (B := 8) (W := 192) (q := 64) 128 _ slices_S512x8x192_S512x8x64_0_0_128 k (⟨n.val / 64, hd⟩ : Fin 8) (swp ⟨n.val % 64, by omega⟩)
    (⟨128 + (n.val % 64 + 32) % 64, hl⟩ : Fin 192) rfl).trans ?_
  exact split_apply (K := 512) (P := 1536) (W := 192) (arg5 m c) shapeCasts_S512x1536_S512x8x192 rfl k (⟨n.val / 64, hd⟩ : Fin 8)
    (⟨128 + (n.val % 64 + 32) % 64, hl⟩ : Fin 192) (⟨n.val / 64 * 192 + (128 + (n.val % 64 + 32) % 64), hg⟩ : Fin 1536) rfl

/-- The rows of the call's arrays are the arguments'. -/
theorem rows_eq (c : Dev nD) :
    rows m c = argRow (arg0 m c) (arg1 m c) (arg2 m c) (arg3 m c) (arg4 m c) (arg5 m c) (arg6 m c) (arg7 m c) := by
  funext b s
  unfold rows rowAt argRow
  refine Row.ext ?_ ?_ ?_ ?_ ?_ ?_ ?_ ?_ ?_ ?_ ?_ ?_ ?_ ?_ <;> dsimp only
  · funext k; exact (congrFun (V19_eq m c) _).trans (pcat_1 _ _ _ _ _ _ _ b s _ k rfl)
  · funext k; exact (congrFun (V19_eq m c) _).trans (pcat_2 _ _ _ _ _ _ _ b s _ k rfl)
  · funext e; exact (congrFun (V19_eq m c) _).trans (pcat_3 _ _ _ _ _ _ _ b s _ e rfl)
  · funext e; exact V19_swap m c b s e
  · exact congrArg (FloatOps.sitofp (F := Ideal) .f32) (V13_apply m c b s)
  · funext e; exact V7_apply m c e
  · funext e; exact V12_apply m c e
  · funext k; exact (congrFun (V42_eq m c) _).trans (row64_apply _ shapeCasts_S512_S1x512 k)
  · funext k; exact (congrFun (V43_eq m c) _).trans (row64_apply _ shapeCasts_S256_S1x256 k)
  · funext k n; exact (congrFun (V23_eq m c) _).trans (heads_apply (K := 512) (P := 1536) (W := 192) (q := 128) (N := 1024) 0
      (arg5 m c) shapeCasts_S512x1536_S512x8x192 slices_S512x8x192_S512x8x128_0_0_0 shapeCasts_S512x8x128_S512x1024
      rfl rfl (by decide) k n _ (congrArg (n.val / 128 * 192 + ·) (Nat.zero_add _).symm))
  · funext k n; exact (congrFun (V26_eq m c) _).trans (heads_apply (K := 512) (P := 1536) (W := 192) (q := 64) (N := 512) 128
      (arg5 m c) shapeCasts_S512x1536_S512x8x192 slices_S512x8x192_S512x8x64_0_0_128 shapeCasts_S512x8x64_S512x512
      rfl rfl (by decide) k n _ rfl)
  · funext k n; exact V34_apply m c k n
  · funext k n; exact (congrFun (V38_eq m c) _).trans (heads_apply (K := 256) (P := 2048) (W := 256) (q := 128) (N := 1024) 0
      (arg7 m c) shapeCasts_S256x2048_S256x8x256 slices_S256x8x256_S256x8x128_0_0_0 shapeCasts_S256x8x128_S256x1024
      rfl rfl (by decide) k n _ (congrArg (n.val / 128 * 256 + ·) (Nat.zero_add _).symm))
  · funext k n; exact (congrFun (V41_eq m c) _).trans (heads_apply (K := 256) (P := 2048) (W := 256) (q := 128) (N := 1024) 128
      (arg7 m c) shapeCasts_S256x2048_S256x8x256 slices_S256x8x256_S256x8x128_0_0_128 shapeCasts_S256x8x128_S256x1024
      rfl rfl (by decide) k n _ rfl)

end Cert.Kernel5Ideal.Mla

end
-- ==== Proof.MlaRef.lean ====
/- The reference of the latent projections read at one index of each result: the rows of the arguments, as the call's. -/
module

public import proofs.«01_k».proof.Proof.MlaHost
public import proofs.«01_k».proof.Proof.Gen.Reference5Ideal.Run
public import proofs.«01_k».proof.Proof.Gen.Reference5Ideal.Read

@[expose] public section

noncomputable section

namespace Cert.Reference5Ideal.Mla

open Cert.Reference5Ideal Cert.Reference5Ideal.Gen Cert.Reference5Ideal.Read Idealize.ShloMosaic Idealize.ShloMosaic.ValueIdx
open Cert.Kernel5Ideal.Mla (Row argRow nrm swp freq c128 c64 scale q_low q_high k_low k_high)
open scoped BigOperators

/-- An index is the one with its coordinates. -/
theorem at2 {A B : ℕ} (i : (⟨2, ![A, B]⟩ : Shape).Idx) (a : Fin A) (b : Fin B) (h0 : (i 0).val = a.val) (h1 : (i 1).val = b.val) : i = ix2 a b :=
  funext fun x => Fin.ext (match x with
    | ⟨0, _⟩ => h0
    | ⟨1, _⟩ => h1)

theorem at3 {A B C : ℕ} (i : (⟨3, ![A, B, C]⟩ : Shape).Idx) (a : Fin A) (b : Fin B) (c : Fin C) (h0 : (i 0).val = a.val) (h1 : (i 1).val = b.val)
    (h2 : (i 2).val = c.val) : i = ix3 a b c :=
  funext fun x => Fin.ext (match x with
    | ⟨0, _⟩ => h0
    | ⟨1, _⟩ => h1
    | ⟨2, _⟩ => h2)

theorem at4 {A B C D : ℕ} (i : (⟨4, ![A, B, C, D]⟩ : Shape).Idx) (a : Fin A) (b : Fin B) (c : Fin C) (d : Fin D) (h0 : (i 0).val = a.val) (h1 : (i 1).val = b.val)
    (h2 : (i 2).val = c.val) (h3 : (i 3).val = d.val) : i = ix4 a b c d :=
  funext fun x => Fin.ext (match x with
    | ⟨0, _⟩ => h0
    | ⟨1, _⟩ => h1
    | ⟨2, _⟩ => h2
    | ⟨3, _⟩ => h3)

variable (x0 : (⟨S4x4096x512, .f32⟩ : BufTy).Contents (Elt Ideal)) (x1 : (⟨S4x4096x256, .f32⟩ : BufTy).Contents (Elt Ideal))
  (x2 : (⟨S4x4096x64, .f32⟩ : BufTy).Contents (Elt Ideal)) (x3 : (⟨S4x4096, .i32⟩ : BufTy).Contents (Elt Ideal)) (x4 : (⟨S512, .f32⟩ : BufTy).Contents (Elt Ideal))
  (x5 : (⟨S512x1536, .f32⟩ : BufTy).Contents (Elt Ideal)) (x6 : (⟨S256, .f32⟩ : BufTy).Contents (Elt Ideal)) (x7 : (⟨S256x2048, .f32⟩ : BufTy).Contents (Elt Ideal))
  (b : Fin 4) (s : Fin 4096)

/-- The normalised latents. -/
theorem hq_apply (k : Fin 512) : val_main_v26 (F := Ideal) x0 x4 (ix3 b s k) = nrm (Ideal.ofBits .f32 0x44000000#32) (fun j => x0 (ix3 b s j)) (fun j => x4 (ix1 j)) k := by
  have hsum : val_main_v15 (F := Ideal) x0 (ix2 b s) = ∑ j : Fin 512, x0 (ix3 b s j) * x0 (ix3 b s j) := by
    rw [val_main_v15_apply, val_main_cst_1_apply]
    refine (congrArg (· + _) Ideal.ofBits_zero_f32).trans ((zero_add _).trans (Finset.sum_congr rfl fun j _ => ?_))
    rw [val_main_v14_apply, at3 (idx_main_v15 (ix2 b s) j) b s j rfl rfl rfl]
    rfl
  have hr : val_main_v22 (F := Ideal) x0 (ix3 b s k) = Ideal.rsqrt (Ideal.div (∑ j : Fin 512, x0 (ix3 b s j) * x0 (ix3 b s j))
      (Ideal.ofBits .f32 0x44000000#32) + Ideal.ofBits .f32 0x358637BD#32) := by
    rw [val_main_v22_apply, val_main_v21_apply, val_main_v20_apply, val_main_v19_apply, val_main_cst_3_apply, val_main_v18_apply, val_main_v17_apply,
      val_main_cst_2_apply, val_main_v16_apply]
    refine congrArg (fun z => Ideal.rsqrt (Ideal.div z (Ideal.ofBits .f32 0x44000000#32) + Ideal.ofBits .f32 0x358637BD#32)) ?_
    exact (congrArg (val_main_v15 (F := Ideal) x0) (at2 _ b s rfl rfl)).trans hsum
  have hg : val_main_v25 (F := Ideal) x4 (ix3 b s k) = x4 (ix1 k) := by
    rw [val_main_v25_apply, val_main_v24_apply]
    exact congrArg x4 (funext fun a => Fin.ext (match a with
      | ⟨0, _⟩ => rfl))
  rw [val_main_v26_apply, val_main_v23_apply, hr, hg]
  rfl

/-- The normalised latents. -/
theorem hkv_apply (k : Fin 256) : val_main_v59 (F := Ideal) x1 x6 (ix3 b s k) = nrm (Ideal.ofBits .f32 0x43800000#32) (fun j => x1 (ix3 b s j)) (fun j => x6 (ix1 j)) k := by
  have hsum : val_main_v48 (F := Ideal) x1 (ix2 b s) = ∑ j : Fin 256, x1 (ix3 b s j) * x1 (ix3 b s j) := by
    rw [val_main_v48_apply, val_main_cst_4_apply]
    refine (congrArg (· + _) Ideal.ofBits_zero_f32).trans ((zero_add _).trans (Finset.sum_congr rfl fun j _ => ?_))
    rw [val_main_v47_apply, at3 (idx_main_v48 (ix2 b s) j) b s j rfl rfl rfl]
    rfl
  have hr : val_main_v55 (F := Ideal) x1 (ix3 b s k) = Ideal.rsqrt (Ideal.div (∑ j : Fin 256, x1 (ix3 b s j) * x1 (ix3 b s j))
      (Ideal.ofBits .f32 0x43800000#32) + Ideal.ofBits .f32 0x358637BD#32) := by
    rw [val_main_v55_apply, val_main_v54_apply, val_main_v53_apply, val_main_v52_apply, val_main_cst_6_apply, val_main_v51_apply, val_main_v50_apply,
      val_main_cst_5_apply, val_main_v49_apply]
    refine congrArg (fun z => Ideal.rsqrt (Ideal.div z (Ideal.ofBits .f32 0x43800000#32) + Ideal.ofBits .f32 0x358637BD#32)) ?_
    exact (congrArg (val_main_v48 (F := Ideal) x1) (at2 _ b s rfl rfl)).trans hsum
  have hg : val_main_v58 (F := Ideal) x6 (ix3 b s k) = x6 (ix1 k) := by
    rw [val_main_v58_apply, val_main_v57_apply]
    exact congrArg x6 (funext fun a => Fin.ext (match a with
      | ⟨0, _⟩ => rfl))
  rw [val_main_v59_apply, val_main_v56_apply, hr, hg]
  rfl

/-- The row of the arguments. -/
abbrev row : Row := argRow x0 x1 x2 x3 x4 x5 x6 x7 b s

/-- The projected queries, and the projected keys and values, of head `h`. -/
def up (h : Fin 8) (d : Fin 192) : EReal := ∑ k, (row x0 x1 x2 x3 x4 x5 x6 x7 b s).hq k * x5 (ix2 k (⟨h.val * 192 + d.val, by omega⟩ : Fin 1536))
def ukv (h : Fin 8) (d : Fin 256) : EReal := ∑ k, (row x0 x1 x2 x3 x4 x5 x6 x7 b s).hkv k * x7 (ix2 k (⟨h.val * 256 + d.val, by omega⟩ : Fin 2048))

theorem up_apply (h : Fin 8) (d : Fin 192) : val_main_v28 (F := Ideal) x0 x4 x5 (ix4 b s h d) = up x0 x1 x2 x3 x4 x5 x6 x7 b s h d := by
  have hd := d.isLt
  have hh := h.isLt
  have hs := s.isLt
  have hb := b.isLt
  rw [val_main_v28_apply, at3 (idx_main_v28 (ix4 b s h d)) b s (⟨h.val * 192 + d.val, by omega⟩ : Fin 1536)
    (show (((b.val * 4096 + s.val) * 8 + h.val) * 192 + d.val) / 6291456 = b.val by omega)
    (show (((b.val * 4096 + s.val) * 8 + h.val) * 192 + d.val) / 1536 % 4096 = s.val by omega)
    (show (((b.val * 4096 + s.val) * 8 + h.val) * 192 + d.val) % 1536 = h.val * 192 + d.val by omega), val_main_v27_apply]
  refine Finset.sum_congr rfl fun k _ => congrArg₂ (· * ·) ?_ (congrArg x5 (at2 _ k _ rfl rfl))
  exact (congrArg (val_main_v26 (F := Ideal) x0 x4) (at3 _ b s k rfl rfl rfl)).trans (hq_apply x0 x4 b s k)

theorem ukv_apply (h : Fin 8) (d : Fin 256) : val_main_v61 (F := Ideal) x1 x6 x7 (ix4 b s h d) = ukv x0 x1 x2 x3 x4 x5 x6 x7 b s h d := by
  have hd := d.isLt
  have hh := h.isLt
  have hs := s.isLt
  have hb := b.isLt
  rw [val_main_v61_apply, at3 (idx_main_v61 (ix4 b s h d)) b s (⟨h.val * 256 + d.val, by omega⟩ : Fin 2048)
    (show (((b.val * 4096 + s.val) * 8 + h.val) * 256 + d.val) / 8388608 = b.val by omega)
    (show (((b.val * 4096 + s.val) * 8 + h.val) * 256 + d.val) / 2048 % 4096 = s.val by omega)
    (show (((b.val * 4096 + s.val) * 8 + h.val) * 256 + d.val) % 2048 = h.val * 256 + d.val by omega), val_main_v60_apply]
  refine Finset.sum_congr rfl fun k _ => congrArg₂ (· * ·) ?_ (congrArg x7 (at2 _ k _ rfl rfl))
  exact (congrArg (val_main_v59 (F := Ideal) x1 x6) (at3 _ b s k rfl rfl rfl)).trans (hkv_apply x1 x6 b s k)

/-- The angle's cosine and sine. -/
theorem ang_apply (j : Fin 32) : val_main_v11 (F := Ideal) x3 (ix3 b s j) = FloatOps.sitofp (F := Ideal) .f32 (x3 (ix2 b s)) * freq (ix1 j) := by
  rw [val_main_v11_apply, val_main_v9_apply, val_main_v7_apply, val_main_v6_apply, val_main_v10_apply, val_main_v8_apply]
  refine congrArg₂ (fun x y : EReal => x * y) (congrArg (fun i => FloatOps.sitofp (F := Ideal) .f32 (x3 i)) (at2 _ b s rfl rfl)) ?_
  exact (congrArg (val_main_v5 (F := Ideal)) (funext fun a => Fin.ext (match a with
    | ⟨0, _⟩ => rfl))).trans (show val_main_v5 (F := Ideal) (ix1 j) = freq (ix1 j) from rfl)

def cosj (j : Fin 32) : EReal := Ideal.cos (FloatOps.sitofp (F := Ideal) .f32 (x3 (ix2 b s)) * freq (ix1 j))
def sinj (j : Fin 32) : EReal := Ideal.sin (FloatOps.sitofp (F := Ideal) .f32 (x3 (ix2 b s)) * freq (ix1 j))

theorem cosj_apply (j : Fin 32) : val_main_v12 (F := Ideal) x3 (ix3 b s j) = cosj x3 b s j := by
  rw [val_main_v12_apply, ang_apply]
  rfl

theorem sinj_apply (j : Fin 32) : val_main_v13 (F := Ideal) x3 (ix3 b s j) = sinj x3 b s j := by
  rw [val_main_v13_apply, ang_apply]
  rfl

theorem v35_at (h : Fin 8) (j : Fin 32) : val_main_v35 (F := Ideal) x3 (ix4 b s h j) = cosj x3 b s j := by
  rw [val_main_v35_apply, val_main_v31_apply]
  exact (congrArg (val_main_v12 (F := Ideal) x3) (at3 _ b s j rfl rfl rfl)).trans (cosj_apply x3 b s j)

theorem v40_at (h : Fin 8) (j : Fin 32) : val_main_v40 (F := Ideal) x3 (ix4 b s h j) = cosj x3 b s j := by
  rw [val_main_v40_apply, val_main_v31_apply]
  exact (congrArg (val_main_v12 (F := Ideal) x3) (at3 _ b s j rfl rfl rfl)).trans (cosj_apply x3 b s j)

theorem v37_at (h : Fin 8) (j : Fin 32) : val_main_v37 (F := Ideal) x3 (ix4 b s h j) = sinj x3 b s j := by
  rw [val_main_v37_apply, val_main_v32_apply]
  exact (congrArg (val_main_v13 (F := Ideal) x3) (at3 _ b s j rfl rfl rfl)).trans (sinj_apply x3 b s j)

theorem v42_at (h : Fin 8) (j : Fin 32) : val_main_v42 (F := Ideal) x3 (ix4 b s h j) = sinj x3 b s j := by
  rw [val_main_v42_apply, val_main_v32_apply]
  exact (congrArg (val_main_v13 (F := Ideal) x3) (at3 _ b s j rfl rfl rfl)).trans (sinj_apply x3 b s j)

/-- A rotated column: the call's form of it, of a vector and its columns with the halves swapped. -/
theorem rot_low (X : Fin 64 → EReal) (e : Fin 64) (j : Fin 32) (h : e.val = j.val) :
    X e * (row x0 x1 x2 x3 x4 x5 x6 x7 b s).cos e + X (swp e) * (row x0 x1 x2 x3 x4 x5 x6 x7 b s).sin e
      = X (⟨j.val, by omega⟩ : Fin 64) * cosj x3 b s j - X (⟨32 + j.val, by omega⟩ : Fin 64) * sinj x3 b s j := by
  have hj := j.isLt
  have e1 : e = (⟨j.val, by omega⟩ : Fin 64) := Fin.ext h
  have e2 : swp e = (⟨32 + j.val, by omega⟩ : Fin 64) := Fin.ext (show (e.val + 32) % 64 = 32 + j.val by omega)
  have e3 : (⟨e.val % 32, Nat.mod_lt _ (by decide)⟩ : Fin 32) = j := Fin.ext (show e.val % 32 = j.val by omega)
  have hc : (row x0 x1 x2 x3 x4 x5 x6 x7 b s).cos e = cosj x3 b s j := congrArg (cosj x3 b s) e3
  have hs : (row x0 x1 x2 x3 x4 x5 x6 x7 b s).sin e = -(sinj x3 b s j) := by
    show sinj x3 b s (⟨e.val % 32, Nat.mod_lt _ (by decide)⟩ : Fin 32) * (if e.val < 32 then (-1 : EReal) else 1) = _
    rw [e3, if_pos (by omega), mul_neg, mul_one]
  rw [hc, hs, e2, mul_neg, ← sub_eq_add_neg, ← e1]

theorem rot_high (X : Fin 64 → EReal) (e : Fin 64) (j : Fin 32) (h : e.val = 32 + j.val) :
    X e * (row x0 x1 x2 x3 x4 x5 x6 x7 b s).cos e + X (swp e) * (row x0 x1 x2 x3 x4 x5 x6 x7 b s).sin e
      = X (⟨32 + j.val, by omega⟩ : Fin 64) * cosj x3 b s j + X (⟨j.val, by omega⟩ : Fin 64) * sinj x3 b s j := by
  have hj := j.isLt
  have e1 : e = (⟨32 + j.val, by omega⟩ : Fin 64) := Fin.ext h
  have e2 : swp e = (⟨j.val, by omega⟩ : Fin 64) := Fin.ext (show (e.val + 32) % 64 = j.val by omega)
  have e3 : (⟨e.val % 32, Nat.mod_lt _ (by decide)⟩ : Fin 32) = j := Fin.ext (show e.val % 32 = j.val by omega)
  have hc : (row x0 x1 x2 x3 x4 x5 x6 x7 b s).cos e = cosj x3 b s j := congrArg (cosj x3 b s) e3
  have hs : (row x0 x1 x2 x3 x4 x5 x6 x7 b s).sin e = sinj x3 b s j := by
    show sinj x3 b s (⟨e.val % 32, Nat.mod_lt _ (by decide)⟩ : Fin 32) * (if e.val < 32 then (-1 : EReal) else 1) = _
    rw [e3, if_neg (by omega), mul_one]
  rw [hc, hs, e2, ← e1]

/-- The rotary columns of a head's query before the rotation. -/
def qx (h : Fin 8) (e : Fin 64) : EReal := up x0 x1 x2 x3 x4 x5 x6 x7 b s h (⟨128 + e.val, by omega⟩ : Fin 192)

theorem v30_at (h : Fin 8) (e : Fin 64) : val_main_v30 (F := Ideal) x0 x4 x5 (ix4 b s h e) = qx x0 x1 x2 x3 x4 x5 x6 x7 b s h e := by
  rw [val_main_v30_apply, at4 (idx_main_v30 (ix4 b s h e)) b s h (⟨128 + e.val, by omega⟩ : Fin 192) rfl rfl rfl rfl]
  exact up_apply x0 x1 x2 x3 x4 x5 x6 x7 b s h _

theorem v33_at (h : Fin 8) (j : Fin 32) : val_main_v33 (F := Ideal) x0 x4 x5 (ix4 b s h j) = qx x0 x1 x2 x3 x4 x5 x6 x7 b s h (⟨j.val, by omega⟩ : Fin 64) := by
  rw [val_main_v33_apply, at4 (idx_main_v33 (ix4 b s h j)) b s h (⟨j.val, by omega⟩ : Fin 64) rfl rfl rfl rfl]
  exact v30_at x0 x1 x2 x3 x4 x5 x6 x7 b s h _

theorem v34_at (h : Fin 8) (j : Fin 32) : val_main_v34 (F := Ideal) x0 x4 x5 (ix4 b s h j) = qx x0 x1 x2 x3 x4 x5 x6 x7 b s h (⟨32 + j.val, by omega⟩ : Fin 64) := by
  rw [val_main_v34_apply, at4 (idx_main_v34 (ix4 b s h j)) b s h (⟨32 + j.val, by omega⟩ : Fin 64) rfl rfl rfl rfl]
  exact v30_at x0 x1 x2 x3 x4 x5 x6 x7 b s h _

/-- The rotated query. -/
theorem v45_at (h : Fin 8) (e : Fin 64) : val_main_v45 (F := Ideal) x0 x3 x4 x5 (ix4 b s h e)
    = qx x0 x1 x2 x3 x4 x5 x6 x7 b s h e * (row x0 x1 x2 x3 x4 x5 x6 x7 b s).cos e
      + qx x0 x1 x2 x3 x4 x5 x6 x7 b s h (swp e) * (row x0 x1 x2 x3 x4 x5 x6 x7 b s).sin e := by
  unfold val_main_v45
  have he := e.isLt
  by_cases hl : e.val < 32
  · refine (concatenate_pair_apply_left (s₁ := S4x4096x8x32) (s₂ := S4x4096x8x32) (3 : Fin 4) _ _ _ (ix4 b s h e) rfl (ix4 b s h (⟨e.val, hl⟩ : Fin 32)) (fun a => match a with
      | ⟨0, _⟩ => rfl
      | ⟨1, _⟩ => rfl
      | ⟨2, _⟩ => rfl
      | ⟨3, _⟩ => rfl)).trans ?_
    rw [val_main_v39_apply, val_main_v36_apply, val_main_v38_apply, v35_at, v37_at, v33_at x0 x1 x2 x3 x4 x5 x6 x7, v34_at x0 x1 x2 x3 x4 x5 x6 x7]
    exact (rot_low x0 x1 x2 x3 x4 x5 x6 x7 b s (qx x0 x1 x2 x3 x4 x5 x6 x7 b s h) e (⟨e.val, hl⟩ : Fin 32) rfl).symm
  · refine (concatenate_pair_apply_right (s₁ := S4x4096x8x32) (s₂ := S4x4096x8x32) (3 : Fin 4) _ _ _ (ix4 b s h e) rfl rfl (ix4 b s h (⟨e.val - 32, by omega⟩ : Fin 32)) (fun a ha => match a with
      | ⟨0, _⟩ => rfl
      | ⟨1, _⟩ => rfl
      | ⟨2, _⟩ => rfl
      | ⟨3, _⟩ => absurd rfl ha) (show e.val - 32 + 32 = e.val by omega)).trans ?_
    rw [val_main_v44_apply, val_main_v41_apply, val_main_v43_apply, v40_at, v42_at, v33_at x0 x1 x2 x3 x4 x5 x6 x7, v34_at x0 x1 x2 x3 x4 x5 x6 x7]
    exact (rot_high x0 x1 x2 x3 x4 x5 x6 x7 b s (qx x0 x1 x2 x3 x4 x5 x6 x7 b s h) e (⟨e.val - 32, by omega⟩ : Fin 32) (show e.val = 32 + (e.val - 32) by omega)).symm

/-- The rotated key. -/
theorem v72_at (e : Fin 64) : val_main_v72 (F := Ideal) x2 x3 (ix3 b s e) = (row x0 x1 x2 x3 x4 x5 x6 x7 b s).kp e := by
  unfold val_main_v72
  have he := e.isLt
  have h64 : ∀ j : Fin 32, val_main_v64 (F := Ideal) x2 (ix3 b s j) = x2 (ix3 b s (⟨j.val, by omega⟩ : Fin 64)) := fun j =>
    (val_main_v64_apply x2 _).trans (congrArg x2 (at3 _ b s _ rfl rfl rfl))
  have h65 : ∀ j : Fin 32, val_main_v65 (F := Ideal) x2 (ix3 b s j) = x2 (ix3 b s (⟨32 + j.val, by omega⟩ : Fin 64)) := fun j =>
    (val_main_v65_apply x2 _).trans (congrArg x2 (at3 _ b s _ rfl rfl rfl))
  by_cases hl : e.val < 32
  · refine (concatenate_pair_apply_left (s₁ := S4x4096x32) (s₂ := S4x4096x32) (2 : Fin 3) _ _ _ (ix3 b s e) rfl (ix3 b s (⟨e.val, hl⟩ : Fin 32)) (fun a => match a with
      | ⟨0, _⟩ => rfl
      | ⟨1, _⟩ => rfl
      | ⟨2, _⟩ => rfl)).trans ?_
    rw [val_main_v68_apply, val_main_v66_apply, val_main_v67_apply, cosj_apply, sinj_apply, h64, h65]
    exact (rot_low x0 x1 x2 x3 x4 x5 x6 x7 b s (fun z => x2 (ix3 b s z)) e (⟨e.val, hl⟩ : Fin 32) rfl).symm
  · refine (concatenate_pair_apply_right (s₁ := S4x4096x32) (s₂ := S4x4096x32) (2 : Fin 3) _ _ _ (ix3 b s e) rfl rfl (ix3 b s (⟨e.val - 32, by omega⟩ : Fin 32)) (fun a ha => match a with
      | ⟨0, _⟩ => rfl
      | ⟨1, _⟩ => rfl
      | ⟨2, _⟩ => absurd rfl ha) (show e.val - 32 + 32 = e.val by omega)).trans ?_
    rw [val_main_v71_apply, val_main_v69_apply, val_main_v70_apply, cosj_apply, sinj_apply, h64, h65]
    exact (rot_high x0 x1 x2 x3 x4 x5 x6 x7 b s (fun z => x2 (ix3 b s z)) e (⟨e.val - 32, by omega⟩ : Fin 32) (show e.val = 32 + (e.val - 32) by omega)).symm

/-- A head's columns of the weights. -/
theorem div128 (h : Fin 8) (d : Fin 128) : (c128 h d).val / 128 = h.val ∧ (c128 h d).val % 128 = d.val := by
  have hv : (c128 h d).val = h.val * 128 + d.val := rfl
  omega

theorem div64 (h : Fin 8) (e : Fin 64) : (c64 h e).val / 64 = h.val ∧ (c64 h e).val % 64 = e.val := by
  have hv : (c64 h e).val = h.val * 64 + e.val := rfl
  omega

theorem qn_eq (h : Fin 8) (d : Fin 128) : (row x0 x1 x2 x3 x4 x5 x6 x7 b s).qn h d = up x0 x1 x2 x3 x4 x5 x6 x7 b s h (⟨d.val, by omega⟩ : Fin 192) * scale :=
  congrArg (· * scale) (Finset.sum_congr rfl fun k _ => congrArg (fun z : Fin 1536 => (row x0 x1 x2 x3 x4 x5 x6 x7 b s).hq k * x5 (ix2 k z)) (Fin.ext (by
    show (c128 h d).val / 128 * 192 + (c128 h d).val % 128 = h.val * 192 + d.val
    rw [(div128 h d).1, (div128 h d).2])))

theorem qr_eq (h : Fin 8) (e : Fin 64) : (row x0 x1 x2 x3 x4 x5 x6 x7 b s).qr h e
    = (qx x0 x1 x2 x3 x4 x5 x6 x7 b s h e * (row x0 x1 x2 x3 x4 x5 x6 x7 b s).cos e
      + qx x0 x1 x2 x3 x4 x5 x6 x7 b s h (swp e) * (row x0 x1 x2 x3 x4 x5 x6 x7 b s).sin e) * scale := by
  unfold Row.qr qx up
  refine congrArg (· * scale) (congrArg₂ (· + ·) (congrArg (· * _) (Finset.sum_congr rfl fun k _ =>
    congrArg (fun z : Fin 1536 => (row x0 x1 x2 x3 x4 x5 x6 x7 b s).hq k * x5 (ix2 k z)) (Fin.ext ?_))) (congrArg (· * _) (Finset.sum_congr rfl fun k _ =>
    congrArg (fun z : Fin 1536 => (row x0 x1 x2 x3 x4 x5 x6 x7 b s).hq k * x5 (ix2 k z)) (Fin.ext ?_))))
  · show (c64 h e).val / 64 * 192 + (128 + (c64 h e).val % 64) = h.val * 192 + (128 + e.val)
    rw [(div64 h e).1, (div64 h e).2]
  · show (c64 h e).val / 64 * 192 + (128 + ((c64 h e).val % 64 + 32) % 64) = h.val * 192 + (128 + (e.val + 32) % 64)
    rw [(div64 h e).1, (div64 h e).2]

theorem kn_eq (h : Fin 8) (d : Fin 128) : (row x0 x1 x2 x3 x4 x5 x6 x7 b s).kn h d = ukv x0 x1 x2 x3 x4 x5 x6 x7 b s h (⟨d.val, by omega⟩ : Fin 256) :=
  Finset.sum_congr rfl fun k _ => congrArg (fun z : Fin 2048 => (row x0 x1 x2 x3 x4 x5 x6 x7 b s).hkv k * x7 (ix2 k z)) (Fin.ext (by
    show (c128 h d).val / 128 * 256 + (c128 h d).val % 128 = h.val * 256 + d.val
    rw [(div128 h d).1, (div128 h d).2]))

theorem v_eq (h : Fin 8) (d : Fin 128) : (row x0 x1 x2 x3 x4 x5 x6 x7 b s).v h d = ukv x0 x1 x2 x3 x4 x5 x6 x7 b s h (⟨128 + d.val, by omega⟩ : Fin 256) :=
  Finset.sum_congr rfl fun k _ => congrArg (fun z : Fin 2048 => (row x0 x1 x2 x3 x4 x5 x6 x7 b s).hkv k * x7 (ix2 k z)) (Fin.ext (by
    show (c128 h d).val / 128 * 256 + (128 + (c128 h d).val % 128) = h.val * 256 + (128 + d.val)
    rw [(div128 h d).1, (div128 h d).2]))

/-- The three results. -/
theorem q_apply (h : Fin 8) (d : Fin 192) : val_main_v79 (F := Ideal) x0 x3 x4 x5 (ix4 b h s d) = (row x0 x1 x2 x3 x4 x5 x6 x7 b s).q h d := by
  rw [val_main_v79_apply, val_main_v78_apply, at4 (idx_main_v78 (ix4 b h s d)) b s h d rfl rfl rfl rfl, val_main_v77_apply, val_main_v76_apply, val_main_cst_7_apply]
  show val_main_v46 (F := Ideal) x0 x3 x4 x5 (ix4 b s h d) * scale = _
  unfold val_main_v46
  have hd := d.isLt
  by_cases hl : d.val < 128
  · rw [q_low _ h d (⟨d.val, hl⟩ : Fin 128) rfl, qn_eq]
    refine congrArg (· * scale) ((concatenate_pair_apply_left (s₁ := S4x4096x8x128) (s₂ := S4x4096x8x64) (3 : Fin 4) _ _ _ (ix4 b s h d) rfl (ix4 b s h (⟨d.val, hl⟩ : Fin 128)) (fun a => match a with
      | ⟨0, _⟩ => rfl
      | ⟨1, _⟩ => rfl
      | ⟨2, _⟩ => rfl
      | ⟨3, _⟩ => rfl)).trans ?_)
    rw [val_main_v29_apply, at4 (idx_main_v29 (ix4 b s h (⟨d.val, hl⟩ : Fin 128))) b s h (⟨d.val, by omega⟩ : Fin 192) rfl rfl rfl rfl]
    exact up_apply x0 x1 x2 x3 x4 x5 x6 x7 b s h _
  · rw [q_high _ h d (⟨d.val - 128, by omega⟩ : Fin 64) (show d.val = 128 + (d.val - 128) by omega), qr_eq]
    refine congrArg (· * scale) ((concatenate_pair_apply_right (s₁ := S4x4096x8x128) (s₂ := S4x4096x8x64) (3 : Fin 4) _ _ _ (ix4 b s h d) rfl rfl (ix4 b s h (⟨d.val - 128, by omega⟩ : Fin 64)) (fun a ha => match a with
      | ⟨0, _⟩ => rfl
      | ⟨1, _⟩ => rfl
      | ⟨2, _⟩ => rfl
      | ⟨3, _⟩ => absurd rfl ha) (show d.val - 128 + 128 = d.val by omega)).trans ?_)
    exact v45_at x0 x1 x2 x3 x4 x5 x6 x7 b s h _

theorem k_apply (h : Fin 8) (d : Fin 192) : val_main_v81 (F := Ideal) x1 x2 x3 x6 x7 (ix4 b h s d) = (row x0 x1 x2 x3 x4 x5 x6 x7 b s).k h d := by
  rw [val_main_v81_apply, val_main_v80_apply, at4 (idx_main_v80 (ix4 b h s d)) b s h d rfl rfl rfl rfl]
  show val_main_v75 (F := Ideal) x1 x2 x3 x6 x7 (ix4 b s h d) = _
  unfold val_main_v75
  have hd := d.isLt
  by_cases hl : d.val < 128
  · rw [k_low _ h d (⟨d.val, hl⟩ : Fin 128) rfl, kn_eq]
    refine (concatenate_pair_apply_left (s₁ := S4x4096x8x128) (s₂ := S4x4096x8x64) (3 : Fin 4) _ _ _ (ix4 b s h d) rfl (ix4 b s h (⟨d.val, hl⟩ : Fin 128)) (fun a => match a with
      | ⟨0, _⟩ => rfl
      | ⟨1, _⟩ => rfl
      | ⟨2, _⟩ => rfl
      | ⟨3, _⟩ => rfl)).trans ?_
    rw [val_main_v62_apply, at4 (idx_main_v62 (ix4 b s h (⟨d.val, hl⟩ : Fin 128))) b s h (⟨d.val, by omega⟩ : Fin 256) rfl rfl rfl rfl]
    exact ukv_apply x0 x1 x2 x3 x4 x5 x6 x7 b s h _
  · rw [k_high _ h d (⟨d.val - 128, by omega⟩ : Fin 64) (show d.val = 128 + (d.val - 128) by omega)]
    refine (concatenate_pair_apply_right (s₁ := S4x4096x8x128) (s₂ := S4x4096x8x64) (3 : Fin 4) _ _ _ (ix4 b s h d) rfl rfl (ix4 b s h (⟨d.val - 128, by omega⟩ : Fin 64)) (fun a ha => match a with
      | ⟨0, _⟩ => rfl
      | ⟨1, _⟩ => rfl
      | ⟨2, _⟩ => rfl
      | ⟨3, _⟩ => absurd rfl ha) (show d.val - 128 + 128 = d.val by omega)).trans ?_
    rw [val_main_v74_apply, val_main_v73_apply]
    exact (congrArg (val_main_v72 (F := Ideal) x2 x3) (at3 _ b s _ rfl rfl rfl)).trans (v72_at x0 x1 x2 x3 x4 x5 x6 x7 b s _)

theorem v_apply (h : Fin 8) (d : Fin 128) : val_main_v83 (F := Ideal) x1 x6 x7 (ix4 b h s d) = (row x0 x1 x2 x3 x4 x5 x6 x7 b s).v h d := by
  rw [val_main_v83_apply, val_main_v82_apply, at4 (idx_main_v82 (ix4 b h s d)) b s h d rfl rfl rfl rfl, v_eq]
  show val_main_v63 (F := Ideal) x1 x6 x7 (ix4 b s h d) = _
  rw [val_main_v63_apply, at4 (idx_main_v63 (ix4 b s h d)) b s h (⟨128 + d.val, by omega⟩ : Fin 256) rfl rfl rfl rfl]
  exact ukv_apply x0 x1 x2 x3 x4 x5 x6 x7 b s h _

end Cert.Reference5Ideal.Mla

end
-- ==== Proof.MlaSpec.lean ====
/- The latent projections' call and its reference: the same queries, keys and values of the same arguments. -/
module

public import proofs.«01_k».proof.Proof.MlaArray
public import proofs.«01_k».proof.Proof.MlaRef

@[expose] public section

noncomputable section

namespace Cert.Kernel5Ideal.Mla

open Cert.Kernel5Ideal Cert.Kernel5Ideal.Gen Idealize.ShloMosaic Idealize.ShloMosaic.ValueIdx
open Cert.Reference5Ideal.Read (val_main_v79 val_main_v81 val_main_v83)

variable (m : (ℓ : Loc nD τ sig) → Buf (Elt Ideal) ℓ) (c : Dev nD)

theorem q_eq : (dats m 0 c).arrAt 13 cfg0.N = val_main_v79 (F := Ideal) (arg0 m c) (arg3 m c) (arg4 m c) (arg5 m c) := by
  rw [final13, rows_eq]
  funext i
  rw [eq_ix4 i]
  exact (Cert.Reference5Ideal.Mla.q_apply (arg0 m c) (arg1 m c) (arg2 m c) (arg3 m c) (arg4 m c) (arg5 m c) (arg6 m c) (arg7 m c) _ _ _ _).symm

theorem k_eq : (dats m 0 c).arrAt 14 cfg0.N = val_main_v81 (F := Ideal) (arg1 m c) (arg2 m c) (arg3 m c) (arg6 m c) (arg7 m c) := by
  rw [final14, rows_eq]
  funext i
  rw [eq_ix4 i]
  exact (Cert.Reference5Ideal.Mla.k_apply (arg0 m c) (arg1 m c) (arg2 m c) (arg3 m c) (arg4 m c) (arg5 m c) (arg6 m c) (arg7 m c) _ _ _ _).symm

theorem v_eq : (dats m 0 c).arrAt 15 cfg0.N = val_main_v83 (F := Ideal) (arg1 m c) (arg6 m c) (arg7 m c) := by
  rw [final15, rows_eq]
  funext i
  rw [eq_ix4 i]
  exact (Cert.Reference5Ideal.Mla.v_apply (arg0 m c) (arg1 m c) (arg2 m c) (arg3 m c) (arg4 m c) (arg5 m c) (arg6 m c) (arg7 m c) _ _ _ _).symm

end Cert.Kernel5Ideal.Mla

end
-- ==== Proof.ModSpec.lean ====
/- The modulation call over the extended reals: what a grid point writes, its result array from the three arrays its
   windows read, the reference read at an index, and their equality. -/
module

public import proofs.«01_k».proof.Proof.FfnArray
public import proofs.«01_k».proof.Proof.Gen.Kernel6Ideal.Value
public import proofs.«01_k».proof.Proof.Gen.Reference6Ideal.Run
public import proofs.«01_k».proof.Proof.Gen.Reference6Ideal.Read
public import Idealize.ShloMosaic.Lib.Routing.OpsSet

@[expose] public section

noncomputable section

namespace Cert.Kernel6Ideal.Mod

open Idealize.ShloMosaic Idealize.ShloMosaic.ValueIdx
open Cert.Kernel2Ideal.Ffn (sigm)
open scoped BigOperators

/-- Row `r` of the conditions at column `k`: the four given rows, then rows of zeros. -/
def padded (x : (⟨2, ![4, 1024]⟩ : Shape).Idx → EReal) (r : Fin 8) (k : Fin 1024) : EReal :=
  if h : r.val < 4 then x (ix2 (⟨r.val, h⟩ : Fin 4) k) else Ideal.ofBits .f32 0x00000000#32

/-- One modulation value: the row's values times their sigmoids, summed with a column of the weight, plus the bias. -/
def modAt (x w : Fin 1024 → EReal) (b : EReal) : EReal := (∑ k, (x k * sigm (x k)) * w k) + b

end Cert.Kernel6Ideal.Mod

namespace Cert.Reference6Ideal.Mod

open Cert.Reference6Ideal Cert.Reference6Ideal.Gen Cert.Reference6Ideal.Read Idealize.ShloMosaic Idealize.ShloMosaic.ValueIdx
open Cert.Kernel6Ideal.Mod (padded modAt)
open Cert.Kernel2Ideal.Ffn (sigm)
open scoped BigOperators

variable (x0 : (⟨S4x1024, .f32⟩ : BufTy).Contents (Elt Ideal)) (x1 : (⟨S1024x6144, .f32⟩ : BufTy).Contents (Elt Ideal))
  (x2 : (⟨S6144, .f32⟩ : BufTy).Contents (Elt Ideal))

theorem v1_apply (r : Fin 8) (k : Fin 1024) : val_main_v1 (F := Ideal) x0 (ix2 r k) = padded x0 r k := by
  unfold padded val_main_v1
  by_cases h : r.val < 4
  · rw [dif_pos h]
    exact concatenate_pair_apply_left (s₁ := S4x1024) (s₂ := S4x1024) (0 : Fin 2) _ _ _ (ix2 r k) rfl (ix2 (⟨r.val, h⟩ : Fin 4) k) (fun b => match b with
      | ⟨0, _⟩ => rfl
      | ⟨1, _⟩ => rfl)
  · rw [dif_neg h]
    refine (concatenate_pair_apply_right (s₁ := S4x1024) (s₂ := S4x1024) (0 : Fin 2) _ _ _ (ix2 r k) rfl rfl
      (ix2 (⟨r.val - 4, by have := r.isLt; omega⟩ : Fin 4) k) (fun b hb => match b with
      | ⟨0, _⟩ => absurd rfl hb
      | ⟨1, _⟩ => rfl) (by show r.val - 4 + 4 = r.val; omega)).trans ?_
    rw [val_main_v0_apply, val_main_cst_apply]
    rfl

theorem v2_apply (r : Fin 8) (k : Fin 1024) :
    val_main_v2 (F := Ideal) x0 (ix2 r k) = padded x0 r k * sigm (padded x0 r k) := by
  rw [val_main_v2_apply, val_main_call0_v5_apply, val_main_call0_v4_apply, val_main_call0_cst_0_apply,
    val_main_call0_v3_apply, val_main_call0_v2_apply, val_main_call0_cst_apply, val_main_call0_v1_apply, val_main_call0_v0_apply, v1_apply]
  rfl

/-- The reference's result at an index. -/
theorem v6_apply (r : Fin 8) (n : Fin 6144) :
    val_main_v6 (F := Ideal) x0 x1 x2 (ix2 r n) = modAt (padded x0 r) (fun k => x1 (ix2 k n)) (x2 (ix1 n)) := by
  rw [val_main_v6_apply, val_main_v3_apply, val_main_v5_apply, val_main_v4_apply]
  unfold modAt
  refine congrArg₂ (· + ·) (Finset.sum_congr rfl fun k _ => ?_) (congrArg x2 ?_)
  · rw [← v2_apply]
    refine congrArg₂ (· * ·) (congrArg (val_main_v2 (F := Ideal) x0) ?_) (congrArg x1 ?_)
    · funext a; apply Fin.ext
      match a with
      | ⟨0, _⟩ => rfl
      | ⟨1, _⟩ => rfl
    · funext a; apply Fin.ext
      match a with
      | ⟨0, _⟩ => rfl
      | ⟨1, _⟩ => rfl
  · funext a; apply Fin.ext
    match a with
    | ⟨0, _⟩ => rfl

end Cert.Reference6Ideal.Mod

namespace Cert.Kernel6Ideal.Mod

open Cert.Kernel6Ideal Cert.Kernel6Ideal.Gen Idealize.ShloMosaic Idealize.ShloMosaic.ValueIdx Idealize.ShloMosaic.StableHlo
open Idealize.ShloMosaic.Pipeline Idealize.ShloMosaic.TcCoe
open Cert.Kernel2Ideal.Ffn (sigm)
open scoped BigOperators

/-! ## One grid point -/

theorem dot_eq : dot_S8x1024_S1024x1024_S8x1024_1_0_0_1_n_n = DotDims.plain 8 1024 1024 := rfl

/-- The rows of a grid point times their sigmoids. -/
def act (v : Vec Ideal S8x1024 .f32) : FVec Ideal S8x1024 .f32 :=
  mulf v (divf (broadcast S8x1024 (Scalar.ofBits .f32 0x3F800000#32)) (addf (broadcast S8x1024 (Scalar.ofBits .f32 0x3F800000#32))
    (exp (subf (broadcast S8x1024 (Scalar.ofBits .f32 0x00000000#32)) v))))

theorem act_apply (v : Vec Ideal S8x1024 .f32) (i : S8x1024.Idx) : act v i = v i * sigm (v i) := by
  have hz : ∀ y : EReal, Ideal.ofBits .f32 0x00000000#32 - y = -y := fun y => by rw [Ideal.ofBits_zero_f32, sub_eq_add_neg, zero_add]
  unfold sigm
  rw [← hz]
  rfl

/-- What a grid point computes, at a row and a column. -/
theorem pay_apply (v : Vec Ideal S8x1024 .f32) (w : Vec Ideal S1024x1024 .f32) (b : Vec Ideal S1x1024 .f32) (r : Fin 8) (f : Fin 1024) :
    k0_pay1 v w b (ix2 r f) = modAt (fun k => v (ix2 r k)) (fun k => w (ix2 k f)) (b (ix2 (0 : Fin 1) f)) := by
  have e1 : shapeCast S8x1024 v shapeCasts_S8x1024_S8x1024 = v := shapeCast_self _ _
  have e2 : shapeCast S1x1024 b shapeCasts_S1x1024_S1x1024 = b := shapeCast_self _ _
  show addf (matmul dot_S8x1024_S1024x1024_S8x1024_1_0_0_1_n_n none
    (truncf (F := Ideal) .bf16 (act (shapeCast S8x1024 v shapeCasts_S8x1024_S8x1024)) bitsLt_bf16_f32)
    (truncf (F := Ideal) .bf16 w bitsLt_bf16_f32) (constant S8x1024 .f32 0x00000000#32))
    (broadcastTo S8x1024 (shapeCast S1x1024 b shapeCasts_S1x1024_S1x1024) broadcasts_S1x1024_S8x1024) (ix2 r f) = _
  rw [e1, e2, addf_apply, dot_eq, broadcastTo_apply _ broadcasts_S1x1024_S8x1024 (ix2 r f) (ix2 (0 : Fin 1) f) (fun a => match a with
    | ⟨0, _⟩ => rfl
    | ⟨1, _⟩ => rfl)]
  unfold modAt
  refine congrArg₂ (· + ·) ((Ideal.matmul_plain_apply none _ _ _ r f).trans ?_) rfl
  rw [constant_apply, Ideal.ofBits_zero_f32, zero_add]
  exact Finset.sum_congr rfl fun k _ => congrArg (· * w (ix2 k f)) (act_apply v (ix2 r k))

/-- What a grid point writes at an index of its block. -/
theorem out_apply (x0 : Vec Ideal S8x1024 .f32) (x1 : Vec Ideal S1024x1024 .f32) (x2 : Vec Ideal S1x1024 .f32) (y : S8x1024.Idx) :
    out0_3 x0 x1 x2 y = modAt (fun k => x0 (ix2 (y 0) k)) (fun k => x1 (ix2 k (y 1))) (x2 (ix2 (0 : Fin 1) (y 1))) := by
  have h0 : View.ld x0 r0_0 = x0 := by
    funext z; exact View.ld_unit_apply_of _ _ _ _ _ _ fun a => match a with
      | ⟨0, _⟩ => (Nat.zero_add _).symm | ⟨1, _⟩ => (Nat.zero_add _).symm
  have h1 : View.ld x1 r0_1 = x1 := by
    funext z; exact View.ld_unit_apply_of _ _ _ _ _ _ fun a => match a with
      | ⟨0, _⟩ => (Nat.zero_add _).symm | ⟨1, _⟩ => (Nat.zero_add _).symm
  have h2 : View.ld x2 r0_2 = x2 := by
    funext z; exact View.ld_unit_apply_of _ _ _ _ _ _ fun a => match a with
      | ⟨0, _⟩ => (Nat.zero_add _).symm | ⟨1, _⟩ => (Nat.zero_add _).symm
  unfold out0_3
  rw [h0, h1, h2, View.canon_cons_unit_lit (Val := Elt Ideal) (e := .f32) _ _ _ (fun a => match a with
    | ⟨0, _⟩ => rfl
    | ⟨1, _⟩ => rfl)]
  rw [eq_ix2 y]
  exact pay_apply x0 x1 x2 (y 0) (y 1)

/-! ## The result array -/

/-- The result array from the padded rows, the weight and the bias row. -/
def modArr (A0 : Vec Ideal S8x1024 .f32) (A1 : Vec Ideal S1024x6144 .f32) (A2 : Vec Ideal S1x6144 .f32) (i : S8x6144.Idx) : EReal :=
  modAt (fun k => A0 (ix2 (i 0) k)) (fun k => A1 (ix2 k (i 1))) (A2 (ix2 (0 : Fin 1) (i 1)))

/-- The block indices of the windows at a grid point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) = 0 :=
  (by decide +kernel : ∀ t : Fin grid0.N, _)

/-- Every block of the result is some grid point's. -/
theorem idx_onto : ∀ b : Fin 6, ∃ t : Fin cfg0.N, win0_3.index t = ![0, b.val] :=
  (by decide +kernel : ∀ b : Fin 6, ∃ t : Fin grid0.N, win0_3.index t = ![0, b.val])

variable {m : (ℓ : Loc nD τ sig) → Buf (Elt Ideal) ℓ}

/-- What grid point `t` writes back is its block of the result array. -/
theorem flushed_eq (c : Dev nD) (t : Fin cfg0.N) :
    (dats m 0 c).flushed 3 t = ((cfg0.win 3).blk t).view.read (Elt Ideal) (modArr (V m c main_v2) (V m c main_arg1) (V m c main_v3)) := by
  rw [Value.flushed3]
  funext j
  show out0_3 (iblk m c 0 t) (iblk m c 1 t) (iblk m c 2 t) j
    = modArr (V m c main_v2) (V m c main_arg1) (V m c main_v3) (((cfg0.win 3).blk t).view.emb j)
  rw [out_apply]
  obtain ⟨a0, a1, b0, b1, c0, c1, o0⟩ := idx_facts t
  unfold modArr
  have h0 : ∀ k : Fin 1024, iblk m c 0 t (ix2 (j 0) k) = V m c main_v2 (ix2 ((((cfg0.win 3).blk t).view.emb j) 0) k) := fun k => by
    show V m c main_v2 (((cfg0.win 0).blk t).view.emb (ix2 (j 0) k)) = _
    refine congrArg (V m c main_v2) (funext fun a => Fin.ext ?_)
    match a with
    | ⟨0, _⟩ => show win0_0.index t (0 : Fin 2) * 8 + 1 * (j 0).val = win0_3.index t (0 : Fin 2) * 8 + 1 * (j 0).val; omega
    | ⟨1, _⟩ => show win0_0.index t (1 : Fin 2) * 1024 + 1 * k.val = k.val; omega
  have h1 : ∀ k : Fin 1024, iblk m c 1 t (ix2 k (j 1)) = V m c main_arg1 (ix2 k ((((cfg0.win 3).blk t).view.emb j) 1)) := fun k => by
    show V m c main_arg1 (((cfg0.win 1).blk t).view.emb (ix2 k (j 1))) = _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  have h2 : iblk m c 2 t (ix2 (0 : Fin 1) (j 1)) = V m c main_v3 (ix2 (0 : Fin 1) ((((cfg0.win 3).blk t).view.emb j) 1)) := by
    show V m c main_v3 (((cfg0.win 2).blk t).view.emb (ix2 (0 : Fin 1) (j 1))) = _
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega
  exact congr (congrArg₂ modAt (funext h0) (funext h1)) h2

/-- An index of the result is in point `t`'s block iff each coordinate is in the block's range. -/
theorem mem_blk (t : Fin cfg0.N) (i : S8x6144.Idx) :
    i ∈ ((cfg0.win 3).blk t).view.set ↔ ∀ a : Fin 2, win0_3.index t a * S8x1024.size a ≤ (i a).val
      ∧ (i a).val < win0_3.index t a * S8x1024.size a + S8x1024.size a :=
  (cfg0.win 3).emb_mem_blk_iff t i

/-- The result array after the run. -/
theorem final (c : Dev nD) : (dats m 0 c).arrAt 3 cfg0.N = modArr (V m c main_v2) (V m c main_arg1) (V m c main_v3) :=
  (dats m 0 c).arrAt_eq_of_cover 3 _ (fun t _ => flushed_eq c t) fun i => by
    have h0 : (i 0).val < 8 := (i 0).isLt
    have h1 : (i 1).val < 6144 := (i 1).isLt
    obtain ⟨t, ht⟩ := idx_onto ⟨(i 1).val / 1024, by omega⟩
    have q0 : win0_3.index t (0 : Fin 2) = 0 := congrFun ht 0
    have q1 : win0_3.index t (1 : Fin 2) = (i 1).val / 1024 := congrFun ht 1
    refine ⟨t, flush0_3 t, ?_⟩
    rw [mem_blk]
    intro a
    match a with
    | ⟨0, _⟩ => show win0_3.index t (0 : Fin 2) * 8 ≤ (i 0).val ∧ (i 0).val < win0_3.index t (0 : Fin 2) * 8 + 8; omega
    | ⟨1, _⟩ => show win0_3.index t (1 : Fin 2) * 1024 ≤ (i 1).val ∧ (i 1).val < win0_3.index t (1 : Fin 2) * 1024 + 1024; omega

/-! ## The host's two arrays -/

variable (m)

abbrev arg0 (c : Dev nD) : Vec Ideal S4x1024 .f32 := m ((c : Thread nD τ).loc main_arg0)
abbrev arg1 (c : Dev nD) : Vec Ideal S1024x6144 .f32 := m ((c : Thread nD τ).loc main_arg1)
abbrev arg2 (c : Dev nD) : Vec Ideal S6144 .f32 := m ((c : Thread nD τ).loc main_arg2)
abbrev rowsArr (c : Dev nD) : Vec Ideal S8x1024 .f32 := V m c main_v2
abbrev biasArr (c : Dev nD) : Vec Ideal S1x6144 .f32 := V m c main_v3

theorem bias_apply (c : Dev nD) (n : Fin 6144) : biasArr m c (ix2 (0 : Fin 1) n) = arg2 m c (ix1 n) := by
  have hV : biasArr m c = shapeCast S1x6144 (arg2 m c) shapeCasts_S6144_S1x6144 := by
    show StableHlo.after hostOps0 _ _ = _
    after_results
    rfl
  rw [hV]
  exact shapeCast_apply _ _ (ix2 (0 : Fin 1) n) (ix1 n) (by rw [Shape.rowMajor_val_one, Shape.rowMajor_val_two]; simp [ix1, ix2])

abbrev dims : ScatterDims S8x1024 S1 S4x1024 := scatter_S8x1024_S1_S4x1024_01_n_0_0

/-- The start of the written rows: zero. -/
def start : IVec S1 32 := broadcastInDim S1 ![] bcast_S_S1 (constantI S_ 32 0#32)

/-- Row `k` of the given rows lands at row `k` of the padded ones. -/
theorem lands (k : S4x1024.Idx) (r : Fin 8) (l : Fin 1024) :
    dims.resultIdx? k start = some (ix2 r l) ↔ (k 0).val = r.val ∧ (k 1).val = l.val := by
  have s0 : dims.start k start (0 : Fin 2) = 0 := rfl
  have s1 : dims.start k start (1 : Fin 2) = 0 := rfl
  have w0 : dims.window k (0 : Fin 2) = (k 0).val := rfl
  have w1 : dims.window k (1 : Fin 2) = (k 1).val := rfl
  refine (Routing.resultIdx?_ix2 dims k start r l).trans ?_
  rw [s0, s1, w0, w1]
  omega

theorem rows_apply (c : Dev nD) (r : Fin 8) (l : Fin 1024) : rowsArr m c (ix2 r l) = padded (arg0 m c) r l := by
  have hV : rowsArr m c = Host.scatter dims (fun _ b => b)
      (broadcastInDim S8x1024 ![] bcast_S_S8x1024 (constant (F := Ideal) S_ .f32 0x00000000#32)) start (arg0 m c) := by
    show StableHlo.after hostOps0 _ _ = _
    after_results
    rfl
  rw [hV]
  unfold padded
  by_cases h : r.val < 4
  · rw [dif_pos h]
    refine Routing.scatter_set_hit dims _ _ _ _ _ (fun k hk => ?_) (ix2 (⟨r.val, h⟩ : Fin 4) l) ((lands _ r l).2 ⟨rfl, rfl⟩)
    obtain ⟨e0, e1⟩ := (lands k r l).1 hk
    refine congrArg (arg0 m c) ((eq_ix2 k).trans ?_)
    exact congrArg₂ ix2 (Fin.ext e0) (Fin.ext e1)
  · rw [dif_neg h, Routing.scatter_set_miss dims _ _ _ _ (fun k hk => ?_)]
    · rfl
    · have e0 := ((lands k r l).1 hk).1
      have hk : (k 0).val < 4 := (k 0).isLt
      omega

/-- The call's result is the reference's at every index. -/
theorem result_at (c : Dev nD) (r : Fin 8) (n : Fin 6144) :
    modArr (rowsArr m c) (arg1 m c) (biasArr m c) (ix2 r n)
      = Cert.Reference6Ideal.Read.val_main_v6 (F := Ideal) (arg0 m c) (arg1 m c) (arg2 m c) (ix2 r n) := by
  refine Eq.trans ?_ (Cert.Reference6Ideal.Mod.v6_apply _ _ _ r n).symm
  exact congr (congrArg₂ modAt (funext fun k => rows_apply m c r k) rfl) (bias_apply m c n)

/-- So its result array is the reference's. -/
theorem result_eq (c : Dev nD) :
    (dats m 0 c).arrAt 3 cfg0.N = Cert.Reference6Ideal.Read.val_main_v6 (F := Ideal) (arg0 m c) (arg1 m c) (arg2 m c) := by
  have e1 : V m c main_arg1 = arg1 m c := V_main_arg1 m c
  rw [final, e1]
  funext i
  rw [eq_ix2 i]
  exact result_at m c (i 0) (i 1)

end Cert.Kernel6Ideal.Mod

end
-- ==== Proof.CombBlock.lean ====
/- The combination call over the extended reals: what a grid point adds to the accumulator and what it writes, and the
   call's result array from the five arrays its windows read. -/
module

public import proofs.«01_k».proof.Proof.MlaBlock
public import proofs.«01_k».proof.Proof.MlaRef
public import proofs.«01_k».proof.Proof.Gen.Kernel7Ideal.Value
public import Idealize.ShloMosaic.Lib.Pipeline.ReadBack
public import Idealize.ShloMosaic.Lib.Pipeline.ValueKit.Tiles
public import Idealize.ShloMosaic.Lib.MatmulPlain
public import Idealize.ShloMosaic.Lib.ValueIdx
public import Idealize.ShloMosaic.Lib.ValueLayout

@[expose] public section

noncomputable section

namespace Cert.Kernel7Ideal.Comb

open Cert.Kernel7Ideal Cert.Kernel7Ideal.Gen Idealize.ShloMosaic Idealize.ShloMosaic.ValueIdx
open Idealize.ShloMosaic.Pipeline Idealize.ShloMosaic.TcCoe Idealize.ShloMosaic.Tactic
open Cert.Kernel5Ideal.Mla (nrm)
open Cert.Reference5Ideal.Mla (at2 at3 at4)
open scoped BigOperators

/-- One where slot `s` is the token's slot `p`, zero elsewhere. -/
def chosen (p : BitVec 32) (s : Fin 512) : EReal := if p = BitVec.ofNat 32 s.val then 1 else 0

/-- What some experts give a token at a column: over their slots, the rows at the token's slots. -/
def taken {n : ℕ} (p : Fin n → BitVec 32) (y : Fin n → Fin 512 → EReal) : EReal := ∑ j, ∑ s, chosen (p j) s * y j s

/-- A value of the layer's result: the residual and the gated values of the experts, over the root mean square. -/
def resultAt (x g a gf : Fin 1024 → EReal) (k : Fin 1024) : EReal :=
  nrm (Ideal.ofBits .f32 0x44800000#32) (fun j => x j + g j * a j) gf k

/-! ## The choice of slots -/

/-- The slots chosen by column `o` of a block of slots. -/
def hot (o : ℕ) (hs : S512x8.Slices ![0, o] S512x1) (v : Vec Ideal S1x1x512x8 .i32) : FVec Ideal S512x512 .bf16 :=
  truncf .bf16 (select (cmpi .eq (broadcastTo S512x512 (extractStridedSlice S512x1 ![0, o] (k0_pay3 (F := Ideal) v) hs) broadcasts_S512x1_S512x512)
    (broadcastTo S512x512 (iota .tc S1x512 32 [1] iota_S1x512_d1_w32) broadcasts_S1x512_S512x512))
    (broadcast S512x512 (Scalar.ofBits (F := Ideal) .f32 0x3F800000#32)) (broadcast S512x512 (Scalar.ofBits (F := Ideal) .f32 0x00000000#32))) bitsLt_bf16_f32

theorem hot_apply (o : Fin 8) (hs : S512x8.Slices ![0, o.val] S512x1) (v : Vec Ideal S1x1x512x8 .i32) (r s : Fin 512) :
    hot o.val hs v (ix2 r s) = chosen (v (ix4 (0 : Fin 1) (0 : Fin 1) r o)) s := by
  show (if IntOp.cmpi .eq (broadcastTo S512x512 (extractStridedSlice S512x1 ![0, o.val] (k0_pay3 (F := Ideal) v) hs) broadcasts_S512x1_S512x512 (ix2 r s))
    (broadcastTo S512x512 (iota .tc S1x512 32 [1] iota_S1x512_d1_w32) broadcasts_S1x512_S512x512 (ix2 r s)) = 1#1
    then Ideal.ofBits .f32 0x3F800000#32 else Ideal.ofBits .f32 0x00000000#32) = _
  rw [broadcastTo_apply _ broadcasts_S512x1_S512x512 (ix2 r s) (ix2 r (0 : Fin 1)) (fun a => match a with
    | ⟨0, _⟩ => rfl
    | ⟨1, _⟩ => rfl), broadcastTo_apply _ broadcasts_S1x512_S512x512 (ix2 r s) (ix2 (0 : Fin 1) s) (fun a => match a with
    | ⟨0, _⟩ => rfl
    | ⟨1, _⟩ => rfl), extractStridedSlice_apply ![0, o.val] _ hs (ix2 r (0 : Fin 1)) (ix2 r o) (fun a => match a with
    | ⟨0, _⟩ => (Nat.zero_add _).symm
    | ⟨1, _⟩ => rfl)]
  have e : k0_pay3 (F := Ideal) v (ix2 r o) = v (ix4 (0 : Fin 1) (0 : Fin 1) r o) := congrArg v (reshapeEquiv_ix2_11ab _ r o)
  have ei : iota .tc S1x512 32 [1] iota_S1x512_d1_w32 (ix2 (0 : Fin 1) s) = BitVec.ofNat 32 s.val := by
    show BitVec.ofNat 32 (0 * 512 + s.val) = _
    rw [Nat.zero_mul, Nat.zero_add]
  rw [e, ei, Ideal.ofBits_zero_f32, Ideal.ofBits_one_f32]
  unfold chosen
  by_cases h : v (ix4 (0 : Fin 1) (0 : Fin 1) r o) = BitVec.ofNat 32 s.val
  · rw [if_pos h, h]
    exact if_pos (by simp [IntOp.cmpi])
  · rw [if_neg h]
    refine if_neg ?_
    show ¬BitVec.ofBool (v (ix4 (0 : Fin 1) (0 : Fin 1) r o) == BitVec.ofNat 32 s.val) = 1#1
    rw [beq_eq_false_iff_ne.2 h]
    decide

/-- The place of slot `s` of expert `j` among the eight experts' slots. -/
def place (j : Fin 8) (s : Fin 512) : Fin 4096 := ⟨j.val * 512 + s.val, by omega⟩

/-- Eight blocks side by side. -/
def cat8 (u : Fin 8 → FVec Ideal S512x512 .bf16) : FVec Ideal S512x4096 .bf16 :=
  concatenate S512x4096 1 [⟨S512x512, u 0⟩, ⟨S512x512, u 1⟩, ⟨S512x512, u 2⟩, ⟨S512x512, u 3⟩, ⟨S512x512, u 4⟩, ⟨S512x512, u 5⟩, ⟨S512x512, u 6⟩,
    ⟨S512x512, u 7⟩] concatenates_S512x512_S512x512_S512x512_S512x512_S512x512_S512x512_S512x512_S512x512_S512x4096_d1

theorem cat8_apply (u : Fin 8 → FVec Ideal S512x512 .bf16) (r : Fin 512) (j : Fin 8) (s : Fin 512) :
    cat8 u (ix2 r (place j s)) = u j (ix2 r s) := by
  unfold cat8
  refine concatenate_apply_piece (t := S512x4096) (1 : Fin 2) _ _ (ix2 r (place j s)) j.val (by exact j.isLt) S512x512 (u j) ?_ rfl (j.val * 512) ?_ (ix2 r s)
    (fun b hb => match b with
      | ⟨0, _⟩ => rfl
      | ⟨1, _⟩ => absurd rfl hb) rfl
  · fin_cases j <;> rfl
  · fin_cases j <;> simp

theorem cols : ∀ o : Fin 8, S512x8.Slices ![0, o.val] S512x1 := by decide

/-- The eight choices side by side. -/
def hots (v : Vec Ideal S1x1x512x8 .i32) : FVec Ideal S512x4096 .bf16 := cat8 fun o => hot o.val (cols o) v

theorem hots_apply (v : Vec Ideal S1x1x512x8 .i32) (r : Fin 512) (j : Fin 8) (s : Fin 512) :
    hots v (ix2 r (place j s)) = chosen (v (ix4 (0 : Fin 1) (0 : Fin 1) r j)) s :=
  (cat8_apply _ r j s).trans (hot_apply j (cols j) v r s)

/-! ## One grid point -/

/-- A sum over the eight experts' slots, expert by expert. -/
theorem sum_place (f : Fin 4096 → EReal) : ∑ k, f k = ∑ j, ∑ s, f (place j s) := by
  rw [← Fintype.sum_prod_type']
  refine (Equiv.sum_comp (finProdFinEquiv (m := 8) (n := 512)) f).symm.trans (Finset.sum_congr rfl fun x _ => congrArg f (Fin.ext ?_))
  show x.2.val + 512 * x.1.val = x.1.val * 512 + x.2.val
  omega

theorem dot_eq : dot_S512x4096_S4096x1024_S512x1024_1_0_0_1_n_n = DotDims.plain 512 4096 1024 := rfl

/-- The eight experts' rows, one after another. -/
def rows (w : Vec Ideal S1x8x512x1024 .bf16) : FVec Ideal S4096x1024 .bf16 :=
  shapeCast S4096x1024 (shapeCast S8x512x1024 w shapeCasts_S1x8x512x1024_S8x512x1024) shapeCasts_S8x512x1024_S4096x1024

theorem rows_apply (w : Vec Ideal S1x8x512x1024 .bf16) (j : Fin 8) (s : Fin 512) (d : Fin 1024) :
    rows w (ix2 (place j s) d) = w (ix4 (0 : Fin 1) j s d) := by
  unfold rows
  rw [shapeCast_apply _ shapeCasts_S8x512x1024_S4096x1024 (ix2 (place j s) d) (ix3 j s d)
    (by rw [Shape.rowMajor_val_three, Shape.rowMajor_val_two]; simp [ix3, ix2, place])]
  exact shapeCast_apply _ _ (ix3 j s d) (ix4 (0 : Fin 1) j s d) (by rw [Shape.rowMajor_val_three, Shape.rowMajor_val_four]; simp [ix3, ix4])

/-- What a grid point leaves in the accumulator. -/
def step (v : Vec Ideal S1x1x512x8 .i32) (acc : Vec Ideal S512x1024 .f32) (w : Vec Ideal S1x8x512x1024 .bf16) : Vec Ideal S512x1024 .f32 :=
  k0_pay9 (iota .tc S1x512 32 [1] iota_S1x512_d1_w32) (k0_pay3 (F := Ideal) v) (k0_pay4 v) (k0_pay5 v) (k0_pay6 v) (k0_pay7 v) (k0_pay8 (F := Ideal) v) acc w

theorem step_apply (v : Vec Ideal S1x1x512x8 .i32) (acc : Vec Ideal S512x1024 .f32) (w : Vec Ideal S1x8x512x1024 .bf16) (r : Fin 512) (d : Fin 1024) :
    step v acc w (ix2 r d) = acc (ix2 r d) + taken (fun j => v (ix4 (0 : Fin 1) (0 : Fin 1) r j)) (fun j s => w (ix4 (0 : Fin 1) j s d)) := by
  show shapeCast S512x1024 (addf acc (matmul dot_S512x4096_S4096x1024_S512x1024_1_0_0_1_n_n none (hots v) (rows w)
    (constant S512x1024 .f32 0x00000000#32))) shapeCasts_S512x1024_S512x1024 (ix2 r d) = _
  rw [shapeCast_self, addf_apply, dot_eq]
  refine congrArg (acc (ix2 r d) + ·) ((Ideal.matmul_plain_apply none _ _ _ r d).trans ?_)
  rw [constant_apply, Ideal.ofBits_zero_f32, zero_add, sum_place]
  unfold taken
  exact Finset.sum_congr rfl fun j _ => Finset.sum_congr rfl fun s _ => congrArg₂ (· * ·) (hots_apply v r j s) (rows_apply w j s d)

theorem zero_apply' (r : Fin 512) (d : Fin 1024) : k0_pay2 (F := Ideal) (ix2 r d) = 0 := by
  show shapeCast S512x1024 (broadcast S512x1024 (Ideal.ofBits .f32 0x00000000#32)) shapeCasts_S512x1024_S512x1024 (ix2 r d) = _
  rw [shapeCast_self]
  exact Ideal.ofBits_zero_f32

/-- What a grid point writes. -/
theorem pay1_apply (x : Vec Ideal S1x512x1024 .f32) (g : Vec Ideal S1x1x1024 .f32) (a : Vec Ideal S512x1024 .f32) (gf : Vec Ideal S1x1024 .f32)
    (r : Fin 512) (k : Fin 1024) :
    k0_pay1 x g a gf (ix3 (0 : Fin 1) r k) = resultAt (fun j => x (ix3 (0 : Fin 1) r j)) (fun j => g (ix3 (0 : Fin 1) (0 : Fin 1) j))
      (fun j => a (ix2 r j)) (fun j => gf (ix2 (0 : Fin 1) j)) k := by
  have hx : ∀ j : Fin 1024, (addf (shapeCast S512x1024 x shapeCasts_S1x512x1024_S512x1024) (mulf (broadcastTo S512x1024
      (shapeCast S1x1024 g shapeCasts_S1x1x1024_S1x1024) broadcasts_S1x1024_S512x1024) a) : FVec Ideal S512x1024 .f32) (ix2 r j)
      = x (ix3 (0 : Fin 1) r j) + g (ix3 (0 : Fin 1) (0 : Fin 1) j) * a (ix2 r j) := fun j => by
    rw [addf_apply, mulf_apply, broadcastTo_apply _ broadcasts_S1x1024_S512x1024 (ix2 r j) (ix2 (0 : Fin 1) j) (fun a => match a with
      | ⟨0, _⟩ => rfl
      | ⟨1, _⟩ => rfl)]
    exact congrArg₂ (fun u v => u + v * a (ix2 r j)) (congrArg x (reshapeEquiv_ix2_1ab _ r j)) (congrArg g (reshapeEquiv_ix2_1ab _ (0 : Fin 1) j))
  unfold resultAt
  rw [← funext hx, ← Cert.Kernel5Ideal.Mla.nrm_apply 0x44800000#32 _ gf reduces_S512x1024_S512 broadcasts_S512x1_S512x1024 broadcasts_S1x1024_S512x1024
    shapeCasts_S1x1024_S1x1024 (by decide) r k]
  unfold k0_pay1
  exact shapeCast_apply _ shapeCasts_S512x1024_S1x512x1024 (ix3 (0 : Fin 1) r k) (ix2 r k)
    (by rw [Shape.rowMajor_val_three, Shape.rowMajor_val_two]; simp [ix3, ix2])

end Cert.Kernel7Ideal.Comb

end
-- ==== Proof.CombArray.lean ====
/- The combination call over the extended reals: its result array from the five arrays its windows read. -/
module

public import proofs.«01_k».proof.Proof.CombBlock

@[expose] public section

noncomputable section

namespace Cert.Kernel7Ideal.Comb

open Cert.Kernel7Ideal Cert.Kernel7Ideal.Gen Idealize.ShloMosaic Idealize.ShloMosaic.ValueIdx
open Idealize.ShloMosaic.Pipeline Idealize.ShloMosaic.TcCoe Idealize.ShloMosaic.Tactic
open Cert.Kernel5Ideal.Mla (nrm)
open Cert.Reference5Ideal.Mla (at2 at3 at4)
open scoped BigOperators

/-- Expert `j` of group `g`. -/
def member (g : Fin 2) (j : Fin 8) : Fin 16 := ⟨8 * g.val + j.val, by omega⟩

/-- What sixteen experts give is what the two groups give. -/
theorem taken_split (p : Fin 16 → BitVec 32) (y : Fin 16 → Fin 512 → EReal) :
    taken p y = taken (fun j => p (member 0 j)) (fun j => y (member 0 j)) + taken (fun j => p (member 1 j)) (fun j => y (member 1 j)) := by
  have e0 : ∀ j : Fin 8, Fin.castAdd 8 j = member 0 j := fun j => Fin.ext (by show j.val = 8 * 0 + j.val; omega)
  have e1 : ∀ j : Fin 8, Fin.natAdd 8 j = member 1 j := fun j => Fin.ext rfl
  unfold taken
  refine (Fin.sum_univ_add (a := 8) (b := 8) (fun j : Fin 16 => ∑ s, chosen (p j) s * y j s)).trans ?_
  exact congrArg₂ (· + ·) (Finset.sum_congr rfl fun j _ => by rw [e0]) (Finset.sum_congr rfl fun j _ => by rw [e1])

/-- The result array from the slots by groups, the experts' rows, the residual, the modulation and the gain. -/
def combArr (A0 : Vec Ideal S4x2x4096x8 .i32) (A1 : Vec Ideal S4x16x512x1024 .bf16) (A2 : Vec Ideal S4x4096x1024 .f32) (A3 : Vec Ideal S4x6x1024 .f32)
    (A4 : Vec Ideal S1x1024 .f32) (i : S4x4096x1024.Idx) : EReal :=
  resultAt (fun j => A2 (ix3 (i 0) (i 1) j)) (fun j => A3 (ix3 (i 0) (5 : Fin 6) j))
    (fun j => taken (fun e => A0 (ix4 (i 0) (0 : Fin 2) (i 1) e)) (fun e s => A1 (ix4 (i 0) (member 0 e) s j))
      + taken (fun e => A0 (ix4 (i 0) (1 : Fin 2) (i 1) e)) (fun e s => A1 (ix4 (i 0) (member 1 e) s j)))
    (fun j => A4 (ix2 (0 : Fin 1) j)) (i 2)

/-- The gate's row of the modulation block. -/
theorem gate_apply (v : Vec Ideal S1x6x1024 .f32) (j : Fin 1024) :
    View.ld v (Rect.unit ![0, 5, 0] ![1, 1, 1024] inb_S1x6x1024_S1x1x1024_0_5_0) (ix3 (0 : Fin 1) (0 : Fin 1) j) = v (ix3 (0 : Fin 1) (5 : Fin 6) j) :=
  View.ld_unit_apply_of _ _ _ _ _ _ fun a => match a with
    | ⟨0, _⟩ => rfl
    | ⟨1, _⟩ => rfl
    | ⟨2, _⟩ => (Nat.zero_add _).symm

variable {m : (ℓ : Loc nD τ sig) → Buf (Elt Ideal) ℓ}

/-- The accumulator after a first group. -/
theorem acc_eq (c : Dev nD) (u : Fin cfg0.N) (h0 : u.val % 2 = 0) :
    (outsAt0 m c u.val u.isLt).2 = step (iblk m c 0 u) (k0_pay2 (F := Ideal)) (iblk m c 1 u) := by
  rw [outsAt0_A m c u h0 (by omega)]
  dsimp only
  unfold sout0_A_0
  frame_out
  rfl

/-- What a second group writes. -/
theorem block_eq (c : Dev nD) (t u : Fin cfg0.N) (h1 : t.val % 2 = 1) (hu : u.val + 1 = t.val) :
    (outsAt0 m c t.val t.isLt).1 = k0_pay1 (iblk m c 2 t) (View.ld (iblk m c 3 t) (Rect.unit ![0, 5, 0] ![1, 1, 1024] inb_S1x6x1024_S1x1x1024_0_5_0))
      (step (iblk m c 0 t) (step (iblk m c 0 u) (k0_pay2 (F := Ideal)) (iblk m c 1 u)) (iblk m c 1 t)) (iblk m c 4 t) := by
  have hp : ∀ (n : ℕ) (h : n < cfg0.N), n = u.val → (outsAt0 m c n h).2 = step (iblk m c 0 u) (k0_pay2 (F := Ideal)) (iblk m c 1 u) := by
    rintro _ h rfl
    exact acc_eq c u (by omega)
  rw [outsAt0_B m c t (by omega) h1]
  dsimp only
  unfold out0_B_5
  frame_out
  rw [read_unread_whole, hp _ _ (by omega)]
  rfl

theorem block_apply (c : Dev nD) (t u : Fin cfg0.N) (h1 : t.val % 2 = 1) (hu : u.val + 1 = t.val) (r : Fin 512) (k : Fin 1024) :
    (outsAt0 m c t.val t.isLt).1 (ix3 (0 : Fin 1) r k) = resultAt (fun j => iblk m c 2 t (ix3 (0 : Fin 1) r j))
      (fun j => iblk m c 3 t (ix3 (0 : Fin 1) (5 : Fin 6) j))
      (fun j => taken (fun e => iblk m c 0 u (ix4 (0 : Fin 1) (0 : Fin 1) r e)) (fun e s => iblk m c 1 u (ix4 (0 : Fin 1) e s j))
        + taken (fun e => iblk m c 0 t (ix4 (0 : Fin 1) (0 : Fin 1) r e)) (fun e s => iblk m c 1 t (ix4 (0 : Fin 1) e s j)))
      (fun j => iblk m c 4 t (ix2 (0 : Fin 1) j)) k := by
  rw [block_eq c t u h1 hu]
  refine (pay1_apply _ _ _ _ r k).trans ?_
  unfold resultAt
  refine congrArg (fun f => nrm (Ideal.ofBits .f32 0x44800000#32) f _ k) (funext fun j => ?_)
  beta_reduce
  rw [gate_apply, step_apply, step_apply, zero_apply', zero_add]

/-- The block indices of the windows at a grid point. -/
theorem idx_facts : ∀ t : Fin cfg0.N,
    (win0_0.index t (0 : Fin 4) = t.val / 16 ∧ win0_0.index t (1 : Fin 4) = t.val % 2 ∧ win0_0.index t (2 : Fin 4) = t.val / 2 % 8 ∧ win0_0.index t (3 : Fin 4) = 0)
    ∧ (win0_1.index t (0 : Fin 4) = t.val / 16 ∧ win0_1.index t (1 : Fin 4) = t.val % 2 ∧ win0_1.index t (2 : Fin 4) = 0 ∧ win0_1.index t (3 : Fin 4) = 0)
    ∧ (win0_2.index t (0 : Fin 3) = t.val / 16 ∧ win0_2.index t (1 : Fin 3) = t.val / 2 % 8 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val / 16 ∧ win0_5.index t (1 : Fin 3) = t.val / 2 % 8 ∧ win0_5.index t (2 : Fin 3) = 0) :=
  (by decide +kernel : ∀ t : Fin grid0.N, _)

/-- The slots of a block, in the array. -/
theorem slots_apply (c : Dev nD) (t : Fin cfg0.N) (r : Fin 512) (e : Fin 8) (b : Fin 4) (g : Fin 2) (s : Fin 4096) (hb : t.val / 16 = b.val)
    (hg : t.val % 2 = g.val) (hs : t.val / 2 % 8 * 512 + r.val = s.val) :
    iblk m c 0 t (ix4 (0 : Fin 1) (0 : Fin 1) r e) = V m c main_v1 (ix4 b g s e) := by
  obtain ⟨⟨a0, a1, a2, a3⟩, -⟩ := idx_facts t
  show V m c main_v1 (((cfg0.win 0).blk t).view.emb (ix4 (0 : Fin 1) (0 : Fin 1) r e)) = _
  refine congrArg (V m c main_v1) (at4 _ b g s e ?_ ?_ ?_ ?_)
  · show win0_0.index t (0 : Fin 4) * 1 + 1 * 0 = b.val; omega
  · show win0_0.index t (1 : Fin 4) * 1 + 1 * 0 = g.val; omega
  · show win0_0.index t (2 : Fin 4) * 512 + 1 * r.val = s.val; omega
  · show win0_0.index t (3 : Fin 4) * 8 + 1 * e.val = e.val; omega

/-- The experts' rows of a block, in the array. -/
theorem expert_apply (c : Dev nD) (t : Fin cfg0.N) (e : Fin 8) (s : Fin 512) (d : Fin 1024) (b : Fin 4) (g : Fin 2) (hb : t.val / 16 = b.val)
    (hg : t.val % 2 = g.val) : iblk m c 1 t (ix4 (0 : Fin 1) e s d) = V m c main_v2 (ix4 b (member g e) s d) := by
  obtain ⟨-, ⟨a0, a1, a2, a3⟩, -⟩ := idx_facts t
  show V m c main_v2 (((cfg0.win 1).blk t).view.emb (ix4 (0 : Fin 1) e s d)) = _
  refine congrArg (V m c main_v2) (at4 _ b (member g e) s d ?_ ?_ ?_ ?_)
  · show win0_1.index t (0 : Fin 4) * 1 + 1 * 0 = b.val; omega
  · show win0_1.index t (1 : Fin 4) * 8 + 1 * e.val = 8 * g.val + e.val; omega
  · show win0_1.index t (2 : Fin 4) * 512 + 1 * s.val = s.val; omega
  · show win0_1.index t (3 : Fin 4) * 1024 + 1 * d.val = d.val; omega

/-- The residual rows of a block, in the array. -/
theorem resid_apply (c : Dev nD) (t : Fin cfg0.N) (r : Fin 512) (d : Fin 1024) (b : Fin 4) (s : Fin 4096) (hb : t.val / 16 = b.val)
    (hs : t.val / 2 % 8 * 512 + r.val = s.val) : iblk m c 2 t (ix3 (0 : Fin 1) r d) = V m c main_arg2 (ix3 b s d) := by
  obtain ⟨-, -, ⟨a0, a1, a2⟩, -⟩ := idx_facts t
  show V m c main_arg2 (((cfg0.win 2).blk t).view.emb (ix3 (0 : Fin 1) r d)) = _
  refine congrArg (V m c main_arg2) (at3 _ b s d ?_ ?_ ?_)
  · show win0_2.index t (0 : Fin 3) * 1 + 1 * 0 = b.val; omega
  · show win0_2.index t (1 : Fin 3) * 512 + 1 * r.val = s.val; omega
  · show win0_2.index t (2 : Fin 3) * 1024 + 1 * d.val = d.val; omega

/-- The modulation rows of a block, in the array. -/
theorem mod_apply (c : Dev nD) (t : Fin cfg0.N) (q : Fin 6) (d : Fin 1024) (b : Fin 4) (hb : t.val / 16 = b.val) :
    iblk m c 3 t (ix3 (0 : Fin 1) q d) = V m c main_arg3 (ix3 b q d) := by
  obtain ⟨-, -, -, ⟨a0, a1, a2⟩, -⟩ := idx_facts t
  show V m c main_arg3 (((cfg0.win 3).blk t).view.emb (ix3 (0 : Fin 1) q d)) = _
  refine congrArg (V m c main_arg3) (at3 _ b q d ?_ ?_ ?_)
  · show win0_3.index t (0 : Fin 3) * 1 + 1 * 0 = b.val; omega
  · show win0_3.index t (1 : Fin 3) * 6 + 1 * q.val = q.val; omega
  · show win0_3.index t (2 : Fin 3) * 1024 + 1 * d.val = d.val; omega

/-- The gain's block is its array. -/
theorem gain_apply (c : Dev nD) (t : Fin cfg0.N) (d : Fin 1024) : iblk m c 4 t (ix2 (0 : Fin 1) d) = V m c main_v3 (ix2 (0 : Fin 1) d) := by
  obtain ⟨-, -, -, -, ⟨a0, a1⟩, -⟩ := idx_facts t
  show V m c main_v3 (((cfg0.win 4).blk t).view.emb (ix2 (0 : Fin 1) d)) = _
  refine congrArg (V m c main_v3) (at2 _ (0 : Fin 1) d ?_ ?_)
  · show win0_4.index t (0 : Fin 2) * 1 + 1 * 0 = 0; omega
  · show win0_4.index t (1 : Fin 2) * 1024 + 1 * d.val = d.val; omega

/-- What grid point `t` writes at an index of its block is the result array's value there. -/
theorem point_eq (c : Dev nD) (t u : Fin cfg0.N) (h1 : t.val % 2 = 1) (hu : u.val + 1 = t.val) (r : Fin 512) (k : Fin 1024) (b : Fin 4) (s : Fin 4096)
    (hb : t.val / 16 = b.val) (hs : t.val / 2 % 8 * 512 + r.val = s.val) :
    (outsAt0 m c t.val t.isLt).1 (ix3 (0 : Fin 1) r k)
      = combArr (V m c main_v1) (V m c main_v2) (V m c main_arg2) (V m c main_arg3) (V m c main_v3) (ix3 b s k) := by
  rw [block_apply c t u h1 hu r k]
  have hub : u.val / 16 = b.val := by omega
  have hus : u.val / 2 % 8 * 512 + r.val = s.val := by omega
  have ex := funext fun j : Fin 1024 => resid_apply (m := m) c t r j b s hb hs
  have em := funext fun j : Fin 1024 => mod_apply (m := m) c t 5 j b hb
  have eg := funext fun j : Fin 1024 => gain_apply (m := m) c t j
  have p0 := funext fun e : Fin 8 => slots_apply (m := m) c u r e b 0 s hub (by show u.val % 2 = 0; omega) hus
  have p1 := funext fun e : Fin 8 => slots_apply (m := m) c t r e b 1 s hb h1 hs
  have y0 := fun j : Fin 1024 => funext fun e : Fin 8 => funext fun q : Fin 512 => expert_apply (m := m) c u e q j b 0 hub (by show u.val % 2 = 0; omega)
  have y1 := fun j : Fin 1024 => funext fun e : Fin 8 => funext fun q : Fin 512 => expert_apply (m := m) c t e q j b 1 hb h1
  have ea := funext fun j : Fin 1024 => congrArg₂ (· + ·) (congrArg₂ taken p0 (y0 j)) (congrArg₂ taken p1 (y1 j))
  exact congrFun (congr (congr (congrArg₂ resultAt ex em) ea) eg) k

/-- What grid point `t` writes back is its block of the result array. -/
theorem flushed_eq (c : Dev nD) (t : Fin cfg0.N) (h1 : t.val % 2 = 1) :
    (dats m 0 c).flushed 5 t = ((cfg0.win 5).blk t).view.read (Elt Ideal)
      (combArr (V m c main_v1) (V m c main_v2) (V m c main_arg2) (V m c main_arg3) (V m c main_v3)) := by
  rw [Value.flushed5]
  funext j
  obtain ⟨-, -, -, -, -, ⟨o0, o1, o2⟩⟩ := idx_facts t
  have hN : t.val < 64 := t.isLt
  have j0 : (j 0).val < 1 := (j 0).isLt
  have j1 : (j 1).val < 512 := (j 1).isLt
  have j2 : (j 2).val < 1024 := (j 2).isLt
  have hj : j = ix3 (0 : Fin 1) (j 1) (j 2) := at3 _ _ _ _ (by show (j 0).val = 0; omega) rfl rfl
  show (outsAt0 m c t.val t.isLt).1 j = combArr _ _ _ _ _ (((cfg0.win 5).blk t).view.emb j)
  have he : ((cfg0.win 5).blk t).view.emb j = ix3 (⟨t.val / 16, by omega⟩ : Fin 4) (⟨t.val / 2 % 8 * 512 + (j 1).val, by omega⟩ : Fin 4096) (j 2) := by
    refine at3 _ _ _ _ ?_ ?_ ?_
    · show win0_5.index t (0 : Fin 3) * 1 + 1 * (j 0).val = t.val / 16; omega
    · show win0_5.index t (1 : Fin 3) * 512 + 1 * (j 1).val = t.val / 2 % 8 * 512 + (j 1).val; omega
    · show win0_5.index t (2 : Fin 3) * 1024 + 1 * (j 2).val = (j 2).val; omega
  rw [he]
  refine (congrArg (outsAt0 m c t.val t.isLt).1 hj).trans ?_
  exact point_eq c t ⟨t.val - 1, by have := t.isLt; omega⟩ h1 (by show t.val - 1 + 1 = t.val; omega) (j 1) (j 2) _ _ rfl rfl

/-- The result array after the run. -/
theorem final (c : Dev nD) : (dats m 0 c).arrAt 5 cfg0.N
    = combArr (V m c main_v1) (V m c main_v2) (V m c main_arg2) (V m c main_arg3) (V m c main_v3) :=
  (dats m 0 c).arrAt_eq_of_cover 5 _ (fun t hf => flushed_eq c t ((flush0_5 t).mp hf)) fun i => by
    have h0 : (i 0).val < 4 := (i 0).isLt
    have h1 : (i 1).val < 4096 := (i 1).isLt
    have h2 : (i 2).val < 1024 := (i 2).isLt
    obtain ⟨t, hf, ht⟩ := Value.idx_onto5 ⟨(i 0).val, h0⟩ ⟨(i 1).val / 512, by omega⟩ 0
    have q0 : win0_5.index t (0 : Fin 3) = (i 0).val + 0 := congrFun ht 0
    have q1 : win0_5.index t (1 : Fin 3) = (i 1).val / 512 + 0 := congrFun ht 1
    have q2 : win0_5.index t (2 : Fin 3) = 0 := congrFun ht 2
    refine ⟨t, hf, ?_⟩
    rw [Value.mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 512 ≤ (i 1).val ∧ (i 1).val < win0_5.index t (1 : Fin 3) * 512 + 512; omega
    | ⟨2, _⟩ => show win0_5.index t (2 : Fin 3) * 1024 ≤ (i 2).val ∧ (i 2).val < win0_5.index t (2 : Fin 3) * 1024 + 1024; omega

end Cert.Kernel7Ideal.Comb

end
-- ==== Proof.CombSpec.lean ====
/- The combination call over the extended reals: the host's arrays at an index, the reference read at an index, and their
   equality. -/
module

public import proofs.«01_k».proof.Proof.CombArray
public import proofs.«01_k».proof.Proof.Gen.Reference7Ideal.Run
public import proofs.«01_k».proof.Proof.Gen.Reference7Ideal.Read

@[expose] public section

noncomputable section

namespace Cert.Reference7Ideal.Comb

open Cert.Reference7Ideal Cert.Reference7Ideal.Gen Cert.Reference7Ideal.Read Idealize.ShloMosaic Idealize.ShloMosaic.ValueIdx
open Cert.Kernel7Ideal.Comb (chosen taken resultAt)
open Cert.Reference5Ideal.Mla (at2 at3 at4)
open scoped BigOperators

variable (x0 : (⟨S4x16x4096, .i32⟩ : BufTy).Contents (Elt Ideal)) (x1 : (⟨S4x16x512x1024, .f32⟩ : BufTy).Contents (Elt Ideal))
  (x2 : (⟨S4x4096x1024, .f32⟩ : BufTy).Contents (Elt Ideal)) (x3 : (⟨S4x6x1024, .f32⟩ : BufTy).Contents (Elt Ideal))
  (x4 : (⟨S1024, .f32⟩ : BufTy).Contents (Elt Ideal)) (b : Fin 4) (s : Fin 4096)

/-- A bit read as a number. -/
theorem bit_apply (p q : BitVec 32) : FloatOps.uitofp (F := Ideal) .f32 (IntOp.cmpi .eq p q) = if p = q then (1 : EReal) else 0 := by
  show ((((IntOp.cmpi .eq p q).toNat : ℝ)) : EReal) = _
  by_cases h : p = q
  · have e : IntOp.cmpi .eq p q = 1#1 := by
      show BitVec.ofBool (p == q) = 1#1
      rw [beq_iff_eq.2 h]; decide
    rw [e, if_pos h]
    simp
  · have e : IntOp.cmpi .eq p q = 0#1 := by
      show BitVec.ofBool (p == q) = 0#1
      rw [beq_eq_false_iff_ne.2 h]; decide
    rw [e, if_neg h]
    simp

/-- The choice of a slot. -/
theorem v6_apply (e : Fin 16) (q : Fin 512) : val_main_v6 (F := Ideal) x0 (ix4 b e s q) = chosen (x0 (ix3 b e s)) q := by
  rw [val_main_v6_apply, val_main_v5_apply, val_main_v3_apply, val_main_v0_apply, val_main_v4_apply, val_main_v2_apply, val_main_v1_apply]
  rw [at3 (idx_main_v0 (idx_main_v3 (ix4 b e s q))) b e s rfl rfl rfl]
  exact bit_apply _ _

/-- What the experts give. -/
theorem v8_apply (j : Fin 1024) : val_main_v8 (F := Ideal) x0 x1 (ix3 b s j)
    = taken (fun e : Fin 16 => x0 (ix3 b e s)) (fun e q => x1 (ix4 b e q j)) := by
  rw [val_main_v8_apply, val_main_cst_apply]
  refine (congrArg (· + _) Ideal.ofBits_zero_f32).trans ((zero_add _).trans (Finset.sum_congr rfl fun e _ => ?_))
  rw [at4 (idx_main_v8 (ix3 b s j) e) b e s j rfl rfl rfl rfl, val_main_v7_apply]
  refine Finset.sum_congr rfl fun q _ => ?_
  rw [at4 (lidx_main_v7 (ix4 b e s j) q) b e s q rfl rfl rfl rfl, at4 (ridx_main_v7 (ix4 b e s j) q) b e q j rfl rfl rfl rfl, v6_apply]

/-- The residual and the gated values of the experts. -/
theorem v12_apply (j : Fin 1024) : val_main_v12 (F := Ideal) x0 x1 x2 x3 (ix3 b s j)
    = x2 (ix3 b s j) + x3 (ix3 b (5 : Fin 6) j) * taken (fun e : Fin 16 => x0 (ix3 b e s)) (fun e q => x1 (ix4 b e q j)) := by
  rw [val_main_v12_apply, val_main_v11_apply, val_main_v10_apply, val_main_v9_apply, v8_apply,
    at3 (idx_main_v9 (idx_main_v10 (ix3 b s j))) b (5 : Fin 6) j rfl rfl rfl]
  rfl

/-- The reference's result at an index. -/
theorem v25_apply (k : Fin 1024) : val_main_v25 (F := Ideal) x0 x1 x2 x3 x4 (ix3 b s k)
    = resultAt (fun j => x2 (ix3 b s j)) (fun j => x3 (ix3 b (5 : Fin 6) j))
      (fun j => taken (fun e : Fin 16 => x0 (ix3 b e s)) (fun e q => x1 (ix4 b e q j))) (fun j => x4 (ix1 j)) k := by
  have hsum : val_main_v14 (F := Ideal) x0 x1 x2 x3 (ix2 b s)
      = ∑ j : Fin 1024, val_main_v12 (F := Ideal) x0 x1 x2 x3 (ix3 b s j) * val_main_v12 (F := Ideal) x0 x1 x2 x3 (ix3 b s j) := by
    rw [val_main_v14_apply, val_main_cst_0_apply]
    refine (congrArg (· + _) Ideal.ofBits_zero_f32).trans ((zero_add _).trans (Finset.sum_congr rfl fun j _ => ?_))
    rw [val_main_v13_apply, at3 (idx_main_v14 (ix2 b s) j) b s j rfl rfl rfl]
    rfl
  have hr : val_main_v21 (F := Ideal) x0 x1 x2 x3 (ix3 b s k) = Ideal.rsqrt (Ideal.div
      (∑ j : Fin 1024, val_main_v12 (F := Ideal) x0 x1 x2 x3 (ix3 b s j) * val_main_v12 (F := Ideal) x0 x1 x2 x3 (ix3 b s j))
      (Ideal.ofBits .f32 0x44800000#32) + Ideal.ofBits .f32 0x358637BD#32) := by
    rw [val_main_v21_apply, val_main_v20_apply, val_main_v19_apply, val_main_v18_apply, val_main_cst_2_apply, val_main_v17_apply, val_main_v16_apply,
      val_main_cst_1_apply, val_main_v15_apply]
    refine congrArg (fun z => Ideal.rsqrt (Ideal.div z (Ideal.ofBits .f32 0x44800000#32) + Ideal.ofBits .f32 0x358637BD#32)) ?_
    exact (congrArg (val_main_v14 (F := Ideal) x0 x1 x2 x3) (at2 _ b s rfl rfl)).trans hsum
  have hg : val_main_v24 (F := Ideal) x4 (ix3 b s k) = x4 (ix1 k) := by
    rw [val_main_v24_apply, val_main_v23_apply]
    exact congrArg x4 (funext fun a => Fin.ext (match a with
      | ⟨0, _⟩ => rfl))
  unfold resultAt
  rw [val_main_v25_apply, val_main_v22_apply, hr, hg, ← funext fun j => v12_apply x0 x1 x2 x3 b s j]
  rfl

end Cert.Reference7Ideal.Comb

namespace Cert.Kernel7Ideal.Comb

open Cert.Kernel7Ideal Cert.Kernel7Ideal.Gen Idealize.ShloMosaic Idealize.ShloMosaic.ValueIdx Idealize.ShloMosaic.StableHlo
open Idealize.ShloMosaic.Pipeline Idealize.ShloMosaic.TcCoe
open scoped BigOperators

variable (m : (ℓ : Loc nD τ sig) → Buf (Elt Ideal) ℓ)

/-- The arguments on a device. -/
abbrev arg0 (c : Dev nD) : Vec Ideal S4x16x4096 .i32 := m ((c : Thread nD τ).loc main_arg0)
abbrev arg1 (c : Dev nD) : Vec Ideal S4x16x512x1024 .f32 := m ((c : Thread nD τ).loc main_arg1)
abbrev arg2 (c : Dev nD) : Vec Ideal S4x4096x1024 .f32 := m ((c : Thread nD τ).loc main_arg2)
abbrev arg3 (c : Dev nD) : Vec Ideal S4x6x1024 .f32 := m ((c : Thread nD τ).loc main_arg3)
abbrev arg4 (c : Dev nD) : Vec Ideal S1024 .f32 := m ((c : Thread nD τ).loc main_arg4)

/-- The slots by groups. -/
theorem V1_apply (c : Dev nD) (b : Fin 4) (g : Fin 2) (s : Fin 4096) (e : Fin 8) :
    (V m c main_v1 : Vec Ideal S4x2x4096x8 .i32) (ix4 b g s e) = arg0 m c (ix3 b (member g e) s) := by
  have hV : (V m c main_v1 : Vec Ideal S4x2x4096x8 .i32) = transpose S4x2x4096x8 [0, 1, 3, 2]
      (shapeCast S4x2x8x4096 (arg0 m c) shapeCasts_S4x16x4096_S4x2x8x4096) transposes_S4x2x8x4096_S4x2x4096x8_0_1_3_2 := by
    show StableHlo.after hostOps0 _ _ = _
    after_results
    rfl
  rw [hV]
  refine (transpose_apply _ _ _ (ix4 b g s e) (ix4 b g e s) (fun a => match a with
    | ⟨0, _⟩ => rfl
    | ⟨1, _⟩ => rfl
    | ⟨2, _⟩ => rfl
    | ⟨3, _⟩ => rfl)).trans ?_
  exact shapeCast_apply _ _ (ix4 b g e s) (ix3 b (member g e) s) (by
    rw [Shape.rowMajor_val_three, Shape.rowMajor_val_four]
    show (b.val * 16 + (8 * g.val + e.val)) * 4096 + s.val = ((b.val * 2 + g.val) * 8 + e.val) * 4096 + s.val
    ring)

theorem V2_eq (c : Dev nD) : (V m c main_v2 : Vec Ideal S4x16x512x1024 .bf16) = truncf (F := Ideal) .bf16 (arg1 m c) bitsLt_bf16_f32 := by
  show StableHlo.after hostOps0 _ _ = _
  after_results

theorem V3_apply (c : Dev nD) (k : Fin 1024) : (V m c main_v3 : Vec Ideal S1x1024 .f32) (ix2 (0 : Fin 1) k) = arg4 m c (ix1 k) := by
  have hV : (V m c main_v3 : Vec Ideal S1x1024 .f32) = shapeCast S1x1024 (arg4 m c) shapeCasts_S1024_S1x1024 := by
    show StableHlo.after hostOps0 _ _ = _
    after_results
    rfl
  rw [hV]
  exact shapeCast_apply _ _ (ix2 (0 : Fin 1) k) (ix1 k) (by rw [Shape.rowMajor_val_one, Shape.rowMajor_val_two]; simp [ix1, ix2])

/-- The call's result is the reference's at every index. -/
theorem result_at (c : Dev nD) (b : Fin 4) (s : Fin 4096) (k : Fin 1024) :
    combArr (V m c main_v1) (V m c main_v2) (arg2 m c) (arg3 m c) (V m c main_v3) (ix3 b s k)
      = Cert.Reference7Ideal.Read.val_main_v25 (F := Ideal) (arg0 m c) (arg1 m c) (arg2 m c) (arg3 m c) (arg4 m c) (ix3 b s k) := by
  refine Eq.trans ?_ (Cert.Reference7Ideal.Comb.v25_apply _ _ _ _ _ b s k).symm
  have hp : ∀ g : Fin 2, (fun e => V m c main_v1 (ix4 b g s e)) = fun e => arg0 m c (ix3 b (member g e) s) := fun g => funext fun e => V1_apply m c b g s e
  have hy : ∀ (g : Fin 2) (j : Fin 1024), (fun e q => V m c main_v2 (ix4 b (member g e) q j)) = fun e q => arg1 m c (ix4 b (member g e) q j) :=
    fun g j => funext fun e => funext fun q => congrFun (V2_eq m c) (ix4 b (member g e) q j)
  have ha := funext fun j : Fin 1024 => (congrArg₂ (· + ·) (congrArg₂ taken (hp 0) (hy 0 j)) (congrArg₂ taken (hp 1) (hy 1 j))).trans
    (taken_split (fun e => arg0 m c (ix3 b e s)) (fun e q => arg1 m c (ix4 b e q j))).symm
  exact congrFun (congr (congr (congrArg₂ resultAt rfl rfl) ha) (funext fun j => V3_apply m c j)) k

/-- So its result array is the reference's. -/
theorem result_eq (c : Dev nD) : (dats m 0 c).arrAt 5 cfg0.N
    = Cert.Reference7Ideal.Read.val_main_v25 (F := Ideal) (arg0 m c) (arg1 m c) (arg2 m c) (arg3 m c) (arg4 m c) := by
  have e2 : V m c main_arg2 = arg2 m c := V_main_arg2 m c
  have e3 : V m c main_arg3 = arg3 m c := V_main_arg3 m c
  rw [final, e2, e3]
  funext i
  rw [eq_ix3 i]
  exact result_at m c (i 0) (i 1) (i 2)

end Cert.Kernel7Ideal.Comb

end
-- ==== Proof.GathBlock.lean ====
/- The gather call over the extended reals: what a grid point, one expert of one sequence, writes for its slots: the rows of
   the tokens that chose each slot, and their affinities. -/
module

public import proofs.«01_k».proof.Proof.CombBlock
public import proofs.«01_k».proof.Proof.Gen.Kernel8Ideal.Value

@[expose] public section

noncomputable section

namespace Cert.Kernel8Ideal.Gath

open Cert.Kernel8Ideal Cert.Kernel8Ideal.Gen Idealize.ShloMosaic Idealize.ShloMosaic.ValueIdx
open Idealize.ShloMosaic.Pipeline Idealize.ShloMosaic.TcCoe Idealize.ShloMosaic.Tactic
open Cert.Kernel7Ideal.Comb (chosen place cat8 cat8_apply sum_place)
open scoped BigOperators

/-- The row of a slot: the tokens whose slot it is, each with its row's value. -/
def gathered (p : Fin 4096 → BitVec 32) (y : Fin 4096 → EReal) (r : Fin 512) : EReal := ∑ s, chosen (p s) r * y s

/-- An affinity where slot `r` is the token's slot `p`, zero elsewhere. -/
def kept (p : BitVec 32) (a : EReal) (r : Fin 512) : EReal := if p = BitVec.ofNat 32 r.val then a else 0

/-- The affinity of a slot. -/
def gate (p : Fin 4096 → BitVec 32) (a : Fin 4096 → EReal) (r : Fin 512) : EReal := ∑ s, kept (p s) (a s) r

/-! ## One block of tokens -/

/-- A value chosen by the bit of an equality. -/
theorem bit_select (p q : BitVec 32) (x y : EReal) : (if IntOp.cmpi .eq p q = 1#1 then x else y) = if p = q then x else y := by
  by_cases h : p = q
  · rw [if_pos h, h]
    exact if_pos (by simp [IntOp.cmpi])
  · rw [if_neg h]
    refine if_neg ?_
    show ¬BitVec.ofBool (p == q) = 1#1
    rw [beq_eq_false_iff_ne.2 h]
    decide

/-- The bit of a slot and a token. -/
theorem hit_apply (v : Vec Ideal S1x1x1x512 .i32) (r s : Fin 512) :
    k0_pay2 (F := Ideal) v (ix2 r s) = IntOp.cmpi .eq (v (ix4 (0 : Fin 1) (0 : Fin 1) (0 : Fin 1) s)) (BitVec.ofNat 32 r.val) := by
  show IntOp.cmpi .eq (broadcastTo S512x512 (shapeCast S1x512 v shapeCasts_S1x1x1x512_S1x512) broadcasts_S1x512_S512x512 (ix2 r s))
    (broadcastTo S512x512 (iota .tc S512x1 32 [0] iota_S512x1_d0_w32) broadcasts_S512x1_S512x512 (ix2 r s)) = _
  rw [broadcastTo_apply _ broadcasts_S512x1_S512x512 (ix2 r s) (ix2 r (0 : Fin 1)) (fun a => match a with
    | ⟨0, _⟩ => rfl
    | ⟨1, _⟩ => rfl), broadcastTo_apply _ broadcasts_S1x512_S512x512 (ix2 r s) (ix2 (0 : Fin 1) s) (fun a => match a with
    | ⟨0, _⟩ => rfl
    | ⟨1, _⟩ => rfl)]
  refine congrArg₂ (IntOp.cmpi .eq) (congrArg v (reshapeEquiv_ix2_11ab _ (0 : Fin 1) s)) ?_
  show BitVec.ofNat 32 (0 * 512 + r.val) = _
  rw [Nat.zero_mul, Nat.zero_add]

/-- One at the tokens of each slot. -/
def one (v : Vec Ideal S1x1x1x512 .i32) : FVec Ideal S512x512 .bf16 :=
  truncf .bf16 (select (k0_pay2 (F := Ideal) v) (broadcast S512x512 (Scalar.ofBits (F := Ideal) .f32 0x3F800000#32))
    (broadcast S512x512 (Scalar.ofBits (F := Ideal) .f32 0x00000000#32))) bitsLt_bf16_f32

theorem one_apply (v : Vec Ideal S1x1x1x512 .i32) (r s : Fin 512) :
    one v (ix2 r s) = chosen (v (ix4 (0 : Fin 1) (0 : Fin 1) (0 : Fin 1) s)) r := by
  show (if k0_pay2 (F := Ideal) v (ix2 r s) = 1#1 then Ideal.ofBits .f32 0x3F800000#32 else Ideal.ofBits .f32 0x00000000#32) = _
  rw [hit_apply, bit_select, Ideal.ofBits_zero_f32, Ideal.ofBits_one_f32]
  rfl

/-- The affinities of the tokens of each slot. -/
def pick (v : Vec Ideal S1x1x1x512 .i32) (a : Vec Ideal S1x1x1x512 .f32) : FVec Ideal S512x512 .f32 :=
  select (k0_pay2 (F := Ideal) v) (broadcastTo S512x512 (shapeCast S1x512 (shapeCast S1x512 a shapeCasts_S1x1x1x512_S1x512) shapeCasts_S1x512_S1x512)
    broadcasts_S1x512_S512x512) (broadcast S512x512 (Scalar.ofBits (F := Ideal) .f32 0x00000000#32))

theorem pick_apply (v : Vec Ideal S1x1x1x512 .i32) (a : Vec Ideal S1x1x1x512 .f32) (r s : Fin 512) :
    pick v a (ix2 r s) = kept (v (ix4 (0 : Fin 1) (0 : Fin 1) (0 : Fin 1) s)) (a (ix4 (0 : Fin 1) (0 : Fin 1) (0 : Fin 1) s)) r := by
  show (if k0_pay2 (F := Ideal) v (ix2 r s) = 1#1 then broadcastTo S512x512 (shapeCast S1x512 (shapeCast S1x512 a shapeCasts_S1x1x1x512_S1x512)
    shapeCasts_S1x512_S1x512) broadcasts_S1x512_S512x512 (ix2 r s) else Ideal.ofBits .f32 0x00000000#32) = _
  rw [hit_apply, bit_select, Ideal.ofBits_zero_f32, broadcastTo_apply _ broadcasts_S1x512_S512x512 (ix2 r s) (ix2 (0 : Fin 1) s) (fun a => match a with
    | ⟨0, _⟩ => rfl
    | ⟨1, _⟩ => rfl), shapeCast_self]
  unfold kept
  exact congrArg (fun z : EReal => if v (ix4 (0 : Fin 1) (0 : Fin 1) (0 : Fin 1) s) = BitVec.ofNat 32 r.val then z else 0)
    (congrArg a (reshapeEquiv_ix2_11ab _ (0 : Fin 1) s))

/-- Token `l` of quarter `q` of a block of tokens. -/
def quarter (q : Fin 4) (l : Fin 128) : Fin 512 := ⟨q.val * 128 + l.val, by omega⟩

/-- The four quarters added up. -/
def add4 (acc : FVec Ideal S512x128 .f32) (y : FVec Ideal S512x512 .f32) : FVec Ideal S512x128 .f32 :=
  addf (addf (addf (addf acc (extractStridedSlice S512x128 ![0, 0] y slices_S512x512_o0_0_S512x128))
    (extractStridedSlice S512x128 ![0, 128] y slices_S512x512_o0_128_S512x128))
    (extractStridedSlice S512x128 ![0, 256] y slices_S512x512_o0_256_S512x128))
    (extractStridedSlice S512x128 ![0, 384] y slices_S512x512_o0_384_S512x128)

theorem slice_apply (y : FVec Ideal S512x512 .f32) (q : Fin 4) (hs : S512x512.Slices ![0, q.val * 128] S512x128) (r : Fin 512) (l : Fin 128) :
    extractStridedSlice S512x128 ![0, q.val * 128] y hs (ix2 r l) = y (ix2 r (quarter q l)) :=
  extractStridedSlice_apply ![0, q.val * 128] y hs (ix2 r l) (ix2 r (quarter q l)) fun a => match a with
    | ⟨0, _⟩ => (Nat.zero_add _).symm
    | ⟨1, _⟩ => rfl

theorem add4_apply (acc : FVec Ideal S512x128 .f32) (y : FVec Ideal S512x512 .f32) (r : Fin 512) (l : Fin 128) :
    add4 acc y (ix2 r l) = acc (ix2 r l) + ∑ q : Fin 4, y (ix2 r (quarter q l)) := by
  have e0 := slice_apply y 0 slices_S512x512_o0_0_S512x128 r l
  have e1 := slice_apply y 1 slices_S512x512_o0_128_S512x128 r l
  have e2 := slice_apply y 2 slices_S512x512_o0_256_S512x128 r l
  have e3 := slice_apply y 3 slices_S512x512_o0_384_S512x128 r l
  rw [Fin.sum_univ_four, ← e0, ← e1, ← e2, ← e3, ← add_assoc, ← add_assoc, ← add_assoc]
  rfl

/-- A sum over a block's tokens, lane by lane. -/
theorem sum_quarter (f : Fin 512 → EReal) : ∑ l : Fin 128, ∑ q : Fin 4, f (quarter q l) = ∑ s, f s := by
  rw [Finset.sum_comm, ← Fintype.sum_prod_type']
  refine (Finset.sum_congr rfl fun x _ => congrArg f (Fin.ext ?_)).trans (Equiv.sum_comp (finProdFinEquiv (m := 4) (n := 128)) f)
  show x.1.val * 128 + x.2.val = x.2.val + 128 * x.1.val
  omega

/-! ## The eight blocks of tokens -/

theorem slabs : ∀ o : Fin 8, ∀ a : Fin 4, (![0, 0, 0, o.val * 512] : Fin 4 → ℕ) a + S1x1x1x512.size a ≤ S1x1x1x4096.size a := by decide

/-- Block `o` of the tokens. -/
def slab {e : EltTy} (x : Vec Ideal S1x1x1x4096 e) (o : Fin 8) : Vec Ideal S1x1x1x512 e :=
  View.ld x (Rect.unit (s := S1x1x1x4096) ![0, 0, 0, o.val * 512] S1x1x1x512.size (slabs o))

theorem slab_apply {e : EltTy} (x : Vec Ideal S1x1x1x4096 e) (o : Fin 8) (s : Fin 512) :
    slab x o (ix4 (0 : Fin 1) (0 : Fin 1) (0 : Fin 1) s) = x (ix4 (0 : Fin 1) (0 : Fin 1) (0 : Fin 1) (place o s)) :=
  View.ld_unit_apply_of _ _ _ _ _ _ fun a => match a with
    | ⟨0, _⟩ => rfl
    | ⟨1, _⟩ => rfl
    | ⟨2, _⟩ => rfl
    | ⟨3, _⟩ => rfl

/-- The lanes' sums over the eight blocks. -/
def lanes (u : Fin 8 → FVec Ideal S512x512 .f32) : FVec Ideal S512x128 .f32 :=
  add4 (add4 (add4 (add4 (add4 (add4 (add4 (add4 (broadcast S512x128 (Scalar.ofBits (F := Ideal) .f32 0x00000000#32)) (u 0)) (u 1)) (u 2)) (u 3)) (u 4))
    (u 5)) (u 6)) (u 7)

theorem lanes_apply (u : Fin 8 → FVec Ideal S512x512 .f32) (r : Fin 512) (l : Fin 128) :
    lanes u (ix2 r l) = ∑ o : Fin 8, ∑ q : Fin 4, u o (ix2 r (quarter q l)) := by
  have hz : (broadcast S512x128 (Scalar.ofBits (F := Ideal) .f32 0x00000000#32) : FVec Ideal S512x128 .f32) (ix2 r l) = 0 := Ideal.ofBits_zero_f32
  unfold lanes
  rw [add4_apply, add4_apply, add4_apply, add4_apply, add4_apply, add4_apply, add4_apply, add4_apply, hz, zero_add, Fin.sum_univ_eight]

theorem dot_eq : dot_S512x4096_S4096x1024_S512x1024_1_0_0_1_n_n = DotDims.plain 512 4096 1024 := rfl

/-- The rows of a sequence's tokens. -/
def tokens (x : Vec Ideal S1x4096x1024 .bf16) : FVec Ideal S4096x1024 .bf16 := shapeCast S4096x1024 x shapeCasts_S1x4096x1024_S4096x1024

/-- The rows a grid point writes. -/
theorem rows_eq (x0 : Vec Ideal S1x1x1x4096 .i32) (x1 : Vec Ideal S1x1x1x4096 .f32) (x2 : Vec Ideal S1x4096x1024 .bf16) :
    out0_3 x0 x1 x2 = shapeCast S1x1x512x1024 (matmul dot_S512x4096_S4096x1024_S512x1024_1_0_0_1_n_n none (cat8 fun o => one (slab x0 o))
      (tokens x2) (constant S512x1024 .f32 0x00000000#32)) shapeCasts_S512x1024_S1x1x512x1024 := by
  have h2 : View.ld x2 r0_8 = x2 := by
    funext z; exact View.ld_unit_apply_of _ _ _ _ _ _ fun a => match a with
      | ⟨0, _⟩ => (Nat.zero_add _).symm
      | ⟨1, _⟩ => (Nat.zero_add _).symm
      | ⟨2, _⟩ => (Nat.zero_add _).symm
  unfold out0_3
  rw [h2, View.canon_cons_unit_lit (Val := Elt Ideal) (e := .bf16) _ _ _ (fun a => match a with
    | ⟨0, _⟩ => rfl
    | ⟨1, _⟩ => rfl
    | ⟨2, _⟩ => rfl
    | ⟨3, _⟩ => rfl)]
  rfl

theorem rows_apply (x0 : Vec Ideal S1x1x1x4096 .i32) (x1 : Vec Ideal S1x1x1x4096 .f32) (x2 : Vec Ideal S1x4096x1024 .bf16) (r : Fin 512) (d : Fin 1024) :
    out0_3 x0 x1 x2 (ix4 (0 : Fin 1) (0 : Fin 1) r d)
      = gathered (fun s => x0 (ix4 (0 : Fin 1) (0 : Fin 1) (0 : Fin 1) s)) (fun s => x2 (ix3 (0 : Fin 1) s d)) r := by
  rw [rows_eq, shapeCast_apply _ _ (ix4 (0 : Fin 1) (0 : Fin 1) r d) (ix2 r d) (by
    rw [Shape.rowMajor_val_two, Shape.rowMajor_val_four]; simp [ix2, ix4]), dot_eq]
  refine (Ideal.matmul_plain_apply none _ _ _ r d).trans ?_
  rw [constant_apply, Ideal.ofBits_zero_f32, zero_add, sum_place]
  unfold gathered
  rw [sum_place]
  refine Finset.sum_congr rfl fun o _ => Finset.sum_congr rfl fun s _ => congrArg₂ (· * ·) ?_ ?_
  · exact (cat8_apply _ r o s).trans ((one_apply _ r s).trans (congrArg (chosen · r) (slab_apply x0 o s)))
  · exact congrArg x2 (reshapeEquiv_ix2_1ab _ (place o s) d)

/-- The affinities a grid point writes. -/
theorem gates_eq (x0 : Vec Ideal S1x1x1x4096 .i32) (x1 : Vec Ideal S1x1x1x4096 .f32) (x2 : Vec Ideal S1x4096x1024 .bf16) :
    out0_4 x0 x1 x2 = shapeCast S1x1x512x128 (broadcastTo S512x128 (shapeCast S512x1 (shapeCast S512x1 (multiReduction .add [1] S512
      (lanes fun o => pick (slab x0 o) (slab x1 o)) 0x00000000#32 reduces_S512x128_S512 (.inl rfl) rfl) shapeCasts_S512_S512x1) shapeCasts_S512x1_S512x1)
      broadcasts_S512x1_S512x128) shapeCasts_S512x128_S1x1x512x128 := by
  unfold out0_4
  rw [View.canon_cons_unit_lit (Val := Elt Ideal) (e := .f32) _ _ _ (fun a => match a with
    | ⟨0, _⟩ => rfl
    | ⟨1, _⟩ => rfl
    | ⟨2, _⟩ => rfl
    | ⟨3, _⟩ => rfl)]
  rfl

theorem gates_apply (x0 : Vec Ideal S1x1x1x4096 .i32) (x1 : Vec Ideal S1x1x1x4096 .f32) (x2 : Vec Ideal S1x4096x1024 .bf16) (r : Fin 512) (l : Fin 128) :
    out0_4 x0 x1 x2 (ix4 (0 : Fin 1) (0 : Fin 1) r l)
      = gate (fun s => x0 (ix4 (0 : Fin 1) (0 : Fin 1) (0 : Fin 1) s)) (fun s => x1 (ix4 (0 : Fin 1) (0 : Fin 1) (0 : Fin 1) s)) r := by
  rw [gates_eq, shapeCast_apply _ _ (ix4 (0 : Fin 1) (0 : Fin 1) r l) (ix2 r l) (by
    rw [Shape.rowMajor_val_two, Shape.rowMajor_val_four]; simp [ix2, ix4]), shapeCast_self]
  refine (Cert.Kernel5Ideal.Mla.colm_apply _ _ r l).trans ((Cert.Kernel5Ideal.Mla.sum_apply _ _ r).trans ?_)
  unfold gate
  rw [Finset.sum_congr rfl fun l _ => lanes_apply _ r l, Finset.sum_comm, sum_place]
  refine Finset.sum_congr rfl fun o _ => (sum_quarter fun s => pick (slab x0 o) (slab x1 o) (ix2 r s)).trans (Finset.sum_congr rfl fun s _ => ?_)
  rw [pick_apply, slab_apply, slab_apply]

end Cert.Kernel8Ideal.Gath

end
-- ==== Proof.GathSpec.lean ====
/- The gather call over the extended reals: its two result arrays from the three arrays its windows read, the host's arrays and
   the reference read at an index, and their equality. -/
module

public import proofs.«01_k».proof.Proof.GathBlock
public import proofs.«01_k».proof.Proof.CombSpec
public import proofs.«01_k».proof.Proof.Gen.Reference8Ideal.Run
public import proofs.«01_k».proof.Proof.Gen.Reference8Ideal.Read

@[expose] public section

noncomputable section

namespace Cert.Reference8Ideal.Gath

open Cert.Reference8Ideal Cert.Reference8Ideal.Gen Cert.Reference8Ideal.Read Idealize.ShloMosaic Idealize.ShloMosaic.ValueIdx
open Cert.Kernel7Ideal.Comb (chosen)
open Cert.Kernel8Ideal.Gath (gathered gate kept bit_select)
open Cert.Reference5Ideal.Mla (at3 at4)
open scoped BigOperators

variable (x0 : (⟨S4x16x4096, .i32⟩ : BufTy).Contents (Elt Ideal)) (x1 : (⟨S4x16x4096, .f32⟩ : BufTy).Contents (Elt Ideal))
  (x2 : (⟨S4x4096x1024, .f32⟩ : BufTy).Contents (Elt Ideal)) (b : Fin 4) (e : Fin 16) (r : Fin 512)

/-- The bit of a slot and a token. -/
theorem v6_apply (s : Fin 4096) : val_main_v6 (F := Ideal) x0 (ix4 b e r s) = IntOp.cmpi .eq (x0 (ix3 b e s)) (BitVec.ofNat 32 r.val) := by
  rw [val_main_v6_apply, val_main_v4_apply, val_main_v0_apply, val_main_v5_apply, val_main_v3_apply, val_main_v2_apply, val_main_v1_apply]
  rw [at3 (idx_main_v0 (idx_main_v4 (ix4 b e r s))) b e s rfl rfl rfl]

/-- The reference's rows at an index. -/
theorem v13_apply (d : Fin 1024) : val_main_v13 (F := Ideal) x0 x2 (ix4 b e r d) = gathered (fun s => x0 (ix3 b e s)) (fun s => x2 (ix3 b s d)) r := by
  rw [val_main_v13_apply]
  refine (val_main_v8_apply x0 x2 _).trans (Finset.sum_congr rfl fun s _ => ?_)
  rw [at4 (lidx_main_v8 (ix4 b e r d) s) b e r s rfl rfl rfl rfl, at3 (ridx_main_v8 (ix4 b e r d) s) b s d rfl rfl rfl, val_main_v7_apply, v6_apply]
  exact congrArg (· * x2 (ix3 b s d)) (Cert.Reference7Ideal.Comb.bit_apply _ _)

/-- The reference's affinities at an index. -/
theorem v14_apply (l : Fin 128) : val_main_v14 (F := Ideal) x0 x1 (ix4 b e r l) = gate (fun s => x0 (ix3 b e s)) (fun s => x1 (ix3 b e s)) r := by
  rw [val_main_v14_apply, val_main_v12_apply, val_main_v11_apply, val_main_cst_0_apply]
  refine (congrArg (· + _) Ideal.ofBits_zero_f32).trans ((zero_add _).trans (Finset.sum_congr rfl fun s _ => ?_))
  rw [at4 (idx_main_v11 (idx_main_v12 (idx_main_v14 (ix4 b e r l))) s) b e r s rfl rfl rfl rfl, val_main_v10_apply, v6_apply,
    val_main_call0_v1_apply, val_main_v9_apply, val_main_call0_v2_apply, val_main_call0_v0_apply, val_main_cst_apply,
    at3 (idx_main_v9 (idx_main_call0_v1 (ix4 b e r s))) b e s rfl rfl rfl]
  refine (bit_select _ _ _ _).trans ?_
  unfold kept
  exact congrArg (fun z : EReal => if x0 (ix3 b e s) = BitVec.ofNat 32 r.val then x1 (ix3 b e s) else z) Ideal.ofBits_zero_f32

end Cert.Reference8Ideal.Gath

namespace Cert.Kernel8Ideal.Gath

open Cert.Kernel8Ideal Cert.Kernel8Ideal.Gen Idealize.ShloMosaic Idealize.ShloMosaic.ValueIdx Idealize.ShloMosaic.StableHlo
open Idealize.ShloMosaic.Pipeline Idealize.ShloMosaic.TcCoe
open Cert.Reference5Ideal.Mla (at3 at4)
open scoped BigOperators

/-! ## The result arrays -/

/-- The rows of the slots, from the slots of the tokens and the tokens' rows. -/
def rowsArr (A0 : Vec Ideal S4x16x1x4096 .i32) (A2 : Vec Ideal S4x4096x1024 .bf16) (i : S4x16x512x1024.Idx) : EReal :=
  gathered (fun s => A0 (ix4 (i 0) (i 1) (0 : Fin 1) s)) (fun s => A2 (ix3 (i 0) s (i 3))) (i 2)

/-- The affinities of the slots, from the slots of the tokens and the tokens' affinities. -/
def gateArr (A0 : Vec Ideal S4x16x1x4096 .i32) (A1 : Vec Ideal S4x16x1x4096 .f32) (i : S4x16x512x128.Idx) : EReal :=
  gate (fun s => A0 (ix4 (i 0) (i 1) (0 : Fin 1) s)) (fun s => A1 (ix4 (i 0) (i 1) (0 : Fin 1) s)) (i 2)

/-- The block indices of the windows at a grid point. -/
theorem idx_facts : ∀ t : Fin cfg0.N,
    (win0_0.index t (0 : Fin 4) = t.val / 16 ∧ win0_0.index t (1 : Fin 4) = t.val % 16 ∧ win0_0.index t (2 : Fin 4) = 0 ∧ win0_0.index t (3 : Fin 4) = 0)
    ∧ (win0_1.index t (0 : Fin 4) = t.val / 16 ∧ win0_1.index t (1 : Fin 4) = t.val % 16 ∧ win0_1.index t (2 : Fin 4) = 0 ∧ win0_1.index t (3 : Fin 4) = 0)
    ∧ (win0_2.index t (0 : Fin 3) = t.val / 16 ∧ win0_2.index t (1 : Fin 3) = 0 ∧ win0_2.index t (2 : Fin 3) = 0)
    ∧ (win0_3.index t (0 : Fin 4) = t.val / 16 ∧ win0_3.index t (1 : Fin 4) = t.val % 16 ∧ win0_3.index t (2 : Fin 4) = 0 ∧ win0_3.index t (3 : Fin 4) = 0)
    ∧ (win0_4.index t (0 : Fin 4) = t.val / 16 ∧ win0_4.index t (1 : Fin 4) = t.val % 16 ∧ win0_4.index t (2 : Fin 4) = 0 ∧ win0_4.index t (3 : Fin 4) = 0) :=
  (by decide +kernel : ∀ t : Fin grid0.N, _)

section Arrays

variable {m : (ℓ : Loc nD τ sig) → Buf (Elt Ideal) ℓ}

/-- The slots of a block, in the array. -/
theorem slots_apply (c : Dev nD) (t : Fin cfg0.N) (s : Fin 4096) (b : Fin 4) (e : Fin 16) (hb : t.val / 16 = b.val) (he : t.val % 16 = e.val) :
    iblk m c 0 t (ix4 (0 : Fin 1) (0 : Fin 1) (0 : Fin 1) s) = V m c main_v0 (ix4 b e (0 : Fin 1) s) := by
  obtain ⟨⟨a0, a1, a2, a3⟩, -⟩ := idx_facts t
  show V m c main_v0 (((cfg0.win 0).blk t).view.emb (ix4 (0 : Fin 1) (0 : Fin 1) (0 : Fin 1) s)) = _
  refine congrArg (V m c main_v0) (at4 _ b e (0 : Fin 1) s ?_ ?_ ?_ ?_)
  · show win0_0.index t (0 : Fin 4) * 1 + 1 * 0 = b.val; omega
  · show win0_0.index t (1 : Fin 4) * 1 + 1 * 0 = e.val; omega
  · show win0_0.index t (2 : Fin 4) * 1 + 1 * 0 = 0; omega
  · show win0_0.index t (3 : Fin 4) * 4096 + 1 * s.val = s.val; omega

/-- The affinities of a block, in the array. -/
theorem aff_apply (c : Dev nD) (t : Fin cfg0.N) (s : Fin 4096) (b : Fin 4) (e : Fin 16) (hb : t.val / 16 = b.val) (he : t.val % 16 = e.val) :
    iblk m c 1 t (ix4 (0 : Fin 1) (0 : Fin 1) (0 : Fin 1) s) = V m c main_v1 (ix4 b e (0 : Fin 1) s) := by
  obtain ⟨-, ⟨a0, a1, a2, a3⟩, -⟩ := idx_facts t
  show V m c main_v1 (((cfg0.win 1).blk t).view.emb (ix4 (0 : Fin 1) (0 : Fin 1) (0 : Fin 1) s)) = _
  refine congrArg (V m c main_v1) (at4 _ b e (0 : Fin 1) s ?_ ?_ ?_ ?_)
  · show win0_1.index t (0 : Fin 4) * 1 + 1 * 0 = b.val; omega
  · show win0_1.index t (1 : Fin 4) * 1 + 1 * 0 = e.val; omega
  · show win0_1.index t (2 : Fin 4) * 1 + 1 * 0 = 0; omega
  · show win0_1.index t (3 : Fin 4) * 4096 + 1 * s.val = s.val; omega

/-- The tokens' rows of a block, in the array. -/
theorem row_apply (c : Dev nD) (t : Fin cfg0.N) (s : Fin 4096) (d : Fin 1024) (b : Fin 4) (hb : t.val / 16 = b.val) :
    iblk m c 2 t (ix3 (0 : Fin 1) s d) = V m c main_v2 (ix3 b s d) := by
  obtain ⟨-, -, ⟨a0, a1, a2⟩, -⟩ := idx_facts t
  show V m c main_v2 (((cfg0.win 2).blk t).view.emb (ix3 (0 : Fin 1) s d)) = _
  refine congrArg (V m c main_v2) (at3 _ b s d ?_ ?_ ?_)
  · show win0_2.index t (0 : Fin 3) * 1 + 1 * 0 = b.val; omega
  · show win0_2.index t (1 : Fin 3) * 4096 + 1 * s.val = s.val; omega
  · show win0_2.index t (2 : Fin 3) * 1024 + 1 * d.val = d.val; omega

/-- What grid point `t` writes at an index of a block is the result array's value there. -/
theorem point3_eq (c : Dev nD) (t : Fin cfg0.N) (r : Fin 512) (d : Fin 1024) (b : Fin 4) (e : Fin 16) (hb : t.val / 16 = b.val) (he : t.val % 16 = e.val) :
    out0_3 (iblk m c 0 t) (iblk m c 1 t) (iblk m c 2 t) (ix4 (0 : Fin 1) (0 : Fin 1) r d) = rowsArr (V m c main_v0) (V m c main_v2) (ix4 b e r d) :=
  (rows_apply _ _ _ r d).trans (congrArg₂ (gathered · · r) (funext fun s => slots_apply c t s b e hb he) (funext fun s => row_apply c t s d b hb))

theorem point4_eq (c : Dev nD) (t : Fin cfg0.N) (r : Fin 512) (l : Fin 128) (b : Fin 4) (e : Fin 16) (hb : t.val / 16 = b.val) (he : t.val % 16 = e.val) :
    out0_4 (iblk m c 0 t) (iblk m c 1 t) (iblk m c 2 t) (ix4 (0 : Fin 1) (0 : Fin 1) r l) = gateArr (V m c main_v0) (V m c main_v1) (ix4 b e r l) :=
  (gates_apply _ _ _ r l).trans (congrArg₂ (gate · · r) (funext fun s => slots_apply c t s b e hb he) (funext fun s => aff_apply c t s b e hb he))

/-- An index of a block whose first two axes have size one. -/
theorem unit_idx {n k : ℕ} (j : Shape.Idx ⟨4, ![1, 1, n, k]⟩) : j = ix4 (0 : Fin 1) (0 : Fin 1) (j 2) (j 3) :=
  at4 j (0 : Fin 1) (0 : Fin 1) (j 2) (j 3) (Nat.lt_one_iff.mp (j 0).isLt) (Nat.lt_one_iff.mp (j 1).isLt) rfl rfl

/-- What grid point `t` writes back is its block of the result. -/
theorem flushed3_eq (c : Dev nD) (t : Fin cfg0.N) :
    (dats m 0 c).flushed 3 t = ((cfg0.win 3).blk t).view.read (Elt Ideal) (rowsArr (V m c main_v0) (V m c main_v2)) := by
  rw [Cert.Kernel8Ideal.Value.flushed3]
  funext j
  show out0_3 (iblk m c 0 t) (iblk m c 1 t) (iblk m c 2 t) j = rowsArr (V m c main_v0) (V m c main_v2) (((cfg0.win 3).blk t).view.emb j)
  obtain ⟨-, -, -, ⟨u0, u1, u2, u3⟩, -⟩ := idx_facts t
  have ht : t.val < 64 := lt_of_lt_of_eq t.isLt N_0
  have h0 : (j 0).val < 1 := (j 0).isLt
  have h1 : (j 1).val < 1 := (j 1).isLt
  have hi : ((cfg0.win 3).blk t).view.emb j = ix4 (⟨t.val / 16, by omega⟩ : Fin 4) (⟨t.val % 16, by omega⟩ : Fin 16) (j 2) (j 3) := at4 _ _ _ _ _
    (by show win0_3.index t (0 : Fin 4) * 1 + 1 * (j 0).val = t.val / 16; omega)
    (by show win0_3.index t (1 : Fin 4) * 1 + 1 * (j 1).val = t.val % 16; omega)
    (by show win0_3.index t (2 : Fin 4) * 512 + 1 * (j 2).val = (j 2).val; omega)
    (by show win0_3.index t (3 : Fin 4) * 1024 + 1 * (j 3).val = (j 3).val; omega)
  rw [hi]
  exact (congrArg (out0_3 (iblk m c 0 t) (iblk m c 1 t) (iblk m c 2 t)) (unit_idx j)).trans (point3_eq c t (j 2) (j 3) _ _ rfl rfl)

theorem flushed4_eq (c : Dev nD) (t : Fin cfg0.N) :
    (dats m 0 c).flushed 4 t = ((cfg0.win 4).blk t).view.read (Elt Ideal) (gateArr (V m c main_v0) (V m c main_v1)) := by
  rw [Cert.Kernel8Ideal.Value.flushed4]
  funext j
  show out0_4 (iblk m c 0 t) (iblk m c 1 t) (iblk m c 2 t) j = gateArr (V m c main_v0) (V m c main_v1) (((cfg0.win 4).blk t).view.emb j)
  obtain ⟨-, -, -, -, ⟨u0, u1, u2, u3⟩⟩ := idx_facts t
  have ht : t.val < 64 := lt_of_lt_of_eq t.isLt N_0
  have h0 : (j 0).val < 1 := (j 0).isLt
  have h1 : (j 1).val < 1 := (j 1).isLt
  have hi : ((cfg0.win 4).blk t).view.emb j = ix4 (⟨t.val / 16, by omega⟩ : Fin 4) (⟨t.val % 16, by omega⟩ : Fin 16) (j 2) (j 3) := at4 _ _ _ _ _
    (by show win0_4.index t (0 : Fin 4) * 1 + 1 * (j 0).val = t.val / 16; omega)
    (by show win0_4.index t (1 : Fin 4) * 1 + 1 * (j 1).val = t.val % 16; omega)
    (by show win0_4.index t (2 : Fin 4) * 512 + 1 * (j 2).val = (j 2).val; omega)
    (by show win0_4.index t (3 : Fin 4) * 128 + 1 * (j 3).val = (j 3).val; omega)
  rw [hi]
  exact (congrArg (out0_4 (iblk m c 0 t) (iblk m c 1 t) (iblk m c 2 t)) (unit_idx j)).trans (point4_eq c t (j 2) (j 3) _ _ rfl rfl)

/-- The grid point of an expert of a sequence. -/
theorem point_of (b : Fin 4) (e : Fin 16) : ∃ t : Fin cfg0.N, t.val / 16 = b.val ∧ t.val % 16 = e.val :=
  ⟨⟨b.val * 16 + e.val, lt_of_lt_of_eq (by omega : b.val * 16 + e.val < 64) N_0.symm⟩, by show (b.val * 16 + e.val) / 16 = b.val; omega, by show (b.val * 16 + e.val) % 16 = e.val; omega⟩

/-- The first result array after the run. -/
theorem final3 (c : Dev nD) : (dats m 0 c).arrAt 3 cfg0.N = rowsArr (V m c main_v0) (V m c main_v2) :=
  (dats m 0 c).arrAt_eq_of_cover 3 _ (fun t _ => flushed3_eq c t) fun i => by
    obtain ⟨t, hb, he⟩ := point_of (i 0) (i 1)
    obtain ⟨-, -, -, ⟨u0, u1, u2, u3⟩, -⟩ := idx_facts t
    have h2 : (i 2).val < 512 := (i 2).isLt
    have h3 : (i 3).val < 1024 := (i 3).isLt
    refine ⟨t, flush0_3 _, ((cfg0.win 3).emb_mem_blk_iff t i).2 fun a => ?_⟩
    match a with
    | ⟨0, _⟩ => show win0_3.index t (0 : Fin 4) * 1 ≤ (i 0).val ∧ (i 0).val < win0_3.index t (0 : Fin 4) * 1 + 1; omega
    | ⟨1, _⟩ => show win0_3.index t (1 : Fin 4) * 1 ≤ (i 1).val ∧ (i 1).val < win0_3.index t (1 : Fin 4) * 1 + 1; omega
    | ⟨2, _⟩ => show win0_3.index t (2 : Fin 4) * 512 ≤ (i 2).val ∧ (i 2).val < win0_3.index t (2 : Fin 4) * 512 + 512; omega
    | ⟨3, _⟩ => show win0_3.index t (3 : Fin 4) * 1024 ≤ (i 3).val ∧ (i 3).val < win0_3.index t (3 : Fin 4) * 1024 + 1024; omega

/-- The second. -/
theorem final4 (c : Dev nD) : (dats m 0 c).arrAt 4 cfg0.N = gateArr (V m c main_v0) (V m c main_v1) :=
  (dats m 0 c).arrAt_eq_of_cover 4 _ (fun t _ => flushed4_eq c t) fun i => by
    obtain ⟨t, hb, he⟩ := point_of (i 0) (i 1)
    obtain ⟨-, -, -, -, ⟨u0, u1, u2, u3⟩⟩ := idx_facts t
    have h2 : (i 2).val < 512 := (i 2).isLt
    have h3 : (i 3).val < 128 := (i 3).isLt
    refine ⟨t, flush0_4 _, ((cfg0.win 4).emb_mem_blk_iff t i).2 fun a => ?_⟩
    match a with
    | ⟨0, _⟩ => show win0_4.index t (0 : Fin 4) * 1 ≤ (i 0).val ∧ (i 0).val < win0_4.index t (0 : Fin 4) * 1 + 1; omega
    | ⟨1, _⟩ => show win0_4.index t (1 : Fin 4) * 1 ≤ (i 1).val ∧ (i 1).val < win0_4.index t (1 : Fin 4) * 1 + 1; omega
    | ⟨2, _⟩ => show win0_4.index t (2 : Fin 4) * 512 ≤ (i 2).val ∧ (i 2).val < win0_4.index t (2 : Fin 4) * 512 + 512; omega
    | ⟨3, _⟩ => show win0_4.index t (3 : Fin 4) * 128 ≤ (i 3).val ∧ (i 3).val < win0_4.index t (3 : Fin 4) * 128 + 128; omega

end Arrays

/-! ## Against the reference -/

variable (m : (ℓ : Loc nD τ sig) → Buf (Elt Ideal) ℓ)

/-- The arguments on a device. -/
abbrev arg0 (c : Dev nD) : Vec Ideal S4x16x4096 .i32 := m ((c : Thread nD τ).loc main_arg0)
abbrev arg1 (c : Dev nD) : Vec Ideal S4x16x4096 .f32 := m ((c : Thread nD τ).loc main_arg1)
abbrev arg2 (c : Dev nD) : Vec Ideal S4x4096x1024 .f32 := m ((c : Thread nD τ).loc main_arg2)

/-- An array of rows with an axis of size one before the last. -/
theorem spread_apply {α : Type} (v : S4x16x4096.Idx → α) (h : S4x16x4096.ShapeCasts S4x16x1x4096) (b : Fin 4) (e : Fin 16) (s : Fin 4096) :
    shapeCast S4x16x1x4096 v h (ix4 b e (0 : Fin 1) s) = v (ix3 b e s) :=
  shapeCast_apply v h (ix4 b e (0 : Fin 1) s) (ix3 b e s) (by
    rw [Shape.rowMajor_val_three, Shape.rowMajor_val_four]
    show (b.val * 16 + e.val) * 4096 + s.val = ((b.val * 16 + e.val) * 1 + 0) * 4096 + s.val
    ring)

theorem V0_apply (c : Dev nD) (b : Fin 4) (e : Fin 16) (s : Fin 4096) :
    (V m c main_v0 : Vec Ideal S4x16x1x4096 .i32) (ix4 b e (0 : Fin 1) s) = arg0 m c (ix3 b e s) := by
  have hV : (V m c main_v0 : Vec Ideal S4x16x1x4096 .i32) = shapeCast S4x16x1x4096 (arg0 m c) shapeCasts_S4x16x4096_S4x16x1x4096 := by
    show StableHlo.after hostOps0 _ _ = _
    after_results
    rfl
  rw [hV]
  exact spread_apply _ _ b e s

theorem V1_apply (c : Dev nD) (b : Fin 4) (e : Fin 16) (s : Fin 4096) :
    (V m c main_v1 : Vec Ideal S4x16x1x4096 .f32) (ix4 b e (0 : Fin 1) s) = arg1 m c (ix3 b e s) := by
  have hV : (V m c main_v1 : Vec Ideal S4x16x1x4096 .f32) = shapeCast S4x16x1x4096 (arg1 m c) shapeCasts_S4x16x4096_S4x16x1x4096 := by
    show StableHlo.after hostOps0 _ _ = _
    after_results
    rfl
  rw [hV]
  exact spread_apply _ _ b e s

theorem V2_eq (c : Dev nD) : (V m c main_v2 : Vec Ideal S4x4096x1024 .bf16) = truncf (F := Ideal) .bf16 (arg2 m c) bitsLt_bf16_f32 := by
  show StableHlo.after hostOps0 _ _ = _
  after_results

/-- The rows are the reference's. -/
theorem rows_result (c : Dev nD) : (dats m 0 c).arrAt 3 cfg0.N = Cert.Reference8Ideal.Read.val_main_v13 (F := Ideal) (arg0 m c) (arg2 m c) := by
  rw [final3]
  funext i
  obtain ⟨b, e, r, d, rfl⟩ : ∃ (b : Fin 4) (e : Fin 16) (r : Fin 512) (d : Fin 1024), i = ix4 b e r d := ⟨i 0, i 1, i 2, i 3, at4 i _ _ _ _ rfl rfl rfl rfl⟩
  refine Eq.trans ?_ (Cert.Reference8Ideal.Gath.v13_apply _ _ b e r d).symm
  exact congrArg₂ (gathered · · r) (funext fun s => V0_apply m c b e s) (funext fun s => congrFun (V2_eq m c) (ix3 b s d))

/-- The affinities are the reference's. -/
theorem gate_result (c : Dev nD) : (dats m 0 c).arrAt 4 cfg0.N = Cert.Reference8Ideal.Read.val_main_v14 (F := Ideal) (arg0 m c) (arg1 m c) := by
  rw [final4]
  funext i
  obtain ⟨b, e, r, l, rfl⟩ : ∃ (b : Fin 4) (e : Fin 16) (r : Fin 512) (l : Fin 128), i = ix4 b e r l := ⟨i 0, i 1, i 2, i 3, at4 i _ _ _ _ rfl rfl rfl rfl⟩
  refine Eq.trans ?_ (Cert.Reference8Ideal.Gath.v14_apply _ _ b e r l).symm
  exact congrArg₂ (gate · · r) (funext fun s => V0_apply m c b e s) (funext fun s => V1_apply m c b e s)

end Cert.Kernel8Ideal.Gath

end
-- ==== Proof.lean ====
/- The claim, for each of the calls: the frames of its program at both instances and of its reference, that its
   idealization rewrites nothing, and that its results are the reference's (the attention's for finite queries and keys). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.AttnSpec
public import proofs.«01_k».proof.Proof.FfnSpec
public import proofs.«01_k».proof.Proof.MergeSpec
public import proofs.«01_k».proof.Proof.InSpec
public import proofs.«01_k».proof.Proof.MlaSpec
public import proofs.«01_k».proof.Proof.ModSpec
public import proofs.«01_k».proof.Proof.CombSpec
public import proofs.«01_k».proof.Proof.GathSpec
public import Idealize.ShloMosaic.Adequacy
public import Idealize.ShloMosaic.Init

@[expose] public section

noncomputable section

namespace Cert.Proof

open Idealize.ShloMosaic Idealize.SL.Sem

/-- The attention reference's frame: its run read at its arguments; it declares no semaphore. -/
theorem frame_attnRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention program against its reference. -/
theorem attn : Cert.algebraic_KernelIdeal_ReferenceIdeal_pre_finite_qk := fun m g m' g' hpre hargs =>
  ⟨fun c => (Cert.KernelIdeal.Gen.dats m 0 c).arrAt 3 Cert.KernelIdeal.cfg0.N, Cert.KernelIdeal.Value.run_blocks (F := Ideal) m g,
    (θ_run Cert.ReferenceIdeal.defs _ _).mono
      (fun r h c => ⟨((h c).1.trans (Cert.ReferenceIdeal.Read.val_main_v17_eq _ _ _)).trans (by
        rw [(hargs c).1, (hargs c).2.1, (hargs c).2.2]
        exact (Cert.KernelIdeal.Attn.result_eq m c (hpre c)).symm), (h c).2⟩)
      (Cert.ReferenceIdeal.Value.run (F := Ideal) m' g')⟩

/-- The expert call's reference's frame. -/
theorem frame_ffnRef : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The expert program against its reference. -/
theorem ffn : Cert.algebraic_Kernel2Ideal_Reference2Ideal := fun m g m' g' _ hargs =>
  ⟨fun c => (Cert.Kernel2Ideal.Gen.dats m 0 c).arrAt 5 Cert.Kernel2Ideal.cfg0.N, Cert.Kernel2Ideal.Value.run_blocks (F := Ideal) m g,
    (θ_run Cert.Reference2Ideal.defs _ _).mono
      (fun r h c => ⟨((h c).1.trans (Cert.Reference2Ideal.Read.val_main_v11_eq _ _ _ _ _)).trans (by
        rw [(hargs c).1, (hargs c).2.1, (hargs c).2.2.1, (hargs c).2.2.2.1, (hargs c).2.2.2.2]
        exact (Cert.Kernel2Ideal.Ffn.result_eq m c).symm), (h c).2⟩)
      (Cert.Reference2Ideal.Value.run (F := Ideal) m' g')⟩

/-- The merge call's reference's frame. -/
theorem frame_mergeRef : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The merge program against its reference, at its three results. -/
theorem merge : Cert.algebraic_Kernel3Ideal_Reference3Ideal := fun m g m' g' _ hargs =>
  ⟨fun c => (Cert.Kernel3Ideal.Gen.dats m 0 c).arrAt 11 Cert.Kernel3Ideal.cfg0.N, fun c => (Cert.Kernel3Ideal.Gen.dats m 0 c).arrAt 12 Cert.Kernel3Ideal.cfg0.N,
    fun c => (Cert.Kernel3Ideal.Gen.dats m 0 c).arrAt 13 Cert.Kernel3Ideal.cfg0.N, Cert.Kernel3Ideal.Value.run_blocks (F := Ideal) m g,
    (θ_run Cert.Reference3Ideal.defs _ _).mono
      (fun r h c => ⟨((h c).1.trans (Cert.Reference3Ideal.Read.val_main_v20_eq _ _ _ _ _ _ _ _)).trans (by
          rw [(hargs c).1, (hargs c).2.1, (hargs c).2.2.1, (hargs c).2.2.2.1, (hargs c).2.2.2.2.1, (hargs c).2.2.2.2.2.1, (hargs c).2.2.2.2.2.2.1, (hargs c).2.2.2.2.2.2.2.1]
          exact (Cert.Kernel3Ideal.Merge.x1_eq m c).symm),
        ((h c).2.1.trans (Cert.Reference3Ideal.Read.val_main_v52_eq m' c)).trans (by
          rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1]
          exact (Cert.Kernel3Ideal.Merge.h_eq m c).symm),
        ((h c).2.2.1.trans (Cert.Reference3Ideal.Read.val_main_v53_eq m' c)).trans (by
          rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
          exact (Cert.Kernel3Ideal.Merge.aff_eq m c).symm), (h c).2.2.2⟩)
      (Cert.Reference3Ideal.Value.run (F := Ideal) m' g')⟩

/-- The input projection's two programs have one table of bodies: each body is the other's, read at the one label there is. -/
theorem in_bodies : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (_, _) => rfl

theorem in_defs : Cert.Kernel4.defs (F := Bits) = Cert.Kernel4Ideal.defs (F := Bits) :=
  congrArg (Pipeline.defs (Cert.Kernel4.pcfgs (F := Bits))) in_bodies

/-- So the input projection's frame, of the program as printed, is the idealized program's. -/
theorem frame_in : Cert.quiescent_Kernel4 := fun m ρ _ => by
  rw [in_defs]
  exact Cert.Kernel4Ideal.InProj.run_frame (F := Bits) m ρ

/-- The input projection's reference's frame. -/
theorem frame_inRef : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The input projection against its reference, at its two results. -/
theorem inproj : Cert.algebraic_Kernel4Ideal_Reference4Ideal := fun m g m' g' _ hargs =>
  ⟨fun c => (Cert.Kernel4Ideal.InProj.dats m 0 c).arrAt 4 Cert.Kernel4Ideal.cfg0.N, fun c => (Cert.Kernel4Ideal.InProj.dats m 0 c).arrAt 5 Cert.Kernel4Ideal.cfg0.N,
    Cert.Kernel4Ideal.InProj.run_results m g,
    (θ_run Cert.Reference4Ideal.defs _ _).mono
      (fun r h c => ⟨((h c).1.trans (Cert.Reference4Ideal.Read.val_main_v33_eq m' c)).trans (by
          rw [(hargs c).1, (hargs c).2.1, (hargs c).2.2.1, (hargs c).2.2.2]
          exact (Cert.Kernel4Ideal.InProj.packed_eq m c).symm),
        ((h c).2.1.trans (Cert.Reference4Ideal.Read.val_main_v31_eq _ _ _ _)).trans (by
          rw [(hargs c).1, (hargs c).2.1, (hargs c).2.2.1, (hargs c).2.2.2]
          exact (Cert.Kernel4Ideal.InProj.apart_eq m c).symm), (h c).2.2⟩)
      (Cert.Reference4Ideal.Value.run (F := Ideal) m' g')⟩

/-- The latent projections' reference's frame. -/
theorem frame_mlaRef : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The latent projections against their reference, at the queries, the keys and the values. -/
theorem mla : Cert.algebraic_Kernel5Ideal_Reference5Ideal := fun m g m' g' _ hargs =>
  ⟨fun c => (Cert.Kernel5Ideal.Gen.dats m 0 c).arrAt 13 Cert.Kernel5Ideal.cfg0.N, fun c => (Cert.Kernel5Ideal.Gen.dats m 0 c).arrAt 14 Cert.Kernel5Ideal.cfg0.N,
    fun c => (Cert.Kernel5Ideal.Gen.dats m 0 c).arrAt 15 Cert.Kernel5Ideal.cfg0.N, Cert.Kernel5Ideal.Value.run_blocks (F := Ideal) m g,
    (θ_run Cert.Reference5Ideal.defs _ _).mono
      (fun r h c => ⟨((h c).1.trans (Cert.Reference5Ideal.Read.val_main_v79_eq m' c)).trans (by
          rw [(hargs c).1, (hargs c).2.2.2.1, (hargs c).2.2.2.2.1, (hargs c).2.2.2.2.2.1]
          exact (Cert.Kernel5Ideal.Mla.q_eq m c).symm),
        ((h c).2.1.trans (Cert.Reference5Ideal.Read.val_main_v81_eq m' c)).trans (by
          rw [(hargs c).2.1, (hargs c).2.2.1, (hargs c).2.2.2.1, (hargs c).2.2.2.2.2.2.1, (hargs c).2.2.2.2.2.2.2]
          exact (Cert.Kernel5Ideal.Mla.k_eq m c).symm),
        ((h c).2.2.1.trans (Cert.Reference5Ideal.Read.val_main_v83_eq _ _ _)).trans (by
          rw [(hargs c).2.1, (hargs c).2.2.2.2.2.2.1, (hargs c).2.2.2.2.2.2.2]
          exact (Cert.Kernel5Ideal.Mla.v_eq m c).symm), (h c).2.2.2⟩)
      (Cert.Reference5Ideal.Value.run (F := Ideal) m' g')⟩

/-- The modulation's reference's frame. -/
theorem frame_modRef : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The modulation program against its reference. -/
theorem modulation : Cert.algebraic_Kernel6Ideal_Reference6Ideal := fun m g m' g' _ hargs =>
  ⟨fun c => (Cert.Kernel6Ideal.Gen.dats m 0 c).arrAt 3 Cert.Kernel6Ideal.cfg0.N, Cert.Kernel6Ideal.Value.run_blocks (F := Ideal) m g,
    (θ_run Cert.Reference6Ideal.defs _ _).mono
      (fun r h c => ⟨((h c).1.trans (Cert.Reference6Ideal.Read.val_main_v6_eq _ _ _)).trans (by
        rw [(hargs c).1, (hargs c).2.1, (hargs c).2.2]
        exact (Cert.Kernel6Ideal.Mod.result_eq m c).symm), (h c).2⟩)
      (Cert.Reference6Ideal.Value.run (F := Ideal) m' g')⟩

/-- The combination's reference's frame. -/
theorem frame_combRef : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The combination program against its reference. -/
theorem comb : Cert.algebraic_Kernel7Ideal_Reference7Ideal := fun m g m' g' _ hargs =>
  ⟨fun c => (Cert.Kernel7Ideal.Gen.dats m 0 c).arrAt 5 Cert.Kernel7Ideal.cfg0.N, Cert.Kernel7Ideal.Value.run_blocks (F := Ideal) m g,
    (θ_run Cert.Reference7Ideal.defs _ _).mono
      (fun r h c => ⟨((h c).1.trans (Cert.Reference7Ideal.Read.val_main_v25_eq _ _ _ _ _)).trans (by
        rw [(hargs c).1, (hargs c).2.1, (hargs c).2.2.1, (hargs c).2.2.2.1, (hargs c).2.2.2.2]
        exact (Cert.Kernel7Ideal.Comb.result_eq m c).symm), (h c).2⟩)
      (Cert.Reference7Ideal.Value.run (F := Ideal) m' g')⟩

/-- The gather's reference's frame. -/
theorem frame_gathRef : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The gather against its reference, at the slots' rows and affinities. -/
theorem gath : Cert.algebraic_Kernel8Ideal_Reference8Ideal := fun m g m' g' _ hargs =>
  ⟨fun c => (Cert.Kernel8Ideal.Gen.dats m 0 c).arrAt 3 Cert.Kernel8Ideal.cfg0.N, fun c => (Cert.Kernel8Ideal.Gen.dats m 0 c).arrAt 4 Cert.Kernel8Ideal.cfg0.N,
    Cert.Kernel8Ideal.Value.run_blocks (F := Ideal) m g,
    (θ_run Cert.Reference8Ideal.defs _ _).mono
      (fun r h c => ⟨((h c).1.trans (Cert.Reference8Ideal.Read.val_main_v13_eq _ _)).trans (by
          rw [(hargs c).1, (hargs c).2.2]
          exact (Cert.Kernel8Ideal.Gath.rows_result m c).symm),
        ((h c).2.1.trans (Cert.Reference8Ideal.Read.val_main_v14_eq _ _)).trans (by
          rw [(hargs c).1, (hargs c).2.1]
          exact (Cert.Kernel8Ideal.Gath.gate_result m c).symm), (h c).2.2⟩)
      (Cert.Reference8Ideal.Value.run (F := Ideal) m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Pre_finite_qk.Gen.facts,
  fun m g _ => Cert.Kernel.Gen.frame m g, fun m g _ => Cert.KernelIdeal.Gen.frame m g, fun m g _ => Cert.KernelIdeal.Gen.frame m g, frame_attnRef,
  fun m g _ => frame_attnRef m g trivial,
  fun m g _ => Cert.Kernel2.Gen.frame m g, fun m g _ => Cert.Kernel2Ideal.Gen.frame m g, frame_ffnRef,
  fun m g _ => Cert.Kernel3.Gen.frame m g, fun m g _ => Cert.Kernel3Ideal.Gen.frame m g, frame_mergeRef,
  frame_in, fun m g _ => Cert.Kernel4Ideal.InProj.run_frame m g, frame_inRef,
  fun m g _ => Cert.Kernel5.Gen.frame m g, fun m g _ => Cert.Kernel5Ideal.Gen.frame m g, frame_mlaRef,
  fun m g _ => Cert.Kernel6.Gen.frame m g, fun m g _ => Cert.Kernel6Ideal.Gen.frame m g, frame_modRef,
  fun m g _ => Cert.Kernel7.Gen.frame m g, fun m g _ => Cert.Kernel7Ideal.Gen.frame m g, frame_combRef,
  fun m g _ => Cert.Kernel8.Gen.frame m g, fun m g _ => Cert.Kernel8Ideal.Gen.frame m g, frame_gathRef,
  trivial, attn, trivial, ffn, trivial, merge, trivial, inproj, trivial, mla,
  trivial, modulation, trivial, comb, trivial, gath⟩

end Cert.Proof

end
